-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite3 [hPre_finite3 : Cert.Pre_finite3.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite3 [hPre_finite3 : Cert.Pre_finite3.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Kernel11Ideal_finite11 [hPre_finite11 : Cert.Pre_finite11.Facts] (m : (ℓ : Loc Cert.Kernel11Ideal.nD Cert.Kernel11Ideal.τ Cert.Kernel11Ideal.sig) → Buf (Elt Ideal) ℓ) : Prop :=
  ∀ c : Dev Cert.Kernel11Ideal.nD,
    (Cert.Pre_finite11.fn (F := Ideal) (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg2)) (m ((c.tc : Thread Cert.Kernel11Ideal.nD Cert.Kernel11Ideal.τ).loc Cert.Kernel11Ideal.main_arg3)) (m ((c.tc : Thread Cert.Kernel11Ideal.nD Cert.Kernel11Ideal.τ).loc Cert.Kernel11Ideal.main_arg4)) (m ((c.tc : Thread Cert.Kernel11Ideal.nD Cert.Kernel11Ideal.τ).loc Cert.Kernel11Ideal.main_arg5)) (m ((c.tc : Thread Cert.Kernel11Ideal.nD Cert.Kernel11Ideal.τ).loc Cert.Kernel11Ideal.main_arg6)) (m ((c.tc : Thread Cert.Kernel11Ideal.nD Cert.Kernel11Ideal.τ).loc Cert.Kernel11Ideal.main_arg7)) (m ((c.tc : Thread Cert.Kernel11Ideal.nD Cert.Kernel11Ideal.τ).loc Cert.Kernel11Ideal.main_arg8))) = (fun _ => 1#1)

def Pre_Reference11Ideal (m : (ℓ : Loc Cert.Reference11Ideal.nD Cert.Reference11Ideal.τ Cert.Reference11Ideal.sig) → Buf (Elt Ideal) ℓ) : Prop :=
  True

def Pre_Reference11Ideal_finite11 [hPre_finite11 : Cert.Pre_finite11.Facts] (m : (ℓ : Loc Cert.Reference11Ideal.nD Cert.Reference11Ideal.τ Cert.Reference11Ideal.sig) → Buf (Elt Ideal) ℓ) : Prop :=
  ∀ c : Dev Cert.Reference11Ideal.nD,
    (Cert.Pre_finite11.fn (F := Ideal) (m ((c.tc : Thread Cert.Reference11Ideal.nD Cert.Reference11Ideal.τ).loc Cert.Reference11Ideal.main_arg0)) (m ((c.tc : Thread Cert.Reference11Ideal.nD Cert.Reference11Ideal.τ).loc Cert.Reference11Ideal.main_arg1)) (m ((c.tc : Thread Cert.Reference11Ideal.nD Cert.Reference11Ideal.τ).loc Cert.Reference11Ideal.main_arg2)) (m ((c.tc : Thread Cert.Reference11Ideal.nD Cert.Reference11Ideal.τ).loc Cert.Reference11Ideal.main_arg3)) (m ((c.tc : Thread Cert.Reference11Ideal.nD Cert.Reference11Ideal.τ).loc Cert.Reference11Ideal.main_arg4)) (m ((c.tc : Thread Cert.Reference11Ideal.nD Cert.Reference11Ideal.τ).loc Cert.Reference11Ideal.main_arg5)) (m ((c.tc : Thread Cert.Reference11Ideal.nD Cert.Reference11Ideal.τ).loc Cert.Reference11Ideal.main_arg6)) (m ((c.tc : Thread Cert.Reference11Ideal.nD Cert.Reference11Ideal.τ).loc Cert.Reference11Ideal.main_arg7)) (m ((c.tc : Thread Cert.Reference11Ideal.nD Cert.Reference11Ideal.τ).loc Cert.Reference11Ideal.main_arg8))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Kernel3Ideal_pre_finite3 [hKernel3Ideal : Cert.Kernel3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite3 m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Reference3Ideal_pre_finite3 [hReference3Ideal : Cert.Reference3Ideal.Facts] [hPre_finite3 : Cert.Pre_finite3.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite3 m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4)
      ∧ r.2.mem ((c.tc : Thread Cert.Kernel11.nD Cert.Kernel11.τ).loc Cert.Kernel11.main_arg5) = m ((c.tc : Thread Cert.Kernel11.nD Cert.Kernel11.τ).loc Cert.Kernel11.main_arg5)
      ∧ r.2.mem ((c.tc : Thread Cert.Kernel11.nD Cert.Kernel11.τ).loc Cert.Kernel11.main_arg6) = m ((c.tc : Thread Cert.Kernel11.nD Cert.Kernel11.τ).loc Cert.Kernel11.main_arg6)
      ∧ r.2.mem ((c.tc : Thread Cert.Kernel11.nD Cert.Kernel11.τ).loc Cert.Kernel11.main_arg7) = m ((c.tc : Thread Cert.Kernel11.nD Cert.Kernel11.τ).loc Cert.Kernel11.main_arg7)
      ∧ r.2.mem ((c.tc : Thread Cert.Kernel11.nD Cert.Kernel11.τ).loc Cert.Kernel11.main_arg8) = m ((c.tc : Thread Cert.Kernel11.nD Cert.Kernel11.τ).loc Cert.Kernel11.main_arg8))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
      ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5)
      ∧ r.2.mem ((c.tc : Thread Cert.Kernel11Ideal.nD Cert.Kernel11Ideal.τ).loc Cert.Kernel11Ideal.main_arg6) = m ((c.tc : Thread Cert.Kernel11Ideal.nD Cert.Kernel11Ideal.τ).loc Cert.Kernel11Ideal.main_arg6)
      ∧ r.2.mem ((c.tc : Thread Cert.Kernel11Ideal.nD Cert.Kernel11Ideal.τ).loc Cert.Kernel11Ideal.main_arg7) = m ((c.tc : Thread Cert.Kernel11Ideal.nD Cert.Kernel11Ideal.τ).loc Cert.Kernel11Ideal.main_arg7)
      ∧ r.2.mem ((c.tc : Thread Cert.Kernel11Ideal.nD Cert.Kernel11Ideal.τ).loc Cert.Kernel11Ideal.main_arg8) = m ((c.tc : Thread Cert.Kernel11Ideal.nD Cert.Kernel11Ideal.τ).loc Cert.Kernel11Ideal.main_arg8))
      ∧ r.2.sem = fun _ => 0)

def quiescent_Kernel11Ideal_pre_finite11 [hKernel11Ideal : Cert.Kernel11Ideal.Facts] [hPre_finite11 : Cert.Pre_finite11.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal_finite11 m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
      ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5)
      ∧ r.2.mem ((c.tc : Thread Cert.Kernel11Ideal.nD Cert.Kernel11Ideal.τ).loc Cert.Kernel11Ideal.main_arg6) = m ((c.tc : Thread Cert.Kernel11Ideal.nD Cert.Kernel11Ideal.τ).loc Cert.Kernel11Ideal.main_arg6)
      ∧ r.2.mem ((c.tc : Thread Cert.Kernel11Ideal.nD Cert.Kernel11Ideal.τ).loc Cert.Kernel11Ideal.main_arg7) = m ((c.tc : Thread Cert.Kernel11Ideal.nD Cert.Kernel11Ideal.τ).loc Cert.Kernel11Ideal.main_arg7)
      ∧ r.2.mem ((c.tc : Thread Cert.Kernel11Ideal.nD Cert.Kernel11Ideal.τ).loc Cert.Kernel11Ideal.main_arg8) = m ((c.tc : Thread Cert.Kernel11Ideal.nD Cert.Kernel11Ideal.τ).loc Cert.Kernel11Ideal.main_arg8))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4)
      ∧ r.2.mem ((c.tc : Thread Cert.Reference11Ideal.nD Cert.Reference11Ideal.τ).loc Cert.Reference11Ideal.main_arg5) = m ((c.tc : Thread Cert.Reference11Ideal.nD Cert.Reference11Ideal.τ).loc Cert.Reference11Ideal.main_arg5)
      ∧ r.2.mem ((c.tc : Thread Cert.Reference11Ideal.nD Cert.Reference11Ideal.τ).loc Cert.Reference11Ideal.main_arg6) = m ((c.tc : Thread Cert.Reference11Ideal.nD Cert.Reference11Ideal.τ).loc Cert.Reference11Ideal.main_arg6)
      ∧ r.2.mem ((c.tc : Thread Cert.Reference11Ideal.nD Cert.Reference11Ideal.τ).loc Cert.Reference11Ideal.main_arg7) = m ((c.tc : Thread Cert.Reference11Ideal.nD Cert.Reference11Ideal.τ).loc Cert.Reference11Ideal.main_arg7)
      ∧ r.2.mem ((c.tc : Thread Cert.Reference11Ideal.nD Cert.Reference11Ideal.τ).loc Cert.Reference11Ideal.main_arg8) = m ((c.tc : Thread Cert.Reference11Ideal.nD Cert.Reference11Ideal.τ).loc Cert.Reference11Ideal.main_arg8))
      ∧ r.2.sem = fun _ => 0)

def quiescent_Reference11Ideal_pre_finite11 [hReference11Ideal : Cert.Reference11Ideal.Facts] [hPre_finite11 : Cert.Pre_finite11.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal_finite11 m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4)
      ∧ r.2.mem ((c.tc : Thread Cert.Reference11Ideal.nD Cert.Reference11Ideal.τ).loc Cert.Reference11Ideal.main_arg5) = m ((c.tc : Thread Cert.Reference11Ideal.nD Cert.Reference11Ideal.τ).loc Cert.Reference11Ideal.main_arg5)
      ∧ r.2.mem ((c.tc : Thread Cert.Reference11Ideal.nD Cert.Reference11Ideal.τ).loc Cert.Reference11Ideal.main_arg6) = m ((c.tc : Thread Cert.Reference11Ideal.nD Cert.Reference11Ideal.τ).loc Cert.Reference11Ideal.main_arg6)
      ∧ r.2.mem ((c.tc : Thread Cert.Reference11Ideal.nD Cert.Reference11Ideal.τ).loc Cert.Reference11Ideal.main_arg7) = m ((c.tc : Thread Cert.Reference11Ideal.nD Cert.Reference11Ideal.τ).loc Cert.Reference11Ideal.main_arg7)
      ∧ r.2.mem ((c.tc : Thread Cert.Reference11Ideal.nD Cert.Reference11Ideal.τ).loc Cert.Reference11Ideal.main_arg8) = m ((c.tc : Thread Cert.Reference11Ideal.nD Cert.Reference11Ideal.τ).loc Cert.Reference11Ideal.main_arg8))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v6_0)) (v1 : (c : Dev Cert.Kernel2Ideal.nD) → Buf (Elt Ideal) ((c.tc : Thread Cert.Kernel2Ideal.nD Cert.Kernel2Ideal.τ).loc Cert.Kernel2Ideal.main_v6_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v6_0) = v0 c
          ∧ r.2.mem ((c.tc : Thread Cert.Kernel2Ideal.nD Cert.Kernel2Ideal.τ).loc Cert.Kernel2Ideal.main_v6_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v20) = v0 c
          ∧ r.2.mem ((c.tc : Thread Cert.Reference2Ideal.nD Cert.Reference2Ideal.τ).loc Cert.Reference2Ideal.main_v21) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal_pre_finite3 [hKernel3Ideal : Cert.Kernel3Ideal.Facts] [hReference3Ideal : Cert.Reference3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite3 m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v28)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v28) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v18) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v3) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v4) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v14)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v14) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v35) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) →
    ∃ (v0 : (c : Dev Cert.Kernel6Ideal.nD) → Buf (Elt Ideal) ((c.tc : Thread Cert.Kernel6Ideal.nD Cert.Kernel6Ideal.τ).loc Cert.Kernel6Ideal.main_v21)) (v1 : (c : Dev Cert.Kernel6Ideal.nD) → Buf (Elt Ideal) ((c.tc : Thread Cert.Kernel6Ideal.nD Cert.Kernel6Ideal.τ).loc Cert.Kernel6Ideal.main_v20_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v21) = v0 c
          ∧ r.2.mem ((c.tc : Thread Cert.Kernel6Ideal.nD Cert.Kernel6Ideal.τ).loc Cert.Kernel6Ideal.main_v20_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v20) = v0 c
          ∧ r.2.mem ((c.tc : Thread Cert.Reference6Ideal.nD Cert.Reference6Ideal.τ).loc Cert.Reference6Ideal.main_v21) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)) →
    ∃ (v0 : (c : Dev Cert.Kernel7Ideal.nD) → Buf (Elt Ideal) ((c.tc : Thread Cert.Kernel7Ideal.nD Cert.Kernel7Ideal.τ).loc Cert.Kernel7Ideal.main_v17)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v17) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v31) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)) →
    ∃ (v0 : (c : Dev Cert.Kernel8Ideal.nD) → Buf (Elt Ideal) ((c.tc : Thread Cert.Kernel8Ideal.nD Cert.Kernel8Ideal.τ).loc Cert.Kernel8Ideal.main_v5_0)) (v1 : (c : Dev Cert.Kernel8Ideal.nD) → Buf (Elt Ideal) ((c.tc : Thread Cert.Kernel8Ideal.nD Cert.Kernel8Ideal.τ).loc Cert.Kernel8Ideal.main_v5_1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v5_0) = v0 c
          ∧ r.2.mem ((c.tc : Thread Cert.Kernel8Ideal.nD Cert.Kernel8Ideal.τ).loc Cert.Kernel8Ideal.main_v5_1) = v1 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v20) = v0 c
          ∧ r.2.mem ((c.tc : Thread Cert.Reference8Ideal.nD Cert.Reference8Ideal.τ).loc Cert.Reference8Ideal.main_v21) = v1 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)) →
    ∃ (v0 : (c : Dev Cert.Kernel9Ideal.nD) → Buf (Elt Ideal) ((c.tc : Thread Cert.Kernel9Ideal.nD Cert.Kernel9Ideal.τ).loc Cert.Kernel9Ideal.main_v20)) (v1 : (c : Dev Cert.Kernel9Ideal.nD) → Buf (Elt Ideal) ((c.tc : Thread Cert.Kernel9Ideal.nD Cert.Kernel9Ideal.τ).loc Cert.Kernel9Ideal.main_v19_1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v20) = v0 c
          ∧ r.2.mem ((c.tc : Thread Cert.Kernel9Ideal.nD Cert.Kernel9Ideal.τ).loc Cert.Kernel9Ideal.main_v19_1) = v1 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v20) = v0 c
          ∧ r.2.mem ((c.tc : Thread Cert.Reference9Ideal.nD Cert.Reference9Ideal.τ).loc Cert.Reference9Ideal.main_v21) = v1 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)) →
    ∃ (v0 : (c : Dev Cert.Kernel10Ideal.nD) → Buf (Elt Ideal) ((c.tc : Thread Cert.Kernel10Ideal.nD Cert.Kernel10Ideal.τ).loc Cert.Kernel10Ideal.main_v3)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v3) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v4) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4))

def preserves_Kernel11_Kernel11Ideal : Prop :=
  IdealRules.named_const.Statement Cert.Kernel11Ideal.κ "mean" .f32 0x3C2AAAAB#32 ((1 / 96 : ℝ) : EReal)
  ∧ IdealRules.named_const.Statement Cert.Kernel11Ideal.κ "scale" .f32 0x3DD105EC#32 (((Real.sqrt 96)⁻¹ : ℝ) : EReal)

def algebraic_Kernel11Ideal_Reference11Ideal_pre_finite11 [hKernel11Ideal : Cert.Kernel11Ideal.Facts] [hReference11Ideal : Cert.Reference11Ideal.Facts] [hPre_finite11 : Cert.Pre_finite11.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal_finite11 m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)
      ∧ m' ((c.tc : Thread Cert.Reference11Ideal.nD Cert.Reference11Ideal.τ).loc Cert.Reference11Ideal.main_arg5) = m ((c.tc : Thread Cert.Kernel11Ideal.nD Cert.Kernel11Ideal.τ).loc Cert.Kernel11Ideal.main_arg5)
      ∧ m' ((c.tc : Thread Cert.Reference11Ideal.nD Cert.Reference11Ideal.τ).loc Cert.Reference11Ideal.main_arg6) = m ((c.tc : Thread Cert.Kernel11Ideal.nD Cert.Kernel11Ideal.τ).loc Cert.Kernel11Ideal.main_arg6)
      ∧ m' ((c.tc : Thread Cert.Reference11Ideal.nD Cert.Reference11Ideal.τ).loc Cert.Reference11Ideal.main_arg7) = m ((c.tc : Thread Cert.Kernel11Ideal.nD Cert.Kernel11Ideal.τ).loc Cert.Kernel11Ideal.main_arg7)
      ∧ m' ((c.tc : Thread Cert.Reference11Ideal.nD Cert.Reference11Ideal.τ).loc Cert.Reference11Ideal.main_arg8) = m ((c.tc : Thread Cert.Kernel11Ideal.nD Cert.Kernel11Ideal.τ).loc Cert.Kernel11Ideal.main_arg8)) →
    ∃ (v0 : (c : Dev Cert.Kernel11Ideal.nD) → Buf (Elt Ideal) ((c.tc : Thread Cert.Kernel11Ideal.nD Cert.Kernel11Ideal.τ).loc Cert.Kernel11Ideal.main_v73)) (v1 : (c : Dev Cert.Kernel11Ideal.nD) → Buf (Elt Ideal) ((c.tc : Thread Cert.Kernel11Ideal.nD Cert.Kernel11Ideal.τ).loc Cert.Kernel11Ideal.main_v74)) (v2 : (c : Dev Cert.Kernel11Ideal.nD) → Buf (Elt Ideal) ((c.tc : Thread Cert.Kernel11Ideal.nD Cert.Kernel11Ideal.τ).loc Cert.Kernel11Ideal.main_v75)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v73) = v0 c
          ∧ r.2.mem ((c.tc : Thread Cert.Kernel11Ideal.nD Cert.Kernel11Ideal.τ).loc Cert.Kernel11Ideal.main_v74) = v1 c
          ∧ r.2.mem ((c.tc : Thread Cert.Kernel11Ideal.nD Cert.Kernel11Ideal.τ).loc Cert.Kernel11Ideal.main_v75) = v2 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
          ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5)
          ∧ r.2.mem ((c.tc : Thread Cert.Kernel11Ideal.nD Cert.Kernel11Ideal.τ).loc Cert.Kernel11Ideal.main_arg6) = m ((c.tc : Thread Cert.Kernel11Ideal.nD Cert.Kernel11Ideal.τ).loc Cert.Kernel11Ideal.main_arg6)
          ∧ r.2.mem ((c.tc : Thread Cert.Kernel11Ideal.nD Cert.Kernel11Ideal.τ).loc Cert.Kernel11Ideal.main_arg7) = m ((c.tc : Thread Cert.Kernel11Ideal.nD Cert.Kernel11Ideal.τ).loc Cert.Kernel11Ideal.main_arg7)
          ∧ r.2.mem ((c.tc : Thread Cert.Kernel11Ideal.nD Cert.Kernel11Ideal.τ).loc Cert.Kernel11Ideal.main_arg8) = m ((c.tc : Thread Cert.Kernel11Ideal.nD Cert.Kernel11Ideal.τ).loc Cert.Kernel11Ideal.main_arg8))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v114) = v0 c
          ∧ r.2.mem ((c.tc : Thread Cert.Reference11Ideal.nD Cert.Reference11Ideal.τ).loc Cert.Reference11Ideal.main_v116) = v1 c
          ∧ r.2.mem ((c.tc : Thread Cert.Reference11Ideal.nD Cert.Reference11Ideal.τ).loc Cert.Reference11Ideal.main_v118) = v2 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4)
          ∧ r.2.mem ((c.tc : Thread Cert.Reference11Ideal.nD Cert.Reference11Ideal.τ).loc Cert.Reference11Ideal.main_arg5) = m' ((c.tc : Thread Cert.Reference11Ideal.nD Cert.Reference11Ideal.τ).loc Cert.Reference11Ideal.main_arg5)
          ∧ r.2.mem ((c.tc : Thread Cert.Reference11Ideal.nD Cert.Reference11Ideal.τ).loc Cert.Reference11Ideal.main_arg6) = m' ((c.tc : Thread Cert.Reference11Ideal.nD Cert.Reference11Ideal.τ).loc Cert.Reference11Ideal.main_arg6)
          ∧ r.2.mem ((c.tc : Thread Cert.Reference11Ideal.nD Cert.Reference11Ideal.τ).loc Cert.Reference11Ideal.main_arg7) = m' ((c.tc : Thread Cert.Reference11Ideal.nD Cert.Reference11Ideal.τ).loc Cert.Reference11Ideal.main_arg7)
          ∧ r.2.mem ((c.tc : Thread Cert.Reference11Ideal.nD Cert.Reference11Ideal.τ).loc Cert.Reference11Ideal.main_arg8) = m' ((c.tc : Thread Cert.Reference11Ideal.nD Cert.Reference11Ideal.τ).loc Cert.Reference11Ideal.main_arg8))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hPre_finite3 : Cert.Pre_finite3.Facts) (hPre_finite11 : Cert.Pre_finite11.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Kernel3Ideal_pre_finite3 (hKernel3Ideal := hKernel3Ideal) (hPre_finite3 := hPre_finite3)
    ∧ quiescent_Reference3Ideal (hReference3Ideal := hReference3Ideal)
    ∧ quiescent_Reference3Ideal_pre_finite3 (hReference3Ideal := hReference3Ideal) (hPre_finite3 := hPre_finite3)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Kernel11Ideal_pre_finite11 (hKernel11Ideal := hKernel11Ideal) (hPre_finite11 := hPre_finite11)
    ∧ quiescent_Reference11Ideal (hReference11Ideal := hReference11Ideal)
    ∧ quiescent_Reference11Ideal_pre_finite11 (hReference11Ideal := hReference11Ideal) (hPre_finite11 := hPre_finite11)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal_pre_finite3 (hKernel3Ideal := hKernel3Ideal) (hReference3Ideal := hReference3Ideal) (hPre_finite3 := hPre_finite3)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal_pre_finite11 (hKernel11Ideal := hKernel11Ideal) (hReference11Ideal := hReference11Ideal) (hPre_finite11 := hPre_finite11)
-- ==== Pre_finite11.lean ====
abbrev S8x4096x672 : Shape := ⟨3, ![8, 4096, 672]⟩
abbrev S384 : Shape := ⟨1, ![384]⟩
abbrev S384x768 : Shape := ⟨2, ![384, 768]⟩
abbrev S256 : Shape := ⟨1, ![256]⟩
abbrev S256x1024 : Shape := ⟨2, ![256, 1024]⟩
abbrev S96 : Shape := ⟨1, ![96]⟩
abbrev S4096x32 : Shape := ⟨2, ![4096, 32]⟩
abbrev S8x4096x384 : Shape := ⟨3, ![8, 4096, 384]⟩
abbrev S_ : Shape := ⟨0, ![]⟩

class Facts : Prop where
  slices_S8x4096x672_S8x4096x384_0_0_0 : S8x4096x672.Slices ![0, 0, 0] S8x4096x384
  bcast_S_S8x4096x384 : S_.BroadcastsInDim S8x4096x384 (![] : Fin 0 → Fin S8x4096x384.rank)
  reducesTo_S8x4096x384_S_d0_1_2 : S8x4096x384.ReducesTo [0, 1, 2] S_
  h_S_ : 0 < S_.numel
  bcast_S_S384 : S_.BroadcastsInDim S384 (![] : Fin 0 → Fin S384.rank)
  reducesTo_S384_S_d0 : S384.ReducesTo [0] S_
  bcast_S_S384x768 : S_.BroadcastsInDim S384x768 (![] : Fin 0 → Fin S384x768.rank)
  reducesTo_S384x768_S_d0_1 : S384x768.ReducesTo [0, 1] S_

variable [Facts]

def fn {F : FTy → Type} [FloatOps F] (main_arg0 : FVec F S8x4096x672 .f32) (main_arg1 : FVec F S384 .f32) (main_arg2 : FVec F S384x768 .f32) (main_arg3 : FVec F S256 .f32) (main_arg4 : FVec F S256x1024 .f32) (main_arg5 : FVec F S96 .f32) (main_arg6 : FVec F S96 .f32) (main_arg7 : FVec F S4096x32 .f32) (main_arg8 : FVec F S4096x32 .f32) : IVec S_ 1 :=
  let main_v0 : FVec F S8x4096x384 .f32 := (extractStridedSlice S8x4096x384 ![0, 0, 0] · slices_S8x4096x672_S8x4096x384_0_0_0) main_arg0
  let main_v1 : FVec F S8x4096x384 .f32 := Host.absf main_v0
  let main_cst : FVec F S_ .f32 := constant S_ .f32 0x7F800000#32
  let main_v2 : FVec F S8x4096x384 .f32 := broadcastInDim S8x4096x384 ![] bcast_S_S8x4096x384 main_cst
  let main_v3 : IVec S8x4096x384 1 := cmpf .olt main_v1 main_v2
  let main_c : IVec S_ 1 := constantI S_ 1 1#1
  let main_v4 : IVec S_ 1 := (fun x v => Host.reduce IntOp.andi x v reducesTo_S8x4096x384_S_d0_1_2 h_S_) main_v3 main_c
  let main_v5 : FVec F S384 .f32 := Host.absf main_arg1
  let main_cst_0 : FVec F S_ .f32 := constant S_ .f32 0x7F800000#32
  let main_v6 : FVec F S384 .f32 := broadcastInDim S384 ![] bcast_S_S384 main_cst_0
  let main_v7 : IVec S384 1 := cmpf .olt main_v5 main_v6
  let main_c_1 : IVec S_ 1 := constantI S_ 1 1#1
  let main_v8 : IVec S_ 1 := (fun x v => Host.reduce IntOp.andi x v reducesTo_S384_S_d0 h_S_) main_v7 main_c_1
  let main_v9 : IVec S_ 1 := andi main_v4 main_v8
  let main_v10 : FVec F S384x768 .f32 := Host.absf main_arg2
  let main_cst_2 : FVec F S_ .f32 := constant S_ .f32 0x7F800000#32
  let main_v11 : FVec F S384x768 .f32 := broadcastInDim S384x768 ![] bcast_S_S384x768 main_cst_2
  let main_v12 : IVec S384x768 1 := cmpf .olt main_v10 main_v11
  let main_c_3 : IVec S_ 1 := constantI S_ 1 1#1
  let main_v13 : IVec S_ 1 := (fun x v => Host.reduce IntOp.andi x v reducesTo_S384x768_S_d0_1 h_S_) main_v12 main_c_3
  let main_v14 : IVec S_ 1 := andi main_v9 main_v13
  main_v14
-- ==== Pre_finite3.lean ====
abbrev S8x4096x8x96 : Shape := ⟨4, ![8, 4096, 8, 96]⟩
abbrev S8x4096x8x64 : Shape := ⟨4, ![8, 4096, 8, 64]⟩
abbrev S8x256x8x96 : Shape := ⟨4, ![8, 256, 8, 96]⟩
abbrev S8x256x8x64 : Shape := ⟨4, ![8, 256, 8, 64]⟩
abbrev S_ : Shape := ⟨0, ![]⟩

class Facts : Prop where
  bcast_S_S8x4096x8x96 : S_.BroadcastsInDim S8x4096x8x96 (![] : Fin 0 → Fin S8x4096x8x96.rank)
  reducesTo_S8x4096x8x96_S_d0_1_2_3 : S8x4096x8x96.ReducesTo [0, 1, 2, 3] S_
  h_S_ : 0 < S_.numel
  bcast_S_S8x256x8x96 : S_.BroadcastsInDim S8x256x8x96 (![] : Fin 0 → Fin S8x256x8x96.rank)
  reducesTo_S8x256x8x96_S_d0_1_2_3 : S8x256x8x96.ReducesTo [0, 1, 2, 3] S_

variable [Facts]

def fn {F : FTy → Type} [FloatOps F] (main_arg0 : FVec F S8x4096x8x96 .f32) (main_arg1 : FVec F S8x4096x8x96 .f32) (main_arg2 : FVec F S8x4096x8x64 .f32) (main_arg3 : FVec F S8x256x8x96 .f32) (main_arg4 : FVec F S8x256x8x64 .f32) : IVec S_ 1 :=
  let main_v0 : FVec F S8x4096x8x96 .f32 := Host.absf main_arg0
  let main_cst : FVec F S_ .f32 := constant S_ .f32 0x7F800000#32
  let main_v1 : FVec F S8x4096x8x96 .f32 := broadcastInDim S8x4096x8x96 ![] bcast_S_S8x4096x8x96 main_cst
  let main_v2 : IVec S8x4096x8x96 1 := cmpf .olt main_v0 main_v1
  let main_c : IVec S_ 1 := constantI S_ 1 1#1
  let main_v3 : IVec S_ 1 := (fun x v => Host.reduce IntOp.andi x v reducesTo_S8x4096x8x96_S_d0_1_2_3 h_S_) main_v2 main_c
  let main_v4 : FVec F S8x4096x8x96 .f32 := Host.absf main_arg1
  let main_cst_0 : FVec F S_ .f32 := constant S_ .f32 0x7F800000#32
  let main_v5 : FVec F S8x4096x8x96 .f32 := broadcastInDim S8x4096x8x96 ![] bcast_S_S8x4096x8x96 main_cst_0
  let main_v6 : IVec S8x4096x8x96 1 := cmpf .olt main_v4 main_v5
  let main_c_1 : IVec S_ 1 := constantI S_ 1 1#1
  let main_v7 : IVec S_ 1 := (fun x v => Host.reduce IntOp.andi x v reducesTo_S8x4096x8x96_S_d0_1_2_3 h_S_) main_v6 main_c_1
  let main_v8 : IVec S_ 1 := andi main_v3 main_v7
  let main_v9 : FVec F S8x256x8x96 .f32 := Host.absf main_arg3
  let main_cst_2 : FVec F S_ .f32 := constant S_ .f32 0x7F800000#32
  let main_v10 : FVec F S8x256x8x96 .f32 := broadcastInDim S8x256x8x96 ![] bcast_S_S8x256x8x96 main_cst_2
  let main_v11 : IVec S8x256x8x96 1 := cmpf .olt main_v9 main_v10
  let main_c_3 : IVec S_ 1 := constantI S_ 1 1#1
  let main_v12 : IVec S_ 1 := (fun x v => Host.reduce IntOp.andi x v reducesTo_S8x256x8x96_S_d0_1_2_3 h_S_) main_v11 main_c_3
  let main_v13 : IVec S_ 1 := andi main_v8 main_v12
  main_v13
-- ==== Kernel.lean ====
abbrev S8x4096x1024 : Shape := ⟨3, ![8, 4096, 1024]⟩
abbrev S8x4096x16 : Shape := ⟨3, ![8, 4096, 16]⟩
abbrev S16x1024x1024 : Shape := ⟨3, ![16, 1024, 1024]⟩
abbrev S_ : Shape := ⟨0, ![]⟩
abbrev S8x4096 : Shape := ⟨2, ![8, 4096]⟩
abbrev S8x4096x1 : Shape := ⟨3, ![8, 4096, 1]⟩
abbrev S8x16x4096 : Shape := ⟨3, ![8, 16, 4096]⟩
abbrev S8x16x512 : Shape := ⟨3, ![8, 16, 512]⟩
abbrev S8x16x512x1 : Shape := ⟨4, ![8, 16, 512, 1]⟩
abbrev S8x16x512x1024 : Shape := ⟨4, ![8, 16, 512, 1024]⟩
abbrev S1x4096x1024 : Shape := ⟨3, ![1, 4096, 1024]⟩
abbrev S1x1x512x1 : Shape := ⟨4, ![1, 1, 512, 1]⟩
abbrev S1x1024x1024 : Shape := ⟨3, ![1, 1024, 1024]⟩
abbrev S1x1x512x1024 : Shape := ⟨4, ![1, 1, 512, 1024]⟩
abbrev S512x4096 : Shape := ⟨2, ![512, 4096]⟩
abbrev S512x1 : Shape := ⟨2, ![512, 1]⟩
abbrev S4096x1024 : Shape := ⟨2, ![4096, 1024]⟩
abbrev S512x1024 : Shape := ⟨2, ![512, 1024]⟩
abbrev S1024x1024 : Shape := ⟨2, ![1024, 1024]⟩

abbrev nBuf : Space → Nat
  | .hbm => 28
  | .vmem => 14
  | .smem => 0
  | _ => 0

abbrev bufTy : (tb : Table) → Fin (tcTables nBuf tb) → BufTy
  | .hbm, ⟨0, _⟩ => ⟨S8x4096x1024, .bf16⟩
  | .hbm, ⟨1, _⟩ => ⟨S8x4096x16, .f32⟩
  | .hbm, ⟨2, _⟩ => ⟨S16x1024x1024, .f32⟩
  | .hbm, ⟨3, _⟩ => ⟨S16x1024x1024, .f32⟩
  | .hbm, ⟨4, _⟩ => ⟨S16x1024x1024, .f32⟩
  | .hbm, ⟨5, _⟩ => ⟨S16x1024x1024, .bf16⟩
  | .hbm, ⟨6, _⟩ => ⟨S16x1024x1024, .bf16⟩
  | .hbm, ⟨7, _⟩ => ⟨S16x1024x1024, .bf16⟩
  | .hbm, ⟨8, _⟩ => ⟨S_, .f32⟩
  | .hbm, ⟨9, _⟩ => ⟨S8x4096, .f32⟩
  | .hbm, ⟨10, _⟩ => ⟨S_, .f32⟩
  | .hbm, ⟨11, _⟩ => ⟨S8x4096, .f32⟩
  | .hbm, ⟨12, _⟩ => ⟨S8x4096, .f32⟩
  | .hbm, ⟨13, _⟩ => ⟨S8x4096x1, .f32⟩
  | .hbm, ⟨14, _⟩ => ⟨S8x4096x16, .f32⟩
  | .hbm, ⟨15, _⟩ => ⟨S8x4096x16, .f32⟩
  | .hbm, ⟨16, _⟩ => ⟨S8x4096x16, .f32⟩
  | .hbm, ⟨17, _⟩ => ⟨S_, .f32⟩
  | .hbm, ⟨18, _⟩ => ⟨S8x4096, .f32⟩
  | .hbm, ⟨19, _⟩ => ⟨S8x4096x1, .f32⟩
  | .hbm, ⟨20, _⟩ => ⟨S8x4096x16, .f32⟩
  | .hbm, ⟨21, _⟩ => ⟨S8x4096x16, .f32⟩
  | .hbm, ⟨22, _⟩ => ⟨S8x16x4096, .f32⟩
  | .hbm, ⟨23, _⟩ => ⟨S8x16x512, .f32⟩
  | .hbm, ⟨24, _⟩ => ⟨S8x16x512, .i32⟩
  | .hbm, ⟨25, _⟩ => ⟨S8x16x512x1, .i32⟩
  | .hbm, ⟨26, _⟩ => ⟨S8x16x512x1, .f32⟩
  | .hbm, ⟨27, _⟩ => ⟨S8x16x512x1024, .bf16⟩
  | .local _ .vmem, ⟨0, _⟩ => ⟨S1x4096x1024, .bf16⟩
  | .local _ .vmem, ⟨1, _⟩ => ⟨S1x4096x1024, .bf16⟩
  | .local _ .vmem, ⟨2, _⟩ => ⟨S1x1x512x1, .i32⟩
  | .local _ .vmem, ⟨3, _⟩ => ⟨S1x1x512x1, .i32⟩
  | .local _ .vmem, ⟨4, _⟩ => ⟨S1x1x512x1, .f32⟩
  | .local _ .vmem, ⟨5, _⟩ => ⟨S1x1x512x1, .f32⟩
  | .local _ .vmem, ⟨6, _⟩ => ⟨S1x1024x1024, .bf16⟩
  | .local _ .vmem, ⟨7, _⟩ => ⟨S1x1024x1024, .bf16⟩
  | .local _ .vmem, ⟨8, _⟩ => ⟨S1x1024x1024, .bf16⟩
  | .local _ .vmem, ⟨9, _⟩ => ⟨S1x1024x1024, .bf16⟩
  | .local _ .vmem, ⟨10, _⟩ => ⟨S1x1024x1024, .bf16⟩
  | .local _ .vmem, ⟨11, _⟩ => ⟨S1x1024x1024, .bf16⟩
  | .local _ .vmem, ⟨12, _⟩ => ⟨S1x1x512x1024, .bf16⟩
  | .local _ .vmem, ⟨13, _⟩ => ⟨S1x1x512x1024, .bf16⟩
  | _, _ => ⟨S8x4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_values : Ref sig .tc := ⟨.hbm, 23, rfl⟩
abbrev main_indices : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![8, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x512x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x1x512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ReferenceIdeal.lean ====
abbrev S8x4096x1024 : Shape := ⟨3, ![8, 4096, 1024]⟩
abbrev S8x4096x16 : Shape := ⟨3, ![8, 4096, 16]⟩
abbrev S16x1024x1024 : Shape := ⟨3, ![16, 1024, 1024]⟩
abbrev S_ : Shape := ⟨0, ![]⟩
abbrev S8x4096 : Shape := ⟨2, ![8, 4096]⟩
abbrev S8x4096x1 : Shape := ⟨3, ![8, 4096, 1]⟩
abbrev S8x16x4096 : Shape := ⟨3, ![8, 16, 4096]⟩
abbrev S8x16x512 : Shape := ⟨3, ![8, 16, 512]⟩
abbrev S8x16x512x1 : Shape := ⟨4, ![8, 16, 512, 1]⟩
abbrev S8x16x512x1024 : Shape := ⟨4, ![8, 16, 512, 1024]⟩
abbrev S16x1024x8x512 : Shape := ⟨4, ![16, 1024, 8, 512]⟩

abbrev nBuf : Space → Nat
  | .hbm => 52
  | .vmem => 0
  | .smem => 0
  | _ => 0

abbrev bufTy : (tb : Table) → Fin (tcTables nBuf tb) → BufTy
  | .hbm, ⟨0, _⟩ => ⟨S8x4096x1024, .bf16⟩
  | .hbm, ⟨1, _⟩ => ⟨S8x4096x16, .f32⟩
  | .hbm, ⟨2, _⟩ => ⟨S16x1024x1024, .f32⟩
  | .hbm, ⟨3, _⟩ => ⟨S16x1024x1024, .f32⟩
  | .hbm, ⟨4, _⟩ => ⟨S16x1024x1024, .f32⟩
  | .hbm, ⟨5, _⟩ => ⟨S8x4096x1024, .f32⟩
  | .hbm, ⟨6, _⟩ => ⟨S_, .f32⟩
  | .hbm, ⟨7, _⟩ => ⟨S8x4096, .f32⟩
  | .hbm, ⟨8, _⟩ => ⟨S_, .f32⟩
  | .hbm, ⟨9, _⟩ => ⟨S8x4096, .f32⟩
  | .hbm, ⟨10, _⟩ => ⟨S8x4096, .f32⟩
  | .hbm, ⟨11, _⟩ => ⟨S8x4096x1, .f32⟩
  | .hbm, ⟨12, _⟩ => ⟨S8x4096x16, .f32⟩
  | .hbm, ⟨13, _⟩ => ⟨S8x4096x16, .f32⟩
  | .hbm, ⟨14, _⟩ => ⟨S8x4096x16, .f32⟩
  | .hbm, ⟨15, _⟩ => ⟨S_, .f32⟩
  | .hbm, ⟨16, _⟩ => ⟨S8x4096, .f32⟩
  | .hbm, ⟨17, _⟩ => ⟨S8x4096x1, .f32⟩
  | .hbm, ⟨18, _⟩ => ⟨S8x4096x16, .f32⟩
  | .hbm, ⟨19, _⟩ => ⟨S8x4096x16, .f32⟩
  | .hbm, ⟨20, _⟩ => ⟨S8x16x4096, .f32⟩
  | .hbm, ⟨21, _⟩ => ⟨S8x16x512, .f32⟩
  | .hbm, ⟨22, _⟩ => ⟨S8x16x512, .i32⟩
  | .hbm, ⟨23, _⟩ => ⟨S_, .i32⟩
  | .hbm, ⟨24, _⟩ => ⟨S8x16x512, .i32⟩
  | .hbm, ⟨25, _⟩ => ⟨S8x16x512, .i1⟩
  | .hbm, ⟨26, _⟩ => ⟨S_, .i32⟩
  | .hbm, ⟨27, _⟩ => ⟨S8x16x512, .i32⟩
  | .hbm, ⟨28, _⟩ => ⟨S8x16x512, .i32⟩
  | .hbm, ⟨29, _⟩ => ⟨S8x16x512, .i32⟩
  | .hbm, ⟨30, _⟩ => ⟨S8x16x512x1, .i32⟩
  | .hbm, ⟨31, _⟩ => ⟨S8x16x512x1024, .f32⟩
  | .hbm, ⟨32, _⟩ => ⟨S16x1024x8x512, .f32⟩
  | .hbm, ⟨33, _⟩ => ⟨S8x16x512x1024, .f32⟩
  | .hbm, ⟨34, _⟩ => ⟨S8x16x512x1024, .f32⟩
  | .hbm, ⟨35, _⟩ => ⟨S8x16x512x1024, .f32⟩
  | .hbm, ⟨36, _⟩ => ⟨S_, .f32⟩
  | .hbm, ⟨37, _⟩ => ⟨S8x16x512x1024, .f32⟩
  | .hbm, ⟨38, _⟩ => ⟨S8x16x512x1024, .f32⟩
  | .hbm, ⟨39, _⟩ => ⟨S_, .f32⟩
  | .hbm, ⟨40, _⟩ => ⟨S8x16x512x1024, .f32⟩
  | .hbm, ⟨41, _⟩ => ⟨S8x16x512x1024, .f32⟩
  | .hbm, ⟨42, _⟩ => ⟨S8x16x512x1024, .f32⟩
  | .hbm, ⟨43, _⟩ => ⟨S16x1024x8x512, .f32⟩
  | .hbm, ⟨44, _⟩ => ⟨S8x16x512x1024, .f32⟩
  | .hbm, ⟨45, _⟩ => ⟨S8x16x512x1024, .f32⟩
  | .hbm, ⟨46, _⟩ => ⟨S16x1024x8x512, .f32⟩
  | .hbm, ⟨47, _⟩ => ⟨S8x16x512x1024, .f32⟩
  | .hbm, ⟨48, _⟩ => ⟨S8x16x512x1, .f32⟩
  | .hbm, ⟨49, _⟩ => ⟨S8x16x512x1024, .f32⟩
  | .hbm, ⟨50, _⟩ => ⟨S8x16x512x1024, .f32⟩
  | .hbm, ⟨51, _⟩ => ⟨S8x16x512x1024, .bf16⟩
  | _, _ => ⟨S8x4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_values : Ref sig .tc := ⟨.hbm, 21, rfl⟩
abbrev main_indices : Ref sig .tc := ⟨.hbm, 22, rfl⟩
abbrev main_c : Ref sig .tc := ⟨.hbm, 23, rfl⟩
abbrev main_v13 : Ref sig .tc := ⟨.hbm, 24, rfl⟩
abbrev main_v14 : Ref sig .tc := ⟨.hbm, 25, rfl⟩
abbrev main_c_2 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_call0_v0 : Ref sig .tc := ⟨.hbm, 34, rfl⟩
abbrev main_call0_v1 : Ref sig .tc := ⟨.hbm, 35, rfl⟩
abbrev main_call0_cst : Ref sig .tc := ⟨.hbm, 36, rfl⟩
abbrev main_call0_v2 : Ref sig .tc := ⟨.hbm, 37, rfl⟩
abbrev main_call0_v3 : Ref sig .tc := ⟨.hbm, 38, rfl⟩
abbrev main_call0_cst_0 : Ref sig .tc := ⟨.hbm, 39, rfl⟩
abbrev main_call0_v4 : Ref sig .tc := ⟨.hbm, 40, rfl⟩
abbrev main_call0_v5 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩

abbrev nD : Nat := 1
abbrev τ : Topo := Topo.v7x

variable {F : FTy → Type} [FloatOps F]
-- ==== Kernel2.lean ====
abbrev S8x4096x1024 : Shape := ⟨3, ![8, 4096, 1024]⟩
abbrev S1024 : Shape := ⟨1, ![1024]⟩
abbrev S8x1x1024 : Shape := ⟨3, ![8, 1, 1024]⟩
abbrev S1024x3456 : Shape := ⟨2, ![1024, 3456]⟩
abbrev S_ : Shape := ⟨0, ![]⟩
abbrev S1x1x1024 : Shape := ⟨3, ![1, 1, 1024]⟩
abbrev S8x4096x1920 : Shape := ⟨3, ![8, 4096, 1920]⟩
abbrev S8x4096x1536 : Shape := ⟨3, ![8, 4096, 1536]⟩
abbrev S1x512x1024 : Shape := ⟨3, ![1, 512, 1024]⟩
abbrev S1x512x1920 : Shape := ⟨3, ![1, 512, 1920]⟩
abbrev S1x512x1536 : Shape := ⟨3, ![1, 512, 1536]⟩
abbrev S512x1024 : Shape := ⟨2, ![512, 1024]⟩
abbrev S512 : Shape := ⟨1, ![512]⟩
abbrev S512x1 : Shape := ⟨2, ![512, 1]⟩
abbrev S1x1024 : Shape := ⟨2, ![1, 1024]⟩
abbrev S1024x1920 : Shape := ⟨2, ![1024, 1920]⟩
abbrev S512x1920 : Shape := ⟨2, ![512, 1920]⟩
abbrev S1024x1536 : Shape := ⟨2, ![1024, 1536]⟩
abbrev S512x1536 : Shape := ⟨2, ![512, 1536]⟩

abbrev nBuf : Space → Nat
  | .hbm => 14
  | .vmem => 12
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S8x1x1024, .f32⟩
  | .hbm, ⟨3, _⟩ => ⟨S8x1x1024, .f32⟩
  | .hbm, ⟨4, _⟩ => ⟨S1024x3456, .f32⟩
  | .hbm, ⟨5, _⟩ => ⟨S1024x3456, .bf16⟩
  | .hbm, ⟨6, _⟩ => ⟨S_, .f32⟩
  | .hbm, ⟨7, _⟩ => ⟨S8x1x1024, .f32⟩
  | .hbm, ⟨8, _⟩ => ⟨S8x1x1024, .f32⟩
  | .hbm, ⟨9, _⟩ => ⟨S1x1x1024, .f32⟩
  | .hbm, ⟨10, _⟩ => ⟨S8x1x1024, .f32⟩
  | .hbm, ⟨11, _⟩ => ⟨S8x1x1024, .f32⟩
  | .hbm, ⟨12, _⟩ => ⟨S8x4096x1920, .f32⟩
  | .hbm, ⟨13, _⟩ => ⟨S8x4096x1536, .f32⟩
  | .local _ .vmem, ⟨0, _⟩ => ⟨S1x512x1024, .f32⟩
  | .local _ .vmem, ⟨1, _⟩ => ⟨S1x512x1024, .f32⟩
  | .local _ .vmem, ⟨2, _⟩ => ⟨S1024x3456, .bf16⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x512x1920, .f32⟩
  | .local _ .vmem, ⟨8, _⟩ => ⟨S1x512x1920, .f32⟩
  | .local _ .vmem, ⟨9, _⟩ => ⟨S1x512x1536, .f32⟩
  | .local _ .vmem, ⟨10, _⟩ => ⟨S1x512x1536, .f32⟩
  | .local _ .vmem, ⟨11, _⟩ => ⟨S512x1024, .bf16⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6_0 : Ref sig .tc := ⟨.hbm, 12, rfl⟩
abbrev main_v6_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨3, ![8, 8, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 1 → Memref sig .tc .vmem S1024x3456 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S1x512x1920 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x512x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== Reference2Ideal.lean ====
abbrev S8x4096x1024 : Shape := ⟨3, ![8, 4096, 1024]⟩
abbrev S1024 : Shape := ⟨1, ![1024]⟩
abbrev S8x1x1024 : Shape := ⟨3, ![8, 1, 1024]⟩
abbrev S1024x3456 : Shape := ⟨2, ![1024, 3456]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x3456 : Shape := ⟨3, ![8, 4096, 3456]⟩
abbrev S8x4096x1920 : Shape := ⟨3, ![8, 4096, 1920]⟩
abbrev S8x4096x1536 : Shape := ⟨3, ![8, 4096, 1536]⟩

abbrev nBuf : Space → Nat
  | .hbm => 31
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S8x1x1024, .f32⟩
  | .hbm, ⟨3, _⟩ => ⟨S8x1x1024, .f32⟩
  | .hbm, ⟨4, _⟩ => ⟨S1024x3456, .f32⟩
  | .hbm, ⟨5, _⟩ => ⟨S8x4096x1024, .f32⟩
  | .hbm, ⟨6, _⟩ => ⟨S_, .f32⟩
  | .hbm, ⟨7, _⟩ => ⟨S8x4096, .f32⟩
  | .hbm, ⟨8, _⟩ => ⟨S8x4096x1, .f32⟩
  | .hbm, ⟨9, _⟩ => ⟨S_, .f32⟩
  | .hbm, ⟨10, _⟩ => ⟨S8x4096x1, .f32⟩
  | .hbm, ⟨11, _⟩ => ⟨S8x4096x1, .f32⟩
  | .hbm, ⟨12, _⟩ => ⟨S_, .f32⟩
  | .hbm, ⟨13, _⟩ => ⟨S8x4096x1, .f32⟩
  | .hbm, ⟨14, _⟩ => ⟨S8x4096x1, .f32⟩
  | .hbm, ⟨15, _⟩ => ⟨S8x4096x1, .f32⟩
  | .hbm, ⟨16, _⟩ => ⟨S8x4096x1024, .f32⟩
  | .hbm, ⟨17, _⟩ => ⟨S8x4096x1024, .f32⟩
  | .hbm, ⟨18, _⟩ => ⟨S1x1x1024, .f32⟩
  | .hbm, ⟨19, _⟩ => ⟨S8x4096x1024, .f32⟩
  | .hbm, ⟨20, _⟩ => ⟨S8x4096x1024, .f32⟩
  | .hbm, ⟨21, _⟩ => ⟨S_, .f32⟩
  | .hbm, ⟨22, _⟩ => ⟨S8x1x1024, .f32⟩
  | .hbm, ⟨23, _⟩ => ⟨S8x1x1024, .f32⟩
  | .hbm, ⟨24, _⟩ => ⟨S8x4096x1024, .f32⟩
  | .hbm, ⟨25, _⟩ => ⟨S8x4096x1024, .f32⟩
  | .hbm, ⟨26, _⟩ => ⟨S8x4096x1024, .f32⟩
  | .hbm, ⟨27, _⟩ => ⟨S8x4096x1024, .f32⟩
  | .hbm, ⟨28, _⟩ => ⟨S8x4096x3456, .f32⟩
  | .hbm, ⟨29, _⟩ => ⟨S8x4096x1920, .f32⟩
  | .hbm, ⟨30, _⟩ => ⟨S8x4096x1536, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩

abbrev nD : Nat := 1
abbrev τ : Topo := Topo.v7x

variable {F : FTy → Type} [FloatOps F]
-- ==== Kernel3.lean ====
abbrev S8x4096x8x96 : Shape := ⟨4, ![8, 4096, 8, 96]⟩
abbrev S8x4096x8x64 : Shape := ⟨4, ![8, 4096, 8, 64]⟩
abbrev S8x256x8x96 : Shape := ⟨4, ![8, 256, 8, 96]⟩
abbrev S8x256x8x64 : Shape := ⟨4, ![8, 256, 8, 64]⟩
abbrev S_ : Shape := ⟨0, ![]⟩
abbrev S8x4096x8x32 : Shape := ⟨4, ![8, 4096, 8, 32]⟩
abbrev S8x4096x8x128 : Shape := ⟨4, ![8, 4096, 8, 128]⟩
abbrev S8x8x4096x128 : Shape := ⟨4, ![8, 8, 4096, 128]⟩
abbrev S1 : Shape := ⟨1, ![1]⟩
abbrev S8x4096x8 : Shape := ⟨3, ![8, 4096, 8]⟩
abbrev S8x256x8x32 : Shape := ⟨4, ![8, 256, 8, 32]⟩
abbrev S8x256x8x128 : Shape := ⟨4, ![8, 256, 8, 128]⟩
abbrev S8x8x256x128 : Shape := ⟨4, ![8, 8, 256, 128]⟩
abbrev S8x256x8 : Shape := ⟨3, ![8, 256, 8]⟩
abbrev S8x4096x512 : Shape := ⟨3, ![8, 4096, 512]⟩
abbrev S1x2x256x128 : Shape := ⟨4, ![1, 2, 256, 128]⟩
abbrev S1x2x4096x128 : Shape := ⟨4, ![1, 2, 4096, 128]⟩
abbrev S1x256x128 : Shape := ⟨3, ![1, 256, 128]⟩
abbrev S1x128 : Shape := ⟨2, ![1, 128]⟩
abbrev S1x1x256x128 : Shape := ⟨4, ![1, 1, 256, 128]⟩
abbrev S256x128 : Shape := ⟨2, ![256, 128]⟩
abbrev S1x1x4096x128 : Shape := ⟨4, ![1, 1, 4096, 128]⟩
abbrev S4096x128 : Shape := ⟨2, ![4096, 128]⟩
abbrev S256x4096 : Shape := ⟨2, ![256, 4096]⟩
abbrev S256x256 : Shape := ⟨2, ![256, 256]⟩
abbrev S256 : Shape := ⟨1, ![256]⟩
abbrev S256x1 : Shape := ⟨2, ![256, 1]⟩

abbrev nBuf : Space → Nat
  | .hbm => 44
  | .vmem => 12
  | .smem => 0
  | _ => 0

abbrev bufTy : (tb : Table) → Fin (tcTables nBuf tb) → BufTy
  | .hbm, ⟨0, _⟩ => ⟨S8x4096x8x96, .f32⟩
  | .hbm, ⟨1, _⟩ => ⟨S8x4096x8x96, .f32⟩
  | .hbm, ⟨2, _⟩ => ⟨S8x4096x8x64, .f32⟩
  | .hbm, ⟨3, _⟩ => ⟨S8x256x8x96, .f32⟩
  | .hbm, ⟨4, _⟩ => ⟨S8x256x8x64, .f32⟩
  | .hbm, ⟨5, _⟩ => ⟨S_, .f32⟩
  | .hbm, ⟨6, _⟩ => ⟨S8x4096x8x96, .f32⟩
  | .hbm, ⟨7, _⟩ => ⟨S8x4096x8x96, .f32⟩
  | .hbm, ⟨8, _⟩ => ⟨S_, .f32⟩
  | .hbm, ⟨9, _⟩ => ⟨S8x4096x8x32, .f32⟩
  | .hbm, ⟨10, _⟩ => ⟨S8x4096x8x128, .f32⟩
  | .hbm, ⟨11, _⟩ => ⟨S8x8x4096x128, .f32⟩
  | .hbm, ⟨12, _⟩ => ⟨S8x8x4096x128, .bf16⟩
  | .hbm, ⟨13, _⟩ => ⟨S_, .f32⟩
  | .hbm, ⟨14, _⟩ => ⟨S8x4096x8x32, .f32⟩
  | .hbm, ⟨15, _⟩ => ⟨S8x4096x8x128, .f32⟩
  | .hbm, ⟨16, _⟩ => ⟨S8x8x4096x128, .f32⟩
  | .hbm, ⟨17, _⟩ => ⟨S8x8x4096x128, .bf16⟩
  | .hbm, ⟨18, _⟩ => ⟨S_, .f32⟩
  | .hbm, ⟨19, _⟩ => ⟨S8x4096x8x64, .f32⟩
  | .hbm, ⟨20, _⟩ => ⟨S_, .i32⟩
  | .hbm, ⟨21, _⟩ => ⟨S1, .i32⟩
  | .hbm, ⟨22, _⟩ => ⟨S_, .f32⟩
  | .hbm, ⟨23, _⟩ => ⟨S8x4096x8, .f32⟩
  | .hbm, ⟨24, _⟩ => ⟨S8x4096x8x64, .f32⟩
  | .hbm, ⟨25, _⟩ => ⟨S8x4096x8x128, .f32⟩
  | .hbm, ⟨26, _⟩ => ⟨S8x8x4096x128, .f32⟩
  | .hbm, ⟨27, _⟩ => ⟨S8x8x4096x128, .bf16⟩
  | .hbm, ⟨28, _⟩ => ⟨S_, .f32⟩
  | .hbm, ⟨29, _⟩ => ⟨S8x256x8x32, .f32⟩
  | .hbm, ⟨30, _⟩ => ⟨S8x256x8x128, .f32⟩
  | .hbm, ⟨31, _⟩ => ⟨S8x8x256x128, .f32⟩
  | .hbm, ⟨32, _⟩ => ⟨S8x8x256x128, .bf16⟩
  | .hbm, ⟨33, _⟩ => ⟨S_, .f32⟩
  | .hbm, ⟨34, _⟩ => ⟨S8x256x8x64, .f32⟩
  | .hbm, ⟨35, _⟩ => ⟨S_, .i32⟩
  | .hbm, ⟨36, _⟩ => ⟨S1, .i32⟩
  | .hbm, ⟨37, _⟩ => ⟨S_, .f32⟩
  | .hbm, ⟨38, _⟩ => ⟨S8x256x8, .f32⟩
  | .hbm, ⟨39, _⟩ => ⟨S8x256x8x64, .f32⟩
  | .hbm, ⟨40, _⟩ => ⟨S8x256x8x128, .f32⟩
  | .hbm, ⟨41, _⟩ => ⟨S8x8x256x128, .f32⟩
  | .hbm, ⟨42, _⟩ => ⟨S8x8x256x128, .bf16⟩
  | .hbm, ⟨43, _⟩ => ⟨S8x4096x512, .f32⟩
  | .local _ .vmem, ⟨0, _⟩ => ⟨S1x2x256x128, .bf16⟩
  | .local _ .vmem, ⟨1, _⟩ => ⟨S1x2x256x128, .bf16⟩
  | .local _ .vmem, ⟨2, _⟩ => ⟨S1x2x4096x128, .bf16⟩
  | .local _ .vmem, ⟨3, _⟩ => ⟨S1x2x4096x128, .bf16⟩
  | .local _ .vmem, ⟨4, _⟩ => ⟨S1x2x4096x128, .bf16⟩
  | .local _ .vmem, ⟨5, _⟩ => ⟨S1x2x4096x128, .bf16⟩
  | .local _ .vmem, ⟨6, _⟩ => ⟨S1x2x256x128, .bf16⟩
  | .local _ .vmem, ⟨7, _⟩ => ⟨S1x2x256x128, .bf16⟩
  | .local _ .vmem, ⟨8, _⟩ => ⟨S1x2x256x128, .bf16⟩
  | .local _ .vmem, ⟨9, _⟩ => ⟨S1x2x256x128, .bf16⟩
  | .local _ .vmem, ⟨10, _⟩ => ⟨S1x256x128, .f32⟩
  | .local _ .vmem, ⟨11, _⟩ => ⟨S1x256x128, .f32⟩
  | _, _ => ⟨S8x4096x8x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_c : Ref sig .tc := ⟨.hbm, 20, rfl⟩
abbrev main_v11 : Ref sig .tc := ⟨.hbm, 21, rfl⟩
abbrev main_cst_3 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_4 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_5 : Ref sig .tc := ⟨.hbm, 33, rfl⟩
abbrev main_v21 : Ref sig .tc := ⟨.hbm, 34, rfl⟩
abbrev main_c_6 : Ref sig .tc := ⟨.hbm, 35, rfl⟩
abbrev main_v22 : Ref sig .tc := ⟨.hbm, 36, rfl⟩
abbrev main_cst_7 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![8, 4, 16], ![false, false, false]⟩

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x2x256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x2x4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x2x4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x2x256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x2x256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== Reference3Ideal.lean ====
abbrev S8x4096x8x96 : Shape := ⟨4, ![8, 4096, 8, 96]⟩
abbrev S8x4096x8x64 : Shape := ⟨4, ![8, 4096, 8, 64]⟩
abbrev S8x256x8x96 : Shape := ⟨4, ![8, 256, 8, 96]⟩
abbrev S8x256x8x64 : Shape := ⟨4, ![8, 256, 8, 64]⟩
abbrev S8x4352x8x96 : Shape := ⟨4, ![8, 4352, 8, 96]⟩
abbrev S8x4352x8x64 : Shape := ⟨4, ![8, 4352, 8, 64]⟩
abbrev S8x8x4096x4352 : Shape := ⟨4, ![8, 8, 4096, 4352]⟩
abbrev S_ : Shape := ⟨0, ![]⟩
abbrev S8x8x4096 : Shape := ⟨3, ![8, 8, 4096]⟩
abbrev S8x8x4096x1 : Shape := ⟨4, ![8, 8, 4096, 1]⟩
abbrev S8x8x64x4096 : Shape := ⟨4, ![8, 8, 64, 4096]⟩
abbrev S8x4096x512 : Shape := ⟨3, ![8, 4096, 512]⟩

abbrev nBuf : Space → Nat
  | .hbm => 28
  | .vmem => 0
  | .smem => 0
  | _ => 0

abbrev bufTy : (tb : Table) → Fin (tcTables nBuf tb) → BufTy
  | .hbm, ⟨0, _⟩ => ⟨S8x4096x8x96, .f32⟩
  | .hbm, ⟨1, _⟩ => ⟨S8x4096x8x96, .f32⟩
  | .hbm, ⟨2, _⟩ => ⟨S8x4096x8x64, .f32⟩
  | .hbm, ⟨3, _⟩ => ⟨S8x256x8x96, .f32⟩
  | .hbm, ⟨4, _⟩ => ⟨S8x256x8x64, .f32⟩
  | .hbm, ⟨5, _⟩ => ⟨S8x4352x8x96, .f32⟩
  | .hbm, ⟨6, _⟩ => ⟨S8x4352x8x64, .f32⟩
  | .hbm, ⟨7, _⟩ => ⟨S8x8x4096x4352, .f32⟩
  | .hbm, ⟨8, _⟩ => ⟨S_, .f32⟩
  | .hbm, ⟨9, _⟩ => ⟨S8x8x4096x4352, .f32⟩
  | .hbm, ⟨10, _⟩ => ⟨S8x8x4096x4352, .f32⟩
  | .hbm, ⟨11, _⟩ => ⟨S_, .f32⟩
  | .hbm, ⟨12, _⟩ => ⟨S8x8x4096, .f32⟩
  | .hbm, ⟨13, _⟩ => ⟨S_, .f32⟩
  | .hbm, ⟨14, _⟩ => ⟨S8x8x4096, .f32⟩
  | .hbm, ⟨15, _⟩ => ⟨S8x8x4096, .f32⟩
  | .hbm, ⟨16, _⟩ => ⟨S8x8x4096x1, .f32⟩
  | .hbm, ⟨17, _⟩ => ⟨S8x8x4096x4352, .f32⟩
  | .hbm, ⟨18, _⟩ => ⟨S8x8x4096x4352, .f32⟩
  | .hbm, ⟨19, _⟩ => ⟨S8x8x4096x4352, .f32⟩
  | .hbm, ⟨20, _⟩ => ⟨S_, .f32⟩
  | .hbm, ⟨21, _⟩ => ⟨S8x8x4096, .f32⟩
  | .hbm, ⟨22, _⟩ => ⟨S8x8x4096x1, .f32⟩
  | .hbm, ⟨23, _⟩ => ⟨S8x8x4096x4352, .f32⟩
  | .hbm, ⟨24, _⟩ => ⟨S8x8x4096x4352, .f32⟩
  | .hbm, ⟨25, _⟩ => ⟨S8x8x64x4096, .f32⟩
  | .hbm, ⟨26, _⟩ => ⟨S8x4096x8x64, .f32⟩
  | .hbm, ⟨27, _⟩ => ⟨S8x4096x512, .f32⟩
  | _, _ => ⟨S8x4096x8x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩

abbrev nD : Nat := 1
abbrev τ : Topo := Topo.v7x

variable {F : FTy → Type} [FloatOps F]
-- ==== Kernel4.lean ====
abbrev S8x4096x1024 : Shape := ⟨3, ![8, 4096, 1024]⟩
abbrev S8x1x1024 : Shape := ⟨3, ![8, 1, 1024]⟩
abbrev S8x4096x512 : Shape := ⟨3, ![8, 4096, 512]⟩
abbrev S1024x1024 : Shape := ⟨2, ![1024, 1024]⟩
abbrev S512x1024 : Shape := ⟨2, ![512, 1024]⟩
abbrev S1x512x512 : Shape := ⟨3, ![1, 512, 512]⟩
abbrev S1x512x1024 : Shape := ⟨3, ![1, 512, 1024]⟩
abbrev S1x1x1024 : Shape := ⟨3, ![1, 1, 1024]⟩
abbrev S512x512 : Shape := ⟨2, ![512, 512]⟩
abbrev S1x1024 : Shape := ⟨2, ![1, 1024]⟩

abbrev nBuf : Space → Nat
  | .hbm => 9
  | .vmem => 13
  | .smem => 0
  | _ => 0

abbrev bufTy : (tb : Table) → Fin (tcTables nBuf tb) → BufTy
  | .hbm, ⟨0, _⟩ => ⟨S8x4096x1024, .f32⟩
  | .hbm, ⟨1, _⟩ => ⟨S8x1x1024, .f32⟩
  | .hbm, ⟨2, _⟩ => ⟨S8x4096x512, .f32⟩
  | .hbm, ⟨3, _⟩ => ⟨S8x4096x512, .f32⟩
  | .hbm, ⟨4, _⟩ => ⟨S1024x1024, .f32⟩
  | .hbm, ⟨5, _⟩ => ⟨S1024x1024, .bf16⟩
  | .hbm, ⟨6, _⟩ => ⟨S512x1024, .bf16⟩
  | .hbm, ⟨7, _⟩ => ⟨S512x1024, .bf16⟩
  | .hbm, ⟨8, _⟩ => ⟨S8x4096x1024, .f32⟩
  | .local _ .vmem, ⟨0, _⟩ => ⟨S1x512x512, .f32⟩
  | .local _ .vmem, ⟨1, _⟩ => ⟨S1x512x512, .f32⟩
  | .local _ .vmem, ⟨2, _⟩ => ⟨S512x1024, .bf16⟩
  | .local _ .vmem, ⟨3, _⟩ => ⟨S1x512x512, .f32⟩
  | .local _ .vmem, ⟨4, _⟩ => ⟨S1x512x512, .f32⟩
  | .local _ .vmem, ⟨5, _⟩ => ⟨S512x1024, .bf16⟩
  | .local _ .vmem, ⟨6, _⟩ => ⟨S1x512x1024, .f32⟩
  | .local _ .vmem, ⟨7, _⟩ => ⟨S1x512x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x512x1024, .f32⟩
  | .local _ .vmem, ⟨11, _⟩ => ⟨S1x512x1024, .f32⟩
  | .local _ .vmem, ⟨12, _⟩ => ⟨S512x512, .bf16⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨3, ![8, 8, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, true]

abbrev stage0_2 : Fin 2 → Memref sig .tc .vmem S1x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, true]

abbrev stage0_4 : Fin 2 → Memref sig .tc .vmem S1x512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, true]

abbrev stage0_6 : Fin 2 → Memref sig .tc .vmem S1x512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== Reference4Ideal.lean ====
abbrev S8x4096x1024 : Shape := ⟨3, ![8, 4096, 1024]⟩
abbrev S8x1x1024 : Shape := ⟨3, ![8, 1, 1024]⟩
abbrev S8x4096x512 : Shape := ⟨3, ![8, 4096, 512]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x1x1024, .f32⟩
  | .hbm, ⟨2, _⟩ => ⟨S8x4096x512, .f32⟩
  | .hbm, ⟨3, _⟩ => ⟨S8x4096x512, .f32⟩
  | .hbm, ⟨4, _⟩ => ⟨S1024x1024, .f32⟩
  | .hbm, ⟨5, _⟩ => ⟨S8x4096x1024, .f32⟩
  | .hbm, ⟨6, _⟩ => ⟨S8x4096x1024, .f32⟩
  | .hbm, ⟨7, _⟩ => ⟨S8x4096x1024, .f32⟩
  | .hbm, ⟨8, _⟩ => ⟨S8x4096x1024, .f32⟩
  | .hbm, ⟨9, _⟩ => ⟨S8x4096x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩

abbrev nD : Nat := 1
abbrev τ : Topo := Topo.v7x

variable {F : FTy → Type} [FloatOps F]
-- ==== Kernel5.lean ====
abbrev S8x16x512x1024 : Shape := ⟨4, ![8, 16, 512, 1024]⟩
abbrev S8x4096x16 : Shape := ⟨3, ![8, 4096, 16]⟩
abbrev S8x4096x1024 : Shape := ⟨3, ![8, 4096, 1024]⟩
abbrev S8x1x1024 : Shape := ⟨3, ![8, 1, 1024]⟩
abbrev S_ : Shape := ⟨0, ![]⟩
abbrev S8x4096 : Shape := ⟨2, ![8, 4096]⟩
abbrev S8x4096x1 : Shape := ⟨3, ![8, 4096, 1]⟩
abbrev S8x16x4096 : Shape := ⟨3, ![8, 16, 4096]⟩
abbrev S8x16x512 : Shape := ⟨3, ![8, 16, 512]⟩
abbrev S8x8192x1024 : Shape := ⟨3, ![8, 8192, 1024]⟩
abbrev S8x1x8192 : Shape := ⟨3, ![8, 1, 8192]⟩
abbrev S1x8192x512 : Shape := ⟨3, ![1, 8192, 512]⟩
abbrev S1x1x8192 : Shape := ⟨3, ![1, 1, 8192]⟩
abbrev S1x1024x512 : Shape := ⟨3, ![1, 1024, 512]⟩
abbrev S1x1x512 : Shape := ⟨3, ![1, 1, 512]⟩
abbrev S1024x512 : Shape := ⟨2, ![1024, 512]⟩
abbrev S1x512 : Shape := ⟨2, ![1, 512]⟩
abbrev S1x512x512 : Shape := ⟨3, ![1, 512, 512]⟩
abbrev S512x512 : Shape := ⟨2, ![512, 512]⟩

abbrev nBuf : Space → Nat
  | .hbm => 24
  | .vmem => 10
  | .smem => 0
  | _ => 0

abbrev bufTy : (tb : Table) → Fin (tcTables nBuf tb) → BufTy
  | .hbm, ⟨0, _⟩ => ⟨S8x16x512x1024, .bf16⟩
  | .hbm, ⟨1, _⟩ => ⟨S8x4096x16, .f32⟩
  | .hbm, ⟨2, _⟩ => ⟨S8x4096x1024, .f32⟩
  | .hbm, ⟨3, _⟩ => ⟨S8x1x1024, .f32⟩
  | .hbm, ⟨4, _⟩ => ⟨S_, .f32⟩
  | .hbm, ⟨5, _⟩ => ⟨S8x4096, .f32⟩
  | .hbm, ⟨6, _⟩ => ⟨S_, .f32⟩
  | .hbm, ⟨7, _⟩ => ⟨S8x4096, .f32⟩
  | .hbm, ⟨8, _⟩ => ⟨S8x4096, .f32⟩
  | .hbm, ⟨9, _⟩ => ⟨S8x4096x1, .f32⟩
  | .hbm, ⟨10, _⟩ => ⟨S8x4096x16, .f32⟩
  | .hbm, ⟨11, _⟩ => ⟨S8x4096x16, .f32⟩
  | .hbm, ⟨12, _⟩ => ⟨S8x4096x16, .f32⟩
  | .hbm, ⟨13, _⟩ => ⟨S_, .f32⟩
  | .hbm, ⟨14, _⟩ => ⟨S8x4096, .f32⟩
  | .hbm, ⟨15, _⟩ => ⟨S8x4096x1, .f32⟩
  | .hbm, ⟨16, _⟩ => ⟨S8x4096x16, .f32⟩
  | .hbm, ⟨17, _⟩ => ⟨S8x4096x16, .f32⟩
  | .hbm, ⟨18, _⟩ => ⟨S8x16x4096, .f32⟩
  | .hbm, ⟨19, _⟩ => ⟨S8x16x512, .f32⟩
  | .hbm, ⟨20, _⟩ => ⟨S8x16x512, .i32⟩
  | .hbm, ⟨21, _⟩ => ⟨S8x8192x1024, .bf16⟩
  | .hbm, ⟨22, _⟩ => ⟨S8x1x8192, .i32⟩
  | .hbm, ⟨23, _⟩ => ⟨S8x4096x1024, .f32⟩
  | .local _ .vmem, ⟨0, _⟩ => ⟨S1x8192x512, .bf16⟩
  | .local _ .vmem, ⟨1, _⟩ => ⟨S1x8192x512, .bf16⟩
  | .local _ .vmem, ⟨2, _⟩ => ⟨S1x1x8192, .i32⟩
  | .local _ .vmem, ⟨3, _⟩ => ⟨S1x1x8192, .i32⟩
  | .local _ .vmem, ⟨4, _⟩ => ⟨S1x1024x512, .f32⟩
  | .local _ .vmem, ⟨5, _⟩ => ⟨S1x1024x512, .f32⟩
  | .local _ .vmem, ⟨6, _⟩ => ⟨S1x1x512, .f32⟩
  | .local _ .vmem, ⟨7, _⟩ => ⟨S1x1x512, .f32⟩
  | .local _ .vmem, ⟨8, _⟩ => ⟨S1x1024x512, .f32⟩
  | .local _ .vmem, ⟨9, _⟩ => ⟨S1x1024x512, .f32⟩
  | _, _ => ⟨S8x16x512x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_values : Ref sig .tc := ⟨.hbm, 19, rfl⟩
abbrev main_indices : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![8, 2, 4], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x8192x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x1x8192 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== Reference5Ideal.lean ====
abbrev S8x16x512x1024 : Shape := ⟨4, ![8, 16, 512, 1024]⟩
abbrev S8x4096x16 : Shape := ⟨3, ![8, 4096, 16]⟩
abbrev S8x4096x1024 : Shape := ⟨3, ![8, 4096, 1024]⟩
abbrev S8x1x1024 : Shape := ⟨3, ![8, 1, 1024]⟩
abbrev S_ : Shape := ⟨0, ![]⟩
abbrev S8x4096 : Shape := ⟨2, ![8, 4096]⟩
abbrev S8x4096x1 : Shape := ⟨3, ![8, 4096, 1]⟩
abbrev S8x16x4096 : Shape := ⟨3, ![8, 16, 4096]⟩
abbrev S8x16x512 : Shape := ⟨3, ![8, 16, 512]⟩
abbrev S8 : Shape := ⟨1, ![8]⟩
abbrev S8x1 : Shape := ⟨2, ![8, 1]⟩
abbrev S8x8192 : Shape := ⟨2, ![8, 8192]⟩
abbrev S8x8192x1024 : Shape := ⟨3, ![8, 8192, 1024]⟩
abbrev S8x8192x1 : Shape := ⟨3, ![8, 8192, 1]⟩
abbrev S8x8192x2 : Shape := ⟨3, ![8, 8192, 2]⟩

abbrev nBuf : Space → Nat
  | .hbm => 50
  | .vmem => 0
  | .smem => 0
  | _ => 0

abbrev bufTy : (tb : Table) → Fin (tcTables nBuf tb) → BufTy
  | .hbm, ⟨0, _⟩ => ⟨S8x16x512x1024, .bf16⟩
  | .hbm, ⟨1, _⟩ => ⟨S8x4096x16, .f32⟩
  | .hbm, ⟨2, _⟩ => ⟨S8x4096x1024, .f32⟩
  | .hbm, ⟨3, _⟩ => ⟨S8x1x1024, .f32⟩
  | .hbm, ⟨4, _⟩ => ⟨S8x16x512x1024, .f32⟩
  | .hbm, ⟨5, _⟩ => ⟨S_, .f32⟩
  | .hbm, ⟨6, _⟩ => ⟨S8x4096, .f32⟩
  | .hbm, ⟨7, _⟩ => ⟨S_, .f32⟩
  | .hbm, ⟨8, _⟩ => ⟨S8x4096, .f32⟩
  | .hbm, ⟨9, _⟩ => ⟨S8x4096, .f32⟩
  | .hbm, ⟨10, _⟩ => ⟨S8x4096x1, .f32⟩
  | .hbm, ⟨11, _⟩ => ⟨S8x4096x16, .f32⟩
  | .hbm, ⟨12, _⟩ => ⟨S8x4096x16, .f32⟩
  | .hbm, ⟨13, _⟩ => ⟨S8x4096x16, .f32⟩
  | .hbm, ⟨14, _⟩ => ⟨S_, .f32⟩
  | .hbm, ⟨15, _⟩ => ⟨S8x4096, .f32⟩
  | .hbm, ⟨16, _⟩ => ⟨S8x4096x1, .f32⟩
  | .hbm, ⟨17, _⟩ => ⟨S8x4096x16, .f32⟩
  | .hbm, ⟨18, _⟩ => ⟨S8x4096x16, .f32⟩
  | .hbm, ⟨19, _⟩ => ⟨S8x16x4096, .f32⟩
  | .hbm, ⟨20, _⟩ => ⟨S8x16x512, .f32⟩
  | .hbm, ⟨21, _⟩ => ⟨S8x16x512, .i32⟩
  | .hbm, ⟨22, _⟩ => ⟨S_, .f32⟩
  | .hbm, ⟨23, _⟩ => ⟨S8x4096x1024, .f32⟩
  | .hbm, ⟨24, _⟩ => ⟨S8, .i32⟩
  | .hbm, ⟨25, _⟩ => ⟨S8x1, .i32⟩
  | .hbm, ⟨26, _⟩ => ⟨S8x8192, .i32⟩
  | .hbm, ⟨27, _⟩ => ⟨S8x8192x1024, .f32⟩
  | .hbm, ⟨28, _⟩ => ⟨S_, .i32⟩
  | .hbm, ⟨29, _⟩ => ⟨S8x1, .i32⟩
  | .hbm, ⟨30, _⟩ => ⟨S8x1, .i1⟩
  | .hbm, ⟨31, _⟩ => ⟨S_, .i32⟩
  | .hbm, ⟨32, _⟩ => ⟨S8x1, .i32⟩
  | .hbm, ⟨33, _⟩ => ⟨S8x1, .i32⟩
  | .hbm, ⟨34, _⟩ => ⟨S8x1, .i32⟩
  | .hbm, ⟨35, _⟩ => ⟨S_, .i32⟩
  | .hbm, ⟨36, _⟩ => ⟨S8x8192, .i32⟩
  | .hbm, ⟨37, _⟩ => ⟨S8x8192, .i1⟩
  | .hbm, ⟨38, _⟩ => ⟨S_, .i32⟩
  | .hbm, ⟨39, _⟩ => ⟨S8x8192, .i32⟩
  | .hbm, ⟨40, _⟩ => ⟨S8x8192, .i32⟩
  | .hbm, ⟨41, _⟩ => ⟨S8x8192, .i32⟩
  | .hbm, ⟨42, _⟩ => ⟨S8x8192, .i32⟩
  | .hbm, ⟨43, _⟩ => ⟨S8x8192x1, .i32⟩
  | .hbm, ⟨44, _⟩ => ⟨S8x8192x1, .i32⟩
  | .hbm, ⟨45, _⟩ => ⟨S8x8192x2, .i32⟩
  | .hbm, ⟨46, _⟩ => ⟨S8x4096x1024, .f32⟩
  | .hbm, ⟨47, _⟩ => ⟨S8x4096x1024, .f32⟩
  | .hbm, ⟨48, _⟩ => ⟨S8x4096x1024, .f32⟩
  | .hbm, ⟨49, _⟩ => ⟨S8x4096x1024, .f32⟩
  | _, _ => ⟨S8x16x512x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_values : Ref sig .tc := ⟨.hbm, 20, rfl⟩
abbrev main_indices : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_c : Ref sig .tc := ⟨.hbm, 28, rfl⟩
abbrev main_v18 : Ref sig .tc := ⟨.hbm, 29, rfl⟩
abbrev main_v19 : Ref sig .tc := ⟨.hbm, 30, rfl⟩
abbrev main_c_3 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_c_4 : Ref sig .tc := ⟨.hbm, 35, rfl⟩
abbrev main_v23 : Ref sig .tc := ⟨.hbm, 36, rfl⟩
abbrev main_v24 : Ref sig .tc := ⟨.hbm, 37, rfl⟩
abbrev main_c_5 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩

abbrev nD : Nat := 1
abbrev τ : Topo := Topo.v7x

variable {F : FTy → Type} [FloatOps F]
-- ==== Kernel6.lean ====
abbrev S8x4096x1024 : Shape := ⟨3, ![8, 4096, 1024]⟩
abbrev S1024 : Shape := ⟨1, ![1024]⟩
abbrev S8x1x1024 : Shape := ⟨3, ![8, 1, 1024]⟩
abbrev S1024x1696 : Shape := ⟨2, ![1024, 1696]⟩
abbrev S32 : Shape := ⟨1, ![32]⟩
abbrev S1024x32 : Shape := ⟨2, ![1024, 32]⟩
abbrev S1024x672 : Shape := ⟨2, ![1024, 672]⟩
abbrev S_ : Shape := ⟨0, ![]⟩
abbrev S32x1 : Shape := ⟨2, ![32, 1]⟩
abbrev S1x32 : Shape := ⟨2, ![1, 32]⟩
abbrev S1024x64 : Shape := ⟨2, ![1024, 64]⟩
abbrev S1024x768 : Shape := ⟨2, ![1024, 768]⟩
abbrev S1024x1024 : Shape := ⟨2, ![1024, 1024]⟩
abbrev S1024x1792 : Shape := ⟨2, ![1024, 1792]⟩
abbrev S1x1x1024 : Shape := ⟨3, ![1, 1, 1024]⟩
abbrev S8x4096x768 : Shape := ⟨3, ![8, 4096, 768]⟩
abbrev S1x512x1024 : Shape := ⟨3, ![1, 512, 1024]⟩
abbrev S1x512x768 : Shape := ⟨3, ![1, 512, 768]⟩
abbrev S512x1024 : Shape := ⟨2, ![512, 1024]⟩
abbrev S512 : Shape := ⟨1, ![512]⟩
abbrev S512x1 : Shape := ⟨2, ![512, 1]⟩
abbrev S1x1024 : Shape := ⟨2, ![1, 1024]⟩
abbrev S512x768 : Shape := ⟨2, ![512, 768]⟩
abbrev S8x4096x672 : Shape := ⟨3, ![8, 4096, 672]⟩

abbrev nBuf : Space → Nat
  | .hbm => 34
  | .vmem => 12
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S8x1x1024, .f32⟩
  | .hbm, ⟨3, _⟩ => ⟨S8x1x1024, .f32⟩
  | .hbm, ⟨4, _⟩ => ⟨S1024x1696, .f32⟩
  | .hbm, ⟨5, _⟩ => ⟨S32, .i32⟩
  | .hbm, ⟨6, _⟩ => ⟨S32, .i1⟩
  | .hbm, ⟨7, _⟩ => ⟨S32, .f32⟩
  | .hbm, ⟨8, _⟩ => ⟨S1024x32, .f32⟩
  | .hbm, ⟨9, _⟩ => ⟨S1024x672, .f32⟩
  | .hbm, ⟨10, _⟩ => ⟨S_, .i32⟩
  | .hbm, ⟨11, _⟩ => ⟨S32, .i32⟩
  | .hbm, ⟨12, _⟩ => ⟨S32, .i32⟩
  | .hbm, ⟨13, _⟩ => ⟨S32, .i32⟩
  | .hbm, ⟨14, _⟩ => ⟨S32x1, .i32⟩
  | .hbm, ⟨15, _⟩ => ⟨S1024x32, .f32⟩
  | .hbm, ⟨16, _⟩ => ⟨S1x32, .f32⟩
  | .hbm, ⟨17, _⟩ => ⟨S1024x32, .f32⟩
  | .hbm, ⟨18, _⟩ => ⟨S1024x32, .f32⟩
  | .hbm, ⟨19, _⟩ => ⟨S_, .f32⟩
  | .hbm, ⟨20, _⟩ => ⟨S1024x64, .f32⟩
  | .hbm, ⟨21, _⟩ => ⟨S1024x768, .f32⟩
  | .hbm, ⟨22, _⟩ => ⟨S1024x1024, .f32⟩
  | .hbm, ⟨23, _⟩ => ⟨S1024x1792, .f32⟩
  | .hbm, ⟨24, _⟩ => ⟨S1024x1792, .bf16⟩
  | .hbm, ⟨25, _⟩ => ⟨S_, .f32⟩
  | .hbm, ⟨26, _⟩ => ⟨S8x1x1024, .f32⟩
  | .hbm, ⟨27, _⟩ => ⟨S8x1x1024, .f32⟩
  | .hbm, ⟨28, _⟩ => ⟨S1x1x1024, .f32⟩
  | .hbm, ⟨29, _⟩ => ⟨S8x1x1024, .f32⟩
  | .hbm, ⟨30, _⟩ => ⟨S8x1x1024, .f32⟩
  | .hbm, ⟨31, _⟩ => ⟨S8x4096x768, .f32⟩
  | .hbm, ⟨32, _⟩ => ⟨S8x4096x1024, .f32⟩
  | .hbm, ⟨33, _⟩ => ⟨S8x4096x672, .f32⟩
  | .local _ .vmem, ⟨0, _⟩ => ⟨S1x512x1024, .f32⟩
  | .local _ .vmem, ⟨1, _⟩ => ⟨S1x512x1024, .f32⟩
  | .local _ .vmem, ⟨2, _⟩ => ⟨S1024x1792, .bf16⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x512x768, .f32⟩
  | .local _ .vmem, ⟨8, _⟩ => ⟨S1x512x768, .f32⟩
  | .local _ .vmem, ⟨9, _⟩ => ⟨S1x512x1024, .f32⟩
  | .local _ .vmem, ⟨10, _⟩ => ⟨S1x512x1024, .f32⟩
  | .local _ .vmem, ⟨11, _⟩ => ⟨S512x1024, .bf16⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_c_1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_3 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20_0 : Ref sig .tc := ⟨.hbm, 31, rfl⟩
abbrev main_v20_1 : Ref sig .tc := ⟨.hbm, 32, rfl⟩
abbrev main_v21 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨3, ![8, 8, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 1 → Memref sig .tc .vmem S1024x1792 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S1x512x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== Reference6Ideal.lean ====
abbrev S8x4096x1024 : Shape := ⟨3, ![8, 4096, 1024]⟩
abbrev S1024 : Shape := ⟨1, ![1024]⟩
abbrev S8x1x1024 : Shape := ⟨3, ![8, 1, 1024]⟩
abbrev S1024x1696 : Shape := ⟨2, ![1024, 1696]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x1696 : Shape := ⟨3, ![8, 4096, 1696]⟩
abbrev S8x4096x672 : Shape := ⟨3, ![8, 4096, 672]⟩

abbrev nBuf : Space → Nat
  | .hbm => 31
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S8x1x1024, .f32⟩
  | .hbm, ⟨3, _⟩ => ⟨S8x1x1024, .f32⟩
  | .hbm, ⟨4, _⟩ => ⟨S1024x1696, .f32⟩
  | .hbm, ⟨5, _⟩ => ⟨S8x4096x1024, .f32⟩
  | .hbm, ⟨6, _⟩ => ⟨S_, .f32⟩
  | .hbm, ⟨7, _⟩ => ⟨S8x4096, .f32⟩
  | .hbm, ⟨8, _⟩ => ⟨S8x4096x1, .f32⟩
  | .hbm, ⟨9, _⟩ => ⟨S_, .f32⟩
  | .hbm, ⟨10, _⟩ => ⟨S8x4096x1, .f32⟩
  | .hbm, ⟨11, _⟩ => ⟨S8x4096x1, .f32⟩
  | .hbm, ⟨12, _⟩ => ⟨S_, .f32⟩
  | .hbm, ⟨13, _⟩ => ⟨S8x4096x1, .f32⟩
  | .hbm, ⟨14, _⟩ => ⟨S8x4096x1, .f32⟩
  | .hbm, ⟨15, _⟩ => ⟨S8x4096x1, .f32⟩
  | .hbm, ⟨16, _⟩ => ⟨S8x4096x1024, .f32⟩
  | .hbm, ⟨17, _⟩ => ⟨S8x4096x1024, .f32⟩
  | .hbm, ⟨18, _⟩ => ⟨S1x1x1024, .f32⟩
  | .hbm, ⟨19, _⟩ => ⟨S8x4096x1024, .f32⟩
  | .hbm, ⟨20, _⟩ => ⟨S8x4096x1024, .f32⟩
  | .hbm, ⟨21, _⟩ => ⟨S_, .f32⟩
  | .hbm, ⟨22, _⟩ => ⟨S8x1x1024, .f32⟩
  | .hbm, ⟨23, _⟩ => ⟨S8x1x1024, .f32⟩
  | .hbm, ⟨24, _⟩ => ⟨S8x4096x1024, .f32⟩
  | .hbm, ⟨25, _⟩ => ⟨S8x4096x1024, .f32⟩
  | .hbm, ⟨26, _⟩ => ⟨S8x4096x1024, .f32⟩
  | .hbm, ⟨27, _⟩ => ⟨S8x4096x1024, .f32⟩
  | .hbm, ⟨28, _⟩ => ⟨S8x4096x1696, .f32⟩
  | .hbm, ⟨29, _⟩ => ⟨S8x4096x672, .f32⟩
  | .hbm, ⟨30, _⟩ => ⟨S8x4096x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩

abbrev nD : Nat := 1
abbrev τ : Topo := Topo.v7x

variable {F : FTy → Type} [FloatOps F]
-- ==== Kernel7.lean ====
abbrev S8x256x1024 : Shape := ⟨3, ![8, 256, 1024]⟩
abbrev S8x256x16 : Shape := ⟨3, ![8, 256, 16]⟩
abbrev S16x1024x1024 : Shape := ⟨3, ![16, 1024, 1024]⟩
abbrev S_ : Shape := ⟨0, ![]⟩
abbrev S8x256 : Shape := ⟨2, ![8, 256]⟩
abbrev S8x256x1 : Shape := ⟨3, ![8, 256, 1]⟩
abbrev S8x16x256 : Shape := ⟨3, ![8, 16, 256]⟩
abbrev S8x16x32 : Shape := ⟨3, ![8, 16, 32]⟩
abbrev S8x16x32x1 : Shape := ⟨4, ![8, 16, 32, 1]⟩
abbrev S8x16x32x1024 : Shape := ⟨4, ![8, 16, 32, 1024]⟩
abbrev S8x1x32x1 : Shape := ⟨4, ![8, 1, 32, 1]⟩
abbrev S1x1024x1024 : Shape := ⟨3, ![1, 1024, 1024]⟩
abbrev S8x1x32x1024 : Shape := ⟨4, ![8, 1, 32, 1024]⟩
abbrev S32x256 : Shape := ⟨2, ![32, 256]⟩
abbrev S1x1x32x1 : Shape := ⟨4, ![1, 1, 32, 1]⟩
abbrev S32x1 : Shape := ⟨2, ![32, 1]⟩
abbrev S1x256x1024 : Shape := ⟨3, ![1, 256, 1024]⟩
abbrev S256x1024 : Shape := ⟨2, ![256, 1024]⟩
abbrev S32x1024 : Shape := ⟨2, ![32, 1024]⟩
abbrev S1024x1024 : Shape := ⟨2, ![1024, 1024]⟩
abbrev S1x1x32x1024 : Shape := ⟨4, ![1, 1, 32, 1024]⟩

abbrev nBuf : Space → Nat
  | .hbm => 28
  | .vmem => 13
  | .smem => 0
  | _ => 0

abbrev bufTy : (tb : Table) → Fin (tcTables nBuf tb) → BufTy
  | .hbm, ⟨0, _⟩ => ⟨S8x256x1024, .bf16⟩
  | .hbm, ⟨1, _⟩ => ⟨S8x256x16, .f32⟩
  | .hbm, ⟨2, _⟩ => ⟨S16x1024x1024, .f32⟩
  | .hbm, ⟨3, _⟩ => ⟨S16x1024x1024, .f32⟩
  | .hbm, ⟨4, _⟩ => ⟨S16x1024x1024, .f32⟩
  | .hbm, ⟨5, _⟩ => ⟨S16x1024x1024, .bf16⟩
  | .hbm, ⟨6, _⟩ => ⟨S16x1024x1024, .bf16⟩
  | .hbm, ⟨7, _⟩ => ⟨S16x1024x1024, .bf16⟩
  | .hbm, ⟨8, _⟩ => ⟨S_, .f32⟩
  | .hbm, ⟨9, _⟩ => ⟨S8x256, .f32⟩
  | .hbm, ⟨10, _⟩ => ⟨S_, .f32⟩
  | .hbm, ⟨11, _⟩ => ⟨S8x256, .f32⟩
  | .hbm, ⟨12, _⟩ => ⟨S8x256, .f32⟩
  | .hbm, ⟨13, _⟩ => ⟨S8x256x1, .f32⟩
  | .hbm, ⟨14, _⟩ => ⟨S8x256x16, .f32⟩
  | .hbm, ⟨15, _⟩ => ⟨S8x256x16, .f32⟩
  | .hbm, ⟨16, _⟩ => ⟨S8x256x16, .f32⟩
  | .hbm, ⟨17, _⟩ => ⟨S_, .f32⟩
  | .hbm, ⟨18, _⟩ => ⟨S8x256, .f32⟩
  | .hbm, ⟨19, _⟩ => ⟨S8x256x1, .f32⟩
  | .hbm, ⟨20, _⟩ => ⟨S8x256x16, .f32⟩
  | .hbm, ⟨21, _⟩ => ⟨S8x256x16, .f32⟩
  | .hbm, ⟨22, _⟩ => ⟨S8x16x256, .f32⟩
  | .hbm, ⟨23, _⟩ => ⟨S8x16x32, .f32⟩
  | .hbm, ⟨24, _⟩ => ⟨S8x16x32, .i32⟩
  | .hbm, ⟨25, _⟩ => ⟨S8x16x32x1, .i32⟩
  | .hbm, ⟨26, _⟩ => ⟨S8x16x32x1, .f32⟩
  | .hbm, ⟨27, _⟩ => ⟨S8x16x32x1024, .bf16⟩
  | .local _ .vmem, ⟨0, _⟩ => ⟨S8x256x1024, .bf16⟩
  | .local _ .vmem, ⟨1, _⟩ => ⟨S8x1x32x1, .i32⟩
  | .local _ .vmem, ⟨2, _⟩ => ⟨S8x1x32x1, .i32⟩
  | .local _ .vmem, ⟨3, _⟩ => ⟨S8x1x32x1, .f32⟩
  | .local _ .vmem, ⟨4, _⟩ => ⟨S8x1x32x1, .f32⟩
  | .local _ .vmem, ⟨5, _⟩ => ⟨S1x1024x1024, .bf16⟩
  | .local _ .vmem, ⟨6, _⟩ => ⟨S1x1024x1024, .bf16⟩
  | .local _ .vmem, ⟨7, _⟩ => ⟨S1x1024x1024, .bf16⟩
  | .local _ .vmem, ⟨8, _⟩ => ⟨S1x1024x1024, .bf16⟩
  | .local _ .vmem, ⟨9, _⟩ => ⟨S1x1024x1024, .bf16⟩
  | .local _ .vmem, ⟨10, _⟩ => ⟨S1x1024x1024, .bf16⟩
  | .local _ .vmem, ⟨11, _⟩ => ⟨S8x1x32x1024, .bf16⟩
  | .local _ .vmem, ⟨12, _⟩ => ⟨S8x1x32x1024, .bf16⟩
  | _, _ => ⟨S8x256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_values : Ref sig .tc := ⟨.hbm, 23, rfl⟩
abbrev main_indices : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![16, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

abbrev stage0_0 : Fin 1 → Memref sig .tc .vmem S8x256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 2 → Memref sig .tc .vmem S8x1x32x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x1x32x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S8x1x32x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference7Ideal.lean ====
abbrev S8x256x1024 : Shape := ⟨3, ![8, 256, 1024]⟩
abbrev S8x256x16 : Shape := ⟨3, ![8, 256, 16]⟩
abbrev S16x1024x1024 : Shape := ⟨3, ![16, 1024, 1024]⟩
abbrev S_ : Shape := ⟨0, ![]⟩
abbrev S8x256 : Shape := ⟨2, ![8, 256]⟩
abbrev S8x256x1 : Shape := ⟨3, ![8, 256, 1]⟩
abbrev S8x16x256 : Shape := ⟨3, ![8, 16, 256]⟩
abbrev S8x16x32 : Shape := ⟨3, ![8, 16, 32]⟩
abbrev S8x16x32x1 : Shape := ⟨4, ![8, 16, 32, 1]⟩
abbrev S8x16x32x1024 : Shape := ⟨4, ![8, 16, 32, 1024]⟩
abbrev S16x1024x8x32 : Shape := ⟨4, ![16, 1024, 8, 32]⟩

abbrev nBuf : Space → Nat
  | .hbm => 52
  | .vmem => 0
  | .smem => 0
  | _ => 0

abbrev bufTy : (tb : Table) → Fin (tcTables nBuf tb) → BufTy
  | .hbm, ⟨0, _⟩ => ⟨S8x256x1024, .bf16⟩
  | .hbm, ⟨1, _⟩ => ⟨S8x256x16, .f32⟩
  | .hbm, ⟨2, _⟩ => ⟨S16x1024x1024, .f32⟩
  | .hbm, ⟨3, _⟩ => ⟨S16x1024x1024, .f32⟩
  | .hbm, ⟨4, _⟩ => ⟨S16x1024x1024, .f32⟩
  | .hbm, ⟨5, _⟩ => ⟨S8x256x1024, .f32⟩
  | .hbm, ⟨6, _⟩ => ⟨S_, .f32⟩
  | .hbm, ⟨7, _⟩ => ⟨S8x256, .f32⟩
  | .hbm, ⟨8, _⟩ => ⟨S_, .f32⟩
  | .hbm, ⟨9, _⟩ => ⟨S8x256, .f32⟩
  | .hbm, ⟨10, _⟩ => ⟨S8x256, .f32⟩
  | .hbm, ⟨11, _⟩ => ⟨S8x256x1, .f32⟩
  | .hbm, ⟨12, _⟩ => ⟨S8x256x16, .f32⟩
  | .hbm, ⟨13, _⟩ => ⟨S8x256x16, .f32⟩
  | .hbm, ⟨14, _⟩ => ⟨S8x256x16, .f32⟩
  | .hbm, ⟨15, _⟩ => ⟨S_, .f32⟩
  | .hbm, ⟨16, _⟩ => ⟨S8x256, .f32⟩
  | .hbm, ⟨17, _⟩ => ⟨S8x256x1, .f32⟩
  | .hbm, ⟨18, _⟩ => ⟨S8x256x16, .f32⟩
  | .hbm, ⟨19, _⟩ => ⟨S8x256x16, .f32⟩
  | .hbm, ⟨20, _⟩ => ⟨S8x16x256, .f32⟩
  | .hbm, ⟨21, _⟩ => ⟨S8x16x32, .f32⟩
  | .hbm, ⟨22, _⟩ => ⟨S8x16x32, .i32⟩
  | .hbm, ⟨23, _⟩ => ⟨S_, .i32⟩
  | .hbm, ⟨24, _⟩ => ⟨S8x16x32, .i32⟩
  | .hbm, ⟨25, _⟩ => ⟨S8x16x32, .i1⟩
  | .hbm, ⟨26, _⟩ => ⟨S_, .i32⟩
  | .hbm, ⟨27, _⟩ => ⟨S8x16x32, .i32⟩
  | .hbm, ⟨28, _⟩ => ⟨S8x16x32, .i32⟩
  | .hbm, ⟨29, _⟩ => ⟨S8x16x32, .i32⟩
  | .hbm, ⟨30, _⟩ => ⟨S8x16x32x1, .i32⟩
  | .hbm, ⟨31, _⟩ => ⟨S8x16x32x1024, .f32⟩
  | .hbm, ⟨32, _⟩ => ⟨S16x1024x8x32, .f32⟩
  | .hbm, ⟨33, _⟩ => ⟨S8x16x32x1024, .f32⟩
  | .hbm, ⟨34, _⟩ => ⟨S8x16x32x1024, .f32⟩
  | .hbm, ⟨35, _⟩ => ⟨S8x16x32x1024, .f32⟩
  | .hbm, ⟨36, _⟩ => ⟨S_, .f32⟩
  | .hbm, ⟨37, _⟩ => ⟨S8x16x32x1024, .f32⟩
  | .hbm, ⟨38, _⟩ => ⟨S8x16x32x1024, .f32⟩
  | .hbm, ⟨39, _⟩ => ⟨S_, .f32⟩
  | .hbm, ⟨40, _⟩ => ⟨S8x16x32x1024, .f32⟩
  | .hbm, ⟨41, _⟩ => ⟨S8x16x32x1024, .f32⟩
  | .hbm, ⟨42, _⟩ => ⟨S8x16x32x1024, .f32⟩
  | .hbm, ⟨43, _⟩ => ⟨S16x1024x8x32, .f32⟩
  | .hbm, ⟨44, _⟩ => ⟨S8x16x32x1024, .f32⟩
  | .hbm, ⟨45, _⟩ => ⟨S8x16x32x1024, .f32⟩
  | .hbm, ⟨46, _⟩ => ⟨S16x1024x8x32, .f32⟩
  | .hbm, ⟨47, _⟩ => ⟨S8x16x32x1024, .f32⟩
  | .hbm, ⟨48, _⟩ => ⟨S8x16x32x1, .f32⟩
  | .hbm, ⟨49, _⟩ => ⟨S8x16x32x1024, .f32⟩
  | .hbm, ⟨50, _⟩ => ⟨S8x16x32x1024, .f32⟩
  | .hbm, ⟨51, _⟩ => ⟨S8x16x32x1024, .bf16⟩
  | _, _ => ⟨S8x256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_values : Ref sig .tc := ⟨.hbm, 21, rfl⟩
abbrev main_indices : Ref sig .tc := ⟨.hbm, 22, rfl⟩
abbrev main_c : Ref sig .tc := ⟨.hbm, 23, rfl⟩
abbrev main_v13 : Ref sig .tc := ⟨.hbm, 24, rfl⟩
abbrev main_v14 : Ref sig .tc := ⟨.hbm, 25, rfl⟩
abbrev main_c_2 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_call0_v0 : Ref sig .tc := ⟨.hbm, 34, rfl⟩
abbrev main_call0_v1 : Ref sig .tc := ⟨.hbm, 35, rfl⟩
abbrev main_call0_cst : Ref sig .tc := ⟨.hbm, 36, rfl⟩
abbrev main_call0_v2 : Ref sig .tc := ⟨.hbm, 37, rfl⟩
abbrev main_call0_v3 : Ref sig .tc := ⟨.hbm, 38, rfl⟩
abbrev main_call0_cst_0 : Ref sig .tc := ⟨.hbm, 39, rfl⟩
abbrev main_call0_v4 : Ref sig .tc := ⟨.hbm, 40, rfl⟩
abbrev main_call0_v5 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩

abbrev nD : Nat := 1
abbrev τ : Topo := Topo.v7x

variable {F : FTy → Type} [FloatOps F]
-- ==== Kernel8.lean ====
abbrev S8x256x1024 : Shape := ⟨3, ![8, 256, 1024]⟩
abbrev S1024 : Shape := ⟨1, ![1024]⟩
abbrev S1x1x1024 : Shape := ⟨3, ![1, 1, 1024]⟩
abbrev S1024x3456 : Shape := ⟨2, ![1024, 3456]⟩
abbrev S_ : Shape := ⟨0, ![]⟩
abbrev S8x256x1920 : Shape := ⟨3, ![8, 256, 1920]⟩
abbrev S8x256x1536 : Shape := ⟨3, ![8, 256, 1536]⟩
abbrev S1x256x1024 : Shape := ⟨3, ![1, 256, 1024]⟩
abbrev S1x256x1920 : Shape := ⟨3, ![1, 256, 1920]⟩
abbrev S1x256x1536 : Shape := ⟨3, ![1, 256, 1536]⟩
abbrev S256x1024 : Shape := ⟨2, ![256, 1024]⟩
abbrev S256 : Shape := ⟨1, ![256]⟩
abbrev S256x1 : Shape := ⟨2, ![256, 1]⟩
abbrev S1x1024 : Shape := ⟨2, ![1, 1024]⟩
abbrev S1024x1920 : Shape := ⟨2, ![1024, 1920]⟩
abbrev S256x1920 : Shape := ⟨2, ![256, 1920]⟩
abbrev S1024x1536 : Shape := ⟨2, ![1024, 1536]⟩
abbrev S256x1536 : Shape := ⟨2, ![256, 1536]⟩

abbrev nBuf : Space → Nat
  | .hbm => 13
  | .vmem => 10
  | .smem => 0
  | _ => 0

abbrev bufTy : (tb : Table) → Fin (tcTables nBuf tb) → BufTy
  | .hbm, ⟨0, _⟩ => ⟨S8x256x1024, .f32⟩
  | .hbm, ⟨1, _⟩ => ⟨S1024, .f32⟩
  | .hbm, ⟨2, _⟩ => ⟨S1x1x1024, .f32⟩
  | .hbm, ⟨3, _⟩ => ⟨S1x1x1024, .f32⟩
  | .hbm, ⟨4, _⟩ => ⟨S1024x3456, .f32⟩
  | .hbm, ⟨5, _⟩ => ⟨S1024x3456, .bf16⟩
  | .hbm, ⟨6, _⟩ => ⟨S_, .f32⟩
  | .hbm, ⟨7, _⟩ => ⟨S1x1x1024, .f32⟩
  | .hbm, ⟨8, _⟩ => ⟨S1x1x1024, .f32⟩
  | .hbm, ⟨9, _⟩ => ⟨S1x1x1024, .f32⟩
  | .hbm, ⟨10, _⟩ => ⟨S1x1x1024, .f32⟩
  | .hbm, ⟨11, _⟩ => ⟨S8x256x1920, .f32⟩
  | .hbm, ⟨12, _⟩ => ⟨S8x256x1536, .f32⟩
  | .local _ .vmem, ⟨0, _⟩ => ⟨S1x256x1024, .f32⟩
  | .local _ .vmem, ⟨1, _⟩ => ⟨S1x256x1024, .f32⟩
  | .local _ .vmem, ⟨2, _⟩ => ⟨S1024x3456, .bf16⟩
  | .local _ .vmem, ⟨3, _⟩ => ⟨S1x1x1024, .f32⟩
  | .local _ .vmem, ⟨4, _⟩ => ⟨S1x1x1024, .f32⟩
  | .local _ .vmem, ⟨5, _⟩ => ⟨S1x256x1920, .f32⟩
  | .local _ .vmem, ⟨6, _⟩ => ⟨S1x256x1920, .f32⟩
  | .local _ .vmem, ⟨7, _⟩ => ⟨S1x256x1536, .f32⟩
  | .local _ .vmem, ⟨8, _⟩ => ⟨S1x256x1536, .f32⟩
  | .local _ .vmem, ⟨9, _⟩ => ⟨S256x1024, .bf16⟩
  | _, _ => ⟨S8x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 1 → Memref sig .tc .vmem S1024x3456 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, true]

abbrev stage0_2 : Fin 1 → Memref sig .tc .vmem S1x1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 1 → Memref sig .tc .vmem S1x1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S1x256x1920 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x256x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== Reference8Ideal.lean ====
abbrev S8x256x1024 : Shape := ⟨3, ![8, 256, 1024]⟩
abbrev S1024 : Shape := ⟨1, ![1024]⟩
abbrev S1x1x1024 : Shape := ⟨3, ![1, 1, 1024]⟩
abbrev S1024x3456 : Shape := ⟨2, ![1024, 3456]⟩
abbrev S_ : Shape := ⟨0, ![]⟩
abbrev S8x256 : Shape := ⟨2, ![8, 256]⟩
abbrev S8x256x1 : Shape := ⟨3, ![8, 256, 1]⟩
abbrev S8x256x3456 : Shape := ⟨3, ![8, 256, 3456]⟩
abbrev S8x256x1920 : Shape := ⟨3, ![8, 256, 1920]⟩
abbrev S8x256x1536 : Shape := ⟨3, ![8, 256, 1536]⟩

abbrev nBuf : Space → Nat
  | .hbm => 31
  | .vmem => 0
  | .smem => 0
  | _ => 0

abbrev bufTy : (tb : Table) → Fin (tcTables nBuf tb) → BufTy
  | .hbm, ⟨0, _⟩ => ⟨S8x256x1024, .f32⟩
  | .hbm, ⟨1, _⟩ => ⟨S1024, .f32⟩
  | .hbm, ⟨2, _⟩ => ⟨S1x1x1024, .f32⟩
  | .hbm, ⟨3, _⟩ => ⟨S1x1x1024, .f32⟩
  | .hbm, ⟨4, _⟩ => ⟨S1024x3456, .f32⟩
  | .hbm, ⟨5, _⟩ => ⟨S8x256x1024, .f32⟩
  | .hbm, ⟨6, _⟩ => ⟨S_, .f32⟩
  | .hbm, ⟨7, _⟩ => ⟨S8x256, .f32⟩
  | .hbm, ⟨8, _⟩ => ⟨S8x256x1, .f32⟩
  | .hbm, ⟨9, _⟩ => ⟨S_, .f32⟩
  | .hbm, ⟨10, _⟩ => ⟨S8x256x1, .f32⟩
  | .hbm, ⟨11, _⟩ => ⟨S8x256x1, .f32⟩
  | .hbm, ⟨12, _⟩ => ⟨S_, .f32⟩
  | .hbm, ⟨13, _⟩ => ⟨S8x256x1, .f32⟩
  | .hbm, ⟨14, _⟩ => ⟨S8x256x1, .f32⟩
  | .hbm, ⟨15, _⟩ => ⟨S8x256x1, .f32⟩
  | .hbm, ⟨16, _⟩ => ⟨S8x256x1024, .f32⟩
  | .hbm, ⟨17, _⟩ => ⟨S8x256x1024, .f32⟩
  | .hbm, ⟨18, _⟩ => ⟨S1x1x1024, .f32⟩
  | .hbm, ⟨19, _⟩ => ⟨S8x256x1024, .f32⟩
  | .hbm, ⟨20, _⟩ => ⟨S8x256x1024, .f32⟩
  | .hbm, ⟨21, _⟩ => ⟨S_, .f32⟩
  | .hbm, ⟨22, _⟩ => ⟨S1x1x1024, .f32⟩
  | .hbm, ⟨23, _⟩ => ⟨S1x1x1024, .f32⟩
  | .hbm, ⟨24, _⟩ => ⟨S8x256x1024, .f32⟩
  | .hbm, ⟨25, _⟩ => ⟨S8x256x1024, .f32⟩
  | .hbm, ⟨26, _⟩ => ⟨S8x256x1024, .f32⟩
  | .hbm, ⟨27, _⟩ => ⟨S8x256x1024, .f32⟩
  | .hbm, ⟨28, _⟩ => ⟨S8x256x3456, .f32⟩
  | .hbm, ⟨29, _⟩ => ⟨S8x256x1920, .f32⟩
  | .hbm, ⟨30, _⟩ => ⟨S8x256x1536, .f32⟩
  | _, _ => ⟨S8x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩

abbrev nD : Nat := 1
abbrev τ : Topo := Topo.v7x

variable {F : FTy → Type} [FloatOps F]
-- ==== Kernel9.lean ====
abbrev S8x256x1024 : Shape := ⟨3, ![8, 256, 1024]⟩
abbrev S1024 : Shape := ⟨1, ![1024]⟩
abbrev S1x1x1024 : Shape := ⟨3, ![1, 1, 1024]⟩
abbrev S1024x1696 : Shape := ⟨2, ![1024, 1696]⟩
abbrev S32 : Shape := ⟨1, ![32]⟩
abbrev S1024x32 : Shape := ⟨2, ![1024, 32]⟩
abbrev S1024x672 : Shape := ⟨2, ![1024, 672]⟩
abbrev S_ : Shape := ⟨0, ![]⟩
abbrev S32x1 : Shape := ⟨2, ![32, 1]⟩
abbrev S1x32 : Shape := ⟨2, ![1, 32]⟩
abbrev S1024x64 : Shape := ⟨2, ![1024, 64]⟩
abbrev S1024x768 : Shape := ⟨2, ![1024, 768]⟩
abbrev S1024x1024 : Shape := ⟨2, ![1024, 1024]⟩
abbrev S1024x1792 : Shape := ⟨2, ![1024, 1792]⟩
abbrev S8x256x768 : Shape := ⟨3, ![8, 256, 768]⟩
abbrev S1x256x1024 : Shape := ⟨3, ![1, 256, 1024]⟩
abbrev S1x256x768 : Shape := ⟨3, ![1, 256, 768]⟩
abbrev S256x1024 : Shape := ⟨2, ![256, 1024]⟩
abbrev S256 : Shape := ⟨1, ![256]⟩
abbrev S256x1 : Shape := ⟨2, ![256, 1]⟩
abbrev S1x1024 : Shape := ⟨2, ![1, 1024]⟩
abbrev S256x768 : Shape := ⟨2, ![256, 768]⟩
abbrev S8x256x672 : Shape := ⟨3, ![8, 256, 672]⟩

abbrev nBuf : Space → Nat
  | .hbm => 33
  | .vmem => 10
  | .smem => 0
  | _ => 0

abbrev bufTy : (tb : Table) → Fin (tcTables nBuf tb) → BufTy
  | .hbm, ⟨0, _⟩ => ⟨S8x256x1024, .f32⟩
  | .hbm, ⟨1, _⟩ => ⟨S1024, .f32⟩
  | .hbm, ⟨2, _⟩ => ⟨S1x1x1024, .f32⟩
  | .hbm, ⟨3, _⟩ => ⟨S1x1x1024, .f32⟩
  | .hbm, ⟨4, _⟩ => ⟨S1024x1696, .f32⟩
  | .hbm, ⟨5, _⟩ => ⟨S32, .i32⟩
  | .hbm, ⟨6, _⟩ => ⟨S32, .i1⟩
  | .hbm, ⟨7, _⟩ => ⟨S32, .f32⟩
  | .hbm, ⟨8, _⟩ => ⟨S1024x32, .f32⟩
  | .hbm, ⟨9, _⟩ => ⟨S1024x672, .f32⟩
  | .hbm, ⟨10, _⟩ => ⟨S_, .i32⟩
  | .hbm, ⟨11, _⟩ => ⟨S32, .i32⟩
  | .hbm, ⟨12, _⟩ => ⟨S32, .i32⟩
  | .hbm, ⟨13, _⟩ => ⟨S32, .i32⟩
  | .hbm, ⟨14, _⟩ => ⟨S32x1, .i32⟩
  | .hbm, ⟨15, _⟩ => ⟨S1024x32, .f32⟩
  | .hbm, ⟨16, _⟩ => ⟨S1x32, .f32⟩
  | .hbm, ⟨17, _⟩ => ⟨S1024x32, .f32⟩
  | .hbm, ⟨18, _⟩ => ⟨S1024x32, .f32⟩
  | .hbm, ⟨19, _⟩ => ⟨S_, .f32⟩
  | .hbm, ⟨20, _⟩ => ⟨S1024x64, .f32⟩
  | .hbm, ⟨21, _⟩ => ⟨S1024x768, .f32⟩
  | .hbm, ⟨22, _⟩ => ⟨S1024x1024, .f32⟩
  | .hbm, ⟨23, _⟩ => ⟨S1024x1792, .f32⟩
  | .hbm, ⟨24, _⟩ => ⟨S1024x1792, .bf16⟩
  | .hbm, ⟨25, _⟩ => ⟨S_, .f32⟩
  | .hbm, ⟨26, _⟩ => ⟨S1x1x1024, .f32⟩
  | .hbm, ⟨27, _⟩ => ⟨S1x1x1024, .f32⟩
  | .hbm, ⟨28, _⟩ => ⟨S1x1x1024, .f32⟩
  | .hbm, ⟨29, _⟩ => ⟨S1x1x1024, .f32⟩
  | .hbm, ⟨30, _⟩ => ⟨S8x256x768, .f32⟩
  | .hbm, ⟨31, _⟩ => ⟨S8x256x1024, .f32⟩
  | .hbm, ⟨32, _⟩ => ⟨S8x256x672, .f32⟩
  | .local _ .vmem, ⟨0, _⟩ => ⟨S1x256x1024, .f32⟩
  | .local _ .vmem, ⟨1, _⟩ => ⟨S1x256x1024, .f32⟩
  | .local _ .vmem, ⟨2, _⟩ => ⟨S1024x1792, .bf16⟩
  | .local _ .vmem, ⟨3, _⟩ => ⟨S1x1x1024, .f32⟩
  | .local _ .vmem, ⟨4, _⟩ => ⟨S1x1x1024, .f32⟩
  | .local _ .vmem, ⟨5, _⟩ => ⟨S1x256x768, .f32⟩
  | .local _ .vmem, ⟨6, _⟩ => ⟨S1x256x768, .f32⟩
  | .local _ .vmem, ⟨7, _⟩ => ⟨S1x256x1024, .f32⟩
  | .local _ .vmem, ⟨8, _⟩ => ⟨S1x256x1024, .f32⟩
  | .local _ .vmem, ⟨9, _⟩ => ⟨S256x1024, .bf16⟩
  | _, _ => ⟨S8x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_c_1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_3 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19_0 : Ref sig .tc := ⟨.hbm, 30, rfl⟩
abbrev main_v19_1 : Ref sig .tc := ⟨.hbm, 31, rfl⟩
abbrev main_v20 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 1 → Memref sig .tc .vmem S1024x1792 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, true]

abbrev stage0_2 : Fin 1 → Memref sig .tc .vmem S1x1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 1 → Memref sig .tc .vmem S1x1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S1x256x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== Reference9Ideal.lean ====
abbrev S8x256x1024 : Shape := ⟨3, ![8, 256, 1024]⟩
abbrev S1024 : Shape := ⟨1, ![1024]⟩
abbrev S1x1x1024 : Shape := ⟨3, ![1, 1, 1024]⟩
abbrev S1024x1696 : Shape := ⟨2, ![1024, 1696]⟩
abbrev S_ : Shape := ⟨0, ![]⟩
abbrev S8x256 : Shape := ⟨2, ![8, 256]⟩
abbrev S8x256x1 : Shape := ⟨3, ![8, 256, 1]⟩
abbrev S8x256x1696 : Shape := ⟨3, ![8, 256, 1696]⟩
abbrev S8x256x672 : Shape := ⟨3, ![8, 256, 672]⟩

abbrev nBuf : Space → Nat
  | .hbm => 31
  | .vmem => 0
  | .smem => 0
  | _ => 0

abbrev bufTy : (tb : Table) → Fin (tcTables nBuf tb) → BufTy
  | .hbm, ⟨0, _⟩ => ⟨S8x256x1024, .f32⟩
  | .hbm, ⟨1, _⟩ => ⟨S1024, .f32⟩
  | .hbm, ⟨2, _⟩ => ⟨S1x1x1024, .f32⟩
  | .hbm, ⟨3, _⟩ => ⟨S1x1x1024, .f32⟩
  | .hbm, ⟨4, _⟩ => ⟨S1024x1696, .f32⟩
  | .hbm, ⟨5, _⟩ => ⟨S8x256x1024, .f32⟩
  | .hbm, ⟨6, _⟩ => ⟨S_, .f32⟩
  | .hbm, ⟨7, _⟩ => ⟨S8x256, .f32⟩
  | .hbm, ⟨8, _⟩ => ⟨S8x256x1, .f32⟩
  | .hbm, ⟨9, _⟩ => ⟨S_, .f32⟩
  | .hbm, ⟨10, _⟩ => ⟨S8x256x1, .f32⟩
  | .hbm, ⟨11, _⟩ => ⟨S8x256x1, .f32⟩
  | .hbm, ⟨12, _⟩ => ⟨S_, .f32⟩
  | .hbm, ⟨13, _⟩ => ⟨S8x256x1, .f32⟩
  | .hbm, ⟨14, _⟩ => ⟨S8x256x1, .f32⟩
  | .hbm, ⟨15, _⟩ => ⟨S8x256x1, .f32⟩
  | .hbm, ⟨16, _⟩ => ⟨S8x256x1024, .f32⟩
  | .hbm, ⟨17, _⟩ => ⟨S8x256x1024, .f32⟩
  | .hbm, ⟨18, _⟩ => ⟨S1x1x1024, .f32⟩
  | .hbm, ⟨19, _⟩ => ⟨S8x256x1024, .f32⟩
  | .hbm, ⟨20, _⟩ => ⟨S8x256x1024, .f32⟩
  | .hbm, ⟨21, _⟩ => ⟨S_, .f32⟩
  | .hbm, ⟨22, _⟩ => ⟨S1x1x1024, .f32⟩
  | .hbm, ⟨23, _⟩ => ⟨S1x1x1024, .f32⟩
  | .hbm, ⟨24, _⟩ => ⟨S8x256x1024, .f32⟩
  | .hbm, ⟨25, _⟩ => ⟨S8x256x1024, .f32⟩
  | .hbm, ⟨26, _⟩ => ⟨S8x256x1024, .f32⟩
  | .hbm, ⟨27, _⟩ => ⟨S8x256x1024, .f32⟩
  | .hbm, ⟨28, _⟩ => ⟨S8x256x1696, .f32⟩
  | .hbm, ⟨29, _⟩ => ⟨S8x256x672, .f32⟩
  | .hbm, ⟨30, _⟩ => ⟨S8x256x1024, .f32⟩
  | _, _ => ⟨S8x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩

abbrev nD : Nat := 1
abbrev τ : Topo := Topo.v7x

variable {F : FTy → Type} [FloatOps F]
-- ==== Kernel10.lean ====
abbrev S8x256x1024 : Shape := ⟨3, ![8, 256, 1024]⟩
abbrev S1x1x1024 : Shape := ⟨3, ![1, 1, 1024]⟩
abbrev S8x256x512 : Shape := ⟨3, ![8, 256, 512]⟩
abbrev S1024x1024 : Shape := ⟨2, ![1024, 1024]⟩
abbrev S512x1024 : Shape := ⟨2, ![512, 1024]⟩
abbrev S1x256x512 : Shape := ⟨3, ![1, 256, 512]⟩
abbrev S1x256x1024 : Shape := ⟨3, ![1, 256, 1024]⟩
abbrev S256x512 : Shape := ⟨2, ![256, 512]⟩
abbrev S256x1024 : Shape := ⟨2, ![256, 1024]⟩
abbrev S1x1024 : Shape := ⟨2, ![1, 1024]⟩

abbrev nBuf : Space → Nat
  | .hbm => 9
  | .vmem => 12
  | .smem => 0
  | _ => 0

abbrev bufTy : (tb : Table) → Fin (tcTables nBuf tb) → BufTy
  | .hbm, ⟨0, _⟩ => ⟨S8x256x1024, .f32⟩
  | .hbm, ⟨1, _⟩ => ⟨S1x1x1024, .f32⟩
  | .hbm, ⟨2, _⟩ => ⟨S8x256x512, .f32⟩
  | .hbm, ⟨3, _⟩ => ⟨S8x256x512, .f32⟩
  | .hbm, ⟨4, _⟩ => ⟨S1024x1024, .f32⟩
  | .hbm, ⟨5, _⟩ => ⟨S1024x1024, .bf16⟩
  | .hbm, ⟨6, _⟩ => ⟨S512x1024, .bf16⟩
  | .hbm, ⟨7, _⟩ => ⟨S512x1024, .bf16⟩
  | .hbm, ⟨8, _⟩ => ⟨S8x256x1024, .f32⟩
  | .local _ .vmem, ⟨0, _⟩ => ⟨S1x256x512, .f32⟩
  | .local _ .vmem, ⟨1, _⟩ => ⟨S1x256x512, .f32⟩
  | .local _ .vmem, ⟨2, _⟩ => ⟨S512x1024, .bf16⟩
  | .local _ .vmem, ⟨3, _⟩ => ⟨S1x256x512, .f32⟩
  | .local _ .vmem, ⟨4, _⟩ => ⟨S1x256x512, .f32⟩
  | .local _ .vmem, ⟨5, _⟩ => ⟨S512x1024, .bf16⟩
  | .local _ .vmem, ⟨6, _⟩ => ⟨S1x256x1024, .f32⟩
  | .local _ .vmem, ⟨7, _⟩ => ⟨S1x256x1024, .f32⟩
  | .local _ .vmem, ⟨8, _⟩ => ⟨S1x1x1024, .f32⟩
  | .local _ .vmem, ⟨9, _⟩ => ⟨S1x256x1024, .f32⟩
  | .local _ .vmem, ⟨10, _⟩ => ⟨S1x256x1024, .f32⟩
  | .local _ .vmem, ⟨11, _⟩ => ⟨S256x512, .bf16⟩
  | _, _ => ⟨S8x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat, arg2.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, true]

abbrev stage0_2 : Fin 2 → Memref sig .tc .vmem S1x256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, true]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 1 → Memref sig .tc .vmem S1x1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, true]

abbrev stage0_6 : Fin 2 → Memref sig .tc .vmem S1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== Reference10Ideal.lean ====
abbrev S8x256x1024 : Shape := ⟨3, ![8, 256, 1024]⟩
abbrev S1x1x1024 : Shape := ⟨3, ![1, 1, 1024]⟩
abbrev S8x256x512 : Shape := ⟨3, ![8, 256, 512]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8x256x1024, .f32⟩
  | .hbm, ⟨1, _⟩ => ⟨S1x1x1024, .f32⟩
  | .hbm, ⟨2, _⟩ => ⟨S8x256x512, .f32⟩
  | .hbm, ⟨3, _⟩ => ⟨S8x256x512, .f32⟩
  | .hbm, ⟨4, _⟩ => ⟨S1024x1024, .f32⟩
  | .hbm, ⟨5, _⟩ => ⟨S8x256x1024, .f32⟩
  | .hbm, ⟨6, _⟩ => ⟨S8x256x1024, .f32⟩
  | .hbm, ⟨7, _⟩ => ⟨S8x256x1024, .f32⟩
  | .hbm, ⟨8, _⟩ => ⟨S8x256x1024, .f32⟩
  | .hbm, ⟨9, _⟩ => ⟨S8x256x1024, .f32⟩
  | _, _ => ⟨S8x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩

abbrev nD : Nat := 1
abbrev τ : Topo := Topo.v7x

variable {F : FTy → Type} [FloatOps F]
-- ==== Kernel11.lean ====
abbrev S8x4096x672 : Shape := ⟨3, ![8, 4096, 672]⟩
abbrev S384 : Shape := ⟨1, ![384]⟩
abbrev S384x768 : Shape := ⟨2, ![384, 768]⟩
abbrev S256 : Shape := ⟨1, ![256]⟩
abbrev S256x1024 : Shape := ⟨2, ![256, 1024]⟩
abbrev S96 : Shape := ⟨1, ![96]⟩
abbrev S4096x32 : Shape := ⟨2, ![4096, 32]⟩
abbrev S32 : Shape := ⟨1, ![32]⟩
abbrev S8x4096x32 : Shape := ⟨3, ![8, 4096, 32]⟩
abbrev S8x4096x8 : Shape := ⟨3, ![8, 4096, 8]⟩
abbrev S_ : Shape := ⟨0, ![]⟩
abbrev S8x4096x64 : Shape := ⟨3, ![8, 4096, 64]⟩
abbrev S8x4096x768 : Shape := ⟨3, ![8, 4096, 768]⟩
abbrev S384x8x96 : Shape := ⟨3, ![384, 8, 96]⟩
abbrev S32x1 : Shape := ⟨2, ![32, 1]⟩
abbrev S384x8x32 : Shape := ⟨3, ![384, 8, 32]⟩
abbrev S1x1x32 : Shape := ⟨3, ![1, 1, 32]⟩
abbrev S384x8x128 : Shape := ⟨3, ![384, 8, 128]⟩
abbrev S384x1024 : Shape := ⟨2, ![384, 1024]⟩
abbrev S256x8x128 : Shape := ⟨3, ![256, 8, 128]⟩
abbrev S256x8x64 : Shape := ⟨3, ![256, 8, 64]⟩
abbrev S256x2048 : Shape := ⟨2, ![256, 2048]⟩
abbrev S64 : Shape := ⟨1, ![64]⟩
abbrev S4096x64 : Shape := ⟨2, ![4096, 64]⟩
abbrev S1x32 : Shape := ⟨2, ![1, 32]⟩
abbrev S4096x128 : Shape := ⟨2, ![4096, 128]⟩
abbrev S1x384 : Shape := ⟨2, ![1, 384]⟩
abbrev S1x256 : Shape := ⟨2, ![1, 256]⟩
abbrev S8x8x4096x128 : Shape := ⟨4, ![8, 8, 4096, 128]⟩
abbrev S1x256x768 : Shape := ⟨3, ![1, 256, 768]⟩
abbrev S256x128 : Shape := ⟨2, ![256, 128]⟩
abbrev S1x8x256x128 : Shape := ⟨4, ![1, 8, 256, 128]⟩
abbrev S256x768 : Shape := ⟨2, ![256, 768]⟩
abbrev S256x384 : Shape := ⟨2, ![256, 384]⟩
abbrev S256x1 : Shape := ⟨2, ![256, 1]⟩
abbrev S256x256 : Shape := ⟨2, ![256, 256]⟩
abbrev S1x128 : Shape := ⟨2, ![1, 128]⟩
abbrev S1x1x256x128 : Shape := ⟨4, ![1, 1, 256, 128]⟩
abbrev S8x8x4096x96 : Shape := ⟨4, ![8, 8, 4096, 96]⟩
abbrev S8x8x4096x64 : Shape := ⟨4, ![8, 8, 4096, 64]⟩

abbrev nBuf : Space → Nat
  | .hbm => 102
  | .vmem => 20
  | .smem => 0
  | _ => 0

abbrev bufTy : (tb : Table) → Fin (tcTables nBuf tb) → BufTy
  | .hbm, ⟨0, _⟩ => ⟨S8x4096x672, .f32⟩
  | .hbm, ⟨1, _⟩ => ⟨S384, .f32⟩
  | .hbm, ⟨2, _⟩ => ⟨S384x768, .f32⟩
  | .hbm, ⟨3, _⟩ => ⟨S256, .f32⟩
  | .hbm, ⟨4, _⟩ => ⟨S256x1024, .f32⟩
  | .hbm, ⟨5, _⟩ => ⟨S96, .f32⟩
  | .hbm, ⟨6, _⟩ => ⟨S96, .f32⟩
  | .hbm, ⟨7, _⟩ => ⟨S4096x32, .f32⟩
  | .hbm, ⟨8, _⟩ => ⟨S4096x32, .f32⟩
  | .hbm, ⟨9, _⟩ => ⟨S32, .i32⟩
  | .hbm, ⟨10, _⟩ => ⟨S32, .i1⟩
  | .hbm, ⟨11, _⟩ => ⟨S32, .f32⟩
  | .hbm, ⟨12, _⟩ => ⟨S32, .i32⟩
  | .hbm, ⟨13, _⟩ => ⟨S32, .i1⟩
  | .hbm, ⟨14, _⟩ => ⟨S32, .i1⟩
  | .hbm, ⟨15, _⟩ => ⟨S8x4096x32, .f32⟩
  | .hbm, ⟨16, _⟩ => ⟨S8x4096x8, .f32⟩
  | .hbm, ⟨17, _⟩ => ⟨S8x4096x8, .f32⟩
  | .hbm, ⟨18, _⟩ => ⟨S8x4096x8, .f32⟩
  | .hbm, ⟨19, _⟩ => ⟨S8x4096x8, .f32⟩
  | .hbm, ⟨20, _⟩ => ⟨S8x4096x8, .f32⟩
  | .hbm, ⟨21, _⟩ => ⟨S8x4096x8, .f32⟩
  | .hbm, ⟨22, _⟩ => ⟨S8x4096x32, .f32⟩
  | .hbm, ⟨23, _⟩ => ⟨S_, .f32⟩
  | .hbm, ⟨24, _⟩ => ⟨S8x4096x64, .f32⟩
  | .hbm, ⟨25, _⟩ => ⟨S8x4096x768, .f32⟩
  | .hbm, ⟨26, _⟩ => ⟨S384x8x96, .f32⟩
  | .hbm, ⟨27, _⟩ => ⟨S_, .i32⟩
  | .hbm, ⟨28, _⟩ => ⟨S32, .i32⟩
  | .hbm, ⟨29, _⟩ => ⟨S32, .i32⟩
  | .hbm, ⟨30, _⟩ => ⟨S32, .i32⟩
  | .hbm, ⟨31, _⟩ => ⟨S32x1, .i32⟩
  | .hbm, ⟨32, _⟩ => ⟨S384x8x32, .f32⟩
  | .hbm, ⟨33, _⟩ => ⟨S1x1x32, .f32⟩
  | .hbm, ⟨34, _⟩ => ⟨S384x8x32, .f32⟩
  | .hbm, ⟨35, _⟩ => ⟨S384x8x32, .f32⟩
  | .hbm, ⟨36, _⟩ => ⟨S384x8x128, .f32⟩
  | .hbm, ⟨37, _⟩ => ⟨S384x1024, .f32⟩
  | .hbm, ⟨38, _⟩ => ⟨S256x8x128, .f32⟩
  | .hbm, ⟨39, _⟩ => ⟨S_, .f32⟩
  | .hbm, ⟨40, _⟩ => ⟨S256x8x64, .f32⟩
  | .hbm, ⟨41, _⟩ => ⟨S256x8x64, .f32⟩
  | .hbm, ⟨42, _⟩ => ⟨S256x8x128, .f32⟩
  | .hbm, ⟨43, _⟩ => ⟨S256x1024, .f32⟩
  | .hbm, ⟨44, _⟩ => ⟨S256x8x64, .f32⟩
  | .hbm, ⟨45, _⟩ => ⟨S256x8x128, .f32⟩
  | .hbm, ⟨46, _⟩ => ⟨S256x1024, .f32⟩
  | .hbm, ⟨47, _⟩ => ⟨S384x1024, .bf16⟩
  | .hbm, ⟨48, _⟩ => ⟨S256x2048, .f32⟩
  | .hbm, ⟨49, _⟩ => ⟨S256x2048, .bf16⟩
  | .hbm, ⟨50, _⟩ => ⟨S_, .f32⟩
  | .hbm, ⟨51, _⟩ => ⟨S4096x32, .f32⟩
  | .hbm, ⟨52, _⟩ => ⟨S64, .f32⟩
  | .hbm, ⟨53, _⟩ => ⟨S4096x64, .f32⟩
  | .hbm, ⟨54, _⟩ => ⟨S32, .f32⟩
  | .hbm, ⟨55, _⟩ => ⟨S1x32, .f32⟩
  | .hbm, ⟨56, _⟩ => ⟨S4096x32, .f32⟩
  | .hbm, ⟨57, _⟩ => ⟨S4096x32, .f32⟩
  | .hbm, ⟨58, _⟩ => ⟨S4096x128, .f32⟩
  | .hbm, ⟨59, _⟩ => ⟨S_, .f32⟩
  | .hbm, ⟨60, _⟩ => ⟨S4096x64, .f32⟩
  | .hbm, ⟨61, _⟩ => ⟨S32, .f32⟩
  | .hbm, ⟨62, _⟩ => ⟨S_, .i32⟩
  | .hbm, ⟨63, _⟩ => ⟨S32, .i32⟩
  | .hbm, ⟨64, _⟩ => ⟨S32, .i32⟩
  | .hbm, ⟨65, _⟩ => ⟨S32, .i32⟩
  | .hbm, ⟨66, _⟩ => ⟨S32x1, .i32⟩
  | .hbm, ⟨67, _⟩ => ⟨S32, .f32⟩
  | .hbm, ⟨68, _⟩ => ⟨S1x32, .f32⟩
  | .hbm, ⟨69, _⟩ => ⟨S4096x32, .f32⟩
  | .hbm, ⟨70, _⟩ => ⟨S4096x32, .f32⟩
  | .hbm, ⟨71, _⟩ => ⟨S4096x128, .f32⟩
  | .hbm, ⟨72, _⟩ => ⟨S_, .f32⟩
  | .hbm, ⟨73, _⟩ => ⟨S4096x32, .f32⟩
  | .hbm, ⟨74, _⟩ => ⟨S64, .f32⟩
  | .hbm, ⟨75, _⟩ => ⟨S4096x64, .f32⟩
  | .hbm, ⟨76, _⟩ => ⟨S32, .f32⟩
  | .hbm, ⟨77, _⟩ => ⟨S1x32, .f32⟩
  | .hbm, ⟨78, _⟩ => ⟨S4096x32, .f32⟩
  | .hbm, ⟨79, _⟩ => ⟨S4096x32, .f32⟩
  | .hbm, ⟨80, _⟩ => ⟨S4096x128, .f32⟩
  | .hbm, ⟨81, _⟩ => ⟨S_, .f32⟩
  | .hbm, ⟨82, _⟩ => ⟨S4096x64, .f32⟩
  | .hbm, ⟨83, _⟩ => ⟨S32, .f32⟩
  | .hbm, ⟨84, _⟩ => ⟨S_, .i32⟩
  | .hbm, ⟨85, _⟩ => ⟨S32, .i32⟩
  | .hbm, ⟨86, _⟩ => ⟨S32, .i32⟩
  | .hbm, ⟨87, _⟩ => ⟨S32, .i32⟩
  | .hbm, ⟨88, _⟩ => ⟨S32x1, .i32⟩
  | .hbm, ⟨89, _⟩ => ⟨S32, .f32⟩
  | .hbm, ⟨90, _⟩ => ⟨S1x32, .f32⟩
  | .hbm, ⟨91, _⟩ => ⟨S4096x32, .f32⟩
  | .hbm, ⟨92, _⟩ => ⟨S4096x32, .f32⟩
  | .hbm, ⟨93, _⟩ => ⟨S4096x128, .f32⟩
  | .hbm, ⟨94, _⟩ => ⟨S1x384, .f32⟩
  | .hbm, ⟨95, _⟩ => ⟨S1x256, .f32⟩
  | .hbm, ⟨96, _⟩ => ⟨S8x8x4096x128, .bf16⟩
  | .hbm, ⟨97, _⟩ => ⟨S8x8x4096x128, .bf16⟩
  | .hbm, ⟨98, _⟩ => ⟨S8x8x4096x128, .bf16⟩
  | .hbm, ⟨99, _⟩ => ⟨S8x8x4096x96, .bf16⟩
  | .hbm, ⟨100, _⟩ => ⟨S8x8x4096x96, .bf16⟩
  | .hbm, ⟨101, _⟩ => ⟨S8x8x4096x64, .bf16⟩
  | .local _ .vmem, ⟨0, _⟩ => ⟨S1x256x768, .f32⟩
  | .local _ .vmem, ⟨1, _⟩ => ⟨S1x256x768, .f32⟩
  | .local _ .vmem, ⟨2, _⟩ => ⟨S1x384, .f32⟩
  | .local _ .vmem, ⟨3, _⟩ => ⟨S1x256, .f32⟩
  | .local _ .vmem, ⟨4, _⟩ => ⟨S384x1024, .bf16⟩
  | .local _ .vmem, ⟨5, _⟩ => ⟨S256x2048, .bf16⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .vmem, ⟨11, _⟩ => ⟨S256x128, .f32⟩
  | .local _ .vmem, ⟨12, _⟩ => ⟨S256x128, .f32⟩
  | .local _ .vmem, ⟨13, _⟩ => ⟨S256x128, .f32⟩
  | .local _ .vmem, ⟨14, _⟩ => ⟨S1x8x256x128, .bf16⟩
  | .local _ .vmem, ⟨15, _⟩ => ⟨S1x8x256x128, .bf16⟩
  | .local _ .vmem, ⟨16, _⟩ => ⟨S1x8x256x128, .bf16⟩
  | .local _ .vmem, ⟨17, _⟩ => ⟨S1x8x256x128, .bf16⟩
  | .local _ .vmem, ⟨18, _⟩ => ⟨S1x8x256x128, .bf16⟩
  | .local _ .vmem, ⟨19, _⟩ => ⟨S1x8x256x128, .bf16⟩
  | _, _ => ⟨S8x4096x672, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_c_0 : Ref sig .tc := ⟨.hbm, 10, rfl⟩
abbrev main_cst : Ref sig .tc := ⟨.hbm, 11, rfl⟩
abbrev main_c_1 : Ref sig .tc := ⟨.hbm, 12, rfl⟩
abbrev main_c_2 : Ref sig .tc := ⟨.hbm, 13, rfl⟩
abbrev main_c_3 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_4 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_c_5 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_cst_6 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_cst_7 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_8 : Ref sig .tc := ⟨.hbm, 59, rfl⟩
abbrev main_v40 : Ref sig .tc := ⟨.hbm, 60, rfl⟩
abbrev main_v41 : Ref sig .tc := ⟨.hbm, 61, rfl⟩
abbrev main_c_9 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_cst_10 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_cst_11 : Ref sig .tc := ⟨.hbm, 81, rfl⟩
abbrev main_v59 : Ref sig .tc := ⟨.hbm, 82, rfl⟩
abbrev main_v60 : Ref sig .tc := ⟨.hbm, 83, rfl⟩
abbrev main_c_12 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72_0 : Ref sig .tc := ⟨.hbm, 96, rfl⟩
abbrev main_v72_1 : Ref sig .tc := ⟨.hbm, 97, rfl⟩
abbrev main_v72_2 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19

abbrev nD : Nat := 1
abbrev τ : Topo := Topo.v7x

variable {F : FTy → Type} [FloatOps F]

abbrev grid0 : Pipeline.Grid := ⟨2, ![8, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S384x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S256x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S256x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S1x8x256x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x8x256x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x8x256x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== Kernel11Ideal.lean ====
variable {F : FTy → Type} [FloatOps F] [Named F]
def κ : String → Option EReal := fun
  | "mean" => some ((1 / 96 : ℝ) : EReal)
  | "scale" => some (((Real.sqrt 96)⁻¹ : ℝ) : EReal)
  | _ => none
-- ==== Reference11Ideal.lean ====
abbrev S8x4096x672 : Shape := ⟨3, ![8, 4096, 672]⟩
abbrev S384 : Shape := ⟨1, ![384]⟩
abbrev S384x768 : Shape := ⟨2, ![384, 768]⟩
abbrev S256 : Shape := ⟨1, ![256]⟩
abbrev S256x1024 : Shape := ⟨2, ![256, 1024]⟩
abbrev S96 : Shape := ⟨1, ![96]⟩
abbrev S4096x32 : Shape := ⟨2, ![4096, 32]⟩
abbrev S8x4096x384 : Shape := ⟨3, ![8, 4096, 384]⟩
abbrev S8x4096x256 : Shape := ⟨3, ![8, 4096, 256]⟩
abbrev S8x4096x32 : Shape := ⟨3, ![8, 4096, 32]⟩
abbrev S_ : Shape := ⟨0, ![]⟩
abbrev S8x4096 : Shape := ⟨2, ![8, 4096]⟩
abbrev S8x4096x1 : Shape := ⟨3, ![8, 4096, 1]⟩
abbrev S1x1x384 : Shape := ⟨3, ![1, 1, 384]⟩
abbrev S8x4096x768 : Shape := ⟨3, ![8, 4096, 768]⟩
abbrev S8x4096x8x96 : Shape := ⟨4, ![8, 4096, 8, 96]⟩
abbrev S1x1x256 : Shape := ⟨3, ![1, 1, 256]⟩
abbrev S8x4096x1024 : Shape := ⟨3, ![8, 4096, 1024]⟩
abbrev S8x4096x8x128 : Shape := ⟨4, ![8, 4096, 8, 128]⟩
abbrev S8x4096x8x64 : Shape := ⟨4, ![8, 4096, 8, 64]⟩
abbrev S8x4096x1x32 : Shape := ⟨4, ![8, 4096, 1, 32]⟩
abbrev S8x4096x8x32 : Shape := ⟨4, ![8, 4096, 8, 32]⟩
abbrev S8x4096x8 : Shape := ⟨3, ![8, 4096, 8]⟩
abbrev S8x4096x8x1 : Shape := ⟨4, ![8, 4096, 8, 1]⟩
abbrev S1x1x1x96 : Shape := ⟨4, ![1, 1, 1, 96]⟩
abbrev S8x4096x8x16 : Shape := ⟨4, ![8, 4096, 8, 16]⟩
abbrev S8x4096x8x8 : Shape := ⟨4, ![8, 4096, 8, 8]⟩
abbrev S4096x1x32 : Shape := ⟨3, ![4096, 1, 32]⟩
abbrev S1x4096x1x32 : Shape := ⟨4, ![1, 4096, 1, 32]⟩
abbrev S8x8x4096x96 : Shape := ⟨4, ![8, 8, 4096, 96]⟩
abbrev S8x8x4096x64 : Shape := ⟨4, ![8, 8, 4096, 64]⟩

abbrev nBuf : Space → Nat
  | .hbm => 141
  | .vmem => 0
  | .smem => 0
  | _ => 0

abbrev hbmTy0_0 (i : Nat) : BufTy := match i % 128 with
  | 0 => ⟨S8x4096x672, .f32⟩
  | 1 => ⟨S384, .f32⟩
  | 2 => ⟨S384x768, .f32⟩
  | 3 => ⟨S256, .f32⟩
  | 4 => ⟨S256x1024, .f32⟩
  | 5 => ⟨S96, .f32⟩
  | 6 => ⟨S96, .f32⟩
  | 7 => ⟨S4096x32, .f32⟩
  | 8 => ⟨S4096x32, .f32⟩
  | 9 => ⟨S8x4096x384, .f32⟩
  | 10 => ⟨S8x4096x256, .f32⟩
  | 11 => ⟨S8x4096x32, .f32⟩
  | 12 => ⟨S8x4096x384, .f32⟩
  | 13 => ⟨S_, .f32⟩
  | 14 => ⟨S8x4096, .f32⟩
  | 15 => ⟨S8x4096x1, .f32⟩
  | 16 => ⟨S_, .f32⟩
  | 17 => ⟨S8x4096x1, .f32⟩
  | 18 => ⟨S8x4096x1, .f32⟩
  | 19 => ⟨S_, .f32⟩
  | 20 => ⟨S8x4096x1, .f32⟩
  | 21 => ⟨S8x4096x1, .f32⟩
  | 22 => ⟨S8x4096x1, .f32⟩
  | 23 => ⟨S8x4096x384, .f32⟩
  | 24 => ⟨S8x4096x384, .f32⟩
  | 25 => ⟨S1x1x384, .f32⟩
  | 26 => ⟨S8x4096x384, .f32⟩
  | 27 => ⟨S8x4096x384, .f32⟩
  | 28 => ⟨S8x4096x768, .f32⟩
  | 29 => ⟨S8x4096x8x96, .f32⟩
  | 30 => ⟨S8x4096x256, .f32⟩
  | 31 => ⟨S_, .f32⟩
  | 32 => ⟨S8x4096, .f32⟩
  | 33 => ⟨S8x4096x1, .f32⟩
  | 34 => ⟨S_, .f32⟩
  | 35 => ⟨S8x4096x1, .f32⟩
  | 36 => ⟨S8x4096x1, .f32⟩
  | 37 => ⟨S_, .f32⟩
  | 38 => ⟨S8x4096x1, .f32⟩
  | 39 => ⟨S8x4096x1, .f32⟩
  | 40 => ⟨S8x4096x1, .f32⟩
  | 41 => ⟨S8x4096x256, .f32⟩
  | 42 => ⟨S8x4096x256, .f32⟩
  | 43 => ⟨S1x1x256, .f32⟩
  | 44 => ⟨S8x4096x256, .f32⟩
  | 45 => ⟨S8x4096x256, .f32⟩
  | 46 => ⟨S8x4096x1024, .f32⟩
  | 47 => ⟨S8x4096x8x128, .f32⟩
  | 48 => ⟨S8x4096x8x64, .f32⟩
  | 49 => ⟨S8x4096x8x64, .f32⟩
  | 50 => ⟨S8x4096x1x32, .f32⟩
  | 51 => ⟨S8x4096x8x32, .f32⟩
  | 52 => ⟨S8x4096x8x96, .f32⟩
  | 53 => ⟨S8x4096x8x96, .f32⟩
  | 54 => ⟨S_, .f32⟩
  | 55 => ⟨S8x4096x8, .f32⟩
  | 56 => ⟨S8x4096x8x1, .f32⟩
  | 57 => ⟨S_, .f32⟩
  | 58 => ⟨S8x4096x8x1, .f32⟩
  | 59 => ⟨S8x4096x8x1, .f32⟩
  | 60 => ⟨S_, .f32⟩
  | 61 => ⟨S8x4096x8x1, .f32⟩
  | 62 => ⟨S8x4096x8x1, .f32⟩
  | 63 => ⟨S8x4096x8x1, .f32⟩
  | 64 => ⟨S8x4096x8x96, .f32⟩
  | 65 => ⟨S8x4096x8x96, .f32⟩
  | 66 => ⟨S1x1x1x96, .f32⟩
  | 67 => ⟨S8x4096x8x96, .f32⟩
  | 68 => ⟨S8x4096x8x96, .f32⟩
  | 69 => ⟨S8x4096x8x96, .f32⟩
  | 70 => ⟨S_, .f32⟩
  | 71 => ⟨S8x4096x8, .f32⟩
  | 72 => ⟨S8x4096x8x1, .f32⟩
  | 73 => ⟨S_, .f32⟩
  | 74 => ⟨S8x4096x8x1, .f32⟩
  | 75 => ⟨S8x4096x8x1, .f32⟩
  | 76 => ⟨S_, .f32⟩
  | 77 => ⟨S8x4096x8x1, .f32⟩
  | 78 => ⟨S8x4096x8x1, .f32⟩
  | 79 => ⟨S8x4096x8x1, .f32⟩
  | 80 => ⟨S8x4096x8x96, .f32⟩
  | 81 => ⟨S8x4096x8x96, .f32⟩
  | 82 => ⟨S1x1x1x96, .f32⟩
  | 83 => ⟨S8x4096x8x96, .f32⟩
  | 84 => ⟨S8x4096x8x96, .f32⟩
  | 85 => ⟨S8x4096x8x64, .f32⟩
  | 86 => ⟨S8x4096x8x32, .f32⟩
  | 87 => ⟨S8x4096x8x16, .f32⟩
  | 88 => ⟨S8x4096x8x8, .f32⟩
  | 89 => ⟨S8x4096x8x8, .f32⟩
  | 90 => ⟨S8x4096x8x8, .f32⟩
  | 91 => ⟨S8x4096x8x16, .f32⟩
  | 92 => ⟨S8x4096x8x16, .f32⟩
  | 93 => ⟨S8x4096x8x8, .f32⟩
  | 94 => ⟨S8x4096x8x8, .f32⟩
  | 95 => ⟨S8x4096x8x8, .f32⟩
  | 96 => ⟨S8x4096x8x16, .f32⟩
  | 97 => ⟨S8x4096x8x32, .f32⟩
  | 98 => ⟨S4096x1x32, .f32⟩
  | 99 => ⟨S1x4096x1x32, .f32⟩
  | 100 => ⟨S8x4096x8x32, .f32⟩
  | 101 => ⟨S8x4096x8x32, .f32⟩
  | 102 => ⟨S4096x1x32, .f32⟩
  | 103 => ⟨S1x4096x1x32, .f32⟩
  | 104 => ⟨S8x4096x8x32, .f32⟩
  | 105 => ⟨S8x4096x8x32, .f32⟩
  | 106 => ⟨S8x4096x8x32, .f32⟩
  | 107 => ⟨S8x4096x8x96, .f32⟩
  | 108 => ⟨S8x4096x8x64, .f32⟩
  | 109 => ⟨S8x4096x8x32, .f32⟩
  | 110 => ⟨S8x4096x8x16, .f32⟩
  | 111 => ⟨S8x4096x8x8, .f32⟩
  | 112 => ⟨S8x4096x8x8, .f32⟩
  | 113 => ⟨S8x4096x8x8, .f32⟩
  | 114 => ⟨S8x4096x8x16, .f32⟩
  | 115 => ⟨S8x4096x8x16, .f32⟩
  | 116 => ⟨S8x4096x8x8, .f32⟩
  | 117 => ⟨S8x4096x8x8, .f32⟩
  | 118 => ⟨S8x4096x8x8, .f32⟩
  | 119 => ⟨S8x4096x8x16, .f32⟩
  | 120 => ⟨S8x4096x8x32, .f32⟩
  | 121 => ⟨S4096x1x32, .f32⟩
  | 122 => ⟨S1x4096x1x32, .f32⟩
  | 123 => ⟨S8x4096x8x32, .f32⟩
  | 124 => ⟨S8x4096x8x32, .f32⟩
  | 125 => ⟨S4096x1x32, .f32⟩
  | 126 => ⟨S1x4096x1x32, .f32⟩
  | 127 => ⟨S8x4096x8x32, .f32⟩
  | _ => ⟨S8x4096x672, .f32⟩

abbrev hbmTy0_1 (i : Nat) : BufTy := match i % 128 with
  | 0 => ⟨S8x4096x8x32, .f32⟩
  | 1 => ⟨S8x4096x8x32, .f32⟩
  | 2 => ⟨S8x4096x8x96, .f32⟩
  | 3 => ⟨S_, .f32⟩
  | 4 => ⟨S_, .f32⟩
  | 5 => ⟨S8x4096x8x96, .f32⟩
  | 6 => ⟨S8x4096x8x96, .f32⟩
  | 7 => ⟨S8x8x4096x96, .f32⟩
  | 8 => ⟨S8x8x4096x96, .bf16⟩
  | 9 => ⟨S8x8x4096x96, .f32⟩
  | 10 => ⟨S8x8x4096x96, .bf16⟩
  | 11 => ⟨S8x8x4096x64, .f32⟩
  | 12 => ⟨S8x8x4096x64, .bf16⟩
  | _ => ⟨S8x4096x672, .f32⟩

abbrev hbmTy (i : Nat) : BufTy := match i / 128 with
  | 0 => hbmTy0_0 i
  | 1 => hbmTy0_1 i
  | _ => ⟨S8x4096x672, .f32⟩

abbrev bufTy : (tb : Table) → Fin (tcTables nBuf tb) → BufTy
  | .hbm, ⟨i, _⟩ => hbmTy i
  | _, _ => ⟨S8x4096x672, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_v5 : Ref sig .tc := ⟨.hbm, 15, rfl⟩
abbrev main_cst_0 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_2 : Ref sig .tc := ⟨.hbm, 31, rfl⟩
abbrev main_v19 : Ref sig .tc := ⟨.hbm, 32, rfl⟩
abbrev main_v20 : Ref sig .tc := ⟨.hbm, 33, rfl⟩
abbrev main_cst_3 : Ref sig .tc := ⟨.hbm, 34, rfl⟩
abbrev main_v21 : Ref sig .tc := ⟨.hbm, 35, rfl⟩
abbrev main_v22 : Ref sig .tc := ⟨.hbm, 36, rfl⟩
abbrev main_cst_4 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_cst_5 : Ref sig .tc := ⟨.hbm, 54, rfl⟩
abbrev main_v39 : Ref sig .tc := ⟨.hbm, 55, rfl⟩
abbrev main_v40 : Ref sig .tc := ⟨.hbm, 56, rfl⟩
abbrev main_cst_6 : Ref sig .tc := ⟨.hbm, 57, rfl⟩
abbrev main_v41 : Ref sig .tc := ⟨.hbm, 58, rfl⟩
abbrev main_v42 : Ref sig .tc := ⟨.hbm, 59, rfl⟩
abbrev main_cst_7 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_cst_8 : Ref sig .tc := ⟨.hbm, 70, rfl⟩
abbrev main_v52 : Ref sig .tc := ⟨.hbm, 71, rfl⟩
abbrev main_v53 : Ref sig .tc := ⟨.hbm, 72, rfl⟩
abbrev main_cst_9 : Ref sig .tc := ⟨.hbm, 73, rfl⟩
abbrev main_v54 : Ref sig .tc := ⟨.hbm, 74, rfl⟩
abbrev main_v55 : Ref sig .tc := ⟨.hbm, 75, rfl⟩
abbrev main_cst_10 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev main_v94 : Ref sig .tc := ⟨.hbm, 115, rfl⟩
abbrev main_v95 : Ref sig .tc := ⟨.hbm, 116, rfl⟩
abbrev main_v96 : Ref sig .tc := ⟨.hbm, 117, rfl⟩
abbrev main_v97 : Ref sig .tc := ⟨.hbm, 118, rfl⟩
abbrev main_v98 : Ref sig .tc := ⟨.hbm, 119, rfl⟩
abbrev main_v99 : Ref sig .tc := ⟨.hbm, 120, rfl⟩
abbrev main_v100 : Ref sig .tc := ⟨.hbm, 121, rfl⟩
abbrev main_v101 : Ref sig .tc := ⟨.hbm, 122, rfl⟩
abbrev main_v102 : Ref sig .tc := ⟨.hbm, 123, rfl⟩
abbrev main_v103 : Ref sig .tc := ⟨.hbm, 124, rfl⟩
abbrev main_v104 : Ref sig .tc := ⟨.hbm, 125, rfl⟩
abbrev main_v105 : Ref sig .tc := ⟨.hbm, 126, rfl⟩
abbrev main_v106 : Ref sig .tc := ⟨.hbm, 127, rfl⟩
abbrev main_v107 : Ref sig .tc := ⟨.hbm, 128, rfl⟩
abbrev main_v108 : Ref sig .tc := ⟨.hbm, 129, rfl⟩
abbrev main_v109 : Ref sig .tc := ⟨.hbm, 130, rfl⟩
abbrev main_cst_11 : Ref sig .tc := ⟨.hbm, 131, rfl⟩
abbrev main_v110 : Ref sig .tc := ⟨.hbm, 132, rfl⟩
abbrev main_v111 : Ref sig .tc := ⟨.hbm, 133, rfl⟩
abbrev main_v112 : Ref sig .tc := ⟨.hbm, 134, rfl⟩
abbrev main_v113 : Ref sig .tc := ⟨.hbm, 135, rfl⟩
abbrev main_v114 : Ref sig .tc := ⟨.hbm, 136, rfl⟩
abbrev main_v115 : Ref sig .tc := ⟨.hbm, 137, rfl⟩
abbrev main_v116 : Ref sig .tc := ⟨.hbm, 138, rfl⟩
abbrev main_v117 : Ref sig .tc := ⟨.hbm, 139, rfl⟩
abbrev main_v118 : Ref sig .tc := ⟨.hbm, 140, rfl⟩

abbrev nD : Nat := 1
abbrev τ : Topo := Topo.v7x

variable {F : FTy → Type} [FloatOps F]
-- ==== Proof.Experts.Block.lean ====
/- One block of the experts' kernel: the rows picked by a one-hot product are the rows the indices name, and the
   block it writes is the gated SwiGLU of those rows, element by element. -/
module

public import proofs.«01_k».proof.Proof.Gen.KernelIdeal.Value
public import Idealize.ShloMosaic.Lib.Pointwise

@[expose] public section

set_option maxRecDepth 16384

noncomputable section

namespace Cert.Proof.Experts

open Idealize.ShloMosaic Cert.KernelIdeal Cert.KernelIdeal.Gen

/-- A sum over all tokens of the values at the token whose number is `n` and zero elsewhere is the value at `n`. -/
theorem sum_pick (n : Fin 4096) (w : BitVec 32) (hw : w = BitVec.ofNat 32 n.val) (f : Fin 4096 → EReal) :
    (∑ x : Fin 4096, Scalar.select (IntOp.cmpi CmpIPredicate.eq (BitVec.ofNat 32 x.val) w) (f x) 0) = f n := by
  subst hw
  rw [Finset.sum_eq_single n]
  · rw [show IntOp.cmpi CmpIPredicate.eq (BitVec.ofNat 32 n.val) (BitVec.ofNat 32 n.val) = 1#1 from by
      simp [IntOp.cmpi]]
    rfl
  · intro x _ hx
    have hne : BitVec.ofNat 32 x.val ≠ BitVec.ofNat 32 n.val := by
      intro h
      apply hx
      have := congrArg BitVec.toNat h
      rw [BitVec.toNat_ofNat, BitVec.toNat_ofNat] at this
      exact Fin.ext (by omega)
    rw [show IntOp.cmpi CmpIPredicate.eq (BitVec.ofNat 32 x.val) (BitVec.ofNat 32 n.val) = 0#1 from by
      show BitVec.ofBool (BitVec.ofNat 32 x.val == BitVec.ofNat 32 n.val) = 0#1
      rw [beq_eq_false_iff_ne.mpr hne]
      rfl]
    rfl
  · intro h
    exact absurd (Finset.mem_univ _) h

/-- What one point computes, at row `r` and lane `d` of its block: the row that index `r` names, through the gated
    unit and down, times its gate. -/
theorem pay_apply (idx : Vec Ideal S1x1x512x1 .i32) (h : Vec Ideal S1x4096x1024 .bf16)
    (w1 w3 w2 : Vec Ideal S1x1024x1024 .bf16) (gate : Vec Ideal S1x1x512x1 .f32)
    (r : Fin 512) (d : Fin 1024) (n : Fin 4096) (hn : idx (ix4 0 0 r 0) = BitVec.ofNat 32 n.val) :
    k0_pay2 (F := Ideal) idx h w1 w3 w2 gate (ix2 r d)
      = (∑ f : Fin 1024, ((∑ k : Fin 1024, h (ix3 0 n k) * w1 (ix3 0 k f))
            * Ideal.logistic (∑ k : Fin 1024, h (ix3 0 n k) * w1 (ix3 0 k f))
            * (∑ k : Fin 1024, h (ix3 0 n k) * w3 (ix3 0 k f))) * w2 (ix3 0 f d)) * gate (ix4 0 0 r 0) := by
  pointwise [k0_pay2]
  simp only [sum_pick n _ hn]

end Cert.Proof.Experts
-- ==== Proof.Experts.Chosen.lean ====
/- The experts' reference at an element: the row numbers that the choice of the top scores yields lie inside the
   table of rows, so the wrap of negative numbers and the clamp of the gather do nothing. -/
module

public import proofs.«01_k».proof.Proof.Gen.ReferenceIdeal.Read
public import Idealize.ShloMosaic.Lib.Pointwise

@[expose] public section

set_option maxRecDepth 16384

noncomputable section

namespace Cert.Proof.Experts

open Idealize.ShloMosaic Cert.ReferenceIdeal Cert.ReferenceIdeal.Gen Cert.ReferenceIdeal.Read

/-- Every index that the choice of the greatest along the last axis returns is a position on that axis. -/
theorem chosen_word {α : Type} (gt : α → α → BitVec 1) (x : S8x16x4096.Idx → α)
    (h : S8x16x4096.Slices (fun _ => 0) S8x16x512) (j : S8x16x512.Idx) :
    ∃ n : Fin 4096, (Host.topK S8x16x512 2 gt x h).2 j = BitVec.ofNat 32 n.val := by
  have h2 : 2 < S8x16x4096.rank := by decide
  simp only [Host.topK, Host.sort2, dif_pos h2, extractStridedSlice, iotaInDim, Shape.Idx.along, Function.update_self]
  exact ⟨_, rfl⟩

/-- The row of tokens that is entry `r` of expert `e` on batch row `b`. -/
def token (lg : (⟨S8x4096x16, .f32⟩ : BufTy).Contents (Elt Ideal)) (b : Fin 8) (e : Fin 16) (r : Fin 512) : Fin 4096 :=
  (chosen_word (FloatOps.cmpfTotal (F := Ideal) (φ := .f32) .gt) (val_main_v12 (F := Ideal) lg) sliceFits_S8x16x4096_S8x16x512 (ix3 b e r)).choose

theorem token_spec (lg : (⟨S8x4096x16, .f32⟩ : BufTy).Contents (Elt Ideal)) (b : Fin 8) (e : Fin 16) (r : Fin 512) :
    val_main_indices (F := Ideal) lg (ix3 b e r) = BitVec.ofNat 32 (token lg b e r).val :=
  (chosen_word (FloatOps.cmpfTotal (F := Ideal) (φ := .f32) .gt) (val_main_v12 (F := Ideal) lg) sliceFits_S8x16x4096_S8x16x512 (ix3 b e r)).choose_spec

/-- A word that holds a row number reads back as that number, signed or not. -/
theorem word_toInt (n : Fin 4096) : (BitVec.ofNat 32 n.val).toInt = n.val := by
  have hn := n.isLt
  have h : (BitVec.ofNat 32 n.val).toNat = n.val := by rw [BitVec.toNat_ofNat]; omega
  rw [BitVec.toInt_eq_toNat_of_lt (by omega), h]

/-- The start index the gather reads is the chosen number itself: it is not negative. -/
theorem start_word (lg : (⟨S8x4096x16, .f32⟩ : BufTy).Contents (Elt Ideal)) (b : Fin 8) (e : Fin 16) (r : Fin 512) :
    val_main_v18 (F := Ideal) lg (ix4 b e r 0) = BitVec.ofNat 32 (token lg b e r).val := by
  have h : val_main_v18 (F := Ideal) lg (ix4 b e r 0)
      = Scalar.select (IntOp.cmpi .slt (val_main_indices (F := Ideal) lg (ix3 b e r)) 0#32)
          (val_main_indices (F := Ideal) lg (ix3 b e r) + 4096#32) (val_main_indices (F := Ideal) lg (ix3 b e r)) := by
    unfold val_main_v18 val_main_v17 val_main_v16 val_main_v15 val_main_v14 val_main_v13 val_main_c val_main_c_2
    pointwise
    rfl
  rw [h, token_spec]
  have hlt := (token lg b e r).isLt
  rw [show IntOp.cmpi .slt (BitVec.ofNat 32 (token lg b e r).val) 0#32 = 0#1 from by
    show BitVec.ofBool (decide ((BitVec.ofNat 32 (token lg b e r).val).toInt < (0#32 : BitVec 32).toInt)) = 0#1
    rw [word_toInt, show (0#32 : BitVec 32).toInt = 0 from rfl, decide_eq_false (by omega)]
    rfl]
  rfl

/-- The gathered rows at an element. -/
theorem gathered (h : (⟨S8x4096x1024, .bf16⟩ : BufTy).Contents (Elt Ideal)) (lg : (⟨S8x4096x16, .f32⟩ : BufTy).Contents (Elt Ideal))
    (b : Fin 8) (e : Fin 16) (r : Fin 512) (k : Fin 1024) :
    val_main_v19 (F := Ideal) h lg (ix4 b e r k) = h (ix3 b (token lg b e r) k) := by
  unfold val_main_v19 Host.gather
  show h _ = _
  congr 1
  funext a
  refine Fin.ext ?_
  show gather_S8x4096x1024_S8x16x512x1_S8x16x512x1024_3_1_0_0_1_3_111024.start _ _ a
    + gather_S8x4096x1024_S8x16x512x1_S8x16x512x1024_3_1_0_0_1_3_111024.batchCoord _ a
    + gather_S8x4096x1024_S8x16x512x1_S8x16x512x1024_3_1_0_0_1_3_111024.offCoord _ a = _
  match a with
  | ⟨0, _⟩ =>
    have h0 : (⟨0, by decide⟩ : Fin S8x4096x1024.rank) ∈ gather_S8x4096x1024_S8x16x512x1_S8x16x512x1024_3_1_0_0_1_3_111024.operandBatchingDims := List.mem_singleton.mpr rfl
    rw [GatherDims.start_batching _ _ _ _ h0,
      GatherDims.offCoord_eq_zero _ _ _ (fun h => ((GatherDims.mem_sKept _ _).mp h).2 h0)]
    unfold GatherDims.batchCoord
    rw [dif_pos h0]
    simp only [Nat.zero_add, Nat.add_zero]
    rfl
  | ⟨1, _⟩ =>
    have h1 : (⟨1, by decide⟩ : Fin S8x4096x1024.rank) ∈ gather_S8x4096x1024_S8x16x512x1_S8x16x512x1024_3_1_0_0_1_3_111024.collapsedSliceDims := List.mem_singleton.mpr rfl
    have h1' : (⟨1, by decide⟩ : Fin S8x4096x1024.rank) ∈ gather_S8x4096x1024_S8x16x512x1_S8x16x512x1024_3_1_0_0_1_3_111024.startIndexMap := List.mem_singleton.mpr rfl
    rw [GatherDims.batchCoord_eq_zero _ _ _ (show (1 : Fin 3) ∉ ([0] : List (Fin 3)) by decide),
      GatherDims.offCoord_eq_zero _ _ _ (fun h => ((GatherDims.mem_sKept _ _).mp h).1 h1)]
    unfold GatherDims.start
    rw [dif_pos h1']
    have hsi : ∀ c, gather_S8x4096x1024_S8x16x512x1_S8x16x512x1024_3_1_0_0_1_3_111024.siIdx (ix4 b e r k) c = ix4 b e r 0 := by
      intro c
      have hc : c.val = 0 := Nat.lt_one_iff.mp c.isLt
      funext d; refine Fin.ext ?_
      match d with
      | ⟨0, _⟩ => rfl
      | ⟨1, _⟩ => rfl
      | ⟨2, _⟩ => rfl
      | ⟨3, _⟩ => exact hc
    rw [hsi, start_word, word_toInt]
    simp only [Nat.add_zero]
    show min (((token lg b e r).val : Int)).toNat 4095 = (token lg b e r).val
    have hlt := (token lg b e r).isLt
    omega
  | ⟨2, _⟩ =>
    have h2 : (⟨2, by decide⟩ : Fin S8x4096x1024.rank) ∉ gather_S8x4096x1024_S8x16x512x1_S8x16x512x1024_3_1_0_0_1_3_111024.collapsedSliceDims := by
      show (2 : Fin 3) ∉ ([1] : List (Fin 3)); decide
    have h2m : (⟨2, by decide⟩ : Fin S8x4096x1024.rank) ∉ gather_S8x4096x1024_S8x16x512x1_S8x16x512x1024_3_1_0_0_1_3_111024.startIndexMap := by
      show (2 : Fin 3) ∉ ([1] : List (Fin 3)); decide
    have h2' : (⟨2, by decide⟩ : Fin S8x4096x1024.rank) ∉ gather_S8x4096x1024_S8x16x512x1_S8x16x512x1024_3_1_0_0_1_3_111024.operandBatchingDims := by
      show (2 : Fin 3) ∉ ([0] : List (Fin 3)); decide
    rw [GatherDims.batchCoord_eq_zero _ _ _ h2']
    unfold GatherDims.start GatherDims.offCoord
    rw [dif_neg h2m, dif_pos ((GatherDims.mem_sKept _ _).mpr ⟨h2, h2'⟩)]
    simp only [Nat.zero_add, Nat.add_zero]
    rfl

/-- The reference at an element. -/
theorem ref_apply (h : (⟨S8x4096x1024, .bf16⟩ : BufTy).Contents (Elt Ideal)) (lg : (⟨S8x4096x16, .f32⟩ : BufTy).Contents (Elt Ideal))
    (w1 w3 w2 : (⟨S16x1024x1024, .f32⟩ : BufTy).Contents (Elt Ideal)) (b : Fin 8) (e : Fin 16) (r : Fin 512) (d : Fin 1024) :
    val_main_v31 (F := Ideal) h lg w1 w3 w2 (ix4 b e r d)
      = (∑ f : Fin 1024, ((∑ k : Fin 1024, h (ix3 b (token lg b e r) k) * w1 (ix3 e k f))
            * Ideal.logistic (∑ k : Fin 1024, h (ix3 b (token lg b e r) k) * w1 (ix3 e k f))
            * (∑ k : Fin 1024, h (ix3 b (token lg b e r) k) * w3 (ix3 e k f))) * w2 (ix3 e f d))
          * val_main_values (F := Ideal) lg (ix3 b e r) := by
  unfold val_main_v31 val_main_v30 val_main_v29 val_main_v28 val_main_v27 val_main_v26 val_main_v25 val_main_v24 val_main_v23
    val_main_v22 val_main_call0_v5 val_main_call0_v4 val_main_call0_cst_0 val_main_call0_v3 val_main_call0_v2 val_main_call0_cst
    val_main_call0_v1 val_main_call0_v0 val_main_v21 val_main_v20
  pointwise
  simp only [gathered, fun i x => mul_comm (w1 i) x, fun i x => mul_comm (w3 i) x, fun i x => mul_comm (w2 i) x]
  rfl

end Cert.Proof.Experts
-- ==== Proof.Experts.Value.lean ====
/- The experts' kernel as a whole: each point of the grid writes one expert's rows of one batch row, and the array the
   run leaves is the reference's. -/
module

public import proofs.«01_k».proof.Proof.Experts.Block
public import proofs.«01_k».proof.Proof.Experts.Chosen
public import Idealize.ShloMosaic.Lib.Pipeline.ValueKit
public import Idealize.ShloMosaic.Lib.Claim

@[expose] public section

set_option maxRecDepth 16384

noncomputable section

namespace Cert.Proof.Experts

open Idealize.ShloMosaic Idealize.ShloMosaic.TcCoe Idealize.SL.Sem
open Cert.KernelIdeal Cert.KernelIdeal.Gen Cert.KernelIdeal.Value

variable (m : (ℓ : Loc nD τ sig) → Buf (Elt Ideal) ℓ)

/-- The chosen row numbers as the region finds them. -/
theorem entry_idx (c : Dev nD) (b : Fin 8) (e : Fin 16) (r : Fin 512) :
    V m c main_v15 (ix4 b e r 0)
      = Cert.ReferenceIdeal.Read.val_main_indices (F := Ideal) (m ((c : Thread nD τ).loc main_arg1)) (ix3 b e r) := by
  entry_read
  pointwise
  rfl

/-- The gates as the region finds them. -/
theorem entry_gate (c : Dev nD) (b : Fin 8) (e : Fin 16) (r : Fin 512) :
    V m c main_v16 (ix4 b e r 0)
      = Cert.ReferenceIdeal.Read.val_main_values (F := Ideal) (m ((c : Thread nD τ).loc main_arg1)) (ix3 b e r) := by
  entry_read
  pointwise
  rfl

/-- A weight as the region finds it: the change of format keeps every value. -/
theorem entry_w1 (c : Dev nD) (i : S16x1024x1024.Idx) :
    V m c main_v0 i = m ((c : Thread nD τ).loc main_arg2) i := by
  entry_read
  rfl

/-- A weight as the region finds it: the change of format keeps every value. -/
theorem entry_w3 (c : Dev nD) (i : S16x1024x1024.Idx) :
    V m c main_v1 i = m ((c : Thread nD τ).loc main_arg3) i := by
  entry_read
  rfl

/-- A weight as the region finds it: the change of format keeps every value. -/
theorem entry_w2 (c : Dev nD) (i : S16x1024x1024.Idx) :
    V m c main_v2 i = m ((c : Thread nD τ).loc main_arg4) i := by
  entry_read
  rfl

/-- Where each window's block lies at a point. -/
theorem places : ∀ t : Fin grid0.N,
    win0_0.index t = ![t.val / 16, 0, 0] ∧ win0_1.index t = ![t.val / 16, t.val % 16, 0, 0]
    ∧ win0_2.index t = ![t.val / 16, t.val % 16, 0, 0] ∧ win0_3.index t = ![t.val % 16, 0, 0]
    ∧ win0_4.index t = ![t.val % 16, 0, 0] ∧ win0_5.index t = ![t.val % 16, 0, 0]
    ∧ win0_6.index t = ![t.val / 16, t.val % 16, 0, 0] := by decide +kernel

set_option maxHeartbeats 4000000 in
/-- THE ARRAY AFTER THE RUN is the reference of the arguments. -/
theorem final (c : Dev nD) :
    (dats m 0 c).arrAt 6 cfg0.N
      = Cert.ReferenceIdeal.Read.val_main_v31 (F := Ideal) (m ((c : Thread nD τ).loc main_arg0)) (m ((c : Thread nD τ).loc main_arg1))
          (m ((c : Thread nD τ).loc main_arg2)) (m ((c : Thread nD τ).loc main_arg3)) (m ((c : Thread nD τ).loc main_arg4)) := by
  refine (dats m 0 c).arrAt_eq_of_covers 6 _ (by decide +kernel) fun t hf y => ?_
  have ht : t.val < 128 := lt_of_lt_of_eq t.isLt N_0
  obtain ⟨p0, p1, p2, p3, p4, p5, p6⟩ := places t
  rw [after0_6]
  frame_out
  have hb : t.val / 16 < 8 := by omega
  have he : t.val % 16 < 16 := by omega
  obtain ⟨u, v, r, d, rfl⟩ : ∃ (u v : Fin 1) (r : Fin 512) (d : Fin 1024), y = ix4 u v r d :=
    ⟨y 0, y 1, y 2, y 3, eq_ix4 (n0 := 1) (n1 := 1) (n2 := 512) (n3 := 1024) y⟩
  have e6 : ((cfg0.win 6).blk t).view.emb (ix4 u v r d) = ix4 (⟨t.val / 16, hb⟩ : Fin 8) (⟨t.val % 16, he⟩ : Fin 16) r d := by
    blk_ext [p6]
  have r0 : ∀ (k : Fin 4096) (f : Fin 1024), iblk m c 0 t (ix3 0 k f)
      = m ((c : Thread nD τ).loc main_arg0) (ix3 (⟨t.val / 16, hb⟩ : Fin 8) k f) := by
    intro k f
    refine Eq.trans (b := V m c main_arg0 (ix3 (⟨t.val / 16, hb⟩ : Fin 8) k f)) (by blk_ext [iblk, p0]) ?_
    rw [V_main_arg0]
  have r3 : ∀ (k : Fin 1024) (f : Fin 1024), iblk m c 3 t (ix3 0 k f)
      = m ((c : Thread nD τ).loc main_arg2) (ix3 (⟨t.val % 16, he⟩ : Fin 16) k f) := by
    intro k f
    refine Eq.trans (b := V m c main_v0 (ix3 (⟨t.val % 16, he⟩ : Fin 16) k f)) (by blk_ext [iblk, p3]) ?_
    rw [entry_w1]
  have r4 : ∀ (k : Fin 1024) (f : Fin 1024), iblk m c 4 t (ix3 0 k f)
      = m ((c : Thread nD τ).loc main_arg3) (ix3 (⟨t.val % 16, he⟩ : Fin 16) k f) := by
    intro k f
    refine Eq.trans (b := V m c main_v1 (ix3 (⟨t.val % 16, he⟩ : Fin 16) k f)) (by blk_ext [iblk, p4]) ?_
    rw [entry_w3]
  have r5 : ∀ (k : Fin 1024) (f : Fin 1024), iblk m c 5 t (ix3 0 k f)
      = m ((c : Thread nD τ).loc main_arg4) (ix3 (⟨t.val % 16, he⟩ : Fin 16) k f) := by
    intro k f
    refine Eq.trans (b := V m c main_v2 (ix3 (⟨t.val % 16, he⟩ : Fin 16) k f)) (by blk_ext [iblk, p5]) ?_
    rw [entry_w2]
  have r1 : iblk m c 1 t (ix4 0 0 r 0) = V m c main_v15 (ix4 (⟨t.val / 16, hb⟩ : Fin 8) (⟨t.val % 16, he⟩ : Fin 16) r 0) := by
    blk_ext [iblk, p1]
  have r2 : iblk m c 2 t (ix4 0 0 r 0) = V m c main_v16 (ix4 (⟨t.val / 16, hb⟩ : Fin 8) (⟨t.val % 16, he⟩ : Fin 16) r 0) := by
    blk_ext [iblk, p2]
  rw [entry_idx, token_spec] at r1
  rw [entry_gate] at r2
  rw [e6, ref_apply]
  have hp : k0_pay1 (F := Ideal) (k0_pay2 (iblk m c 1 t) (iblk m c 0 t) (iblk m c 3 t) (iblk m c 4 t) (iblk m c 5 t) (iblk m c 2 t)) (ix4 u v r d)
      = k0_pay2 (F := Ideal) (iblk m c 1 t) (iblk m c 0 t) (iblk m c 3 t) (iblk m c 4 t) (iblk m c 5 t) (iblk m c 2 t) (ix2 r d) := by
    pointwise [k0_pay1]
  refine hp.trans ((pay_apply _ _ _ _ _ _ r d _ r1).trans ?_)
  simp only [r0, r3, r4, r5, r2]

end Cert.Proof.Experts
-- ==== Proof.Experts.Claims.lean ====
/- The experts' claims: the reference leaves its arguments as they were, and kernel and reference compute one array. -/
module

public import proofs.«01_k».proof.Defs
public import proofs.«01_k».proof.Proof.Experts.Value
public import Idealize.ShloMosaic.Lib.Quiescent

@[expose] public section

set_option maxRecDepth 16384

noncomputable section

namespace Cert.Proof.Experts

open Idealize.ShloMosaic Idealize.SL.Sem

theorem frame_reference : Cert.quiescent_ReferenceIdeal := fun m ρ _ =>
  (θ_run _ _ _).mono (fun _ h => ⟨fun c => (h c).2, sem_eq_zero_of_no_sems rfl _⟩) (Cert.ReferenceIdeal.Value.run m ρ)

theorem algebraic : Cert.algebraic_KernelIdeal_ReferenceIdeal := fun m ρ m' ρ' _ hag =>
  ⟨fun c => Cert.ReferenceIdeal.Value.res_main_v31 m' c,
    (θ_run _ _ _).mono (fun _ h c => ⟨(h c).1.trans (by
      obtain ⟨a0, a1, a2, a3, a4⟩ := hag c
      show _ = Cert.ReferenceIdeal.Value.res_main_v31 m' c
      rw [final m c, Cert.ReferenceIdeal.Read.val_main_v31_eq, a0, a1, a2, a3, a4]), (h c).2⟩)
      (Cert.KernelIdeal.Value.run_blocks m ρ),
    (θ_run _ _ _).mono (fun _ h c => ⟨(h c).1, (h c).2⟩) (Cert.ReferenceIdeal.Value.run m' ρ')⟩

end Cert.Proof.Experts
-- ==== Proof.InProj.Block.lean ====
/- One block of the input projection: normed, scaled and shifted rows against the weight's columns, element by element. -/
module

public import proofs.«01_k».proof.Proof.Gen.Kernel2Ideal.Value
public import Idealize.ShloMosaic.Lib.Pointwise

@[expose] public section

set_option maxRecDepth 16384

noncomputable section

namespace Cert.Proof.InProj

open Idealize.ShloMosaic Cert.Kernel2Ideal Cert.Kernel2Ideal.Gen

/-- The scratch at row `r`, lane `k`: the normed row, scaled and shifted. -/
theorem row_apply (x : Vec Ideal S1x512x1024 .f32) (sc sh : Vec Ideal S1x1x1024 .f32) (r : Fin 512) (k : Fin 1024) :
    k0_pay1 (F := Ideal) x sc sh (ix2 r k)
      = x (ix3 0 r k) * Ideal.rsqrt (Ideal.div (∑ j : Fin 1024, x (ix3 0 r j) * x (ix3 0 r j)) (Ideal.ofBits .f32 0x44800000#32)
          + Ideal.ofBits .f32 0x358637BD#32) * sc (ix3 0 0 k) + sh (ix3 0 0 k) := by
  pointwise [k0_pay1]

/-- The first output's block: the scratch against the first columns. -/
theorem pay_rw (v : Vec Ideal S512x1024 .bf16) (w : Vec Ideal S1024x1920 .bf16) (r : Fin 512) (d : Fin 1920) :
    k0_pay2 (F := Ideal) v w (ix3 0 r d) = ∑ k : Fin 1024, v (ix2 r k) * w (ix2 k d) := by
  pointwise [k0_pay2]

/-- The second output's block: the scratch against the other columns. -/
theorem pay_na (v : Vec Ideal S512x1024 .bf16) (w : Vec Ideal S1024x1536 .bf16) (r : Fin 512) (d : Fin 1536) :
    k0_pay3 (F := Ideal) v w (ix3 0 r d) = ∑ k : Fin 1024, v (ix2 r k) * w (ix2 k d) := by
  pointwise [k0_pay3]

end Cert.Proof.InProj
-- ==== Proof.InProj.Ref.lean ====
/- The reference of the input projection, element by element. -/
module

public import proofs.«01_k».proof.Proof.Gen.Reference2Ideal.Read
public import Idealize.ShloMosaic.Lib.Pointwise

@[expose] public section

set_option maxRecDepth 16384

noncomputable section

namespace Cert.Proof.InProj

open Idealize.ShloMosaic Cert.Reference2Ideal Cert.Reference2Ideal.Read

/-- The norm's gain times one plus the scale. -/
def gain (g : Vec Ideal S1024 .f32) (sc : Vec Ideal S8x1x1024 .f32) (b : Fin 8) (k : Fin 1024) : EReal :=
  g (ix1 k) * (1 + sc (ix3 b 0 k))

/-- A normed row, scaled and shifted. -/
def normed (x : Vec Ideal S8x4096x1024 .f32) (g : Vec Ideal S1024 .f32) (sc sh : Vec Ideal S8x1x1024 .f32)
    (b : Fin 8) (r : Fin 4096) (k : Fin 1024) : EReal :=
  x (ix3 b r k) * Ideal.rsqrt (Ideal.div (∑ j : Fin 1024, x (ix3 b r j) * x (ix3 b r j)) (Ideal.ofBits .f32 0x44800000#32)
      + Ideal.ofBits .f32 0x358637BD#32) * gain g sc b k + sh (ix3 b 0 k)

/-- The product of the normed rows with the weight. -/
theorem ref_all (x : Vec Ideal S8x4096x1024 .f32) (g : Vec Ideal S1024 .f32) (sc sh : Vec Ideal S8x1x1024 .f32) (w : Vec Ideal S1024x3456 .f32)
    (b : Fin 8) (r : Fin 4096) (d : Fin 3456) :
    val_main_v19 (F := Ideal) x g sc sh w (ix3 b r d) = ∑ k : Fin 1024, normed x g sc sh b r k * w (ix2 k d) := by
  pointwise [val_main_v19, val_main_v18, val_main_v17, val_main_v16, val_main_v15, val_main_v14, val_main_v13, val_main_cst_2, val_main_v12,
    val_main_v11, val_main_v10, val_main_v9, val_main_v8, val_main_v7, val_main_v6, val_main_v5, val_main_v4, val_main_v3, val_main_v2,
    val_main_v1, val_main_v0, val_main_cst, val_main_cst_0, val_main_cst_1]
  simp only [normed, gain, mul_assoc]

/-- The reference's first result: the first columns. -/
theorem ref_rw (x : Vec Ideal S8x4096x1024 .f32) (g : Vec Ideal S1024 .f32) (sc sh : Vec Ideal S8x1x1024 .f32) (w : Vec Ideal S1024x3456 .f32)
    (b : Fin 8) (r : Fin 4096) (d : Fin 1920) :
    val_main_v20 (F := Ideal) x g sc sh w (ix3 b r d) = ∑ k : Fin 1024, normed x g sc sh b r k * w (ix2 k ⟨d.val, by omega⟩) := by
  rw [← ref_all]
  pointwise [val_main_v20]

/-- The reference's second result: the other columns. -/
theorem ref_na (x : Vec Ideal S8x4096x1024 .f32) (g : Vec Ideal S1024 .f32) (sc sh : Vec Ideal S8x1x1024 .f32) (w : Vec Ideal S1024x3456 .f32)
    (b : Fin 8) (r : Fin 4096) (d : Fin 1536) :
    val_main_v21 (F := Ideal) x g sc sh w (ix3 b r d) = ∑ k : Fin 1024, normed x g sc sh b r k * w (ix2 k ⟨1920 + d.val, by omega⟩) := by
  rw [← ref_all]
  pointwise [val_main_v21]

end Cert.Proof.InProj
-- ==== Proof.InProj.Value.lean ====
/- The input projection as a whole: each point of the grid writes one block of rows, and the arrays the run leaves are
   the reference's. -/
module

public import proofs.«01_k».proof.Proof.InProj.Block
public import proofs.«01_k».proof.Proof.InProj.Ref
public import Idealize.ShloMosaic.Lib.Pipeline.ValueKit
public import Idealize.ShloMosaic.Lib.Pipeline.ReadBack
public import Idealize.ShloMosaic.Lib.Claim

@[expose] public section

set_option maxRecDepth 16384

noncomputable section

namespace Cert.Proof.InProj

open Idealize.ShloMosaic Idealize.ShloMosaic.TcCoe Idealize.SL.Sem
open Cert.Kernel2Ideal Cert.Kernel2Ideal.Gen Cert.Kernel2Ideal.Value

variable (m : (ℓ : Loc nD τ sig) → Buf (Elt Ideal) ℓ)

/-- The scale as the region finds it. -/
theorem entry_scale (c : Dev nD) (b : Fin 8) (k : Fin 1024) :
    V m c main_v5 (ix3 b 0 k) = gain (m ((c : Thread nD τ).loc main_arg1)) (m ((c : Thread nD τ).loc main_arg2)) b k := by
  entry_read
  pointwise
  rfl

/-- The weight as the region finds it: the change of format keeps every value. -/
theorem entry_w (c : Dev nD) (i : S1024x3456.Idx) :
    V m c main_v0 i = m ((c : Thread nD τ).loc main_arg4) i := by
  entry_read
  rfl

/-- Where each window's block lies at a point. -/
theorem places : ∀ t : Fin grid0.N,
    win0_0.index t = ![t.val / 8, t.val % 8, 0] ∧ win0_1.index t = ![0, 0]
    ∧ win0_2.index t = ![t.val / 8, 0, 0] ∧ win0_3.index t = ![t.val / 8, 0, 0]
    ∧ win0_4.index t = ![t.val / 8, t.val % 8, 0] ∧ win0_5.index t = ![t.val / 8, t.val % 8, 0] := by decide +kernel

/-- A row of the scratch at a point is the reference's normed row. -/
theorem row_point (c : Dev nD) (t : Fin cfg0.N) {r : Fin 512} (hb : t.val / 8 < 8) (hr : t.val % 8 * 512 + r.val < 4096) (k : Fin 1024) :
    k0_pay1 (F := Ideal) (iblk m c 0 t) (iblk m c 2 t) (iblk m c 3 t) (ix2 r k)
      = normed (m ((c : Thread nD τ).loc main_arg0)) (m ((c : Thread nD τ).loc main_arg1)) (m ((c : Thread nD τ).loc main_arg2))
          (m ((c : Thread nD τ).loc main_arg3)) ⟨t.val / 8, hb⟩ ⟨t.val % 8 * 512 + r.val, hr⟩ k := by
  obtain ⟨p0, p1, p2, p3, -, -⟩ := places t
  have r0 : ∀ j : Fin 1024, iblk m c 0 t (ix3 0 r j)
      = m ((c : Thread nD τ).loc main_arg0) (ix3 (⟨t.val / 8, hb⟩ : Fin 8) (⟨t.val % 8 * 512 + r.val, hr⟩ : Fin 4096) j) := by
    intro j
    refine Eq.trans (b := V m c main_arg0 (ix3 (⟨t.val / 8, hb⟩ : Fin 8) (⟨t.val % 8 * 512 + r.val, hr⟩ : Fin 4096) j)) (by blk_ext [iblk, p0]) ?_
    rw [V_main_arg0]
  have r2 : iblk m c 2 t (ix3 0 0 k) = V m c main_v5 (ix3 (⟨t.val / 8, hb⟩ : Fin 8) 0 k) := by blk_ext [iblk, p2]
  have r3 : iblk m c 3 t (ix3 0 0 k) = m ((c : Thread nD τ).loc main_arg3) (ix3 (⟨t.val / 8, hb⟩ : Fin 8) 0 k) := by
    refine Eq.trans (b := V m c main_arg3 (ix3 (⟨t.val / 8, hb⟩ : Fin 8) 0 k)) (by blk_ext [iblk, p3]) ?_
    rw [V_main_arg3]
  rw [entry_scale] at r2
  refine (row_apply _ _ _ r k).trans ?_
  simp only [normed, r0, r2, r3]

/-- The weight's block is the whole weight. -/
theorem weight_point (c : Dev nD) (t : Fin cfg0.N) (k : Fin 1024) (d : Fin 3456) :
    iblk m c 1 t (ix2 k d) = m ((c : Thread nD τ).loc main_arg4) (ix2 k d) := by
  obtain ⟨-, p1, -, -, -, -⟩ := places t
  refine Eq.trans (b := V m c main_v0 (ix2 k d)) (by blk_ext [iblk, p1]) ?_
  rw [entry_w]

set_option maxHeartbeats 1000000 in
/-- THE FIRST ARRAY AFTER THE RUN is the reference's first result. -/
theorem final_rw (c : Dev nD) :
    (dats m 0 c).arrAt 4 cfg0.N
      = Cert.Reference2Ideal.Read.val_main_v20 (F := Ideal) (m ((c : Thread nD τ).loc main_arg0)) (m ((c : Thread nD τ).loc main_arg1))
          (m ((c : Thread nD τ).loc main_arg2)) (m ((c : Thread nD τ).loc main_arg3)) (m ((c : Thread nD τ).loc main_arg4)) := by
  refine (dats m 0 c).arrAt_eq_of_covers 4 _ (by decide +kernel) fun t hf y => ?_
  have ht : t.val < 64 := lt_of_lt_of_eq t.isLt N_0
  have hb : t.val / 8 < 8 := by omega
  obtain ⟨-, -, -, -, p4, p5⟩ := places t
  rw [after0_4]
  simp only [outsAt0]
  frame_out
  obtain ⟨u, r, d, rfl⟩ : ∃ (u : Fin 1) (r : Fin 512) (d : Fin 1920), y = ix3 u r d :=
    ⟨y 0, y 1, y 2, eq_ix3 (n0 := 1) (n1 := 512) (n2 := 1920) y⟩
  obtain rfl : u = 0 := Subsingleton.elim _ _
  have hr : t.val % 8 * 512 + r.val < 4096 := by omega
  have e : ((cfg0.win 4).blk t).view.emb (ix3 0 r d) = ix3 (⟨t.val / 8, hb⟩ : Fin 8) (⟨t.val % 8 * 512 + r.val, hr⟩ : Fin 4096) d := by
    blk_ext [p4]
  refine Eq.trans ?_ (congrArg _ e.symm)
  refine Eq.trans ?_ (ref_rw _ _ _ _ _ _ _ d).symm
  refine Eq.trans (b := k0_pay2 (F := Ideal) (k0_pay1 (iblk m c 0 t) (iblk m c 2 t) (iblk m c 3 t))
    (View.ld (iblk m c 1 t) (Rect.unit ![0, 0] ![1024, 1920] inb_S1024x3456_S1024x1920_0_0)) (ix3 0 r d)) rfl ?_
  refine (pay_rw _ _ r d).trans (Finset.sum_congr rfl fun k _ => ?_)
  rw [row_point m c t hb hr]
  congr 1
  refine Eq.trans (b := (iblk m c 1 t) (ix2 k ⟨d.val, by omega⟩)) (by pointwise) (weight_point m c t k _)

set_option maxHeartbeats 1000000 in
/-- THE SECOND ARRAY AFTER THE RUN is the reference's second result. -/
theorem final_na (c : Dev nD) :
    (dats m 0 c).arrAt 5 cfg0.N
      = Cert.Reference2Ideal.Read.val_main_v21 (F := Ideal) (m ((c : Thread nD τ).loc main_arg0)) (m ((c : Thread nD τ).loc main_arg1))
          (m ((c : Thread nD τ).loc main_arg2)) (m ((c : Thread nD τ).loc main_arg3)) (m ((c : Thread nD τ).loc main_arg4)) := by
  refine (dats m 0 c).arrAt_eq_of_covers 5 _ (by decide +kernel) fun t hf y => ?_
  have ht : t.val < 64 := lt_of_lt_of_eq t.isLt N_0
  have hb : t.val / 8 < 8 := by omega
  obtain ⟨-, -, -, -, p4, p5⟩ := places t
  rw [after0_5]
  simp only [outsAt0]
  frame_out
  obtain ⟨u, r, d, rfl⟩ : ∃ (u : Fin 1) (r : Fin 512) (d : Fin 1536), y = ix3 u r d :=
    ⟨y 0, y 1, y 2, eq_ix3 (n0 := 1) (n1 := 512) (n2 := 1536) y⟩
  obtain rfl : u = 0 := Subsingleton.elim _ _
  have hr : t.val % 8 * 512 + r.val < 4096 := by omega
  have e : ((cfg0.win 5).blk t).view.emb (ix3 0 r d) = ix3 (⟨t.val / 8, hb⟩ : Fin 8) (⟨t.val % 8 * 512 + r.val, hr⟩ : Fin 4096) d := by
    blk_ext [p5]
  refine Eq.trans ?_ (congrArg _ e.symm)
  refine Eq.trans ?_ (ref_na _ _ _ _ _ _ _ d).symm
  refine Eq.trans (b := k0_pay3 (F := Ideal) (k0_pay1 (iblk m c 0 t) (iblk m c 2 t) (iblk m c 3 t))
    (View.ld (iblk m c 1 t) (Rect.unit ![0, 1920] ![1024, 1536] inb_S1024x3456_S1024x1536_0_1920)) (ix3 0 r d)) rfl ?_
  refine (pay_na _ _ r d).trans (Finset.sum_congr rfl fun k _ => ?_)
  rw [row_point m c t hb hr]
  congr 1
  refine Eq.trans (b := (iblk m c 1 t) (ix2 k ⟨1920 + d.val, by omega⟩)) (by pointwise) (weight_point m c t k _)

end Cert.Proof.InProj
-- ==== Proof.InProj.Claims.lean ====
/- The input projection's claims: the reference leaves its arguments as they were, and kernel and reference compute the
   same two arrays. -/
module

public import proofs.«01_k».proof.Defs
public import proofs.«01_k».proof.Proof.InProj.Value
public import Idealize.ShloMosaic.Lib.Quiescent

@[expose] public section

set_option maxRecDepth 16384

noncomputable section

namespace Cert.Proof.InProj

open Idealize.ShloMosaic Idealize.SL.Sem

theorem frame_reference : Cert.quiescent_Reference2Ideal := fun m ρ _ =>
  (θ_run _ _ _).mono (fun _ h => ⟨fun c => (h c).2.2, sem_eq_zero_of_no_sems rfl _⟩) (Cert.Reference2Ideal.Value.run m ρ)

theorem algebraic : Cert.algebraic_Kernel2Ideal_Reference2Ideal := fun m ρ m' ρ' _ hag =>
  ⟨fun c => Cert.Reference2Ideal.Read.val_main_v20 (F := Ideal) (m' (c.tc.loc Cert.Reference2Ideal.main_arg0)) (m' (c.tc.loc Cert.Reference2Ideal.main_arg1))
      (m' (c.tc.loc Cert.Reference2Ideal.main_arg2)) (m' (c.tc.loc Cert.Reference2Ideal.main_arg3)) (m' (c.tc.loc Cert.Reference2Ideal.main_arg4)),
    fun c => Cert.Reference2Ideal.Read.val_main_v21 (F := Ideal) (m' (c.tc.loc Cert.Reference2Ideal.main_arg0)) (m' (c.tc.loc Cert.Reference2Ideal.main_arg1))
      (m' (c.tc.loc Cert.Reference2Ideal.main_arg2)) (m' (c.tc.loc Cert.Reference2Ideal.main_arg3)) (m' (c.tc.loc Cert.Reference2Ideal.main_arg4)),
    (θ_run _ _ _).mono (fun _ h c => ⟨(h c).1.trans (by
        obtain ⟨a0, a1, a2, a3, a4⟩ := hag c
        beta_reduce
        rw [final_rw m c, a0, a1, a2, a3, a4]),
      (h c).2.1.trans (by
        obtain ⟨a0, a1, a2, a3, a4⟩ := hag c
        beta_reduce
        rw [final_na m c, a0, a1, a2, a3, a4]), (h c).2.2⟩)
      (Cert.Kernel2Ideal.Value.run_blocks m ρ),
    (θ_run _ _ _).mono (fun _ h c => ⟨(h c).1.trans (Cert.Reference2Ideal.Read.val_main_v20_eq _ _ _ _ _),
        (h c).2.1.trans (Cert.Reference2Ideal.Read.val_main_v21_eq _ _ _ _ _), (h c).2.2⟩)
      (Cert.Reference2Ideal.Value.run m' ρ')⟩

end Cert.Proof.InProj
-- ==== Proof.Attention.Softmax.lean ====
/- The softmax of a row of finite scores over extended reals: dividing the weighted sum by the total is the same as
   weighting by the quotients, because the total is then a positive real. -/
module

public import Idealize.ShloMosaic.PureOps.Ideal.Laws
public import Mathlib.Data.EReal.Inv
public import Mathlib.Algebra.BigOperators.Fin

@[expose] public section

noncomputable section

namespace Cert.Proof.Attention

open Idealize.ShloMosaic

/-- The word of −∞ is the least value. -/
theorem least : Ideal.ofBits .f32 0xFF800000#32 = (⊥ : EReal) := by
  simp [Ideal.ofBits, Ideal.ieee]

/-- The scale of the scores. -/
def scale : EReal := Ideal.ofBits .f32 0x3DD105EC#32

/-- The scale is a nonnegative real. -/
theorem scale_real : ∃ c : ℝ, 0 ≤ c ∧ scale = (c : EReal) := by
  have e : scale = (((1 : ℝ) * (2 ^ 23 + 5309932 : ℕ) * (2 : ℝ) ^ ((123 : ℤ) - (2 ^ 7 - 1) - 23) : ℝ) : EReal) := by
    simp [scale, Ideal.ofBits, Ideal.ieee]
  exact ⟨_, by positivity, e⟩

/-- The greatest of a row, from below everything. -/
def top {n : ℕ} (s : Fin n → EReal) : EReal := (Finset.univ : Finset (Fin n)).fold max ⊥ s

/-- The weight of one score under a shift. -/
def weight {n : ℕ} (s : Fin n → EReal) (M : EReal) (j : Fin n) : EReal := Ideal.exp (s j - M)

/-- A row in two parts has the greater of the parts' greatest. -/
theorem top_add {a b : ℕ} (s : Fin (a + b) → EReal) :
    top s = max (top fun j => s (Fin.castAdd b j)) (top fun j => s (Fin.natAdd a j)) := by
  unfold top
  apply le_antisymm
  · refine (Finset.fold_max_le _).2 ⟨bot_le, fun j _ => ?_⟩
    refine Fin.addCases (fun i => ?_) (fun i => ?_) j
    · exact le_max_of_le_left ((Finset.le_fold_max _).2 (Or.inr ⟨i, Finset.mem_univ _, le_rfl⟩))
    · exact le_max_of_le_right ((Finset.le_fold_max _).2 (Or.inr ⟨i, Finset.mem_univ _, le_rfl⟩))
  · refine max_le ?_ ?_
    · exact (Finset.fold_max_le _).2 ⟨bot_le, fun j _ => (Finset.le_fold_max _).2 (Or.inr ⟨_, Finset.mem_univ _, le_rfl⟩)⟩
    · exact (Finset.fold_max_le _).2 ⟨bot_le, fun j _ => (Finset.le_fold_max _).2 (Or.inr ⟨_, Finset.mem_univ _, le_rfl⟩)⟩

/-- The greatest of finitely many reals is a real. -/
theorem top_real {n : ℕ} (hn : 0 < n) (s : Fin n → EReal) (hs : ∀ j, ∃ r : ℝ, s j = r) : ∃ r : ℝ, top s = r := by
  have h1 : top s < ⊤ := (Finset.fold_max_lt _).2 ⟨bot_lt_top, fun j _ => by
    obtain ⟨r, e⟩ := hs j
    rw [e]; exact EReal.coe_lt_top r⟩
  have h2 : ⊥ < top s := (Finset.lt_fold_max _).2 (Or.inr ⟨⟨0, hn⟩, Finset.mem_univ _, by
    obtain ⟨r, e⟩ := hs ⟨0, hn⟩
    rw [e]; exact EReal.bot_lt_coe r⟩)
  exact ⟨(top s).toReal, (EReal.coe_toReal h1.ne h2.ne').symm⟩

/-- A weight of a finite score under a finite shift is a positive real. -/
theorem weight_real {n : ℕ} (s : Fin n → EReal) (M : EReal) (hs : ∀ j, ∃ r : ℝ, s j = r) (hM : ∃ r : ℝ, M = r) (j : Fin n) :
    ∃ r : ℝ, 0 < r ∧ weight s M j = r := by
  obtain ⟨a, ea⟩ := hs j
  obtain ⟨b, eb⟩ := hM
  refine ⟨Real.exp (a - b), Real.exp_pos _, ?_⟩
  unfold weight
  rw [ea, eb, ← EReal.coe_sub]
  rfl

/-- Multiplying a sum by a nonnegative real. -/
theorem sum_mul_real {n : ℕ} (f : Fin n → EReal) (c : ℝ) (hc : 0 ≤ c) : (∑ j, f j) * (c : EReal) = ∑ j, f j * (c : EReal) := by
  induction n with
  | zero => simp
  | succ n ih =>
    rw [Fin.sum_univ_succ, Fin.sum_univ_succ, ← ih]
    exact EReal.right_distrib_of_nonneg_of_ne_top (by exact_mod_cast hc) (EReal.coe_ne_top c) _ _

/-- A sum of positive reals over a row that is not empty is a positive real. -/
theorem sum_pos_real {n : ℕ} (hn : 0 < n) (f : Fin n → EReal) (hf : ∀ j, ∃ r : ℝ, 0 < r ∧ f j = r) : ∃ r : ℝ, 0 < r ∧ ∑ j, f j = r := by
  choose g hg e using hf
  refine ⟨∑ j, g j, Finset.sum_pos (fun j _ => hg j) ⟨⟨0, hn⟩, Finset.mem_univ _⟩, ?_⟩
  rw [Finset.sum_congr rfl fun j _ => e j]
  exact (map_sum (⟨⟨Real.toEReal, EReal.coe_zero⟩, EReal.coe_add⟩ : ℝ →+ EReal) _ _).symm

/-- THE TWO ORDERS OF DIVIDING AGREE when the scores and the shift are finite, whatever the values. -/
theorem softmax_eq {n : ℕ} (hn : 0 < n) (s v : Fin n → EReal) (M : EReal) (hs : ∀ j, ∃ r : ℝ, s j = r) (hM : ∃ r : ℝ, M = r) :
    Ideal.div (∑ j, weight s M j * v j) (∑ j, weight s M j) = ∑ j, v j * Ideal.div (weight s M j) (∑ i, weight s M i) := by
  obtain ⟨l, hl, el⟩ := sum_pos_real hn (weight s M) (weight_real s M hs hM)
  have hz : (l : EReal) ≠ 0 := by exact_mod_cast hl.ne'
  have hi : (l : EReal)⁻¹ = ((l⁻¹ : ℝ) : EReal) := (EReal.coe_inv l).symm
  rw [el]
  unfold Ideal.div
  simp only [if_neg hz, hi]
  rw [sum_mul_real _ _ (inv_nonneg.2 hl.le)]
  exact Finset.sum_congr rfl fun j _ => by rw [mul_comm (weight s M j) (v j), mul_assoc]

end Cert.Proof.Attention
-- ==== Proof.Attention.Block.lean ====
/- One block of the attention: two heads of 256 queries, each its weighted sum divided by the ones lane, joined side by side. -/
module

public import proofs.«01_k».proof.Proof.Gen.Kernel3Ideal.Value
public import proofs.«01_k».proof.Proof.Attention.Softmax
public import Idealize.ShloMosaic.Lib.Pointwise

@[expose] public section

set_option maxRecDepth 16384

noncomputable section

namespace Cert.Proof.Attention

open Idealize.ShloMosaic
open Cert.Kernel3Ideal Cert.Kernel3Ideal.Gen

/-- A query's scores against a block of keys, over the padded lanes. -/
def scores {n : ℕ} (q : Fin 128 → EReal) (k : Fin n → Fin 128 → EReal) (j : Fin n) : EReal := ∑ x : Fin 128, q x * k j x

/-- The shift: the greatest score over both blocks of keys. -/
def shift (q : Fin 128 → EReal) (k : Fin 4096 → Fin 128 → EReal) (kc : Fin 256 → Fin 128 → EReal) : EReal :=
  max (top (scores q k)) (top (scores q kc))

/-- The weighted sum of one lane of the values over both blocks of keys. -/
def mixed (q : Fin 128 → EReal) (k : Fin 4096 → Fin 128 → EReal) (kc : Fin 256 → Fin 128 → EReal) (v : Fin 4096 → EReal) (vc : Fin 256 → EReal) : EReal :=
  (∑ j : Fin 4096, weight (scores q k) (shift q k kc) j * v j) + ∑ j : Fin 256, weight (scores q kc) (shift q k kc) j * vc j

/-- The first head's weighted sum at row `r` and lane `d`. -/
theorem pay_low (q : Vec Ideal S1x1x256x128 .bf16) (k : Vec Ideal S1x1x4096x128 .bf16) (kc : Vec Ideal S1x1x256x128 .bf16)
    (v : Vec Ideal S1x1x4096x128 .bf16) (vc : Vec Ideal S1x1x256x128 .bf16) (r : Fin 256) (d : Fin 128) :
    k0_pay2 (F := Ideal) q k kc v vc (ix2 r d)
      = mixed (fun x => q (ix4 0 0 r x)) (fun j x => k (ix4 0 0 j x)) (fun j x => kc (ix4 0 0 j x)) (fun j => v (ix4 0 0 j d)) fun j => vc (ix4 0 0 j d) := by
  pointwise [k0_pay2]
  rw [least]
  rfl

/-- The first head's quotient by the ones lane. -/
theorem quot_low (q : Vec Ideal S1x1x256x128 .bf16) (k : Vec Ideal S1x1x4096x128 .bf16) (kc : Vec Ideal S1x1x256x128 .bf16)
    (v : Vec Ideal S1x1x4096x128 .bf16) (vc : Vec Ideal S1x1x256x128 .bf16) (r : Fin 256) (d : Fin 128) :
    k0_pay4 (F := Ideal) (k0_pay2 q k kc v vc) (k0_pay3 q k kc v vc) (ix2 r d)
      = Ideal.div (k0_pay2 (F := Ideal) q k kc v vc (ix2 r d)) (k0_pay2 (F := Ideal) q k kc v vc (ix2 r 64)) := by
  unfold k0_pay3
  generalize k0_pay2 (F := Ideal) q k kc v vc = P
  pointwise [k0_pay4]

/-- The second head's quotient by the ones lane. -/
theorem quot_high (q : Vec Ideal S1x1x256x128 .bf16) (k : Vec Ideal S1x1x4096x128 .bf16) (kc : Vec Ideal S1x1x256x128 .bf16)
    (v : Vec Ideal S1x1x4096x128 .bf16) (vc : Vec Ideal S1x1x256x128 .bf16) (r : Fin 256) (d : Fin 128) :
    k0_pay5 (F := Ideal) q k kc v vc (ix2 r d)
      = Ideal.div (mixed (fun x => q (ix4 0 0 r x)) (fun j x => k (ix4 0 0 j x)) (fun j x => kc (ix4 0 0 j x)) (fun j => v (ix4 0 0 j d)) fun j => vc (ix4 0 0 j d))
          (mixed (fun x => q (ix4 0 0 r x)) (fun j x => k (ix4 0 0 j x)) (fun j x => kc (ix4 0 0 j x)) (fun j => v (ix4 0 0 j 64)) fun j => vc (ix4 0 0 j 64)) := by
  rw [← pay_low, ← pay_low, ← quot_low]
  rfl

/-- The lower lanes of the block are the first head's. -/
theorem join_low (l h : Vec Ideal S256x128 .f32) (r : Fin 256) (d : Fin 64) :
    k0_pay1 (F := Ideal) (iota .tc S1x128 32 [1] iota_S1x128_d1_w32) l h k0_pay6 (ix3 0 r (⟨d.val, by omega⟩ : Fin 128)) = l (ix2 r (⟨d.val, by omega⟩ : Fin 128)) := by
  pointwise [k0_pay1, k0_pay6]
  have e : IntOp.cmpi .slt (BitVec.ofNat 32 d.val) 64#32 = 1#1 := by revert d; decide
  rw [e]
  rfl

/-- The upper lanes of the block are the second head's, moved up by 64. -/
theorem join_high (l h : Vec Ideal S256x128 .f32) (r : Fin 256) (d : Fin 64) :
    k0_pay1 (F := Ideal) (iota .tc S1x128 32 [1] iota_S1x128_d1_w32) l h k0_pay6 (ix3 0 r (⟨64 + d.val, by omega⟩ : Fin 128)) = h (ix2 r (⟨d.val, by omega⟩ : Fin 128)) := by
  pointwise [k0_pay1, k0_pay6]
  have e : IntOp.cmpi .slt (BitVec.ofNat 32 (64 + d.val)) 64#32 = 0#1 := by revert d; decide
  rw [e]
  refine Eq.trans (b := h (ix2 r (⟨(64 + d.val + 128 - 64) % 128, by omega⟩ : Fin 128))) rfl ?_
  congr 2
  exact Fin.ext (by show (64 + d.val + 128 - 64) % 128 = d.val; omega)

end Cert.Proof.Attention
-- ==== Proof.Attention.Entry.lean ====
/- The padded arrays as the attention's region finds them: zeros past a query's or a key's 96 lanes, a one at lane 64 of
   the values. -/
module

public import proofs.«01_k».proof.Proof.Attention.Block
public import Idealize.ShloMosaic.Lib.Pipeline.ValueKit
public import Idealize.ShloMosaic.Lib.Pipeline.ReadBack
public import Idealize.ShloMosaic.Lib.Claim
public import Idealize.ShloMosaic.Lib.Routing.OpsSet

@[expose] public section

set_option maxRecDepth 16384

noncomputable section

namespace Cert.Proof.Attention

open Idealize.ShloMosaic Idealize.ShloMosaic.TcCoe Idealize.SL.Sem
open Cert.Kernel3Ideal Cert.Kernel3Ideal.Gen Cert.Kernel3Ideal.Value

variable (m : (ℓ : Loc nD τ sig) → Buf (Elt Ideal) ℓ)

/-- A query scaled. -/
def scaled (q : Vec Ideal S8x4096x8x96 .f32) (n : Fin 8) (t : Fin 4096) (h : Fin 8) (x : Fin 96) : EReal :=
  q (ix4 n t h x) * scale

theorem entry_q (c : Dev nD) (n : Fin 8) (h : Fin 8) (t : Fin 4096) (x : Fin 96) :
    V m c main_v5 (ix4 n h t (⟨x.val, by omega⟩ : Fin 128)) = scaled (m ((c : Thread nD τ).loc main_arg0)) n t h x := by
  unfold scaled scale
  entry_read
  pointwise

theorem entry_q_pad (c : Dev nD) (n : Fin 8) (h : Fin 8) (t : Fin 4096) (x : Fin 32) :
    V m c main_v5 (ix4 n h t (⟨96 + x.val, by omega⟩ : Fin 128)) = (0 : EReal) := by
  entry_read
  pointwise

theorem entry_k (c : Dev nD) (n : Fin 8) (h : Fin 8) (t : Fin 4096) (x : Fin 96) :
    V m c main_v9 (ix4 n h t (⟨x.val, by omega⟩ : Fin 128)) = m ((c : Thread nD τ).loc main_arg1) (ix4 n t h x) := by
  entry_read
  pointwise

theorem entry_kc (c : Dev nD) (n : Fin 8) (h : Fin 8) (t : Fin 256) (x : Fin 96) :
    V m c main_v20 (ix4 n h t (⟨x.val, by omega⟩ : Fin 128)) = m ((c : Thread nD τ).loc main_arg3) (ix4 n t h x) := by
  entry_read
  pointwise

theorem entry_v (c : Dev nD) (n : Fin 8) (h : Fin 8) (t : Fin 4096) (d : Fin 64) :
    V m c main_v16 (ix4 n h t (⟨d.val, by omega⟩ : Fin 128)) = m ((c : Thread nD τ).loc main_arg2) (ix4 n t h d) := by
  entry_read
  pointwise

theorem entry_vc (c : Dev nD) (n : Fin 8) (h : Fin 8) (t : Fin 256) (d : Fin 64) :
    V m c main_v27 (ix4 n h t (⟨d.val, by omega⟩ : Fin 128)) = m ((c : Thread nD τ).loc main_arg4) (ix4 n t h d) := by
  entry_read
  pointwise

/-- Ones written down one lane of an array: that lane reads one. -/
theorem ones_own (n : Fin 8) (t : Fin 4096) (h : Fin 8) :
    Host.scatter scatter_S8x4096x8x64_S1_S8x4096x8_012_3_3_0 (fun _ b => b)
      (broadcastInDim S8x4096x8x64 ![] bcast_S_S8x4096x8x64 (constant (F := Ideal) S_ FTy.f32 0#32))
      (broadcastInDim S1 ![] bcast_S_S1 (constantI S_ 32 0#32))
      (broadcastInDim S8x4096x8 ![] bcast_S_S8x4096x8 (constant (F := Ideal) S_ FTy.f32 1065353216#32)) (ix4 n t h 0)
      = (1 : EReal) := by
  refine Routing.scatter_set_hit _ _ _ _ _ _ (fun j _ => ?_) (ix3 n t h) ((Routing.resultIdx?_eq_some _ _ _ _).2 fun a => ?_)
  · pointwise
  · fin_cases a <;> exact Int.zero_add _

theorem ones_other (n : Fin 8) (t : Fin 256) (h : Fin 8) :
    Host.scatter scatter_S8x256x8x64_S1_S8x256x8_012_3_3_0 (fun _ b => b)
      (broadcastInDim S8x256x8x64 ![] bcast_S_S8x256x8x64 (constant (F := Ideal) S_ FTy.f32 0#32))
      (broadcastInDim S1 ![] bcast_S_S1 (constantI S_ 32 0#32))
      (broadcastInDim S8x256x8 ![] bcast_S_S8x256x8 (constant (F := Ideal) S_ FTy.f32 1065353216#32)) (ix4 n t h 0)
      = (1 : EReal) := by
  refine Routing.scatter_set_hit _ _ _ _ _ _ (fun j _ => ?_) (ix3 n t h) ((Routing.resultIdx?_eq_some _ _ _ _).2 fun a => ?_)
  · pointwise
  · fin_cases a <;> exact Int.zero_add _

theorem entry_v_one (c : Dev nD) (n : Fin 8) (h : Fin 8) (t : Fin 4096) :
    V m c main_v16 (ix4 n h t (64 : Fin 128)) = (1 : EReal) := by
  entry_read
  pointwise
  exact ones_own n t h

theorem entry_vc_one (c : Dev nD) (n : Fin 8) (h : Fin 8) (t : Fin 256) :
    V m c main_v27 (ix4 n h t (64 : Fin 128)) = (1 : EReal) := by
  entry_read
  pointwise
  exact ones_other n t h

end Cert.Proof.Attention
-- ==== Proof.Attention.Merge.lean ====
/- One query's attention over two blocks of keys, padded lanes and a lane of ones, is the attention over the joined keys. -/
module

public import proofs.«01_k».proof.Proof.Attention.Block

@[expose] public section

set_option maxRecDepth 16384

noncomputable section

namespace Cert.Proof.Attention

open Idealize.ShloMosaic

/-- A query's scaled score against one key. -/
def score (Q : Fin 96 → EReal) (k : Fin 96 → EReal) : EReal := (∑ x : Fin 96, Q x * k x) * scale

theorem score_real (Q k : Fin 96 → EReal) (hQ : ∀ x, ∃ r : ℝ, Q x = r) (hk : ∀ x, ∃ r : ℝ, k x = r) : ∃ r : ℝ, score Q k = r := by
  choose a ea using hQ
  choose b eb using hk
  obtain ⟨s, -, es⟩ := scale_real
  refine ⟨(∑ x, a x * b x) * s, ?_⟩
  unfold score
  rw [es, EReal.coe_mul]
  congr 1
  rw [Finset.sum_congr rfl fun x _ => show Q x * k x = ((a x * b x : ℝ) : EReal) by rw [ea, eb, EReal.coe_mul]]
  exact (map_sum (⟨⟨Real.toEReal, EReal.coe_zero⟩, EReal.coe_add⟩ : ℝ →+ EReal) _ _).symm

/-- The padded product is the scaled score: the lanes past 96 multiply zeros. -/
theorem scores_padded {n : ℕ} (Q : Fin 96 → EReal) (q : Fin 128 → EReal) (k : Fin n → Fin 128 → EReal)
    (hq : ∀ x : Fin 96, q (⟨x.val, by omega⟩ : Fin 128) = Q x * scale)
    (hz : ∀ x : Fin 32, q (⟨96 + x.val, by omega⟩ : Fin 128) = 0) (j : Fin n) :
    scores q k j = score Q fun x => k j (⟨x.val, by omega⟩ : Fin 128) := by
  obtain ⟨s, hs, es⟩ := scale_real
  unfold scores score
  refine (Fin.sum_univ_add (a := 96) (b := 32) fun x : Fin (96 + 32) => q x * k j x).trans ?_
  have e1 : ∀ x : Fin 96, q (Fin.castAdd 32 x) = Q x * (s : EReal) := fun x => (hq x).trans (by rw [es])
  have e2 : ∀ x : Fin 32, q (Fin.natAdd 96 x) = 0 := hz
  rw [es, sum_mul_real _ s hs]
  simp only [e1, e2, zero_mul, Finset.sum_const_zero, add_zero]
  exact Finset.sum_congr rfl fun x _ => mul_right_comm _ _ _

set_option maxHeartbeats 1000000 in
theorem merged (Q : Fin 96 → EReal) (K : Fin 4352 → Fin 96 → EReal) (W : Fin 4352 → EReal) (q : Fin 128 → EReal)
    (k : Fin 4096 → Fin 128 → EReal) (kc : Fin 256 → Fin 128 → EReal) (v v1 : Fin 4096 → EReal) (vc vc1 : Fin 256 → EReal)
    (hq : ∀ x : Fin 96, q (⟨x.val, by omega⟩ : Fin 128) = Q x * scale)
    (hz : ∀ x : Fin 32, q (⟨96 + x.val, by omega⟩ : Fin 128) = 0)
    (hk : ∀ (j : Fin 4096) (x : Fin 96), k j (⟨x.val, by omega⟩ : Fin 128) = K (⟨j.val, by omega⟩ : Fin 4352) x)
    (hkc : ∀ (j : Fin 256) (x : Fin 96), kc j (⟨x.val, by omega⟩ : Fin 128) = K (⟨4096 + j.val, by omega⟩ : Fin 4352) x)
    (hv : ∀ j : Fin 4096, v j = W (⟨j.val, by omega⟩ : Fin 4352)) (hvc : ∀ j : Fin 256, vc j = W (⟨4096 + j.val, by omega⟩ : Fin 4352))
    (h1 : ∀ j, v1 j = 1) (hc1 : ∀ j, vc1 j = 1) (hr : ∀ j, ∃ r : ℝ, score Q (K j) = r) :
    Ideal.div (mixed q k kc v vc) (mixed q k kc v1 vc1)
      = ∑ j : Fin 4352, W j * Ideal.div (weight (fun i => score Q (K i)) (top fun i => score Q (K i)) j)
          (∑ i : Fin 4352, weight (fun i => score Q (K i)) (top fun i => score Q (K i)) i) := by
  have s1 : scores q k = fun j : Fin 4096 => score Q (K (Fin.castAdd 256 j)) := funext fun j =>
    (scores_padded Q q k hq hz j).trans (congrArg (score Q) (funext fun x => hk j x))
  have s2 : scores q kc = fun j : Fin 256 => score Q (K (Fin.natAdd 4096 j)) := funext fun j =>
    (scores_padded Q q kc hq hz j).trans (congrArg (score Q) (funext fun x => hkc j x))
  have ht : shift q k kc = top fun i => score Q (K i) := by
    unfold shift
    rw [s1, s2]
    exact (top_add (a := 4096) (b := 256) fun i => score Q (K i)).symm
  refine Eq.trans ?_ (softmax_eq (n := 4352) (by omega) (fun i => score Q (K i)) W _ hr (top_real (by omega) _ hr))
  unfold mixed
  rw [ht, s1, s2]
  generalize (top fun i => score Q (K i)) = M
  have part : ∀ (f : Fin 4096 → EReal) (g : Fin 256 → EReal) (F : Fin (4096 + 256) → EReal),
      (∀ j, f j = F (Fin.castAdd 256 j)) → (∀ j, g j = F (Fin.natAdd 4096 j)) → (∑ j, f j) + ∑ j, g j = ∑ j, F j := fun f g F hf hg => by
    rw [Fin.sum_univ_add, Finset.sum_congr rfl fun j _ => hf j, Finset.sum_congr rfl fun j _ => hg j]
  congr 1
  · refine part _ _ (fun j => weight (fun i => score Q (K i)) M j * W j) (fun j => ?_) fun j => ?_
    · rw [hv]; rfl
    · rw [hvc]; rfl
  · refine part _ _ (fun j => weight (fun i => score Q (K i)) M j) (fun j => ?_) fun j => ?_
    · rw [h1, mul_one]; rfl
    · rw [hc1, mul_one]; rfl

end Cert.Proof.Attention
-- ==== Proof.Attention.Ref.lean ====
/- The attention's reference read at an element. -/
module

public import proofs.«01_k».proof.Proof.Gen.Reference3Ideal.Read
public import proofs.«01_k».proof.Proof.Attention.Softmax
public import Idealize.ShloMosaic.Lib.Pointwise

@[expose] public section

set_option maxRecDepth 16384

noncomputable section

namespace Cert.Proof.Attention

open Idealize.ShloMosaic
open Cert.Reference3Ideal Cert.Reference3Ideal.Read

/-- A query's score against a key, and its scale. -/
def rawScore (q : Vec Ideal S8x4096x8x96 .f32) (n : Fin 8) (t : Fin 4096) (h : Fin 8) (key : Fin 96 → EReal) : EReal :=
  (∑ x : Fin 96, q (ix4 n t h x) * key x) * scale

theorem ref_keys_own (x1 : Vec Ideal S8x4096x8x96 .f32) (x3 : Vec Ideal S8x256x8x96 .f32) (n : Fin 8) (h : Fin 8) (j : Fin 4096) (x : Fin 96) :
    val_main_v0 (F := Ideal) x1 x3 (ix4 n (⟨j.val, by omega⟩ : Fin 4352) h x) = x1 (ix4 n j h x) := by
  pointwise [val_main_v0]

theorem ref_keys_other (x1 : Vec Ideal S8x4096x8x96 .f32) (x3 : Vec Ideal S8x256x8x96 .f32) (n : Fin 8) (h : Fin 8) (j : Fin 256) (x : Fin 96) :
    val_main_v0 (F := Ideal) x1 x3 (ix4 n (⟨4096 + j.val, by omega⟩ : Fin 4352) h x) = x3 (ix4 n j h x) := by
  pointwise [val_main_v0]

theorem ref_values_own (x2 : Vec Ideal S8x4096x8x64 .f32) (x4 : Vec Ideal S8x256x8x64 .f32) (n : Fin 8) (h : Fin 8) (j : Fin 4096) (d : Fin 64) :
    val_main_v1 (F := Ideal) x2 x4 (ix4 n (⟨j.val, by omega⟩ : Fin 4352) h d) = x2 (ix4 n j h d) := by
  pointwise [val_main_v1]

theorem ref_values_other (x2 : Vec Ideal S8x4096x8x64 .f32) (x4 : Vec Ideal S8x256x8x64 .f32) (n : Fin 8) (h : Fin 8) (j : Fin 256) (d : Fin 64) :
    val_main_v1 (F := Ideal) x2 x4 (ix4 n (⟨4096 + j.val, by omega⟩ : Fin 4352) h d) = x4 (ix4 n j h d) := by
  pointwise [val_main_v1]

theorem ref_score (x0 x1 : Vec Ideal S8x4096x8x96 .f32) (x3 : Vec Ideal S8x256x8x96 .f32) (n : Fin 8) (t : Fin 4096) (h : Fin 8) (j : Fin 4352) :
    val_main_v4 (F := Ideal) x0 x1 x3 (ix4 n h t j) = rawScore x0 n t h fun x => val_main_v0 (F := Ideal) x1 x3 (ix4 n j h x) := by
  unfold rawScore scale
  pointwise [val_main_v4, val_main_v3, val_main_v2, val_main_cst]

/-- The row's greatest score, as the reference's reduction gives it. -/
theorem ref_top (x0 x1 : Vec Ideal S8x4096x8x96 .f32) (x3 : Vec Ideal S8x256x8x96 .f32) (n : Fin 8) (t : Fin 4096) (h : Fin 8) :
    val_main_v5 (F := Ideal) x0 x1 x3 (ix3 n h t) = top fun i : Fin 4352 => val_main_v4 (F := Ideal) x0 x1 x3 (ix4 n h t i) := by
  unfold val_main_v5 top
  generalize val_main_v4 (F := Ideal) x0 x1 x3 = s
  have hr : S8x8x4096x4352.Reduces [3] S8x8x4096 := by decide
  refine (Host.reduce_eq_fold_single (FloatOps.maximumf (F := Ideal) (φ := .f32)) s _ _ hr _ _).trans ?_
  rw [← least]
  refine congrArg (fun f => (Finset.univ : Finset (Fin 4352)).fold max (Ideal.ofBits .f32 0xFF800000#32) f) (funext fun k => congrArg s ?_)
  refine funext fun a => Fin.ext ?_
  match a with
  | ⟨0, _⟩ => rfl
  | ⟨1, _⟩ => rfl
  | ⟨2, _⟩ => rfl
  | ⟨3, _⟩ => rfl

/-- The row's scores shifted and exponentiated. -/
theorem ref_exp (x0 x1 : Vec Ideal S8x4096x8x96 .f32) (x3 : Vec Ideal S8x256x8x96 .f32) (n : Fin 8) (t : Fin 4096) (h : Fin 8) (j : Fin 4352) :
    val_main_v11 (F := Ideal) x0 x1 x3 (ix4 n h t j)
      = weight (fun i : Fin 4352 => val_main_v4 (F := Ideal) x0 x1 x3 (ix4 n h t i)) (top fun i : Fin 4352 => val_main_v4 (F := Ideal) x0 x1 x3 (ix4 n h t i)) j := by
  have ei : idx_main_v8 (idx_main_v9 (ix4 n h t j)) = ix3 n h t := funext fun a => match a with
    | ⟨0, _⟩ => rfl
    | ⟨1, _⟩ => rfl
    | ⟨2, _⟩ => rfl
  rw [val_main_v11_apply, val_main_v10_apply, val_main_v9_apply, val_main_v8_apply, ei, val_main_v7_apply, ref_top, val_main_v6_apply, val_main_cst_1_apply]
  generalize val_main_v4 (F := Ideal) x0 x1 x3 = s
  unfold weight
  generalize (top fun i : Fin 4352 => s (ix4 n h t i)) = M
  have em : FloatOps.maximumf (FloatOps.ofBits (F := Ideal) .f32 0xFF800000#32) M = M :=
    (congrArg (fun b => max b M) least).trans (max_eq_right bot_le)
  rw [em]
  rfl

/-- The reference's weights: the softmax of the row of scores. -/
theorem ref_weight (x0 x1 : Vec Ideal S8x4096x8x96 .f32) (x3 : Vec Ideal S8x256x8x96 .f32) (n : Fin 8) (t : Fin 4096) (h : Fin 8) (j : Fin 4352) :
    val_main_v15 (F := Ideal) x0 x1 x3 (ix4 n h t j)
      = Ideal.div (val_main_v11 (F := Ideal) x0 x1 x3 (ix4 n h t j)) (∑ i : Fin 4352, val_main_v11 (F := Ideal) x0 x1 x3 (ix4 n h t i)) := by
  pointwise [val_main_v15, val_main_v14, val_main_v13, val_main_v12, val_main_cst_2]

theorem ref_apply (x0 x1 : Vec Ideal S8x4096x8x96 .f32) (x2 : Vec Ideal S8x4096x8x64 .f32) (x3 : Vec Ideal S8x256x8x96 .f32) (x4 : Vec Ideal S8x256x8x64 .f32)
    (n : Fin 8) (t : Fin 4096) (h : Fin 8) (d : Fin 64) :
    val_main_v18 (F := Ideal) x0 x1 x2 x3 x4 (ix3 n t (⟨64 * h.val + d.val, by omega⟩ : Fin 512))
      = ∑ j : Fin 4352, val_main_v1 (F := Ideal) x2 x4 (ix4 n j h d) * val_main_v15 (F := Ideal) x0 x1 x3 (ix4 n h t j) := by
  unfold val_main_v18 val_main_v17 val_main_v16
  generalize val_main_v15 (F := Ideal) x0 x1 x3 = p
  generalize val_main_v1 (F := Ideal) x2 x4 = v
  pointwise

end Cert.Proof.Attention
-- ==== Proof.Attention.Value.lean ====
/- The attention as a whole: each point of the grid writes two heads of one block of queries, and the array the run leaves
   is the reference's. -/
module

public import proofs.«01_k».proof.Proof.Attention.Entry
public import proofs.«01_k».proof.Proof.Attention.Merge
public import proofs.«01_k».proof.Proof.Attention.Ref

@[expose] public section

set_option maxRecDepth 16384

noncomputable section

namespace Cert.Proof.Attention

open Idealize.ShloMosaic Idealize.ShloMosaic.TcCoe Idealize.SL.Sem
open Cert.Kernel3Ideal Cert.Kernel3Ideal.Gen Cert.Kernel3Ideal.Value

variable (m : (ℓ : Loc nD τ sig) → Buf (Elt Ideal) ℓ)

/-- Every entry is a real number. -/
def Real4 {s : Shape} (x : Vec Ideal s .f32) : Prop := ∀ i, ∃ r : ℝ, (show EReal from x i) = r

/-- The reference's result of this run's arguments. -/
def refOut (c : Dev nD) : Vec Ideal S8x4096x512 .f32 :=
  Cert.Reference3Ideal.Read.val_main_v18 (F := Ideal) (m ((c : Thread nD τ).loc main_arg0)) (m ((c : Thread nD τ).loc main_arg1))
    (m ((c : Thread nD τ).loc main_arg2)) (m ((c : Thread nD τ).loc main_arg3)) (m ((c : Thread nD τ).loc main_arg4))

/-- One row of the region's query array. -/
def rowQ (c : Dev nD) (n h : Fin 8) (t : Fin 4096) (x : Fin 128) : EReal := V m c main_v5 (ix4 n h t x)
def rowK (c : Dev nD) (n h : Fin 8) (j : Fin 4096) (x : Fin 128) : EReal := V m c main_v9 (ix4 n h j x)
def rowV (c : Dev nD) (n h : Fin 8) (x : Fin 128) (j : Fin 4096) : EReal := V m c main_v16 (ix4 n h j x)
def rowKc (c : Dev nD) (n h : Fin 8) (j : Fin 256) (x : Fin 128) : EReal := V m c main_v20 (ix4 n h j x)
def rowVc (c : Dev nD) (n h : Fin 8) (x : Fin 128) (j : Fin 256) : EReal := V m c main_v27 (ix4 n h j x)

set_option maxHeartbeats 1000000 in
/-- One head, one query, one lane: the region's quotient is the reference's entry. -/
theorem head (c : Dev nD) (f0 : Real4 (s := S8x4096x8x96) (m ((c : Thread nD τ).loc main_arg0))) (f1 : Real4 (s := S8x4096x8x96) (m ((c : Thread nD τ).loc main_arg1)))
    (f3 : Real4 (s := S8x256x8x96) (m ((c : Thread nD τ).loc main_arg3))) (n h : Fin 8) (t : Fin 4096) (d : Fin 64) :
    Ideal.div (mixed (rowQ m c n h t) (rowK m c n h) (rowKc m c n h) (rowV m c n h (⟨d.val, by omega⟩ : Fin 128)) (rowVc m c n h (⟨d.val, by omega⟩ : Fin 128)))
        (mixed (rowQ m c n h t) (rowK m c n h) (rowKc m c n h) (rowV m c n h 64) (rowVc m c n h 64))
      = refOut m c (ix3 n t (⟨64 * h.val + d.val, by omega⟩ : Fin 512)) := by
  refine Eq.trans ?_ (ref_apply _ _ _ _ _ n t h d).symm
  generalize hK : Cert.Reference3Ideal.Read.val_main_v0 (F := Ideal) (m ((c : Thread nD τ).loc main_arg1)) (m ((c : Thread nD τ).loc main_arg3)) = K
  generalize hW : Cert.Reference3Ideal.Read.val_main_v1 (F := Ideal) (m ((c : Thread nD τ).loc main_arg2)) (m ((c : Thread nD τ).loc main_arg4)) = W
  refine (merged (fun x => m ((c : Thread nD τ).loc main_arg0) (ix4 n t h x)) (fun j x => K (ix4 n j h x)) (fun j => W (ix4 n j h d)) _ _ _ _ _ _ _
    (entry_q m c n h t) (entry_q_pad m c n h t) (fun j x => ?_) (fun j x => ?_) (fun j => ?_) (fun j => ?_) (entry_v_one m c n h) (entry_vc_one m c n h)
    fun j => score_real _ _ (fun x => f0 _) fun x => ?_).trans ?_
  · rw [← hK]; exact (entry_k m c n h j x).trans (ref_keys_own _ _ n h j x).symm
  · rw [← hK]; exact (entry_kc m c n h j x).trans (ref_keys_other _ _ n h j x).symm
  · rw [← hW]; exact (entry_v m c n h j d).trans (ref_values_own _ _ n h j d).symm
  · rw [← hW]; exact (entry_vc m c n h j d).trans (ref_values_other _ _ n h j d).symm
  · rw [← hK]
    refine Fin.addCases (m := 4096) (n := 256) (fun i => ?_) (fun i => ?_) j
    · obtain ⟨r, e⟩ := f1 (ix4 n i h x)
      exact ⟨r, (ref_keys_own _ _ n h i x).trans e⟩
    · obtain ⟨r, e⟩ := f3 (ix4 n i h x)
      exact ⟨r, (ref_keys_other _ _ n h i x).trans e⟩
  · refine Finset.sum_congr rfl fun j _ => ?_
    have es : (fun i : Fin 4352 => Cert.Reference3Ideal.Read.val_main_v4 (F := Ideal) (m ((c : Thread nD τ).loc main_arg0)) (m ((c : Thread nD τ).loc main_arg1))
        (m ((c : Thread nD τ).loc main_arg3)) (ix4 n h t i)) = fun i => score (fun x => m ((c : Thread nD τ).loc main_arg0) (ix4 n t h x)) fun x => K (ix4 n i h x) :=
      funext fun i => (ref_score _ _ _ n t h i).trans (by rw [hK]; rfl)
    rw [ref_weight, ref_exp, Finset.sum_congr rfl fun i _ => ref_exp _ _ _ n t h i, es]

/-- Where each window's block lies at a point. -/
theorem places : ∀ t : Fin grid0.N,
    win0_0.index t = ![t.val / 64, t.val / 16 % 4, t.val % 16, 0] ∧ win0_1.index t = ![t.val / 64, t.val / 16 % 4, 0, 0]
    ∧ win0_2.index t = ![t.val / 64, t.val / 16 % 4, 0, 0] ∧ win0_3.index t = ![t.val / 64, t.val / 16 % 4, 0, 0]
    ∧ win0_4.index t = ![t.val / 64, t.val / 16 % 4, 0, 0] ∧ win0_5.index t = ![t.val / 64, t.val % 16, t.val / 16 % 4] := by decide +kernel

theorem ld_rows_low (X : Vec Ideal S1x2x256x128 .bf16) (r : Fin 256) (x : Fin 128) : View.ld X r0_0 (ix4 0 0 r x) = X (ix4 0 0 r x) := by
  pointwise [r0_0]

theorem ld_rows_high (X : Vec Ideal S1x2x256x128 .bf16) (r : Fin 256) (x : Fin 128) : View.ld X r0_2 (ix4 0 0 r x) = X (ix4 0 1 r x) := by
  pointwise [r0_2]

theorem ld_keys_low (X : Vec Ideal S1x2x4096x128 .bf16) (r : Fin 4096) (x : Fin 128) : View.ld X r0_1 (ix4 0 0 r x) = X (ix4 0 0 r x) := by
  pointwise [r0_1]

theorem ld_keys_high (X : Vec Ideal S1x2x4096x128 .bf16) (r : Fin 4096) (x : Fin 128) : View.ld X r0_3 (ix4 0 0 r x) = X (ix4 0 1 r x) := by
  pointwise [r0_3]

/-- A lane of the block belongs to the first head or to the second. -/
theorem sides (l : Fin 128) : (∃ d : Fin 64, l = (⟨d.val, by omega⟩ : Fin 128)) ∨ ∃ d : Fin 64, l = (⟨64 + d.val, by omega⟩ : Fin 128) := by
  by_cases q : l.val < 64
  · exact Or.inl ⟨⟨l.val, q⟩, rfl⟩
  · exact Or.inr ⟨⟨l.val - 64, by omega⟩, Fin.ext (by show l.val = 64 + (l.val - 64); omega)⟩

theorem glue (q q' : Fin 128 → EReal) (k k' : Fin 4096 → Fin 128 → EReal) (kc kc' : Fin 256 → Fin 128 → EReal) (v v' o o' : Fin 4096 → EReal)
    (vc vc' oc oc' : Fin 256 → EReal) (h1 : q = q') (h2 : k = k') (h3 : kc = kc') (h4 : v = v') (h5 : vc = vc') (h6 : o = o') (h7 : oc = oc') :
    Ideal.div (mixed q k kc v vc) (mixed q k kc o oc) = Ideal.div (mixed q' k' kc' v' vc') (mixed q' k' kc' o' oc') := by
  subst h1 h2 h3 h4 h5 h6 h7
  rfl

/-- What a point of the grid stores, of the blocks it reads. -/
def blockOut (Q : Vec Ideal S1x2x256x128 .bf16) (K W : Vec Ideal S1x2x4096x128 .bf16) (Kc Wc : Vec Ideal S1x2x256x128 .bf16) : Vec Ideal S1x256x128 .f32 :=
  k0_pay1 (F := Ideal) (iota .tc S1x128 32 [1] iota_S1x128_d1_w32)
    (k0_pay4 (k0_pay2 (View.ld Q r0_0) (View.ld K r0_1) (View.ld Kc r0_0) (View.ld W r0_1) (View.ld Wc r0_0))
      (k0_pay3 (View.ld Q r0_0) (View.ld K r0_1) (View.ld Kc r0_0) (View.ld W r0_1) (View.ld Wc r0_0)))
    (k0_pay5 (View.ld Q r0_2) (View.ld K r0_3) (View.ld Kc r0_2) (View.ld W r0_3) (View.ld Wc r0_2)) k0_pay6

theorem block_low (Q : Vec Ideal S1x2x256x128 .bf16) (K W : Vec Ideal S1x2x4096x128 .bf16) (Kc Wc : Vec Ideal S1x2x256x128 .bf16) (r : Fin 256) (d : Fin 64) :
    blockOut Q K W Kc Wc (ix3 0 r (⟨d.val, by omega⟩ : Fin 128))
      = Ideal.div (mixed (fun x => Q (ix4 0 0 r x)) (fun j x => K (ix4 0 0 j x)) (fun j x => Kc (ix4 0 0 j x)) (fun j => W (ix4 0 0 j (⟨d.val, by omega⟩ : Fin 128)))
            fun j => Wc (ix4 0 0 j (⟨d.val, by omega⟩ : Fin 128)))
          (mixed (fun x => Q (ix4 0 0 r x)) (fun j x => K (ix4 0 0 j x)) (fun j x => Kc (ix4 0 0 j x)) (fun j => W (ix4 0 0 j 64)) fun j => Wc (ix4 0 0 j 64)) := by
  refine (join_low _ _ r d).trans ?_
  rw [quot_low, pay_low, pay_low]
  exact glue _ _ _ _ _ _ _ _ _ _ _ _ _ _ (funext fun x => ld_rows_low Q r x) (funext fun j => funext fun x => ld_keys_low K j x)
    (funext fun j => funext fun x => ld_rows_low Kc j x) (funext fun j => ld_keys_low W j _) (funext fun j => ld_rows_low Wc j _)
    (funext fun j => ld_keys_low W j 64) (funext fun j => ld_rows_low Wc j 64)

theorem block_high (Q : Vec Ideal S1x2x256x128 .bf16) (K W : Vec Ideal S1x2x4096x128 .bf16) (Kc Wc : Vec Ideal S1x2x256x128 .bf16) (r : Fin 256) (d : Fin 64) :
    blockOut Q K W Kc Wc (ix3 0 r (⟨64 + d.val, by omega⟩ : Fin 128))
      = Ideal.div (mixed (fun x => Q (ix4 0 1 r x)) (fun j x => K (ix4 0 1 j x)) (fun j x => Kc (ix4 0 1 j x)) (fun j => W (ix4 0 1 j (⟨d.val, by omega⟩ : Fin 128)))
            fun j => Wc (ix4 0 1 j (⟨d.val, by omega⟩ : Fin 128)))
          (mixed (fun x => Q (ix4 0 1 r x)) (fun j x => K (ix4 0 1 j x)) (fun j x => Kc (ix4 0 1 j x)) (fun j => W (ix4 0 1 j 64)) fun j => Wc (ix4 0 1 j 64)) := by
  refine (join_high _ _ r d).trans ?_
  rw [quot_high]
  exact glue _ _ _ _ _ _ _ _ _ _ _ _ _ _ (funext fun x => ld_rows_high Q r x) (funext fun j => funext fun x => ld_keys_high K j x)
    (funext fun j => funext fun x => ld_rows_high Kc j x) (funext fun j => ld_keys_high W j _) (funext fun j => ld_rows_high Wc j _)
    (funext fun j => ld_keys_high W j 64) (funext fun j => ld_rows_high Wc j 64)

set_option maxHeartbeats 4000000 in
/-- THE ARRAY AFTER THE RUN is the reference's result. -/
theorem final (c : Dev nD) (f0 : Real4 (s := S8x4096x8x96) (m ((c : Thread nD τ).loc main_arg0))) (f1 : Real4 (s := S8x4096x8x96) (m ((c : Thread nD τ).loc main_arg1)))
    (f3 : Real4 (s := S8x256x8x96) (m ((c : Thread nD τ).loc main_arg3))) :
    (dats m 0 c).arrAt 5 cfg0.N = refOut m c := by
  refine (dats m 0 c).arrAt_eq_of_covers 5 _ (by decide +kernel) fun t hf y => ?_
  have ht : t.val < 512 := lt_of_lt_of_eq t.isLt N_0
  have hb : t.val / 64 < 8 := by omega
  obtain ⟨p0, p1, p2, p3, p4, p5⟩ := places t
  rw [after0_5]
  frame_out
  obtain ⟨u, r, l, rfl⟩ : ∃ (u : Fin 1) (r : Fin 256) (l : Fin 128), y = ix3 u r l :=
    ⟨y 0, y 1, y 2, eq_ix3 (n0 := 1) (n1 := 256) (n2 := 128) y⟩
  obtain rfl : u = 0 := Subsingleton.elim _ _
  have hr : t.val % 16 * 256 + r.val < 4096 := by omega
  have hl : t.val / 16 % 4 * 128 + l.val < 512 := by omega
  have e : ((cfg0.win 5).blk t).view.emb (ix3 0 r l)
      = ix3 (⟨t.val / 64, hb⟩ : Fin 8) (⟨t.val % 16 * 256 + r.val, hr⟩ : Fin 4096) (⟨t.val / 16 % 4 * 128 + l.val, hl⟩ : Fin 512) := by
    blk_ext [p5]
  refine Eq.trans ?_ (congrArg _ e.symm)
  refine Eq.trans (b := blockOut (iblk m c 0 t) (iblk m c 1 t) (iblk m c 2 t) (iblk m c 3 t) (iblk m c 4 t) (ix3 0 r l)) rfl ?_
  have b0 : ∀ (s : Fin 2), (fun x : Fin 128 => (show EReal from iblk m c 0 t (ix4 0 s r x)))
      = rowQ m c ⟨t.val / 64, hb⟩ ⟨t.val / 16 % 4 * 2 + s.val, by omega⟩ ⟨t.val % 16 * 256 + r.val, hr⟩ := fun s => funext fun x => by
    unfold rowQ; blk_ext [iblk, p0]
  have b1 : ∀ (s : Fin 2), (fun (j : Fin 4096) (x : Fin 128) => (show EReal from iblk m c 1 t (ix4 0 s j x)))
      = rowK m c ⟨t.val / 64, hb⟩ ⟨t.val / 16 % 4 * 2 + s.val, by omega⟩ := fun s => funext fun j => funext fun x => by
    unfold rowK; blk_ext [iblk, p1]
  have b2 : ∀ (s : Fin 2) (x : Fin 128), (fun (j : Fin 4096) => (show EReal from iblk m c 2 t (ix4 0 s j x)))
      = rowV m c ⟨t.val / 64, hb⟩ ⟨t.val / 16 % 4 * 2 + s.val, by omega⟩ x := fun s x => funext fun j => by
    unfold rowV; blk_ext [iblk, p2]
  have b3 : ∀ (s : Fin 2), (fun (j : Fin 256) (x : Fin 128) => (show EReal from iblk m c 3 t (ix4 0 s j x)))
      = rowKc m c ⟨t.val / 64, hb⟩ ⟨t.val / 16 % 4 * 2 + s.val, by omega⟩ := fun s => funext fun j => funext fun x => by
    unfold rowKc; blk_ext [iblk, p3]
  have b4 : ∀ (s : Fin 2) (x : Fin 128), (fun (j : Fin 256) => (show EReal from iblk m c 4 t (ix4 0 s j x)))
      = rowVc m c ⟨t.val / 64, hb⟩ ⟨t.val / 16 % 4 * 2 + s.val, by omega⟩ x := fun s x => funext fun j => by
    unfold rowVc; blk_ext [iblk, p4]
  rcases sides l with ⟨d, rfl⟩ | ⟨d, rfl⟩
  · refine (block_low _ _ _ _ _ r d).trans ?_
    refine (glue _ _ _ _ _ _ _ _ _ _ _ _ _ _ (b0 0) (b1 0) (b3 0) (b2 0 _) (b4 0 _) (b2 0 64) (b4 0 64)).trans ?_
    refine (head m c f0 f1 f3 _ _ _ d).trans ?_
    refine congrArg (refOut m c) (congrArg (ix3 _ _) (Fin.ext ?_))
    show 64 * (t.val / 16 % 4 * 2 + 0) + d.val = t.val / 16 % 4 * 128 + d.val
    omega
  · refine (block_high _ _ _ _ _ r d).trans ?_
    refine (glue _ _ _ _ _ _ _ _ _ _ _ _ _ _ (b0 1) (b1 1) (b3 1) (b2 1 _) (b4 1 _) (b2 1 64) (b4 1 64)).trans ?_
    refine (head m c f0 f1 f3 _ _ _ d).trans ?_
    refine congrArg (refOut m c) (congrArg (ix3 _ _) (Fin.ext ?_))
    show 64 * (t.val / 16 % 4 * 2 + 1) + d.val = t.val / 16 % 4 * 128 + (64 + d.val)
    omega

end Cert.Proof.Attention
-- ==== Proof.Attention.Claims.lean ====
/- The attention's claims: the reference leaves its arguments as they were, and on queries and keys that are real numbers
   kernel and reference compute the same array. -/
module

public import proofs.«01_k».proof.Defs
public import proofs.«01_k».proof.Proof.Attention.Value
public import proofs.«01_k».proof.Proof.Gen.Reference3Ideal.Run
public import Idealize.ShloMosaic.Lib.Quiescent
public import Idealize.ShloMosaic.Lib.ReduceAll

@[expose] public section

set_option maxRecDepth 16384

noncomputable section

namespace Cert.Proof.Attention

open Idealize.ShloMosaic Idealize.SL.Sem

theorem frame_reference : Cert.quiescent_Reference3Ideal := fun m ρ _ =>
  (θ_run _ _ _).mono (fun _ h => ⟨fun c => (h c).2, sem_eq_zero_of_no_sems rfl _⟩) (Cert.Reference3Ideal.Value.run m ρ)

/-- A number below infinity in magnitude is real. -/
theorem real_of_bounded (x : EReal) (h : FloatOps.cmpf (F := Ideal) (φ := .f32) .olt (FloatOps.absf (F := Ideal) (φ := .f32) x) (Ideal.ofBits .f32 0x7F800000#32) = 1#1) :
    ∃ r : ℝ, x = r := by
  have e : Ideal.ofBits .f32 0x7F800000#32 = (⊤ : EReal) := by simp [Ideal.ofBits, Ideal.ieee]
  rw [e] at h
  induction x with
  | bot => exact absurd h (by simp [FloatOps.cmpf, FloatOps.absf, Ideal.cmp])
  | coe r => exact ⟨r, rfl⟩
  | top => exact absurd h (by simp [FloatOps.cmpf, FloatOps.absf, Ideal.cmp])

/-- The precondition read: queries and both blocks' keys are real. -/
theorem real_of_pre [Cert.Pre_finite3.Facts] (q k : Vec Ideal Cert.Pre_finite3.S8x4096x8x96 .f32) (v : Vec Ideal Cert.Pre_finite3.S8x4096x8x64 .f32)
    (kc : Vec Ideal Cert.Pre_finite3.S8x256x8x96 .f32) (vc : Vec Ideal Cert.Pre_finite3.S8x256x8x64 .f32)
    (h : Cert.Pre_finite3.fn (F := Ideal) q k v kc vc = fun _ => 1#1) : Real4 q ∧ Real4 k ∧ Real4 kc := by
  have h0 := congrFun h (fun a => a.elim0)
  dsimp only [Cert.Pre_finite3.fn] at h0
  obtain ⟨h1, h2⟩ := IntOp.andi_eq_one.1 h0
  obtain ⟨h3, h4⟩ := IntOp.andi_eq_one.1 h1
  haveI : Subsingleton Cert.Pre_finite3.S_.Idx := ⟨fun a b => funext fun x => x.elim0⟩
  refine ⟨fun i => real_of_bounded _ (Host.reduce_andi_all _ _ _ _ _ h3 i), fun i => real_of_bounded _ (Host.reduce_andi_all _ _ _ _ _ h4 i),
    fun i => real_of_bounded _ (Host.reduce_andi_all _ _ _ _ _ h2 i)⟩

theorem algebraic [Cert.Pre_finite3.Facts] : Cert.algebraic_Kernel3Ideal_Reference3Ideal_pre_finite3 := fun m ρ m' ρ' hp hag =>
  ⟨fun c => Cert.Reference3Ideal.Read.val_main_v18 (F := Ideal) (m' (c.tc.loc Cert.Reference3Ideal.main_arg0)) (m' (c.tc.loc Cert.Reference3Ideal.main_arg1))
      (m' (c.tc.loc Cert.Reference3Ideal.main_arg2)) (m' (c.tc.loc Cert.Reference3Ideal.main_arg3)) (m' (c.tc.loc Cert.Reference3Ideal.main_arg4)),
    (θ_run _ _ _).mono (fun _ h c => ⟨(h c).1.trans (by
        obtain ⟨a0, a1, a2, a3, a4⟩ := hag c
        obtain ⟨f0, f1, f3⟩ := real_of_pre _ _ _ _ _ (hp c)
        beta_reduce
        rw [final m c f0 f1 f3, a0, a1, a2, a3, a4]
        rfl), (h c).2⟩)
      (Cert.Kernel3Ideal.Value.run_blocks m ρ),
    (θ_run _ _ _).mono (fun _ h c => ⟨(h c).1.trans (Cert.Reference3Ideal.Read.val_main_v18_eq _ _ _ _ _), (h c).2⟩)
      (Cert.Reference3Ideal.Value.run m' ρ')⟩

end Cert.Proof.Attention
-- ==== Proof.OutProj.Block.lean ====
/- One block of the output projection: the two halves' products added, gated, and added to the residual. -/
module

public import proofs.«01_k».proof.Proof.Gen.Kernel4Ideal.Value
public import proofs.«01_k».proof.Proof.Gen.Reference4Ideal.Read
public import Idealize.ShloMosaic.Lib.Pointwise

@[expose] public section

set_option maxRecDepth 16384

noncomputable section

namespace Cert.Proof.OutProj

open Idealize.ShloMosaic

section Kernel

open Cert.Kernel4Ideal Cert.Kernel4Ideal.Gen

/-- The scratch is the first operand's block. -/
theorem row_apply (a : Vec Ideal S1x512x512 .f32) (r k : Fin 512) :
    k0_pay1 (F := Ideal) a (ix2 r k) = a (ix3 0 r k) := by
  pointwise [k0_pay1]

/-- What one point computes, at row `r` and lane `d` of its block. -/
theorem pay_apply (v : Vec Ideal S512x512 .bf16) (wa : Vec Ideal S512x1024 .bf16) (b : Vec Ideal S1x512x512 .f32) (wb : Vec Ideal S512x1024 .bf16)
    (x : Vec Ideal S1x512x1024 .f32) (g : Vec Ideal S1x1x1024 .f32) (r : Fin 512) (d : Fin 1024) :
    k0_pay2 (F := Ideal) v wa b wb x g (ix3 0 r d)
      = x (ix3 0 r d) + g (ix3 0 0 d) * ((∑ k : Fin 512, v (ix2 r k) * wa (ix2 k d)) + ∑ k : Fin 512, b (ix3 0 r k) * wb (ix2 k d)) := by
  pointwise [k0_pay2]

end Kernel

section Reference

open Cert.Reference4Ideal Cert.Reference4Ideal.Read

/-- The reference, element by element: the product with the joined halves is the sum of the halves' products. -/
theorem ref_apply (x : Vec Ideal S8x4096x1024 .f32) (g : Vec Ideal S8x1x1024 .f32) (a b : Vec Ideal S8x4096x512 .f32) (w : Vec Ideal S1024x1024 .f32)
    (n : Fin 8) (r : Fin 4096) (d : Fin 1024) :
    val_main_v4 (F := Ideal) x g a b w (ix3 n r d)
      = x (ix3 n r d) + g (ix3 n 0 d) * ((∑ k : Fin 512, a (ix3 n r k) * w (ix2 ⟨k.val, by omega⟩ d))
          + ∑ k : Fin 512, b (ix3 n r k) * w (ix2 ⟨512 + k.val, by omega⟩ d)) := by
  have h : val_main_v1 (F := Ideal) a b w (ix3 n r d) = (∑ k : Fin 512, a (ix3 n r k) * w (ix2 ⟨k.val, by omega⟩ d))
          + ∑ k : Fin 512, b (ix3 n r k) * w (ix2 ⟨512 + k.val, by omega⟩ d) := by
    have h1 : val_main_v1 (F := Ideal) a b w (ix3 n r d) = ∑ k : Fin (512 + 512), val_main_v0 (F := Ideal) a b (ix3 n r k) * w (ix2 k d) := by
      pointwise [val_main_v1]
    rw [h1, Fin.sum_univ_add]
    have ha : ∀ k : Fin 512, val_main_v0 (F := Ideal) a b (ix3 n r (⟨k.val, by omega⟩ : Fin 1024)) = a (ix3 n r k) := by
      intro k
      pointwise [val_main_v0]
    have hb : ∀ k : Fin 512, val_main_v0 (F := Ideal) a b (ix3 n r (⟨512 + k.val, by omega⟩ : Fin 1024)) = b (ix3 n r k) := by
      intro k
      pointwise [val_main_v0]
    exact congrArg₂ (· + ·) (Finset.sum_congr rfl fun k _ => congrArg₂ (· * ·) (ha k) rfl) (Finset.sum_congr rfl fun k _ => congrArg₂ (· * ·) (hb k) rfl)
  rw [← h]
  pointwise [val_main_v4, val_main_v3, val_main_v2]

end Reference

end Cert.Proof.OutProj
-- ==== Proof.OutProj.Value.lean ====
/- The output projection as a whole: each point of the grid writes one block of rows, and the array the run leaves is
   the reference's. -/
module

public import proofs.«01_k».proof.Proof.OutProj.Block
public import Idealize.ShloMosaic.Lib.Pipeline.ValueKit
public import Idealize.ShloMosaic.Lib.Pipeline.ReadBack
public import Idealize.ShloMosaic.Lib.Claim

@[expose] public section

set_option maxRecDepth 16384

noncomputable section

namespace Cert.Proof.OutProj

open Idealize.ShloMosaic Idealize.ShloMosaic.TcCoe Idealize.SL.Sem
open Cert.Kernel4Ideal Cert.Kernel4Ideal.Gen Cert.Kernel4Ideal.Value

variable (m : (ℓ : Loc nD τ sig) → Buf (Elt Ideal) ℓ)

/-- The weight's upper half as the region finds it. -/
theorem entry_upper (c : Dev nD) (k : Fin 512) (d : Fin 1024) :
    V m c main_v1 (ix2 k d) = m ((c : Thread nD τ).loc main_arg4) (ix2 (⟨k.val, by omega⟩ : Fin 1024) d) := by
  entry_read
  pointwise

/-- The weight's lower half as the region finds it. -/
theorem entry_lower (c : Dev nD) (k : Fin 512) (d : Fin 1024) :
    V m c main_v2 (ix2 k d) = m ((c : Thread nD τ).loc main_arg4) (ix2 (⟨512 + k.val, by omega⟩ : Fin 1024) d) := by
  entry_read
  pointwise

/-- Where each window's block lies at a point. -/
theorem places : ∀ t : Fin grid0.N,
    win0_0.index t = ![t.val / 8, t.val % 8, 0] ∧ win0_1.index t = ![0, 0]
    ∧ win0_2.index t = ![t.val / 8, t.val % 8, 0] ∧ win0_3.index t = ![0, 0]
    ∧ win0_4.index t = ![t.val / 8, t.val % 8, 0] ∧ win0_5.index t = ![t.val / 8, 0, 0]
    ∧ win0_6.index t = ![t.val / 8, t.val % 8, 0] := by decide +kernel

set_option maxHeartbeats 1000000 in
/-- THE ARRAY AFTER THE RUN is the reference's result. -/
theorem final (c : Dev nD) :
    (dats m 0 c).arrAt 6 cfg0.N
      = Cert.Reference4Ideal.Read.val_main_v4 (F := Ideal) (m ((c : Thread nD τ).loc main_arg0)) (m ((c : Thread nD τ).loc main_arg1))
          (m ((c : Thread nD τ).loc main_arg2)) (m ((c : Thread nD τ).loc main_arg3)) (m ((c : Thread nD τ).loc main_arg4)) := by
  refine (dats m 0 c).arrAt_eq_of_covers 6 _ (by decide +kernel) fun t hf y => ?_
  have ht : t.val < 64 := lt_of_lt_of_eq t.isLt N_0
  have hb : t.val / 8 < 8 := by omega
  obtain ⟨p0, p1, p2, p3, p4, p5, p6⟩ := places t
  rw [after0_6]
  simp only [outsAt0]
  frame_out
  obtain ⟨u, r, d, rfl⟩ : ∃ (u : Fin 1) (r : Fin 512) (d : Fin 1024), y = ix3 u r d :=
    ⟨y 0, y 1, y 2, eq_ix3 (n0 := 1) (n1 := 512) (n2 := 1024) y⟩
  obtain rfl : u = 0 := Subsingleton.elim _ _
  have hr : t.val % 8 * 512 + r.val < 4096 := by omega
  have e : ((cfg0.win 6).blk t).view.emb (ix3 0 r d) = ix3 (⟨t.val / 8, hb⟩ : Fin 8) (⟨t.val % 8 * 512 + r.val, hr⟩ : Fin 4096) d := by
    blk_ext [p6]
  have r0 : ∀ k : Fin 512, iblk m c 0 t (ix3 0 r k)
      = m ((c : Thread nD τ).loc main_arg2) (ix3 (⟨t.val / 8, hb⟩ : Fin 8) (⟨t.val % 8 * 512 + r.val, hr⟩ : Fin 4096) k) := by
    intro k
    refine Eq.trans (b := V m c main_arg2 (ix3 (⟨t.val / 8, hb⟩ : Fin 8) (⟨t.val % 8 * 512 + r.val, hr⟩ : Fin 4096) k)) (by blk_ext [iblk, p0]) ?_
    rw [V_main_arg2]
  have r1 : ∀ k : Fin 512, iblk m c 1 t (ix2 k d) = m ((c : Thread nD τ).loc main_arg4) (ix2 (⟨k.val, by omega⟩ : Fin 1024) d) := by
    intro k
    exact Eq.trans (b := V m c main_v1 (ix2 k d)) (by blk_ext [iblk, p1]) (entry_upper m c k d)
  have r2 : ∀ k : Fin 512, iblk m c 2 t (ix3 0 r k)
      = m ((c : Thread nD τ).loc main_arg3) (ix3 (⟨t.val / 8, hb⟩ : Fin 8) (⟨t.val % 8 * 512 + r.val, hr⟩ : Fin 4096) k) := by
    intro k
    refine Eq.trans (b := V m c main_arg3 (ix3 (⟨t.val / 8, hb⟩ : Fin 8) (⟨t.val % 8 * 512 + r.val, hr⟩ : Fin 4096) k)) (by blk_ext [iblk, p2]) ?_
    rw [V_main_arg3]
  have r3 : ∀ k : Fin 512, iblk m c 3 t (ix2 k d) = m ((c : Thread nD τ).loc main_arg4) (ix2 (⟨512 + k.val, by omega⟩ : Fin 1024) d) := by
    intro k
    exact Eq.trans (b := V m c main_v2 (ix2 k d)) (by blk_ext [iblk, p3]) (entry_lower m c k d)
  have r4 : iblk m c 4 t (ix3 0 r d)
      = m ((c : Thread nD τ).loc main_arg0) (ix3 (⟨t.val / 8, hb⟩ : Fin 8) (⟨t.val % 8 * 512 + r.val, hr⟩ : Fin 4096) d) := by
    refine Eq.trans (b := V m c main_arg0 (ix3 (⟨t.val / 8, hb⟩ : Fin 8) (⟨t.val % 8 * 512 + r.val, hr⟩ : Fin 4096) d)) (by blk_ext [iblk, p4]) ?_
    rw [V_main_arg0]
  have r5 : iblk m c 5 t (ix3 0 0 d) = m ((c : Thread nD τ).loc main_arg1) (ix3 (⟨t.val / 8, hb⟩ : Fin 8) 0 d) := by
    refine Eq.trans (b := V m c main_arg1 (ix3 (⟨t.val / 8, hb⟩ : Fin 8) 0 d)) (by blk_ext [iblk, p5]) ?_
    rw [V_main_arg1]
  refine Eq.trans ?_ (congrArg _ e.symm)
  refine Eq.trans ?_ (ref_apply _ _ _ _ _ _ _ d).symm
  refine Eq.trans (b := k0_pay2 (F := Ideal) (k0_pay1 (iblk m c 0 t)) (iblk m c 1 t) (iblk m c 2 t) (iblk m c 3 t) (iblk m c 4 t)
    (iblk m c 5 t) (ix3 0 r d)) rfl ?_
  refine (pay_apply _ _ _ _ _ _ r d).trans ?_
  simp only [row_apply, r0, r1, r2, r3, r4, r5]

end Cert.Proof.OutProj
-- ==== Proof.OutProj.Claims.lean ====
/- The output projection's claims: the reference leaves its arguments as they were, and kernel and reference compute the
   same array. -/
module

public import proofs.«01_k».proof.Defs
public import proofs.«01_k».proof.Proof.OutProj.Value
public import Idealize.ShloMosaic.Lib.Quiescent

@[expose] public section

set_option maxRecDepth 16384

noncomputable section

namespace Cert.Proof.OutProj

open Idealize.ShloMosaic Idealize.SL.Sem

theorem frame_reference : Cert.quiescent_Reference4Ideal := fun m ρ _ =>
  (θ_run _ _ _).mono (fun _ h => ⟨fun c => (h c).2, sem_eq_zero_of_no_sems rfl _⟩) (Cert.Reference4Ideal.Value.run m ρ)

theorem algebraic : Cert.algebraic_Kernel4Ideal_Reference4Ideal := fun m ρ m' ρ' _ hag =>
  ⟨fun c => Cert.Reference4Ideal.Read.val_main_v4 (F := Ideal) (m' (c.tc.loc Cert.Reference4Ideal.main_arg0)) (m' (c.tc.loc Cert.Reference4Ideal.main_arg1))
      (m' (c.tc.loc Cert.Reference4Ideal.main_arg2)) (m' (c.tc.loc Cert.Reference4Ideal.main_arg3)) (m' (c.tc.loc Cert.Reference4Ideal.main_arg4)),
    (θ_run _ _ _).mono (fun _ h c => ⟨(h c).1.trans (by
        obtain ⟨a0, a1, a2, a3, a4⟩ := hag c
        beta_reduce
        rw [final m c, a0, a1, a2, a3, a4]), (h c).2⟩)
      (Cert.Kernel4Ideal.Value.run_blocks m ρ),
    (θ_run _ _ _).mono (fun _ h c => ⟨(h c).1.trans (Cert.Reference4Ideal.Read.val_main_v4_eq _ _ _ _ _), (h c).2⟩)
      (Cert.Reference4Ideal.Value.run m' ρ')⟩

end Cert.Proof.OutProj
-- ==== Proof.Scatter.Frame.lean ====
/- The scatter's reference leaves its arguments as they were. -/
module

public import proofs.«01_k».proof.Defs
public import proofs.«01_k».proof.Proof.Gen.Reference5Ideal.Run
public import Idealize.ShloMosaic.Lib.Quiescent

@[expose] public section

set_option maxRecDepth 16384

noncomputable section

namespace Cert.Proof.Scatter

open Idealize.ShloMosaic Idealize.SL.Sem

theorem frame_reference : Cert.quiescent_Reference5Ideal := fun m ρ _ =>
  (θ_run _ _ _).mono (fun _ h => ⟨fun c => (h c).2, sem_eq_zero_of_no_sems rfl _⟩) (Cert.Reference5Ideal.Value.run m ρ)

end Cert.Proof.Scatter
-- ==== Proof.Scatter.Block.lean ====
/- One block of the scatter's kernel: chunk by chunk, a one-hot product adds the rows whose number is the token's. -/
module

public import proofs.«01_k».proof.Proof.Gen.Kernel5Ideal.Value
public import Idealize.ShloMosaic.Lib.Pointwise
public import Mathlib.Algebra.BigOperators.Fin

@[expose] public section

set_option maxRecDepth 16384

noncomputable section

namespace Cert.Proof.Scatter

open Idealize.ShloMosaic Cert.Kernel5Ideal Cert.Kernel5Ideal.Gen

/-- What the slots of one chunk add to token `T`: the rows whose number is `T`. -/
def chunk (T : BitVec 32) (a : Vec Ideal S1x1x512 .i32) (y : Vec Ideal S1x512x512 .bf16) (d : Fin 512) : EReal :=
  ∑ x : Fin 512, Scalar.select (IntOp.cmpi CmpIPredicate.eq T (a (ix3 0 0 x))) (show EReal from y (ix3 0 x d)) 0

/-- The number of the token at row `r` of a point's block. -/
def number (i : grid0.Coords) (r : Fin 1024) : BitVec 32 :=
  IntOp.addi (BitVec.ofNat 32 r.val) (Scalar.muli (BitVec.ofNat 32 (i 2).val) 1024#32)

theorem pay2_apply (i : grid0.Coords) (r : Fin 1024) (l : Fin 512) : k0_pay2 i (ix2 r l) = number i r := by
  unfold number
  pointwise [k0_pay2]

theorem pay3_apply (i : grid0.Coords) (a0 : Vec Ideal S1x1x512 .i32) (y0 : Vec Ideal S1x512x512 .bf16) (a1 : Vec Ideal S1x1x512 .i32) (y1 : Vec Ideal S1x512x512 .bf16) (r : Fin 1024) (d : Fin 512) :
    k0_pay3 (F := Ideal) i a0 y0 a1 y1 (ix2 r d) = (chunk (number i r) a0 y0 d : EReal) + chunk (number i r) a1 y1 d := by
  unfold chunk
  pointwise [k0_pay3]
  simp only [pay2_apply]

theorem pay5_apply (i : grid0.Coords) (z : FVec Ideal S1024x512 .f32) (a2 : Vec Ideal S1x1x512 .i32) (y2 : Vec Ideal S1x512x512 .bf16) (a3 : Vec Ideal S1x1x512 .i32) (y3 : Vec Ideal S1x512x512 .bf16) (a4 : Vec Ideal S1x1x512 .i32) (y4 : Vec Ideal S1x512x512 .bf16) (r : Fin 1024) (d : Fin 512) :
    k0_pay5 (F := Ideal) (k0_pay2 i) z (k0_pay4 (F := Ideal) i a2) (Scalar.ofBits .f32 0x3F800000#32) y2 a3 y3 a4 y4 (ix2 r d)
      = (show EReal from z (ix2 r d)) + chunk (number i r) a2 y2 d + chunk (number i r) a3 y3 d + chunk (number i r) a4 y4 d := by
  unfold chunk
  pointwise [k0_pay5, k0_pay4]
  simp only [pay2_apply]

theorem pay7_apply (w : IVec S1024x512 32) (z : FVec Ideal S1024x512 .f32) (a5 : Vec Ideal S1x1x512 .i32) (y5 : Vec Ideal S1x512x512 .bf16) (a6 : Vec Ideal S1x1x512 .i32) (y6 : Vec Ideal S1x512x512 .bf16) (a7 : Vec Ideal S1x1x512 .i32) (y7 : Vec Ideal S1x512x512 .bf16) (r : Fin 1024) (d : Fin 512) (T : BitVec 32) (hT : ∀ x : Fin 512, w (ix2 r x) = T) :
    k0_pay7 (F := Ideal) w z (k0_pay6 (F := Ideal) a5) y5 a6 y6 a7 y7 (ix2 r d) = (show EReal from z (ix2 r d)) + chunk T a5 y5 d + chunk T a6 y6 d + chunk T a7 y7 d := by
  unfold chunk
  pointwise [k0_pay7, k0_pay6]
  simp only [hT]

theorem pay8_apply (w : IVec S1024x512 32) (z : FVec Ideal S1024x512 .f32) (a8 : Vec Ideal S1x1x512 .i32) (y8 : Vec Ideal S1x512x512 .bf16) (a9 : Vec Ideal S1x1x512 .i32) (y9 : Vec Ideal S1x512x512 .bf16) (r : Fin 1024) (d : Fin 512) (T : BitVec 32) (hT : ∀ x : Fin 512, w (ix2 r x) = T) :
    k0_pay8 (F := Ideal) w z a8 y8 a9 y9 (ix2 r d) = (show EReal from z (ix2 r d)) + chunk T a8 y8 d + chunk T a9 y9 d := by
  unfold chunk
  pointwise [k0_pay8]
  simp only [hT]

theorem pay10_apply (w : IVec S1024x512 32) (z : FVec Ideal S1024x512 .f32) (a10 : Vec Ideal S1x1x512 .i32) (y10 : Vec Ideal S1x512x512 .bf16) (a11 : Vec Ideal S1x1x512 .i32) (y11 : Vec Ideal S1x512x512 .bf16) (a12 : Vec Ideal S1x1x512 .i32) (y12 : Vec Ideal S1x512x512 .bf16) (r : Fin 1024) (d : Fin 512) (T : BitVec 32) (hT : ∀ x : Fin 512, w (ix2 r x) = T) :
    k0_pay10 (F := Ideal) w z (k0_pay9 (F := Ideal) w a10 y10) a11 y11 a12 y12 (ix2 r d) = (show EReal from z (ix2 r d)) + chunk T a10 y10 d + chunk T a11 y11 d + chunk T a12 y12 d := by
  unfold chunk
  pointwise [k0_pay10, k0_pay9]
  simp only [hT]

theorem pay12_apply (w : IVec S1024x512 32) (z : FVec Ideal S1024x512 .f32) (a13 : Vec Ideal S1x1x512 .i32) (y13 : Vec Ideal S1x512x512 .bf16) (a14 : Vec Ideal S1x1x512 .i32) (y14 : Vec Ideal S1x512x512 .bf16) (a15 : Vec Ideal S1x1x512 .i32) (y15 : Vec Ideal S1x512x512 .bf16) (X : Vec Ideal S1x1024x512 .f32) (G : Vec Ideal S1x1x512 .f32) (r : Fin 1024) (d : Fin 512) (T : BitVec 32) (hT : ∀ x : Fin 512, w (ix2 r x) = T) :
    k0_pay12 (F := Ideal) w z (k0_pay11 (F := Ideal) w a13) y13 a14 y14 a15 y15 X G (ix2 r d) = (show EReal from X (ix3 0 r d)) + (show EReal from G (ix3 0 0 d)) * ((show EReal from z (ix2 r d)) + chunk T a13 y13 d + chunk T a14 y14 d + chunk T a15 y15 d) := by
  unfold chunk
  pointwise [k0_pay12, k0_pay11]
  simp only [hT]

/-- What the slot `e` of the whole list adds to token `T`. -/
def slot (T : BitVec 32) (Y : Vec Ideal S1x8192x512 .bf16) (A : Vec Ideal S1x1x8192 .i32) (d : Fin 512) (e : Fin 8192) : EReal :=
  Scalar.select (IntOp.cmpi CmpIPredicate.eq T (A (ix3 0 0 e))) (show EReal from Y (ix3 0 e d)) 0

/-- The sum over the chunk `s` of a sum over all slots. -/
def part (g : Fin 8192 → EReal) (s : Fin 16) : EReal := ∑ x : Fin 512, g (⟨512 * s.val + x.val, by omega⟩ : Fin 8192)

/-- All slots, chunk by chunk. -/
theorem parts (g : Fin 8192 → EReal) :
    ∑ e : Fin 8192, g e = part g 0 + part g 1 + part g 2 + part g 3 + part g 4 + part g 5 + part g 6 + part g 7
      + part g 8 + part g 9 + part g 10 + part g 11 + part g 12 + part g 13 + part g 14 + part g 15 := by
  have h : ∑ s : Fin 16, part g s = ∑ e : Fin 8192, g e := by
    unfold part
    rw [← Fintype.sum_prod_type' (f := fun (s : Fin 16) (x : Fin 512) => g (⟨512 * s.val + x.val, by omega⟩ : Fin 8192))]
    exact Fintype.sum_equiv (finProdFinEquiv (m := 16) (n := 512)) _ _ fun p => congrArg g (Fin.ext (Nat.add_comm _ _))
  rw [← h]
  simp only [Fin.sum_univ_castSucc, Fin.sum_univ_zero, zero_add]
  rfl

theorem chunk_0 (T : BitVec 32) (Y : Vec Ideal S1x8192x512 .bf16) (A : Vec Ideal S1x1x8192 .i32) (d : Fin 512) :
    chunk T (View.ld A r0_0) (View.ld Y r0_1) d = part (slot T Y A d) 0 := by
  refine Finset.sum_congr rfl fun x _ => ?_
  have h1 : View.ld A r0_0 (ix3 0 0 x) = A (ix3 0 0 (⟨0 + x.val, by omega⟩ : Fin 8192)) := by pointwise [r0_0]
  have h2 : View.ld Y r0_1 (ix3 0 x d) = Y (ix3 0 (⟨0 + x.val, by omega⟩ : Fin 8192) d) := by pointwise [r0_1]
  exact congrArg₂ (fun p q => Scalar.select (IntOp.cmpi CmpIPredicate.eq T p) (show EReal from q) 0) h1 h2

theorem chunk_1 (T : BitVec 32) (Y : Vec Ideal S1x8192x512 .bf16) (A : Vec Ideal S1x1x8192 .i32) (d : Fin 512) :
    chunk T (View.ld A r0_2) (View.ld Y r0_3) d = part (slot T Y A d) 1 := by
  refine Finset.sum_congr rfl fun x _ => ?_
  have h1 : View.ld A r0_2 (ix3 0 0 x) = A (ix3 0 0 (⟨512 + x.val, by omega⟩ : Fin 8192)) := by pointwise [r0_2]
  have h2 : View.ld Y r0_3 (ix3 0 x d) = Y (ix3 0 (⟨512 + x.val, by omega⟩ : Fin 8192) d) := by pointwise [r0_3]
  exact congrArg₂ (fun p q => Scalar.select (IntOp.cmpi CmpIPredicate.eq T p) (show EReal from q) 0) h1 h2

theorem chunk_2 (T : BitVec 32) (Y : Vec Ideal S1x8192x512 .bf16) (A : Vec Ideal S1x1x8192 .i32) (d : Fin 512) :
    chunk T (View.ld A r0_4) (View.ld Y r0_5) d = part (slot T Y A d) 2 := by
  refine Finset.sum_congr rfl fun x _ => ?_
  have h1 : View.ld A r0_4 (ix3 0 0 x) = A (ix3 0 0 (⟨1024 + x.val, by omega⟩ : Fin 8192)) := by pointwise [r0_4]
  have h2 : View.ld Y r0_5 (ix3 0 x d) = Y (ix3 0 (⟨1024 + x.val, by omega⟩ : Fin 8192) d) := by pointwise [r0_5]
  exact congrArg₂ (fun p q => Scalar.select (IntOp.cmpi CmpIPredicate.eq T p) (show EReal from q) 0) h1 h2

theorem chunk_3 (T : BitVec 32) (Y : Vec Ideal S1x8192x512 .bf16) (A : Vec Ideal S1x1x8192 .i32) (d : Fin 512) :
    chunk T (View.ld A r0_6) (View.ld Y r0_7) d = part (slot T Y A d) 3 := by
  refine Finset.sum_congr rfl fun x _ => ?_
  have h1 : View.ld A r0_6 (ix3 0 0 x) = A (ix3 0 0 (⟨1536 + x.val, by omega⟩ : Fin 8192)) := by pointwise [r0_6]
  have h2 : View.ld Y r0_7 (ix3 0 x d) = Y (ix3 0 (⟨1536 + x.val, by omega⟩ : Fin 8192) d) := by pointwise [r0_7]
  exact congrArg₂ (fun p q => Scalar.select (IntOp.cmpi CmpIPredicate.eq T p) (show EReal from q) 0) h1 h2

theorem chunk_4 (T : BitVec 32) (Y : Vec Ideal S1x8192x512 .bf16) (A : Vec Ideal S1x1x8192 .i32) (d : Fin 512) :
    chunk T (View.ld A r0_8) (View.ld Y r0_9) d = part (slot T Y A d) 4 := by
  refine Finset.sum_congr rfl fun x _ => ?_
  have h1 : View.ld A r0_8 (ix3 0 0 x) = A (ix3 0 0 (⟨2048 + x.val, by omega⟩ : Fin 8192)) := by pointwise [r0_8]
  have h2 : View.ld Y r0_9 (ix3 0 x d) = Y (ix3 0 (⟨2048 + x.val, by omega⟩ : Fin 8192) d) := by pointwise [r0_9]
  exact congrArg₂ (fun p q => Scalar.select (IntOp.cmpi CmpIPredicate.eq T p) (show EReal from q) 0) h1 h2

theorem chunk_5 (T : BitVec 32) (Y : Vec Ideal S1x8192x512 .bf16) (A : Vec Ideal S1x1x8192 .i32) (d : Fin 512) :
    chunk T (View.ld A r0_10) (View.ld Y r0_11) d = part (slot T Y A d) 5 := by
  refine Finset.sum_congr rfl fun x _ => ?_
  have h1 : View.ld A r0_10 (ix3 0 0 x) = A (ix3 0 0 (⟨2560 + x.val, by omega⟩ : Fin 8192)) := by pointwise [r0_10]
  have h2 : View.ld Y r0_11 (ix3 0 x d) = Y (ix3 0 (⟨2560 + x.val, by omega⟩ : Fin 8192) d) := by pointwise [r0_11]
  exact congrArg₂ (fun p q => Scalar.select (IntOp.cmpi CmpIPredicate.eq T p) (show EReal from q) 0) h1 h2

theorem chunk_6 (T : BitVec 32) (Y : Vec Ideal S1x8192x512 .bf16) (A : Vec Ideal S1x1x8192 .i32) (d : Fin 512) :
    chunk T (View.ld A r0_12) (View.ld Y r0_13) d = part (slot T Y A d) 6 := by
  refine Finset.sum_congr rfl fun x _ => ?_
  have h1 : View.ld A r0_12 (ix3 0 0 x) = A (ix3 0 0 (⟨3072 + x.val, by omega⟩ : Fin 8192)) := by pointwise [r0_12]
  have h2 : View.ld Y r0_13 (ix3 0 x d) = Y (ix3 0 (⟨3072 + x.val, by omega⟩ : Fin 8192) d) := by pointwise [r0_13]
  exact congrArg₂ (fun p q => Scalar.select (IntOp.cmpi CmpIPredicate.eq T p) (show EReal from q) 0) h1 h2

theorem chunk_7 (T : BitVec 32) (Y : Vec Ideal S1x8192x512 .bf16) (A : Vec Ideal S1x1x8192 .i32) (d : Fin 512) :
    chunk T (View.ld A r0_14) (View.ld Y r0_15) d = part (slot T Y A d) 7 := by
  refine Finset.sum_congr rfl fun x _ => ?_
  have h1 : View.ld A r0_14 (ix3 0 0 x) = A (ix3 0 0 (⟨3584 + x.val, by omega⟩ : Fin 8192)) := by pointwise [r0_14]
  have h2 : View.ld Y r0_15 (ix3 0 x d) = Y (ix3 0 (⟨3584 + x.val, by omega⟩ : Fin 8192) d) := by pointwise [r0_15]
  exact congrArg₂ (fun p q => Scalar.select (IntOp.cmpi CmpIPredicate.eq T p) (show EReal from q) 0) h1 h2

theorem chunk_8 (T : BitVec 32) (Y : Vec Ideal S1x8192x512 .bf16) (A : Vec Ideal S1x1x8192 .i32) (d : Fin 512) :
    chunk T (View.ld A r0_16) (View.ld Y r0_17) d = part (slot T Y A d) 8 := by
  refine Finset.sum_congr rfl fun x _ => ?_
  have h1 : View.ld A r0_16 (ix3 0 0 x) = A (ix3 0 0 (⟨4096 + x.val, by omega⟩ : Fin 8192)) := by pointwise [r0_16]
  have h2 : View.ld Y r0_17 (ix3 0 x d) = Y (ix3 0 (⟨4096 + x.val, by omega⟩ : Fin 8192) d) := by pointwise [r0_17]
  exact congrArg₂ (fun p q => Scalar.select (IntOp.cmpi CmpIPredicate.eq T p) (show EReal from q) 0) h1 h2

theorem chunk_9 (T : BitVec 32) (Y : Vec Ideal S1x8192x512 .bf16) (A : Vec Ideal S1x1x8192 .i32) (d : Fin 512) :
    chunk T (View.ld A r0_18) (View.ld Y r0_19) d = part (slot T Y A d) 9 := by
  refine Finset.sum_congr rfl fun x _ => ?_
  have h1 : View.ld A r0_18 (ix3 0 0 x) = A (ix3 0 0 (⟨4608 + x.val, by omega⟩ : Fin 8192)) := by pointwise [r0_18]
  have h2 : View.ld Y r0_19 (ix3 0 x d) = Y (ix3 0 (⟨4608 + x.val, by omega⟩ : Fin 8192) d) := by pointwise [r0_19]
  exact congrArg₂ (fun p q => Scalar.select (IntOp.cmpi CmpIPredicate.eq T p) (show EReal from q) 0) h1 h2

theorem chunk_10 (T : BitVec 32) (Y : Vec Ideal S1x8192x512 .bf16) (A : Vec Ideal S1x1x8192 .i32) (d : Fin 512) :
    chunk T (View.ld A r0_20) (View.ld Y r0_21) d = part (slot T Y A d) 10 := by
  refine Finset.sum_congr rfl fun x _ => ?_
  have h1 : View.ld A r0_20 (ix3 0 0 x) = A (ix3 0 0 (⟨5120 + x.val, by omega⟩ : Fin 8192)) := by pointwise [r0_20]
  have h2 : View.ld Y r0_21 (ix3 0 x d) = Y (ix3 0 (⟨5120 + x.val, by omega⟩ : Fin 8192) d) := by pointwise [r0_21]
  exact congrArg₂ (fun p q => Scalar.select (IntOp.cmpi CmpIPredicate.eq T p) (show EReal from q) 0) h1 h2

theorem chunk_11 (T : BitVec 32) (Y : Vec Ideal S1x8192x512 .bf16) (A : Vec Ideal S1x1x8192 .i32) (d : Fin 512) :
    chunk T (View.ld A r0_22) (View.ld Y r0_23) d = part (slot T Y A d) 11 := by
  refine Finset.sum_congr rfl fun x _ => ?_
  have h1 : View.ld A r0_22 (ix3 0 0 x) = A (ix3 0 0 (⟨5632 + x.val, by omega⟩ : Fin 8192)) := by pointwise [r0_22]
  have h2 : View.ld Y r0_23 (ix3 0 x d) = Y (ix3 0 (⟨5632 + x.val, by omega⟩ : Fin 8192) d) := by pointwise [r0_23]
  exact congrArg₂ (fun p q => Scalar.select (IntOp.cmpi CmpIPredicate.eq T p) (show EReal from q) 0) h1 h2

theorem chunk_12 (T : BitVec 32) (Y : Vec Ideal S1x8192x512 .bf16) (A : Vec Ideal S1x1x8192 .i32) (d : Fin 512) :
    chunk T (View.ld A r0_24) (View.ld Y r0_25) d = part (slot T Y A d) 12 := by
  refine Finset.sum_congr rfl fun x _ => ?_
  have h1 : View.ld A r0_24 (ix3 0 0 x) = A (ix3 0 0 (⟨6144 + x.val, by omega⟩ : Fin 8192)) := by pointwise [r0_24]
  have h2 : View.ld Y r0_25 (ix3 0 x d) = Y (ix3 0 (⟨6144 + x.val, by omega⟩ : Fin 8192) d) := by pointwise [r0_25]
  exact congrArg₂ (fun p q => Scalar.select (IntOp.cmpi CmpIPredicate.eq T p) (show EReal from q) 0) h1 h2

theorem chunk_13 (T : BitVec 32) (Y : Vec Ideal S1x8192x512 .bf16) (A : Vec Ideal S1x1x8192 .i32) (d : Fin 512) :
    chunk T (View.ld A r0_26) (View.ld Y r0_27) d = part (slot T Y A d) 13 := by
  refine Finset.sum_congr rfl fun x _ => ?_
  have h1 : View.ld A r0_26 (ix3 0 0 x) = A (ix3 0 0 (⟨6656 + x.val, by omega⟩ : Fin 8192)) := by pointwise [r0_26]
  have h2 : View.ld Y r0_27 (ix3 0 x d) = Y (ix3 0 (⟨6656 + x.val, by omega⟩ : Fin 8192) d) := by pointwise [r0_27]
  exact congrArg₂ (fun p q => Scalar.select (IntOp.cmpi CmpIPredicate.eq T p) (show EReal from q) 0) h1 h2

theorem chunk_14 (T : BitVec 32) (Y : Vec Ideal S1x8192x512 .bf16) (A : Vec Ideal S1x1x8192 .i32) (d : Fin 512) :
    chunk T (View.ld A r0_28) (View.ld Y r0_29) d = part (slot T Y A d) 14 := by
  refine Finset.sum_congr rfl fun x _ => ?_
  have h1 : View.ld A r0_28 (ix3 0 0 x) = A (ix3 0 0 (⟨7168 + x.val, by omega⟩ : Fin 8192)) := by pointwise [r0_28]
  have h2 : View.ld Y r0_29 (ix3 0 x d) = Y (ix3 0 (⟨7168 + x.val, by omega⟩ : Fin 8192) d) := by pointwise [r0_29]
  exact congrArg₂ (fun p q => Scalar.select (IntOp.cmpi CmpIPredicate.eq T p) (show EReal from q) 0) h1 h2

theorem chunk_15 (T : BitVec 32) (Y : Vec Ideal S1x8192x512 .bf16) (A : Vec Ideal S1x1x8192 .i32) (d : Fin 512) :
    chunk T (View.ld A r0_30) (View.ld Y r0_31) d = part (slot T Y A d) 15 := by
  refine Finset.sum_congr rfl fun x _ => ?_
  have h1 : View.ld A r0_30 (ix3 0 0 x) = A (ix3 0 0 (⟨7680 + x.val, by omega⟩ : Fin 8192)) := by pointwise [r0_30]
  have h2 : View.ld Y r0_31 (ix3 0 x d) = Y (ix3 0 (⟨7680 + x.val, by omega⟩ : Fin 8192) d) := by pointwise [r0_31]
  exact congrArg₂ (fun p q => Scalar.select (IntOp.cmpi CmpIPredicate.eq T p) (show EReal from q) 0) h1 h2

/-- What a point of the grid stores, of the blocks it reads. -/
def blockOut (i : grid0.Coords) (Y : Vec Ideal S1x8192x512 .bf16) (A : Vec Ideal S1x1x8192 .i32) (X : Vec Ideal S1x1024x512 .f32) (G : Vec Ideal S1x1x512 .f32) :
    FVec Ideal S1024x512 .f32 :=
  k0_pay12 (F := Ideal) (k0_pay2 i) (k0_pay10 (k0_pay2 i) (k0_pay8 (k0_pay2 i) (k0_pay7 (k0_pay2 i) (k0_pay5 (k0_pay2 i) (k0_pay3 i (View.ld A r0_0) (View.ld Y r0_1) (View.ld A r0_2) (View.ld Y r0_3)) (k0_pay4 (F := Ideal) i (View.ld A r0_4)) (Scalar.ofBits .f32 0x3F800000#32) (View.ld Y r0_5) (View.ld A r0_6) (View.ld Y r0_7) (View.ld A r0_8) (View.ld Y r0_9)) (k0_pay6 (F := Ideal) (View.ld A r0_10)) (View.ld Y r0_11) (View.ld A r0_12) (View.ld Y r0_13) (View.ld A r0_14) (View.ld Y r0_15)) (View.ld A r0_16) (View.ld Y r0_17) (View.ld A r0_18) (View.ld Y r0_19)) (k0_pay9 (k0_pay2 i) (View.ld A r0_20) (View.ld Y r0_21)) (View.ld A r0_22) (View.ld Y r0_23) (View.ld A r0_24) (View.ld Y r0_25)) (k0_pay11 (k0_pay2 i) (View.ld A r0_26)) (View.ld Y r0_27) (View.ld A r0_28) (View.ld Y r0_29) (View.ld A r0_30) (View.ld Y r0_31) X G

theorem step (p q q' u u' v v' w w' : EReal) (h0 : q = q') (h1 : u = u') (h2 : v = v') (h3 : w = w') (h : p = q + u + v + w) : p = q' + u' + v' + w' := by
  subst h0 h1 h2 h3
  exact h

/-- The block at an element: residual, gate, and the rows of all slots whose number is the token's. -/
theorem block_apply (i : grid0.Coords) (Y : Vec Ideal S1x8192x512 .bf16) (A : Vec Ideal S1x1x8192 .i32) (X : Vec Ideal S1x1024x512 .f32) (G : Vec Ideal S1x1x512 .f32)
    (r : Fin 1024) (d : Fin 512) :
    blockOut i Y A X G (ix2 r d)
      = (show EReal from X (ix3 0 r d)) + (show EReal from G (ix3 0 0 d)) * ∑ e : Fin 8192, slot (number i r) Y A d e := by
  rw [parts]
  refine (pay12_apply _ _ _ _ _ _ _ _ _ _ r d (number i r) (pay2_apply i r)).trans ?_
  refine congrArg (fun t => (show EReal from X (ix3 0 r d)) + (show EReal from G (ix3 0 0 d)) * t) ?_
  refine step _ _ _ _ _ _ _ _ _ ?_ (chunk_13 _ Y A d) (chunk_14 _ Y A d) (chunk_15 _ Y A d) rfl
  refine step _ _ _ _ _ _ _ _ _ ?_ (chunk_10 _ Y A d) (chunk_11 _ Y A d) (chunk_12 _ Y A d) (pay10_apply _ _ _ _ _ _ _ _ r d (number i r) (pay2_apply i r))
  refine (pay8_apply _ _ _ _ _ _ r d (number i r) (pay2_apply i r)).trans ?_
  refine congrArg₂ (· + ·) (congrArg₂ (· + ·) ?_ (chunk_8 _ Y A d)) (chunk_9 _ Y A d)
  refine step _ _ _ _ _ _ _ _ _ ?_ (chunk_5 _ Y A d) (chunk_6 _ Y A d) (chunk_7 _ Y A d) (pay7_apply _ _ _ _ _ _ _ _ r d (number i r) (pay2_apply i r))
  refine step _ _ _ _ _ _ _ _ _ ?_ (chunk_2 _ Y A d) (chunk_3 _ Y A d) (chunk_4 _ Y A d) (pay5_apply i _ _ _ _ _ _ _ r d)
  refine (pay3_apply i _ _ _ _ r d).trans ?_
  exact congrArg₂ (· + ·) (chunk_0 _ Y A d) (chunk_1 _ Y A d)

end Cert.Proof.Scatter
-- ==== Proof.Scatter.Ref.lean ====
/- The scatter's reference at an element: the rows of all slots whose number is the token's. -/
module

public import proofs.«01_k».proof.Proof.Gen.Reference5Ideal.Read
public import proofs.«01_k».proof.Proof.Experts.Chosen
public import Idealize.ShloMosaic.Lib.Pointwise
public import Idealize.ShloMosaic.Lib.Routing.OpsPair

@[expose] public section

set_option maxRecDepth 16384

noncomputable section

namespace Cert.Proof.Scatter

open Idealize.ShloMosaic Cert.Reference5Ideal Cert.Reference5Ideal.Gen Cert.Reference5Ideal.Read

/-- The number in slot `e` of batch row `n` is a row number. -/
theorem word_row (lg : (⟨S8x4096x16, .f32⟩ : BufTy).Contents (Elt Ideal)) (n : Fin 8) (e : Fin 8192) :
    ∃ t : Fin 4096, val_main_v16 (F := Ideal) lg (ix2 n e) = BitVec.ofNat 32 t.val := by
  rw [val_main_v16_apply]
  exact Experts.chosen_word (FloatOps.cmpfTotal (F := Ideal) (φ := .f32) .gt) (val_main_v12 (F := Ideal) lg) sliceFits_S8x16x4096_S8x16x512 _

/-- The batch index of an update is its own batch row. -/
theorem start_batch (lg : (⟨S8x4096x16, .f32⟩ : BufTy).Contents (Elt Ideal)) (n : Fin 8) (e : Fin 8192) :
    (val_main_v31 (F := Ideal) lg (ix3 n e 0)).toInt = n.val := by
  have h : val_main_v31 (F := Ideal) lg (ix3 n e 0)
      = Scalar.select (IntOp.cmpi .slt (BitVec.ofNat 32 n.val) 0#32) (IntOp.addi (BitVec.ofNat 32 n.val) 8#32) (BitVec.ofNat 32 n.val) := by
    unfold val_main_v31 val_main_v29 val_main_v28 val_main_v22 val_main_v21 val_main_v20 val_main_v19 val_main_v18 val_main_v15 val_main_v14 val_main_c val_main_c_3
    pointwise
  rw [h]
  clear h
  revert n
  decide

/-- The row index of an update is the number in its slot. -/
theorem start_row (lg : (⟨S8x4096x16, .f32⟩ : BufTy).Contents (Elt Ideal)) (n : Fin 8) (e : Fin 8192) :
    (val_main_v31 (F := Ideal) lg (ix3 n e 1)) = val_main_v16 (F := Ideal) lg (ix2 n e) := by
  have h : val_main_v31 (F := Ideal) lg (ix3 n e 1)
      = Scalar.select (IntOp.cmpi .slt (val_main_v16 (F := Ideal) lg (ix2 n e)) 0#32) (IntOp.addi (val_main_v16 (F := Ideal) lg (ix2 n e)) 4096#32)
          (val_main_v16 (F := Ideal) lg (ix2 n e)) := by
    unfold val_main_v31 val_main_v30 val_main_v27 val_main_v26 val_main_v25 val_main_v24 val_main_v23 val_main_c_4 val_main_c_5
    pointwise
  obtain ⟨t, ht⟩ := word_row lg n e
  rw [h, ht]
  have hlt := t.isLt
  rw [show IntOp.cmpi .slt (BitVec.ofNat 32 t.val) 0#32 = 0#1 from by
    show BitVec.ofBool (decide ((BitVec.ofNat 32 t.val).toInt < (0#32 : BitVec 32).toInt)) = 0#1
    rw [Experts.word_toInt, show (0#32 : BitVec 32).toInt = 0 from rfl, decide_eq_false (by omega)]
    rfl]
  rfl

/-- The update's start on the batch axis is read at its first index, and its window coordinate there is zero. -/
theorem axis_batch (idx : IVec S8x8192x2 32) (n : Fin 8) (e : Fin 8192) (d : Fin 1024) :
    scatter_S8x4096x1024_S8x8192x2_S8x8192x1024_2_01_01_2.start (ix3 n e d) idx (0 : Fin 3) + (scatter_S8x4096x1024_S8x8192x2_S8x8192x1024_2_01_01_2.window (ix3 n e d) (0 : Fin 3) : Int) = (idx (ix3 n e 0)).toInt := by
  have m0 : (0 : Fin 3) ∈ scatter_S8x4096x1024_S8x8192x2_S8x8192x1024_2_01_01_2.scatterDimsToOperandDims := by
    show (0 : Fin 3) ∈ ([0, 1] : List (Fin 3)); decide
  have k0 : (0 : Fin 3) ∉ scatter_S8x4096x1024_S8x8192x2_S8x8192x1024_2_01_01_2.sKept := by decide
  unfold ScatterDims.start ScatterDims.window
  rw [dif_pos m0, dif_neg k0]
  have hs : ∀ c, c.val = 0 → scatter_S8x4096x1024_S8x8192x2_S8x8192x1024_2_01_01_2.siIdx (ix3 n e d) c = ix3 n e 0 := by
    intro c hc
    funext a; refine Fin.ext ?_
    match a with
    | ⟨0, _⟩ => rfl
    | ⟨1, _⟩ => rfl
    | ⟨2, _⟩ => exact hc
  rw [hs _ rfl]
  exact Int.add_zero _

/-- The update's start on the row axis is read at its second index, and its window coordinate there is zero. -/
theorem axis_row (idx : IVec S8x8192x2 32) (n : Fin 8) (e : Fin 8192) (d : Fin 1024) :
    scatter_S8x4096x1024_S8x8192x2_S8x8192x1024_2_01_01_2.start (ix3 n e d) idx (1 : Fin 3) + (scatter_S8x4096x1024_S8x8192x2_S8x8192x1024_2_01_01_2.window (ix3 n e d) (1 : Fin 3) : Int) = (idx (ix3 n e 1)).toInt := by
  have m0 : (1 : Fin 3) ∈ scatter_S8x4096x1024_S8x8192x2_S8x8192x1024_2_01_01_2.scatterDimsToOperandDims := by
    show (1 : Fin 3) ∈ ([0, 1] : List (Fin 3)); decide
  have k0 : (1 : Fin 3) ∉ scatter_S8x4096x1024_S8x8192x2_S8x8192x1024_2_01_01_2.sKept := by decide
  unfold ScatterDims.start ScatterDims.window
  rw [dif_pos m0, dif_neg k0]
  have hs : ∀ c, c.val = 1 → scatter_S8x4096x1024_S8x8192x2_S8x8192x1024_2_01_01_2.siIdx (ix3 n e d) c = ix3 n e 1 := by
    intro c hc
    funext a; refine Fin.ext ?_
    match a with
    | ⟨0, _⟩ => rfl
    | ⟨1, _⟩ => rfl
    | ⟨2, _⟩ => exact hc
  rw [hs _ rfl]
  exact Int.add_zero _

/-- On the lane axis the update keeps its own lane. -/
theorem axis_lane (idx : IVec S8x8192x2 32) (n : Fin 8) (e : Fin 8192) (d : Fin 1024) :
    scatter_S8x4096x1024_S8x8192x2_S8x8192x1024_2_01_01_2.start (ix3 n e d) idx (2 : Fin 3) + (scatter_S8x4096x1024_S8x8192x2_S8x8192x1024_2_01_01_2.window (ix3 n e d) (2 : Fin 3) : Int) = d.val :=
  Int.zero_add _

/-- Where an update lands. -/
theorem lands (lg : (⟨S8x4096x16, .f32⟩ : BufTy).Contents (Elt Ideal)) (n n' : Fin 8) (e : Fin 8192) (d d' : Fin 1024) (t : Fin 4096) :
    scatter_S8x4096x1024_S8x8192x2_S8x8192x1024_2_01_01_2.resultIdx? (ix3 n' e d') (val_main_v31 (F := Ideal) lg) = some (ix3 n t d)
      ↔ n' = n ∧ BitVec.ofNat 32 t.val = val_main_v16 (F := Ideal) lg (ix2 n' e) ∧ d' = d := by
  rw [Routing.resultIdx?_eq_some]
  have s0 : scatter_S8x4096x1024_S8x8192x2_S8x8192x1024_2_01_01_2.start (ix3 n' e d') (val_main_v31 (F := Ideal) lg) (0 : Fin 3)
      + (scatter_S8x4096x1024_S8x8192x2_S8x8192x1024_2_01_01_2.window (ix3 n' e d') (0 : Fin 3) : Int) = n'.val :=
    (axis_batch _ n' e d').trans (start_batch lg n' e)
  have s1 : scatter_S8x4096x1024_S8x8192x2_S8x8192x1024_2_01_01_2.start (ix3 n' e d') (val_main_v31 (F := Ideal) lg) (1 : Fin 3)
      + (scatter_S8x4096x1024_S8x8192x2_S8x8192x1024_2_01_01_2.window (ix3 n' e d') (1 : Fin 3) : Int) = (val_main_v16 (F := Ideal) lg (ix2 n' e)).toInt :=
    (axis_row _ n' e d').trans (congrArg _ (start_row lg n' e))
  have s2 : scatter_S8x4096x1024_S8x8192x2_S8x8192x1024_2_01_01_2.start (ix3 n' e d') (val_main_v31 (F := Ideal) lg) (2 : Fin 3)
      + (scatter_S8x4096x1024_S8x8192x2_S8x8192x1024_2_01_01_2.window (ix3 n' e d') (2 : Fin 3) : Int) = d'.val :=
    axis_lane _ n' e d'
  obtain ⟨u, hu⟩ := word_row lg n' e
  rw [hu, Experts.word_toInt] at s1
  constructor
  · intro h
    have h0 := (h (0 : Fin 3)).symm.trans s0
    have h1 := (h (1 : Fin 3)).symm.trans s1
    have h2 := (h (2 : Fin 3)).symm.trans s2
    have e0 : ((n.val : ℕ) : Int) = n'.val := h0
    have e1 : ((t.val : ℕ) : Int) = u.val := h1
    have e2 : ((d.val : ℕ) : Int) = d'.val := h2
    refine ⟨Fin.ext (by omega), ?_, Fin.ext (by omega)⟩
    rw [hu, show t.val = u.val by omega]
  · rintro ⟨rfl, h1, rfl⟩
    rw [hu] at h1
    have e1 : t = u := by
      have := congrArg BitVec.toNat h1
      rw [BitVec.toNat_ofNat, BitVec.toNat_ofNat] at this
      exact Fin.ext (by omega)
    subst e1
    intro a
    match a with
    | ⟨0, _⟩ => exact s0
    | ⟨1, _⟩ => exact s1
    | ⟨2, _⟩ => exact s2

theorem select_eq (a b : BitVec 32) (y : EReal) : Scalar.select (IntOp.cmpi CmpIPredicate.eq a b) y 0 = if a = b then y else 0 := by
  by_cases h : a = b
  · subst h
    rw [if_pos rfl, show IntOp.cmpi CmpIPredicate.eq a a = 1#1 from by simp [IntOp.cmpi]]
    rfl
  · rw [if_neg h, show IntOp.cmpi CmpIPredicate.eq a b = 0#1 from by
      show BitVec.ofBool (a == b) = 0#1
      rw [beq_eq_false_iff_ne.mpr h]
      rfl]
    rfl

/-- The scattered sums at an element. -/
theorem scattered (ys : (⟨S8x16x512x1024, .bf16⟩ : BufTy).Contents (Elt Ideal)) (lg : (⟨S8x4096x16, .f32⟩ : BufTy).Contents (Elt Ideal))
    (n : Fin 8) (t : Fin 4096) (d : Fin 1024) :
    val_main_v32 (F := Ideal) ys lg (ix3 n t d)
      = ∑ e : Fin 8192, Scalar.select (IntOp.cmpi CmpIPredicate.eq (BitVec.ofNat 32 t.val) (val_main_v16 (F := Ideal) lg (ix2 n e)))
          (show EReal from val_main_v17 (F := Ideal) ys (ix3 n e d)) 0 := by
  refine Eq.trans (b := (show EReal from val_main_v13 (F := Ideal) (ix3 n t d)) + ∑ j ∈ Finset.univ.filter (fun j =>
    scatter_S8x4096x1024_S8x8192x2_S8x8192x1024_2_01_01_2.resultIdx? j (val_main_v31 (F := Ideal) lg) = some (ix3 n t d)), (show EReal from val_main_v17 (F := Ideal) ys j)) rfl ?_
  have z : (show EReal from val_main_v13 (F := Ideal) (ix3 n t d)) = 0 := by
    unfold val_main_v13 val_main_cst_2
    pointwise
  rw [z, zero_add]
  simp only [select_eq]
  rw [← Finset.sum_filter]
  refine Finset.sum_nbij' (fun j => (j 1 : Fin 8192)) (fun e => ix3 n e d) ?_ ?_ ?_ ?_ ?_
  all_goals intro j hj
  all_goals have hj := (Finset.mem_filter.1 hj).2
  · obtain ⟨n', e, d', rfl⟩ : ∃ (n' : Fin 8) (e : Fin 8192) (d' : Fin 1024), j = ix3 n' e d' := ⟨j 0, j 1, j 2, eq_ix3 (n0 := 8) (n1 := 8192) (n2 := 1024) j⟩
    obtain ⟨rfl, h, rfl⟩ := (lands lg _ _ _ _ _ _).1 hj
    exact Finset.mem_filter.2 ⟨Finset.mem_univ _, h⟩
  · exact Finset.mem_filter.2 ⟨Finset.mem_univ _, (lands lg _ _ _ _ _ _).2 ⟨rfl, hj, rfl⟩⟩
  · obtain ⟨n', e, d', rfl⟩ : ∃ (n' : Fin 8) (e : Fin 8192) (d' : Fin 1024), j = ix3 n' e d' := ⟨j 0, j 1, j 2, eq_ix3 (n0 := 8) (n1 := 8192) (n2 := 1024) j⟩
    obtain ⟨rfl, h, rfl⟩ := (lands lg _ _ _ _ _ _).1 hj
    rfl
  · rfl
  · obtain ⟨n', e, d', rfl⟩ : ∃ (n' : Fin 8) (e : Fin 8192) (d' : Fin 1024), j = ix3 n' e d' := ⟨j 0, j 1, j 2, eq_ix3 (n0 := 8) (n1 := 8192) (n2 := 1024) j⟩
    obtain ⟨rfl, h, rfl⟩ := (lands lg _ _ _ _ _ _).1 hj
    rfl

/-- The reference at an element. -/
theorem ref_apply (ys : (⟨S8x16x512x1024, .bf16⟩ : BufTy).Contents (Elt Ideal)) (lg : (⟨S8x4096x16, .f32⟩ : BufTy).Contents (Elt Ideal))
    (x : (⟨S8x4096x1024, .f32⟩ : BufTy).Contents (Elt Ideal)) (g : (⟨S8x1x1024, .f32⟩ : BufTy).Contents (Elt Ideal))
    (n : Fin 8) (t : Fin 4096) (d : Fin 1024) :
    val_main_v35 (F := Ideal) ys lg x g (ix3 n t d)
      = (show EReal from x (ix3 n t d)) + (show EReal from g (ix3 n 0 d)) *
        ∑ e : Fin 8192, Scalar.select (IntOp.cmpi CmpIPredicate.eq (BitVec.ofNat 32 t.val) (val_main_v16 (F := Ideal) lg (ix2 n e)))
          (show EReal from val_main_v17 (F := Ideal) ys (ix3 n e d)) 0 := by
  rw [← scattered]
  unfold val_main_v35 val_main_v34 val_main_v33
  pointwise

end Cert.Proof.Scatter
-- ==== Proof.Scatter.Value.lean ====
/- The scatter as a whole: each point of the grid writes one block of tokens and lanes, and the array the run leaves is the
   reference's. -/
module

public import proofs.«01_k».proof.Proof.Scatter.Block
public import proofs.«01_k».proof.Proof.Scatter.Ref
public import Idealize.ShloMosaic.Lib.Pipeline.ValueKit
public import Idealize.ShloMosaic.Lib.Pipeline.ReadBack
public import Idealize.ShloMosaic.Lib.Claim

@[expose] public section

set_option maxRecDepth 16384

noncomputable section

namespace Cert.Proof.Scatter

open Idealize.ShloMosaic Idealize.ShloMosaic.TcCoe Idealize.SL.Sem
open Cert.Kernel5Ideal Cert.Kernel5Ideal.Gen Cert.Kernel5Ideal.Value

variable (m : (ℓ : Loc nD τ sig) → Buf (Elt Ideal) ℓ)

/-- The numbers of the slots as the region finds them. -/
theorem entry_idx (c : Dev nD) (b : Fin 8) (e : Fin 8192) :
    V m c main_v13 (ix3 b 0 e)
      = Cert.Reference5Ideal.Read.val_main_v16 (F := Ideal) (m ((c : Thread nD τ).loc main_arg1)) (ix2 b e) := by
  rw [Cert.Reference5Ideal.Read.val_main_v16_apply]
  entry_read
  refine (shapeCast_apply _ shapeCasts_S8x16x512_S8x1x8192 _ (Cert.Reference5Ideal.Read.idx_main_v16 (ix2 b e)) ?_).trans ?_
  · rewrite [Shape.rowMajor_val_three, Shape.rowMajor_val_three]
    show ((b.val * 8192 + e.val) / 8192 * 16 + (b.val * 8192 + e.val) / 512 % 16) * 512 + (b.val * 8192 + e.val) % 512 = (b.val * 1 + 0) * 8192 + e.val
    have := b.isLt
    have := e.isLt
    omega
  · rfl

/-- The rows of the slots as the region finds them. -/
theorem entry_ys (c : Dev nD) (b : Fin 8) (e : Fin 8192) (d : Fin 1024) :
    V m c main_v12 (ix3 b e d)
      = Cert.Reference5Ideal.Read.val_main_v17 (F := Ideal) (m ((c : Thread nD τ).loc main_arg0)) (ix3 b e d) := by
  entry_read
  rfl

/-- Where each window's block lies at a point. -/
theorem places : ∀ t : Fin grid0.N,
    win0_0.index t = ![t.val / 8, 0, t.val / 4 % 2] ∧ win0_1.index t = ![t.val / 8, 0, 0]
    ∧ win0_2.index t = ![t.val / 8, t.val % 4, t.val / 4 % 2] ∧ win0_3.index t = ![t.val / 8, 0, t.val / 4 % 2]
    ∧ win0_4.index t = ![t.val / 8, t.val % 4, t.val / 4 % 2] := by decide +kernel

/-- The third coordinate of a point. -/
theorem third : ∀ t : Fin grid0.N, (grid0.coords t 2).val = t.val % 4 := by decide +kernel

/-- The number of a point's row is the row's number in the whole. -/
theorem number_eq (t : Fin grid0.N) (r : Fin 1024) : number (grid0.coords t) r = BitVec.ofNat 32 (t.val % 4 * 1024 + r.val) := by
  unfold number
  rw [third]
  show BitVec.ofNat 32 r.val + BitVec.ofNat 32 (t.val % 4) * BitVec.ofNat 32 1024 = _
  rw [← BitVec.ofNat_mul, ← BitVec.ofNat_add, Nat.add_comm]

set_option maxHeartbeats 4000000 in
/-- THE ARRAY AFTER THE RUN is the reference's result. -/
theorem final (c : Dev nD) :
    (dats m 0 c).arrAt 4 cfg0.N
      = Cert.Reference5Ideal.Read.val_main_v35 (F := Ideal) (m ((c : Thread nD τ).loc main_arg0)) (m ((c : Thread nD τ).loc main_arg1))
          (m ((c : Thread nD τ).loc main_arg2)) (m ((c : Thread nD τ).loc main_arg3)) := by
  refine (dats m 0 c).arrAt_eq_of_covers 4 _ (by decide +kernel) fun t hf y => ?_
  have ht : t.val < 64 := lt_of_lt_of_eq t.isLt N_0
  have hb : t.val / 8 < 8 := by omega
  obtain ⟨p0, p1, p2, p3, p4⟩ := places t
  rw [after0_4]
  frame_out
  obtain ⟨u, r, d, rfl⟩ : ∃ (u : Fin 1) (r : Fin 1024) (d : Fin 512), y = ix3 u r d :=
    ⟨y 0, y 1, y 2, eq_ix3 (n0 := 1) (n1 := 1024) (n2 := 512) y⟩
  obtain rfl : u = 0 := Subsingleton.elim _ _
  have hr : t.val % 4 * 1024 + r.val < 4096 := by omega
  have hd : t.val / 4 % 2 * 512 + d.val < 1024 := by omega
  have e : ((cfg0.win 4).blk t).view.emb (ix3 0 r d)
      = ix3 (⟨t.val / 8, hb⟩ : Fin 8) (⟨t.val % 4 * 1024 + r.val, hr⟩ : Fin 4096) (⟨t.val / 4 % 2 * 512 + d.val, hd⟩ : Fin 1024) := by
    blk_ext [p4]
  have r0 : ∀ k : Fin 8192, iblk m c 0 t (ix3 0 k d)
      = Cert.Reference5Ideal.Read.val_main_v17 (F := Ideal) (m ((c : Thread nD τ).loc main_arg0)) (ix3 (⟨t.val / 8, hb⟩ : Fin 8) k (⟨t.val / 4 % 2 * 512 + d.val, hd⟩ : Fin 1024)) := by
    intro k
    exact Eq.trans (b := V m c main_v12 (ix3 (⟨t.val / 8, hb⟩ : Fin 8) k (⟨t.val / 4 % 2 * 512 + d.val, hd⟩ : Fin 1024))) (by blk_ext [iblk, p0]) (entry_ys m c _ k _)
  have r1 : ∀ k : Fin 8192, iblk m c 1 t (ix3 0 0 k)
      = Cert.Reference5Ideal.Read.val_main_v16 (F := Ideal) (m ((c : Thread nD τ).loc main_arg1)) (ix2 (⟨t.val / 8, hb⟩ : Fin 8) k) := by
    intro k
    exact Eq.trans (b := V m c main_v13 (ix3 (⟨t.val / 8, hb⟩ : Fin 8) 0 k)) (by blk_ext [iblk, p1]) (entry_idx m c _ k)
  have r2 : iblk m c 2 t (ix3 0 r d)
      = m ((c : Thread nD τ).loc main_arg2) (ix3 (⟨t.val / 8, hb⟩ : Fin 8) (⟨t.val % 4 * 1024 + r.val, hr⟩ : Fin 4096) (⟨t.val / 4 % 2 * 512 + d.val, hd⟩ : Fin 1024)) := by
    refine Eq.trans (b := V m c main_arg2 (ix3 (⟨t.val / 8, hb⟩ : Fin 8) (⟨t.val % 4 * 1024 + r.val, hr⟩ : Fin 4096) (⟨t.val / 4 % 2 * 512 + d.val, hd⟩ : Fin 1024))) (by blk_ext [iblk, p2]) ?_
    rw [V_main_arg2]
  have r3 : iblk m c 3 t (ix3 0 0 d)
      = m ((c : Thread nD τ).loc main_arg3) (ix3 (⟨t.val / 8, hb⟩ : Fin 8) 0 (⟨t.val / 4 % 2 * 512 + d.val, hd⟩ : Fin 1024)) := by
    refine Eq.trans (b := V m c main_arg3 (ix3 (⟨t.val / 8, hb⟩ : Fin 8) 0 (⟨t.val / 4 % 2 * 512 + d.val, hd⟩ : Fin 1024))) (by blk_ext [iblk, p3]) ?_
    rw [V_main_arg3]
  refine Eq.trans ?_ (congrArg _ e.symm)
  refine Eq.trans ?_ (ref_apply _ _ _ _ _ _ _).symm
  refine Eq.trans (b := k0_pay1 (F := Ideal) (blockOut (grid0.coords t) (iblk m c 0 t) (iblk m c 1 t) (iblk m c 2 t) (iblk m c 3 t)) (ix3 0 r d)) rfl ?_
  refine Eq.trans (b := blockOut (grid0.coords t) (iblk m c 0 t) (iblk m c 1 t) (iblk m c 2 t) (iblk m c 3 t) (ix2 r d)) ?_ ?_
  · generalize blockOut (grid0.coords t) (iblk m c 0 t) (iblk m c 1 t) (iblk m c 2 t) (iblk m c 3 t) = B
    pointwise [k0_pay1]
  refine (block_apply _ _ _ _ _ r d).trans ?_
  refine congrArg₂ (fun p q : EReal => p + q) r2 (congrArg₂ (fun p q : EReal => p * q) r3 (Finset.sum_congr rfl fun k _ => ?_))
  unfold slot
  rw [number_eq]
  exact congrArg₂ (fun p (q : EReal) => Scalar.select (IntOp.cmpi CmpIPredicate.eq (BitVec.ofNat 32 (t.val % 4 * 1024 + r.val)) p) q 0) (r1 k) (r0 k)

end Cert.Proof.Scatter
-- ==== Proof.Scatter.Claims.lean ====
/- The scatter's claim: kernel and reference compute the same array. -/
module

public import proofs.«01_k».proof.Proof.Scatter.Frame
public import proofs.«01_k».proof.Proof.Scatter.Value

@[expose] public section

set_option maxRecDepth 16384

noncomputable section

namespace Cert.Proof.Scatter

open Idealize.ShloMosaic Idealize.SL.Sem

theorem algebraic : Cert.algebraic_Kernel5Ideal_Reference5Ideal := fun m ρ m' ρ' _ hag =>
  ⟨fun c => Cert.Reference5Ideal.Read.val_main_v35 (F := Ideal) (m' (c.tc.loc Cert.Reference5Ideal.main_arg0)) (m' (c.tc.loc Cert.Reference5Ideal.main_arg1))
      (m' (c.tc.loc Cert.Reference5Ideal.main_arg2)) (m' (c.tc.loc Cert.Reference5Ideal.main_arg3)),
    (θ_run _ _ _).mono (fun _ h c => ⟨(h c).1.trans (by
        obtain ⟨a0, a1, a2, a3⟩ := hag c
        beta_reduce
        rw [final m c, a0, a1, a2, a3]), (h c).2⟩)
      (Cert.Kernel5Ideal.Value.run_blocks m ρ),
    (θ_run _ _ _).mono (fun _ h c => ⟨(h c).1.trans (by rw [Cert.Reference5Ideal.Read.val_main_v35_eq]), (h c).2⟩)
      (Cert.Reference5Ideal.Value.run m' ρ')⟩

end Cert.Proof.Scatter
-- ==== Proof.EvenProj.Block.lean ====
/- One block of the even layers' input projection: normed, scaled and shifted rows against the weight's columns, element by element. -/
module

public import proofs.«01_k».proof.Proof.Gen.Kernel6Ideal.Frame
public import Idealize.ShloMosaic.Lib.Pointwise

@[expose] public section

set_option maxRecDepth 16384

noncomputable section

namespace Cert.Proof.EvenProj

open Idealize.ShloMosaic Cert.Kernel6Ideal Cert.Kernel6Ideal.Gen

/-- The scratch at row `r`, lane `k`: the normed row, scaled and shifted. -/
theorem row_apply (x : Vec Ideal S1x512x1024 .f32) (sc sh : Vec Ideal S1x1x1024 .f32) (r : Fin 512) (k : Fin 1024) :
    k0_pay1 (F := Ideal) x sc sh (ix2 r k)
      = x (ix3 0 r k) * Ideal.rsqrt (Ideal.div (∑ j : Fin 1024, x (ix3 0 r j) * x (ix3 0 r j)) (Ideal.ofBits .f32 0x44800000#32)
          + Ideal.ofBits .f32 0x358637BD#32) * sc (ix3 0 0 k) + sh (ix3 0 0 k) := by
  pointwise [k0_pay1]

/-- The first output's block: the scratch against the first columns. -/
theorem pay_mla (v : Vec Ideal S512x1024 .bf16) (w : Vec Ideal S1024x768 .bf16) (r : Fin 512) (d : Fin 768) :
    k0_pay2 (F := Ideal) v w (ix3 0 r d) = ∑ k : Fin 1024, v (ix2 r k) * w (ix2 k d) := by
  pointwise [k0_pay2]

/-- The second output's block: the scratch against the other columns. -/
theorem pay_cv (v : Vec Ideal S512x1024 .bf16) (w : Vec Ideal S1024x1024 .bf16) (r : Fin 512) (d : Fin 1024) :
    k0_pay3 (F := Ideal) v w (ix3 0 r d) = ∑ k : Fin 1024, v (ix2 r k) * w (ix2 k d) := by
  pointwise [k0_pay3]

end Cert.Proof.EvenProj
-- ==== Proof.EvenProj.Ref.lean ====
/- The reference of the even layers' input projection, element by element. -/
module

public import proofs.«01_k».proof.Proof.Gen.Reference6Ideal.Read
public import Idealize.ShloMosaic.Lib.Pointwise

@[expose] public section

set_option maxRecDepth 16384

noncomputable section

namespace Cert.Proof.EvenProj

open Idealize.ShloMosaic Cert.Reference6Ideal Cert.Reference6Ideal.Read

/-- The norm's gain times one plus the scale. -/
def gain (g : Vec Ideal S1024 .f32) (sc : Vec Ideal S8x1x1024 .f32) (b : Fin 8) (k : Fin 1024) : EReal :=
  g (ix1 k) * (1 + sc (ix3 b 0 k))

/-- A normed row, scaled and shifted. -/
def normed (x : Vec Ideal S8x4096x1024 .f32) (g : Vec Ideal S1024 .f32) (sc sh : Vec Ideal S8x1x1024 .f32)
    (b : Fin 8) (r : Fin 4096) (k : Fin 1024) : EReal :=
  x (ix3 b r k) * Ideal.rsqrt (Ideal.div (∑ j : Fin 1024, x (ix3 b r j) * x (ix3 b r j)) (Ideal.ofBits .f32 0x44800000#32)
      + Ideal.ofBits .f32 0x358637BD#32) * gain g sc b k + sh (ix3 b 0 k)

/-- The product of the normed rows with the weight. -/
theorem ref_all (x : Vec Ideal S8x4096x1024 .f32) (g : Vec Ideal S1024 .f32) (sc sh : Vec Ideal S8x1x1024 .f32) (w : Vec Ideal S1024x1696 .f32)
    (b : Fin 8) (r : Fin 4096) (d : Fin 1696) :
    val_main_v19 (F := Ideal) x g sc sh w (ix3 b r d) = ∑ k : Fin 1024, normed x g sc sh b r k * w (ix2 k d) := by
  pointwise [val_main_v19, val_main_v18, val_main_v17, val_main_v16, val_main_v15, val_main_v14, val_main_v13, val_main_cst_2, val_main_v12,
    val_main_v11, val_main_v10, val_main_v9, val_main_v8, val_main_v7, val_main_v6, val_main_v5, val_main_v4, val_main_v3, val_main_v2,
    val_main_v1, val_main_v0, val_main_cst, val_main_cst_0, val_main_cst_1]
  simp only [normed, gain, mul_assoc]

/-- The reference's first result: the first columns. -/
theorem ref_mla (x : Vec Ideal S8x4096x1024 .f32) (g : Vec Ideal S1024 .f32) (sc sh : Vec Ideal S8x1x1024 .f32) (w : Vec Ideal S1024x1696 .f32)
    (b : Fin 8) (r : Fin 4096) (d : Fin 672) :
    val_main_v20 (F := Ideal) x g sc sh w (ix3 b r d) = ∑ k : Fin 1024, normed x g sc sh b r k * w (ix2 k ⟨d.val, by omega⟩) := by
  rw [← ref_all]
  pointwise [val_main_v20]

/-- The reference's second result: the other columns. -/
theorem ref_cv (x : Vec Ideal S8x4096x1024 .f32) (g : Vec Ideal S1024 .f32) (sc sh : Vec Ideal S8x1x1024 .f32) (w : Vec Ideal S1024x1696 .f32)
    (b : Fin 8) (r : Fin 4096) (d : Fin 1024) :
    val_main_v21 (F := Ideal) x g sc sh w (ix3 b r d) = ∑ k : Fin 1024, normed x g sc sh b r k * w (ix2 k ⟨672 + d.val, by omega⟩) := by
  rw [← ref_all]
  pointwise [val_main_v21]

end Cert.Proof.EvenProj
-- ==== Proof.EvenProj.Value.lean ====
/- The even layers' input projection as a whole: each point of the grid writes one block of rows, and the arrays the run
   leaves, the first cut to the columns the reference has, are the reference's. -/
module

public import proofs.«01_k».proof.Proof.Gen.Kernel6Ideal.Frame
public import proofs.«01_k».proof.Proof.EvenProj.Block
public import proofs.«01_k».proof.Proof.EvenProj.Ref
public import Idealize.ShloMosaic.Lib.Pipeline.ValueKit
public import Idealize.ShloMosaic.Lib.Pipeline.ReadBack
public import Idealize.ShloMosaic.Lib.Claim

@[expose] public section

set_option maxRecDepth 16384

noncomputable section

namespace Cert.Proof.EvenProj

open Idealize.ShloMosaic Idealize.ShloMosaic.TcCoe Idealize.SL.Sem
open Cert.Kernel6Ideal Cert.Kernel6Ideal.Gen

variable (m : (ℓ : Loc nD τ sig) → Buf (Elt Ideal) ℓ) (ρ : Dev nD → PrngReg)

/-- The scale as the region finds it. -/
theorem entry_scale (c : Dev nD) (b : Fin 8) (k : Fin 1024) :
    V m c main_v19 (ix3 b 0 k) = gain (m ((c : Thread nD τ).loc main_arg1)) (m ((c : Thread nD τ).loc main_arg2)) b k := by
  unfold V V0 hostOps0
  simp only [List.flatten_cons, List.flatten_nil, List.append_nil, StableHlo.after_cons, StableHlo.after_nil]
  after_results_simp
  pointwise
  rfl

/-- A column before the cut of two arrays set side by side. -/
theorem join_left (a : Vec Ideal S1024x768 .f32) (b : Vec Ideal S1024x1024 .f32) (k : Fin 1024) (d : Fin 768) :
    truncf (F := Ideal) .bf16 (concatenate S1024x1792 1 [⟨S1024x768, a⟩, ⟨S1024x1024, b⟩] concatenates_S1024x768_S1024x1024_S1024x1792_d1)
      bitsLt_bf16_f32 (ix2 k (⟨d.val, by omega⟩ : Fin 1792)) = a (ix2 k d) := by
  pointwise

/-- A column behind the cut. -/
theorem join_right (a : Vec Ideal S1024x768 .f32) (b : Vec Ideal S1024x1024 .f32) (k : Fin 1024) (d : Fin 1024) :
    truncf (F := Ideal) .bf16 (concatenate S1024x1792 1 [⟨S1024x768, a⟩, ⟨S1024x1024, b⟩] concatenates_S1024x768_S1024x1024_S1024x1792_d1)
      bitsLt_bf16_f32 (ix2 k (⟨768 + d.val, by omega⟩ : Fin 1792)) = b (ix2 k d) := by
  pointwise

/-- A column of the first of three arrays set side by side. -/
theorem join_first (a : Vec Ideal S1024x672 .f32) (b : Vec Ideal S1024x32 .f32) (z : Vec Ideal S1024x64 .f32) (k : Fin 1024) (d : Fin 672) :
    (concatenate S1024x768 1 [⟨S1024x672, a⟩, ⟨S1024x32, b⟩, ⟨S1024x64, z⟩] concatenates_S1024x672_S1024x32_S1024x64_S1024x768_d1
      : Vec Ideal S1024x768 .f32) (ix2 k (⟨d.val, by omega⟩ : Fin 768)) = a (ix2 k d) := by
  pointwise

/-- The first columns of the padded weight as the region finds it are the weight's. -/
theorem entry_mla (c : Dev nD) (k : Fin 1024) (d : Fin 672) :
    V m c main_v14 (ix2 k ⟨d.val, by omega⟩) = m ((c : Thread nD τ).loc main_arg4) (ix2 k ⟨d.val, by omega⟩) := by
  unfold V V0 hostOps0
  simp only [List.flatten_cons, List.flatten_nil, List.append_nil, StableHlo.after_cons, StableHlo.after_nil]
  after_results_simp
  refine (join_left _ _ k ⟨d.val, by omega⟩).trans ?_
  after_results_simp
  refine (join_first _ _ _ k d).trans ?_
  dsimp only [Matrix.cons_val]
  after_results_simp
  pointwise

/-- Behind the padding the padded weight has the weight's other columns. -/
theorem entry_cv (c : Dev nD) (k : Fin 1024) (d : Fin 1024) :
    V m c main_v14 (ix2 k ⟨768 + d.val, by omega⟩) = m ((c : Thread nD τ).loc main_arg4) (ix2 k ⟨672 + d.val, by omega⟩) := by
  unfold V V0 hostOps0
  simp only [List.flatten_cons, List.flatten_nil, List.append_nil, StableHlo.after_cons, StableHlo.after_nil]
  after_results_simp
  refine (join_right _ _ k d).trans ?_
  after_results_simp
  pointwise

/-- Where each window's block lies at a point. -/
theorem places : ∀ t : Fin grid0.N,
    win0_0.index t = ![t.val / 8, t.val % 8, 0] ∧ win0_1.index t = ![0, 0]
    ∧ win0_2.index t = ![t.val / 8, 0, 0] ∧ win0_3.index t = ![t.val / 8, 0, 0]
    ∧ win0_4.index t = ![t.val / 8, t.val % 8, 0] ∧ win0_5.index t = ![t.val / 8, t.val % 8, 0] := by decide +kernel

/-- A row of the scratch at a point is the reference's normed row. -/
theorem row_point (c : Dev nD) (t : Fin cfg0.N) {r : Fin 512} (hb : t.val / 8 < 8) (hr : t.val % 8 * 512 + r.val < 4096) (k : Fin 1024) :
    k0_pay1 (F := Ideal) (iblk m c 0 t) (iblk m c 2 t) (iblk m c 3 t) (ix2 r k)
      = normed (m ((c : Thread nD τ).loc main_arg0)) (m ((c : Thread nD τ).loc main_arg1)) (m ((c : Thread nD τ).loc main_arg2))
          (m ((c : Thread nD τ).loc main_arg3)) ⟨t.val / 8, hb⟩ ⟨t.val % 8 * 512 + r.val, hr⟩ k := by
  obtain ⟨p0, p1, p2, p3, -, -⟩ := places t
  have r0 : ∀ j : Fin 1024, iblk m c 0 t (ix3 0 r j)
      = m ((c : Thread nD τ).loc main_arg0) (ix3 (⟨t.val / 8, hb⟩ : Fin 8) (⟨t.val % 8 * 512 + r.val, hr⟩ : Fin 4096) j) := by
    intro j
    refine Eq.trans (b := V m c main_arg0 (ix3 (⟨t.val / 8, hb⟩ : Fin 8) (⟨t.val % 8 * 512 + r.val, hr⟩ : Fin 4096) j)) (by blk_ext [iblk, p0]) ?_
    rw [V_main_arg0]
  have r2 : iblk m c 2 t (ix3 0 0 k) = V m c main_v19 (ix3 (⟨t.val / 8, hb⟩ : Fin 8) 0 k) := by blk_ext [iblk, p2]
  have r3 : iblk m c 3 t (ix3 0 0 k) = m ((c : Thread nD τ).loc main_arg3) (ix3 (⟨t.val / 8, hb⟩ : Fin 8) 0 k) := by
    refine Eq.trans (b := V m c main_arg3 (ix3 (⟨t.val / 8, hb⟩ : Fin 8) 0 k)) (by blk_ext [iblk, p3]) ?_
    rw [V_main_arg3]
  rw [entry_scale] at r2
  refine (row_apply _ _ _ r k).trans ?_
  simp only [normed, r0, r2, r3]

/-- The weight's block is the whole padded weight. -/
theorem weight_point (c : Dev nD) (t : Fin cfg0.N) (k : Fin 1024) (d : Fin 1792) :
    iblk m c 1 t (ix2 k d) = V m c main_v14 (ix2 k d) := by
  obtain ⟨-, p1, -, -, -, -⟩ := places t
  blk_ext [iblk, p1]

/-- The first output with all its columns: the normed rows against the first columns of the padded weight. -/
def wide (c : Dev nD) : Vec Ideal S8x4096x768 .f32 := fun i =>
  ∑ k : Fin 1024, normed (m ((c : Thread nD τ).loc main_arg0)) (m ((c : Thread nD τ).loc main_arg1)) (m ((c : Thread nD τ).loc main_arg2))
    (m ((c : Thread nD τ).loc main_arg3)) (i 0) (i 1) k * V m c main_v14 (ix2 k ⟨(i 2).val, Nat.lt_of_lt_of_le (i 2).isLt (by decide)⟩)

set_option maxHeartbeats 1000000 in
/-- THE FIRST ARRAY AFTER THE RUN. -/
theorem final_mla (c : Dev nD) : (dats m 0 c).arrAt 4 cfg0.N = wide m c := by
  refine (dats m 0 c).arrAt_eq_of_covers 4 _ (by decide +kernel) fun t hf y => ?_
  have ht : t.val < 64 := lt_of_lt_of_eq t.isLt N_0
  have hb : t.val / 8 < 8 := by omega
  obtain ⟨-, -, -, -, p4, p5⟩ := places t
  rw [after0_4]
  simp only [outsAt0]
  frame_out
  obtain ⟨u, r, d, rfl⟩ : ∃ (u : Fin 1) (r : Fin 512) (d : Fin 768), y = ix3 u r d :=
    ⟨y 0, y 1, y 2, eq_ix3 (n0 := 1) (n1 := 512) (n2 := 768) y⟩
  obtain rfl : u = 0 := Subsingleton.elim _ _
  have hr : t.val % 8 * 512 + r.val < 4096 := by omega
  have e : ((cfg0.win 4).blk t).view.emb (ix3 0 r d) = ix3 (⟨t.val / 8, hb⟩ : Fin 8) (⟨t.val % 8 * 512 + r.val, hr⟩ : Fin 4096) d := by
    blk_ext [p4]
  refine Eq.trans ?_ (congrArg _ e.symm)
  refine Eq.trans (b := k0_pay2 (F := Ideal) (k0_pay1 (iblk m c 0 t) (iblk m c 2 t) (iblk m c 3 t))
    (View.ld (iblk m c 1 t) (Rect.unit ![0, 0] ![1024, 768] inb_S1024x1792_S1024x768_0_0)) (ix3 0 r d)) rfl ?_
  refine (pay_mla _ _ r d).trans (Finset.sum_congr rfl fun k _ => ?_)
  rw [row_point m c t hb hr]
  congr 1
  refine Eq.trans (b := (iblk m c 1 t) (ix2 k ⟨d.val, by omega⟩)) (by pointwise) (weight_point m c t k _)

/-- Cut to the reference's columns it is the reference's first result. -/
theorem final_cut (c : Dev nD) :
    extractStridedSlice S8x4096x672 ![0, 0, 0] (wide m c) slices_S8x4096x768_S8x4096x672_0_0_0
      = Cert.Reference6Ideal.Read.val_main_v20 (F := Ideal) (m ((c : Thread nD τ).loc main_arg0)) (m ((c : Thread nD τ).loc main_arg1))
          (m ((c : Thread nD τ).loc main_arg2)) (m ((c : Thread nD τ).loc main_arg3)) (m ((c : Thread nD τ).loc main_arg4)) := by
  funext y
  obtain ⟨b, r, d, rfl⟩ : ∃ (b : Fin 8) (r : Fin 4096) (d : Fin 672), y = ix3 b r d :=
    ⟨y 0, y 1, y 2, eq_ix3 (n0 := 8) (n1 := 4096) (n2 := 672) y⟩
  refine Eq.trans ?_ (ref_mla _ _ _ _ _ b r d).symm
  refine Eq.trans (b := wide m c (ix3 b r ⟨d.val, by omega⟩)) (by pointwise) ?_
  exact Finset.sum_congr rfl fun k _ => congrArg _ (entry_mla m c k d)

set_option maxHeartbeats 1000000 in
/-- THE SECOND ARRAY AFTER THE RUN is the reference's second result. -/
theorem final_cv (c : Dev nD) :
    (dats m 0 c).arrAt 5 cfg0.N
      = Cert.Reference6Ideal.Read.val_main_v21 (F := Ideal) (m ((c : Thread nD τ).loc main_arg0)) (m ((c : Thread nD τ).loc main_arg1))
          (m ((c : Thread nD τ).loc main_arg2)) (m ((c : Thread nD τ).loc main_arg3)) (m ((c : Thread nD τ).loc main_arg4)) := by
  refine (dats m 0 c).arrAt_eq_of_covers 5 _ (by decide +kernel) fun t hf y => ?_
  have ht : t.val < 64 := lt_of_lt_of_eq t.isLt N_0
  have hb : t.val / 8 < 8 := by omega
  obtain ⟨-, -, -, -, p4, p5⟩ := places t
  rw [after0_5]
  simp only [outsAt0]
  frame_out
  obtain ⟨u, r, d, rfl⟩ : ∃ (u : Fin 1) (r : Fin 512) (d : Fin 1024), y = ix3 u r d :=
    ⟨y 0, y 1, y 2, eq_ix3 (n0 := 1) (n1 := 512) (n2 := 1024) y⟩
  obtain rfl : u = 0 := Subsingleton.elim _ _
  have hr : t.val % 8 * 512 + r.val < 4096 := by omega
  have e : ((cfg0.win 5).blk t).view.emb (ix3 0 r d) = ix3 (⟨t.val / 8, hb⟩ : Fin 8) (⟨t.val % 8 * 512 + r.val, hr⟩ : Fin 4096) d := by
    blk_ext [p5]
  refine Eq.trans ?_ (congrArg _ e.symm)
  refine Eq.trans ?_ (ref_cv _ _ _ _ _ _ _ d).symm
  refine Eq.trans (b := k0_pay3 (F := Ideal) (k0_pay1 (iblk m c 0 t) (iblk m c 2 t) (iblk m c 3 t))
    (View.ld (iblk m c 1 t) (Rect.unit ![0, 768] ![1024, 1024] inb_S1024x1792_S1024x1024_0_768)) (ix3 0 r d)) rfl ?_
  refine (pay_cv _ _ r d).trans (Finset.sum_congr rfl fun k _ => ?_)
  rw [row_point m c t hb hr]
  congr 1
  refine Eq.trans (b := (iblk m c 1 t) (ix2 k ⟨768 + d.val, by omega⟩)) (by pointwise) ((weight_point m c t k _).trans (entry_cv m c k d))

/-- What the line after the region leaves: the first array, cut. -/
theorem tail_cut (c : Dev nD) :
    Pipeline.afterTail₀ cfgs (dats m) 0 (V0 m) [hostOps1] c main_v21
      = extractStridedSlice S8x4096x672 ![0, 0, 0] (wide m c) slices_S8x4096x768_S8x4096x672_0_0_0 := by
  have h : Pipeline.withArrays cfg0.spec c (V0 m c) (fun w => (dats m 0 c).arrAt w cfg0.N) (Proc.devRef .tc main_v20_0) = wide m c :=
    (Pipeline.withArrays_arr cfg0.spec (by decide) c (V0 m c) _ 4).trans (final_mla m c)
  rw [← h]
  rfl

/-- The run: the two results and the arguments. -/
theorem run_kernel : θ_run defs (onTc (τ := τ) (main (F := Ideal))) ⟨m, fun _ => 0, ρ⟩ fun r => ∀ c : Dev nD,
      r.2.mem ((c : Thread nD τ).loc main_v21)
        = Cert.Reference6Ideal.Read.val_main_v20 (F := Ideal) (m ((c : Thread nD τ).loc main_arg0)) (m ((c : Thread nD τ).loc main_arg1))
          (m ((c : Thread nD τ).loc main_arg2)) (m ((c : Thread nD τ).loc main_arg3)) (m ((c : Thread nD τ).loc main_arg4))
      ∧ r.2.mem ((c : Thread nD τ).loc main_v20_1)
        = Cert.Reference6Ideal.Read.val_main_v21 (F := Ideal) (m ((c : Thread nD τ).loc main_arg0)) (m ((c : Thread nD τ).loc main_arg1))
          (m ((c : Thread nD τ).loc main_arg2)) (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c =>
    ⟨((h c).2 main_v21 (Pipeline.mem_restRefs_of main_v21 (by decide) (by decide))).trans ((tail_cut m c).trans (final_cut m c)),
      ((h c).1 5).trans (final_cv m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).1 3).trans (((dats m 0 c).arrAt_in 3 rfl _).trans ((A_eq m c 3).trans (V_main_arg3 m c))),
      ((h c).2 main_arg4 (Pipeline.mem_restRefs_of main_arg4 (by decide) (by decide))).trans (W_main_arg4 m (dats m) c)⟩)
    (run_main m ρ)

end Cert.Proof.EvenProj
-- ==== Proof.EvenProj.Claims.lean ====
/- The claims of the even layers' input projection: the reference leaves its arguments as they were, and kernel and
   reference compute the same two arrays. -/
module

public import proofs.«01_k».proof.Defs
public import proofs.«01_k».proof.Proof.EvenProj.Value
public import Idealize.ShloMosaic.Lib.Quiescent

@[expose] public section

set_option maxRecDepth 16384

noncomputable section

namespace Cert.Proof.EvenProj

open Idealize.ShloMosaic Idealize.SL.Sem

theorem frame_reference : Cert.quiescent_Reference6Ideal := fun m ρ _ =>
  (θ_run _ _ _).mono (fun _ h => ⟨fun c => (h c).2.2, sem_eq_zero_of_no_sems rfl _⟩) (Cert.Reference6Ideal.Value.run m ρ)

theorem algebraic : Cert.algebraic_Kernel6Ideal_Reference6Ideal := fun m ρ m' ρ' _ hag =>
  ⟨fun c => Cert.Reference6Ideal.Read.val_main_v20 (F := Ideal) (m' (c.tc.loc Cert.Reference6Ideal.main_arg0)) (m' (c.tc.loc Cert.Reference6Ideal.main_arg1))
      (m' (c.tc.loc Cert.Reference6Ideal.main_arg2)) (m' (c.tc.loc Cert.Reference6Ideal.main_arg3)) (m' (c.tc.loc Cert.Reference6Ideal.main_arg4)),
    fun c => Cert.Reference6Ideal.Read.val_main_v21 (F := Ideal) (m' (c.tc.loc Cert.Reference6Ideal.main_arg0)) (m' (c.tc.loc Cert.Reference6Ideal.main_arg1))
      (m' (c.tc.loc Cert.Reference6Ideal.main_arg2)) (m' (c.tc.loc Cert.Reference6Ideal.main_arg3)) (m' (c.tc.loc Cert.Reference6Ideal.main_arg4)),
    (θ_run _ _ _).mono (fun _ h c => ⟨(h c).1.trans (by
        obtain ⟨a0, a1, a2, a3, a4⟩ := hag c
        beta_reduce
        rw [a0, a1, a2, a3, a4]),
      (h c).2.1.trans (by
        obtain ⟨a0, a1, a2, a3, a4⟩ := hag c
        beta_reduce
        rw [a0, a1, a2, a3, a4]), (h c).2.2⟩)
      (run_kernel m ρ),
    (θ_run _ _ _).mono (fun _ h c => ⟨(h c).1.trans (Cert.Reference6Ideal.Read.val_main_v20_eq _ _ _ _ _),
        (h c).2.1.trans (Cert.Reference6Ideal.Read.val_main_v21_eq _ _ _ _ _), (h c).2.2⟩)
      (Cert.Reference6Ideal.Value.run m' ρ')⟩

end Cert.Proof.EvenProj
-- ==== Proof.CtxExperts.Block.lean ====
/- One block of the context tokens' experts: the rows of the eight batch rows are picked by one-hot products and set
   below one another, go through the gated unit together, and are cut apart again, element by element. -/
module

public import proofs.«01_k».proof.Proof.Gen.Kernel7Ideal.Value
public import Idealize.ShloMosaic.Lib.Pointwise
public import Idealize.ShloMosaic.Lib.Pipeline.ValueKit

@[expose] public section

set_option maxRecDepth 16384

noncomputable section

namespace Cert.Proof.CtxExperts

open Idealize.ShloMosaic Cert.Kernel7Ideal Cert.Kernel7Ideal.Gen

/-- A sum over all tokens of the values at the token whose number is `n` and zero elsewhere is the value at `n`. -/
theorem sum_pick (n : Fin 256) (w : BitVec 32) (hw : w = BitVec.ofNat 32 n.val) (f : Fin 256 → EReal) :
    (∑ x : Fin 256, Scalar.select (IntOp.cmpi CmpIPredicate.eq (BitVec.ofNat 32 x.val) w) (f x) 0) = f n := by
  subst hw
  rw [Finset.sum_eq_single n]
  · rw [show IntOp.cmpi CmpIPredicate.eq (BitVec.ofNat 32 n.val) (BitVec.ofNat 32 n.val) = 1#1 from by
      simp [IntOp.cmpi]]
    rfl
  · intro x _ hx
    have hne : BitVec.ofNat 32 x.val ≠ BitVec.ofNat 32 n.val := by
      intro h
      apply hx
      have := congrArg BitVec.toNat h
      rw [BitVec.toNat_ofNat, BitVec.toNat_ofNat] at this
      exact Fin.ext (by omega)
    rw [show IntOp.cmpi CmpIPredicate.eq (BitVec.ofNat 32 x.val) (BitVec.ofNat 32 n.val) = 0#1 from by
      show BitVec.ofBool (BitVec.ofNat 32 x.val == BitVec.ofNat 32 n.val) = 0#1
      rw [beq_eq_false_iff_ne.mpr hne]
      rfl]
    rfl
  · intro h
    exact absurd (Finset.mem_univ _) h

/-- The rows that one batch row's indices pick. -/
theorem pick0 (idx : Vec Ideal S1x1x32x1 .i32) (h : Vec Ideal S1x256x1024 .bf16) (r : Fin 32) (k : Fin 1024) (n : Fin 256)
    (hn : idx (ix4 0 0 r 0) = BitVec.ofNat 32 n.val) : k0_pay4 (F := Ideal) idx h (ix2 r k) = h (ix3 0 n k) := by
  pointwise [k0_pay4]
  exact sum_pick n _ hn _

theorem pick1 (idx : Vec Ideal S1x1x32x1 .i32) (h : Vec Ideal S1x256x1024 .bf16) (r : Fin 32) (k : Fin 1024) (n : Fin 256)
    (hn : idx (ix4 0 0 r 0) = BitVec.ofNat 32 n.val) : k0_pay5 (F := Ideal) idx h (ix2 r k) = h (ix3 0 n k) := by
  pointwise [k0_pay5]
  exact sum_pick n _ hn _

theorem pick2 (idx : Vec Ideal S1x1x32x1 .i32) (h : Vec Ideal S1x256x1024 .bf16) (r : Fin 32) (k : Fin 1024) (n : Fin 256)
    (hn : idx (ix4 0 0 r 0) = BitVec.ofNat 32 n.val) : k0_pay7 (F := Ideal) (k0_pay6 idx) h (ix2 r k) = h (ix3 0 n k) := by
  pointwise [k0_pay7, k0_pay6]
  exact sum_pick n _ hn _

theorem pick3 (idx : Vec Ideal S1x1x32x1 .i32) (h : Vec Ideal S1x256x1024 .bf16) (r : Fin 32) (k : Fin 1024) (n : Fin 256)
    (hn : idx (ix4 0 0 r 0) = BitVec.ofNat 32 n.val) :
    k0_pay8 (F := Ideal) (iota .tc S32x256 32 [1] iota_S32x256_d1_w32) idx h (ix2 r k) = h (ix3 0 n k) := by
  pointwise [k0_pay8]
  exact sum_pick n _ hn _

theorem pick4 (idx : Vec Ideal S1x1x32x1 .i32) (h : Vec Ideal S1x256x1024 .bf16) (r : Fin 32) (k : Fin 1024) (n : Fin 256)
    (hn : idx (ix4 0 0 r 0) = BitVec.ofNat 32 n.val) :
    k0_pay9 (F := Ideal) (iota .tc S32x256 32 [1] iota_S32x256_d1_w32) idx h (ix2 r k) = h (ix3 0 n k) := by
  pointwise [k0_pay9]
  exact sum_pick n _ hn _

theorem joined0 (v0 : IVec S32x256 32) (a0 a1 a2 a3 a4 : FVec Ideal S32x1024 .bf16) (v63 : IVec S32x256 32) (h5 : Vec Ideal S1x256x1024 .bf16)
    (i6 : Vec Ideal S1x1x32x1 .i32) (h6 : Vec Ideal S1x256x1024 .bf16) (i7 : Vec Ideal S1x1x32x1 .i32) (h7 : Vec Ideal S1x256x1024 .bf16)
    (r : Fin 32) (k : Fin 1024) :
    k0_pay11 (F := Ideal) v0 a0 a1 a2 a3 a4 v63 h5 i6 h6 i7 h7 (ix2 (⟨0 + r.val, by omega⟩ : Fin 256) k) = a0 (ix2 r k) := by
  pointwise [k0_pay11]

theorem joined1 (v0 : IVec S32x256 32) (a0 a1 a2 a3 a4 : FVec Ideal S32x1024 .bf16) (v63 : IVec S32x256 32) (h5 : Vec Ideal S1x256x1024 .bf16)
    (i6 : Vec Ideal S1x1x32x1 .i32) (h6 : Vec Ideal S1x256x1024 .bf16) (i7 : Vec Ideal S1x1x32x1 .i32) (h7 : Vec Ideal S1x256x1024 .bf16)
    (r : Fin 32) (k : Fin 1024) :
    k0_pay11 (F := Ideal) v0 a0 a1 a2 a3 a4 v63 h5 i6 h6 i7 h7 (ix2 (⟨32 + r.val, by omega⟩ : Fin 256) k) = a1 (ix2 r k) := by
  pointwise [k0_pay11]

theorem joined2 (v0 : IVec S32x256 32) (a0 a1 a2 a3 a4 : FVec Ideal S32x1024 .bf16) (v63 : IVec S32x256 32) (h5 : Vec Ideal S1x256x1024 .bf16)
    (i6 : Vec Ideal S1x1x32x1 .i32) (h6 : Vec Ideal S1x256x1024 .bf16) (i7 : Vec Ideal S1x1x32x1 .i32) (h7 : Vec Ideal S1x256x1024 .bf16)
    (r : Fin 32) (k : Fin 1024) :
    k0_pay11 (F := Ideal) v0 a0 a1 a2 a3 a4 v63 h5 i6 h6 i7 h7 (ix2 (⟨64 + r.val, by omega⟩ : Fin 256) k) = a2 (ix2 r k) := by
  pointwise [k0_pay11]
  have hr := r.isLt
  rw [dif_neg (show ¬64 + r.val < 32 by omega), dif_neg (show ¬64 + r.val - 32 < 32 by omega), dif_pos (show 64 + r.val - 32 - 32 < 32 by omega)]
  simp only [show 64 + r.val - 32 - 32 = r.val by omega, Fin.eta]

theorem joined3 (v0 : IVec S32x256 32) (a0 a1 a2 a3 a4 : FVec Ideal S32x1024 .bf16) (v63 : IVec S32x256 32) (h5 : Vec Ideal S1x256x1024 .bf16)
    (i6 : Vec Ideal S1x1x32x1 .i32) (h6 : Vec Ideal S1x256x1024 .bf16) (i7 : Vec Ideal S1x1x32x1 .i32) (h7 : Vec Ideal S1x256x1024 .bf16)
    (r : Fin 32) (k : Fin 1024) :
    k0_pay11 (F := Ideal) v0 a0 a1 a2 a3 a4 v63 h5 i6 h6 i7 h7 (ix2 (⟨96 + r.val, by omega⟩ : Fin 256) k) = a3 (ix2 r k) := by
  pointwise [k0_pay11]
  have hr := r.isLt
  rw [dif_neg (show ¬96 + r.val < 32 by omega), dif_neg (show ¬96 + r.val - 32 < 32 by omega), dif_neg (show ¬96 + r.val - 32 - 32 < 32 by omega), dif_pos (show 96 + r.val - 32 - 32 - 32 < 32 by omega)]
  simp only [show 96 + r.val - 32 - 32 - 32 = r.val by omega, Fin.eta]

theorem joined4 (v0 : IVec S32x256 32) (a0 a1 a2 a3 a4 : FVec Ideal S32x1024 .bf16) (v63 : IVec S32x256 32) (h5 : Vec Ideal S1x256x1024 .bf16)
    (i6 : Vec Ideal S1x1x32x1 .i32) (h6 : Vec Ideal S1x256x1024 .bf16) (i7 : Vec Ideal S1x1x32x1 .i32) (h7 : Vec Ideal S1x256x1024 .bf16)
    (r : Fin 32) (k : Fin 1024) :
    k0_pay11 (F := Ideal) v0 a0 a1 a2 a3 a4 v63 h5 i6 h6 i7 h7 (ix2 (⟨128 + r.val, by omega⟩ : Fin 256) k) = a4 (ix2 r k) := by
  pointwise [k0_pay11]
  have hr := r.isLt
  rw [dif_neg (show ¬128 + r.val < 32 by omega), dif_neg (show ¬128 + r.val - 32 < 32 by omega), dif_neg (show ¬128 + r.val - 32 - 32 < 32 by omega), dif_neg (show ¬128 + r.val - 32 - 32 - 32 < 32 by omega), dif_pos (show 128 + r.val - 32 - 32 - 32 - 32 < 32 by omega)]
  simp only [show 128 + r.val - 32 - 32 - 32 - 32 = r.val by omega, Fin.eta]

theorem joined5 (a0 a1 a2 a3 a4 : FVec Ideal S32x1024 .bf16) (i5 : Vec Ideal S1x1x32x1 .i32) (h5 : Vec Ideal S1x256x1024 .bf16)
    (i6 : Vec Ideal S1x1x32x1 .i32) (h6 : Vec Ideal S1x256x1024 .bf16) (i7 : Vec Ideal S1x1x32x1 .i32) (h7 : Vec Ideal S1x256x1024 .bf16)
    (r : Fin 32) (k : Fin 1024) (n : Fin 256) (hn : i5 (ix4 0 0 r 0) = BitVec.ofNat 32 n.val) :
    k0_pay11 (F := Ideal) (iota .tc S32x256 32 [1] iota_S32x256_d1_w32) a0 a1 a2 a3 a4 (k0_pay10 (F := Ideal) i5) h5 i6 h6 i7 h7
      (ix2 (⟨160 + r.val, by omega⟩ : Fin 256) k) = h5 (ix3 0 n k) := by
  pointwise [k0_pay11, k0_pay10]
  have hr := r.isLt
  rw [dif_neg (show ¬160 + r.val < 32 by omega), dif_neg (show ¬160 + r.val - 32 < 32 by omega), dif_neg (show ¬160 + r.val - 32 - 32 < 32 by omega), dif_neg (show ¬160 + r.val - 32 - 32 - 32 < 32 by omega), dif_neg (show ¬160 + r.val - 32 - 32 - 32 - 32 < 32 by omega), dif_pos (show 160 + r.val - 32 - 32 - 32 - 32 - 32 < 32 by omega)]
  simp only [show 160 + r.val - 32 - 32 - 32 - 32 - 32 = r.val by omega, Fin.eta]
  exact sum_pick n _ hn _

theorem joined6 (a0 a1 a2 a3 a4 : FVec Ideal S32x1024 .bf16) (i5 : Vec Ideal S1x1x32x1 .i32) (h5 : Vec Ideal S1x256x1024 .bf16)
    (i6 : Vec Ideal S1x1x32x1 .i32) (h6 : Vec Ideal S1x256x1024 .bf16) (i7 : Vec Ideal S1x1x32x1 .i32) (h7 : Vec Ideal S1x256x1024 .bf16)
    (r : Fin 32) (k : Fin 1024) (n : Fin 256) (hn : i6 (ix4 0 0 r 0) = BitVec.ofNat 32 n.val) :
    k0_pay11 (F := Ideal) (iota .tc S32x256 32 [1] iota_S32x256_d1_w32) a0 a1 a2 a3 a4 (k0_pay10 (F := Ideal) i5) h5 i6 h6 i7 h7
      (ix2 (⟨192 + r.val, by omega⟩ : Fin 256) k) = h6 (ix3 0 n k) := by
  pointwise [k0_pay11, k0_pay10]
  have hr := r.isLt
  rw [dif_neg (show ¬192 + r.val < 32 by omega), dif_neg (show ¬192 + r.val - 32 < 32 by omega), dif_neg (show ¬192 + r.val - 32 - 32 < 32 by omega), dif_neg (show ¬192 + r.val - 32 - 32 - 32 < 32 by omega), dif_neg (show ¬192 + r.val - 32 - 32 - 32 - 32 < 32 by omega), dif_neg (show ¬192 + r.val - 32 - 32 - 32 - 32 - 32 < 32 by omega), dif_pos (show 192 + r.val - 32 - 32 - 32 - 32 - 32 - 32 < 32 by omega)]
  simp only [show 192 + r.val - 32 - 32 - 32 - 32 - 32 - 32 = r.val by omega, Fin.eta]
  exact sum_pick n _ hn _

theorem joined7 (a0 a1 a2 a3 a4 : FVec Ideal S32x1024 .bf16) (i5 : Vec Ideal S1x1x32x1 .i32) (h5 : Vec Ideal S1x256x1024 .bf16)
    (i6 : Vec Ideal S1x1x32x1 .i32) (h6 : Vec Ideal S1x256x1024 .bf16) (i7 : Vec Ideal S1x1x32x1 .i32) (h7 : Vec Ideal S1x256x1024 .bf16)
    (r : Fin 32) (k : Fin 1024) (n : Fin 256) (hn : i7 (ix4 0 0 r 0) = BitVec.ofNat 32 n.val) :
    k0_pay11 (F := Ideal) (iota .tc S32x256 32 [1] iota_S32x256_d1_w32) a0 a1 a2 a3 a4 (k0_pay10 (F := Ideal) i5) h5 i6 h6 i7 h7
      (ix2 (⟨224 + r.val, by omega⟩ : Fin 256) k) = h7 (ix3 0 n k) := by
  pointwise [k0_pay11, k0_pay10]
  have hr := r.isLt
  rw [dif_neg (show ¬224 + r.val < 32 by omega), dif_neg (show ¬224 + r.val - 32 < 32 by omega), dif_neg (show ¬224 + r.val - 32 - 32 < 32 by omega), dif_neg (show ¬224 + r.val - 32 - 32 - 32 < 32 by omega), dif_neg (show ¬224 + r.val - 32 - 32 - 32 - 32 < 32 by omega), dif_neg (show ¬224 + r.val - 32 - 32 - 32 - 32 - 32 < 32 by omega), dif_neg (show ¬224 + r.val - 32 - 32 - 32 - 32 - 32 - 32 < 32 by omega)]
  simp only [show 224 + r.val - 32 - 32 - 32 - 32 - 32 - 32 - 32 = r.val by omega, Fin.eta]
  exact sum_pick n _ hn _

/-- The gated unit at a row of the joined rows. -/
theorem unit_apply (x : FVec Ideal S256x1024 .bf16) (w1 w3 w2 : Vec Ideal S1x1024x1024 .bf16) (r : Fin 256) (d : Fin 1024) :
    k0_pay12 (F := Ideal) x w1 w3 w2 (ix2 r d)
      = ∑ f : Fin 1024, ((∑ k : Fin 1024, x (ix2 r k) * w1 (ix3 0 k f))
            * Ideal.logistic (∑ k : Fin 1024, x (ix2 r k) * w1 (ix3 0 k f))
            * (∑ k : Fin 1024, x (ix2 r k) * w3 (ix3 0 k f))) * w2 (ix3 0 f d) := by
  pointwise [k0_pay12]

/-- A batch row's rows cut from the joined rows, each times its gate. -/
theorem cut0 (x : FVec Ideal S256x1024 .bf16) (w1 w3 w2 : Vec Ideal S1x1024x1024 .bf16) (g : Vec Ideal S1x1x32x1 .f32) (u v : Fin 1) (r : Fin 32) (d : Fin 1024) :
    k0_pay13 (F := Ideal) x w1 w3 w2 g (ix4 u v r d) = k0_pay12 (F := Ideal) x w1 w3 w2 (ix2 (⟨0 + r.val, by omega⟩ : Fin 256) d) * g (ix4 0 0 r 0) := by
  show _ = (fun i => k0_pay12 (F := Ideal) x w1 w3 w2 i) _ * _
  unfold k0_pay13
  generalize k0_pay12 (F := Ideal) x w1 w3 w2 = y
  pointwise

theorem cut1 (x : FVec Ideal S256x1024 .bf16) (w1 w3 w2 : Vec Ideal S1x1024x1024 .bf16) (g : Vec Ideal S1x1x32x1 .f32) (u v : Fin 1) (r : Fin 32) (d : Fin 1024) :
    k0_pay14 (F := Ideal) x w1 w3 w2 g (ix4 u v r d) = k0_pay12 (F := Ideal) x w1 w3 w2 (ix2 (⟨32 + r.val, by omega⟩ : Fin 256) d) * g (ix4 0 0 r 0) := by
  show _ = (fun i => k0_pay12 (F := Ideal) x w1 w3 w2 i) _ * _
  unfold k0_pay14
  generalize k0_pay12 (F := Ideal) x w1 w3 w2 = y
  pointwise

theorem cut2 (y : FVec Ideal S256x1024 .f32) (g : Vec Ideal S1x1x32x1 .f32) (u v : Fin 1) (r : Fin 32) (d : Fin 1024) :
    k0_pay15 (F := Ideal) y g (ix4 u v r d) = y (ix2 (⟨64 + r.val, by omega⟩ : Fin 256) d) * g (ix4 0 0 r 0) := by
  pointwise [k0_pay15]

theorem cut3 (y : FVec Ideal S256x1024 .f32) (g : Vec Ideal S1x1x32x1 .f32) (u v : Fin 1) (r : Fin 32) (d : Fin 1024) :
    k0_pay16 (F := Ideal) y g (ix4 u v r d) = y (ix2 (⟨96 + r.val, by omega⟩ : Fin 256) d) * g (ix4 0 0 r 0) := by
  pointwise [k0_pay16]

theorem cut4 (y : FVec Ideal S256x1024 .f32) (g : Vec Ideal S1x1x32x1 .f32) (u v : Fin 1) (r : Fin 32) (d : Fin 1024) :
    k0_pay17 (F := Ideal) y g (ix4 u v r d) = y (ix2 (⟨128 + r.val, by omega⟩ : Fin 256) d) * g (ix4 0 0 r 0) := by
  pointwise [k0_pay17]

theorem cut5 (y : FVec Ideal S256x1024 .f32) (g : Vec Ideal S1x1x32x1 .f32) (u v : Fin 1) (r : Fin 32) (d : Fin 1024) :
    k0_pay1 (F := Ideal) (k0_pay18 y) g (ix4 u v r d) = y (ix2 (⟨160 + r.val, by omega⟩ : Fin 256) d) * g (ix4 0 0 r 0) := by
  pointwise [k0_pay1, k0_pay18]

theorem cut6 (y : FVec Ideal S256x1024 .f32) (g : Vec Ideal S1x1x32x1 .f32) (u v : Fin 1) (r : Fin 32) (d : Fin 1024) :
    k0_pay2 (F := Ideal) y g (ix4 u v r d) = y (ix2 (⟨192 + r.val, by omega⟩ : Fin 256) d) * g (ix4 0 0 r 0) := by
  pointwise [k0_pay2]

theorem cut7 (y : FVec Ideal S256x1024 .f32) (g : Vec Ideal S1x1x32x1 .f32) (u v : Fin 1) (r : Fin 32) (d : Fin 1024) :
    k0_pay3 (F := Ideal) y g (ix4 u v r d) = y (ix2 (⟨224 + r.val, by omega⟩ : Fin 256) d) * g (ix4 0 0 r 0) := by
  pointwise [k0_pay3]

/-- The joined rows: row `r` of batch row `s` is the row of tokens that the batch row's index `r` names. -/
theorem rows0 (x0 : Vec Ideal S8x256x1024 .bf16) (x1 : Vec Ideal S8x1x32x1 .i32) (x2 : Vec Ideal S8x1x32x1 .f32)
    (x3 x4 x5 : Vec Ideal S1x1024x1024 .bf16) (r : Fin 32) (c : Fin 1024) (n : Fin 256)
    (hn : x1 (ix4 0 0 r 0) = BitVec.ofNat 32 n.val) :
    k0_pay20 (F := Ideal) x0 x1 x2 x3 x4 x5 (ix2 (⟨0 + r.val, by omega⟩ : Fin 256) c) = x0 (ix3 0 n c) := by
  unfold k0_pay20 k0_pay19
  refine (joined0 _ _ _ _ _ _ _ _ _ _ _ _ r c).trans ?_
  refine (pick0 _ _ r c n ?_).trans ?_
  · exact (View.ld_unit_apply_of x1 _ _ _ _ (ix4 0 0 r 0) (by intro a; fin_cases a <;> simp)).trans hn
  · exact View.ld_unit_apply_of x0 _ _ _ _ (ix3 0 n c) (by intro a; fin_cases a <;> simp)

theorem rows1 (x0 : Vec Ideal S8x256x1024 .bf16) (x1 : Vec Ideal S8x1x32x1 .i32) (x2 : Vec Ideal S8x1x32x1 .f32)
    (x3 x4 x5 : Vec Ideal S1x1024x1024 .bf16) (r : Fin 32) (c : Fin 1024) (n : Fin 256)
    (hn : x1 (ix4 1 0 r 0) = BitVec.ofNat 32 n.val) :
    k0_pay20 (F := Ideal) x0 x1 x2 x3 x4 x5 (ix2 (⟨32 + r.val, by omega⟩ : Fin 256) c) = x0 (ix3 1 n c) := by
  unfold k0_pay20 k0_pay19
  refine (joined1 _ _ _ _ _ _ _ _ _ _ _ _ r c).trans ?_
  refine (pick1 _ _ r c n ?_).trans ?_
  · exact (View.ld_unit_apply_of x1 _ _ _ _ (ix4 1 0 r 0) (by intro a; fin_cases a <;> simp)).trans hn
  · exact View.ld_unit_apply_of x0 _ _ _ _ (ix3 1 n c) (by intro a; fin_cases a <;> simp)

theorem rows2 (x0 : Vec Ideal S8x256x1024 .bf16) (x1 : Vec Ideal S8x1x32x1 .i32) (x2 : Vec Ideal S8x1x32x1 .f32)
    (x3 x4 x5 : Vec Ideal S1x1024x1024 .bf16) (r : Fin 32) (c : Fin 1024) (n : Fin 256)
    (hn : x1 (ix4 2 0 r 0) = BitVec.ofNat 32 n.val) :
    k0_pay20 (F := Ideal) x0 x1 x2 x3 x4 x5 (ix2 (⟨64 + r.val, by omega⟩ : Fin 256) c) = x0 (ix3 2 n c) := by
  unfold k0_pay20 k0_pay19
  refine (joined2 _ _ _ _ _ _ _ _ _ _ _ _ r c).trans ?_
  refine (pick2 _ _ r c n ?_).trans ?_
  · exact (View.ld_unit_apply_of x1 _ _ _ _ (ix4 2 0 r 0) (by intro a; fin_cases a <;> simp)).trans hn
  · exact View.ld_unit_apply_of x0 _ _ _ _ (ix3 2 n c) (by intro a; fin_cases a <;> simp)

theorem rows3 (x0 : Vec Ideal S8x256x1024 .bf16) (x1 : Vec Ideal S8x1x32x1 .i32) (x2 : Vec Ideal S8x1x32x1 .f32)
    (x3 x4 x5 : Vec Ideal S1x1024x1024 .bf16) (r : Fin 32) (c : Fin 1024) (n : Fin 256)
    (hn : x1 (ix4 3 0 r 0) = BitVec.ofNat 32 n.val) :
    k0_pay20 (F := Ideal) x0 x1 x2 x3 x4 x5 (ix2 (⟨96 + r.val, by omega⟩ : Fin 256) c) = x0 (ix3 3 n c) := by
  unfold k0_pay20 k0_pay19
  refine (joined3 _ _ _ _ _ _ _ _ _ _ _ _ r c).trans ?_
  refine (pick3 _ _ r c n ?_).trans ?_
  · exact (View.ld_unit_apply_of x1 _ _ _ _ (ix4 3 0 r 0) (by intro a; fin_cases a <;> simp)).trans hn
  · exact View.ld_unit_apply_of x0 _ _ _ _ (ix3 3 n c) (by intro a; fin_cases a <;> simp)

theorem rows4 (x0 : Vec Ideal S8x256x1024 .bf16) (x1 : Vec Ideal S8x1x32x1 .i32) (x2 : Vec Ideal S8x1x32x1 .f32)
    (x3 x4 x5 : Vec Ideal S1x1024x1024 .bf16) (r : Fin 32) (c : Fin 1024) (n : Fin 256)
    (hn : x1 (ix4 4 0 r 0) = BitVec.ofNat 32 n.val) :
    k0_pay20 (F := Ideal) x0 x1 x2 x3 x4 x5 (ix2 (⟨128 + r.val, by omega⟩ : Fin 256) c) = x0 (ix3 4 n c) := by
  unfold k0_pay20 k0_pay19
  refine (joined4 _ _ _ _ _ _ _ _ _ _ _ _ r c).trans ?_
  refine (pick4 _ _ r c n ?_).trans ?_
  · exact (View.ld_unit_apply_of x1 _ _ _ _ (ix4 4 0 r 0) (by intro a; fin_cases a <;> simp)).trans hn
  · exact View.ld_unit_apply_of x0 _ _ _ _ (ix3 4 n c) (by intro a; fin_cases a <;> simp)

theorem rows5 (x0 : Vec Ideal S8x256x1024 .bf16) (x1 : Vec Ideal S8x1x32x1 .i32) (x2 : Vec Ideal S8x1x32x1 .f32)
    (x3 x4 x5 : Vec Ideal S1x1024x1024 .bf16) (r : Fin 32) (c : Fin 1024) (n : Fin 256)
    (hn : x1 (ix4 5 0 r 0) = BitVec.ofNat 32 n.val) :
    k0_pay20 (F := Ideal) x0 x1 x2 x3 x4 x5 (ix2 (⟨160 + r.val, by omega⟩ : Fin 256) c) = x0 (ix3 5 n c) := by
  unfold k0_pay20 k0_pay19
  refine (joined5 _ _ _ _ _ _ _ _ _ _ _ r c n ?_).trans ?_
  · exact (View.ld_unit_apply_of x1 _ _ _ _ (ix4 5 0 r 0) (by intro a; fin_cases a <;> simp)).trans hn
  · exact View.ld_unit_apply_of x0 _ _ _ _ (ix3 5 n c) (by intro a; fin_cases a <;> simp)

theorem rows6 (x0 : Vec Ideal S8x256x1024 .bf16) (x1 : Vec Ideal S8x1x32x1 .i32) (x2 : Vec Ideal S8x1x32x1 .f32)
    (x3 x4 x5 : Vec Ideal S1x1024x1024 .bf16) (r : Fin 32) (c : Fin 1024) (n : Fin 256)
    (hn : x1 (ix4 6 0 r 0) = BitVec.ofNat 32 n.val) :
    k0_pay20 (F := Ideal) x0 x1 x2 x3 x4 x5 (ix2 (⟨192 + r.val, by omega⟩ : Fin 256) c) = x0 (ix3 6 n c) := by
  unfold k0_pay20 k0_pay19
  refine (joined6 _ _ _ _ _ _ _ _ _ _ _ r c n ?_).trans ?_
  · exact (View.ld_unit_apply_of x1 _ _ _ _ (ix4 6 0 r 0) (by intro a; fin_cases a <;> simp)).trans hn
  · exact View.ld_unit_apply_of x0 _ _ _ _ (ix3 6 n c) (by intro a; fin_cases a <;> simp)

theorem rows7 (x0 : Vec Ideal S8x256x1024 .bf16) (x1 : Vec Ideal S8x1x32x1 .i32) (x2 : Vec Ideal S8x1x32x1 .f32)
    (x3 x4 x5 : Vec Ideal S1x1024x1024 .bf16) (r : Fin 32) (c : Fin 1024) (n : Fin 256)
    (hn : x1 (ix4 7 0 r 0) = BitVec.ofNat 32 n.val) :
    k0_pay20 (F := Ideal) x0 x1 x2 x3 x4 x5 (ix2 (⟨224 + r.val, by omega⟩ : Fin 256) c) = x0 (ix3 7 n c) := by
  unfold k0_pay20 k0_pay19
  refine (joined7 _ _ _ _ _ _ _ _ _ _ _ r c n ?_).trans ?_
  · exact (View.ld_unit_apply_of x1 _ _ _ _ (ix4 7 0 r 0) (by intro a; fin_cases a <;> simp)).trans hn
  · exact View.ld_unit_apply_of x0 _ _ _ _ (ix3 7 n c) (by intro a; fin_cases a <;> simp)

/-- One row through the gated unit. -/
def gated (x : Fin 1024 → EReal) (w1 w3 w2 : Vec Ideal S1x1024x1024 .bf16) (d : Fin 1024) : EReal :=
  ∑ f : Fin 1024, ((∑ k : Fin 1024, x k * w1 (ix3 0 k f)) * Ideal.logistic (∑ k : Fin 1024, x k * w1 (ix3 0 k f))
    * (∑ k : Fin 1024, x k * w3 (ix3 0 k f))) * w2 (ix3 0 f d)

/-- The load of a whole weight block is the block. -/
theorem ld_weight (x : Vec Ideal S1x1024x1024 .bf16) : View.ld x r0_16 = x :=
  View.ld_unit_lit _ x (by decide)

theorem row0 (x0 : Vec Ideal S8x256x1024 .bf16) (x1 : Vec Ideal S8x1x32x1 .i32) (x2 : Vec Ideal S8x1x32x1 .f32)
    (x3 x4 x5 : Vec Ideal S1x1024x1024 .bf16) (r : Fin 32) (d : Fin 1024) (n : Fin 256)
    (hn : x1 (ix4 0 0 r 0) = BitVec.ofNat 32 n.val) :
    k0_pay12 (F := Ideal) (k0_pay20 x0 x1 x2 x3 x4 x5) (View.ld x3 r0_16) (View.ld x4 r0_16) (View.ld x5 r0_16)
      (ix2 (⟨0 + r.val, by omega⟩ : Fin 256) d) = gated (fun k => x0 (ix3 0 n k)) x3 x4 x5 d := by
  rw [unit_apply, ld_weight, ld_weight, ld_weight]
  simp only [fun c => rows0 x0 x1 x2 x3 x4 x5 r c n hn]
  rfl

theorem row1 (x0 : Vec Ideal S8x256x1024 .bf16) (x1 : Vec Ideal S8x1x32x1 .i32) (x2 : Vec Ideal S8x1x32x1 .f32)
    (x3 x4 x5 : Vec Ideal S1x1024x1024 .bf16) (r : Fin 32) (d : Fin 1024) (n : Fin 256)
    (hn : x1 (ix4 1 0 r 0) = BitVec.ofNat 32 n.val) :
    k0_pay12 (F := Ideal) (k0_pay20 x0 x1 x2 x3 x4 x5) (View.ld x3 r0_16) (View.ld x4 r0_16) (View.ld x5 r0_16)
      (ix2 (⟨32 + r.val, by omega⟩ : Fin 256) d) = gated (fun k => x0 (ix3 1 n k)) x3 x4 x5 d := by
  rw [unit_apply, ld_weight, ld_weight, ld_weight]
  simp only [fun c => rows1 x0 x1 x2 x3 x4 x5 r c n hn]
  rfl

theorem row2 (x0 : Vec Ideal S8x256x1024 .bf16) (x1 : Vec Ideal S8x1x32x1 .i32) (x2 : Vec Ideal S8x1x32x1 .f32)
    (x3 x4 x5 : Vec Ideal S1x1024x1024 .bf16) (r : Fin 32) (d : Fin 1024) (n : Fin 256)
    (hn : x1 (ix4 2 0 r 0) = BitVec.ofNat 32 n.val) :
    k0_pay12 (F := Ideal) (k0_pay20 x0 x1 x2 x3 x4 x5) (View.ld x3 r0_16) (View.ld x4 r0_16) (View.ld x5 r0_16)
      (ix2 (⟨64 + r.val, by omega⟩ : Fin 256) d) = gated (fun k => x0 (ix3 2 n k)) x3 x4 x5 d := by
  rw [unit_apply, ld_weight, ld_weight, ld_weight]
  simp only [fun c => rows2 x0 x1 x2 x3 x4 x5 r c n hn]
  rfl

theorem row3 (x0 : Vec Ideal S8x256x1024 .bf16) (x1 : Vec Ideal S8x1x32x1 .i32) (x2 : Vec Ideal S8x1x32x1 .f32)
    (x3 x4 x5 : Vec Ideal S1x1024x1024 .bf16) (r : Fin 32) (d : Fin 1024) (n : Fin 256)
    (hn : x1 (ix4 3 0 r 0) = BitVec.ofNat 32 n.val) :
    k0_pay12 (F := Ideal) (k0_pay20 x0 x1 x2 x3 x4 x5) (View.ld x3 r0_16) (View.ld x4 r0_16) (View.ld x5 r0_16)
      (ix2 (⟨96 + r.val, by omega⟩ : Fin 256) d) = gated (fun k => x0 (ix3 3 n k)) x3 x4 x5 d := by
  rw [unit_apply, ld_weight, ld_weight, ld_weight]
  simp only [fun c => rows3 x0 x1 x2 x3 x4 x5 r c n hn]
  rfl

theorem row4 (x0 : Vec Ideal S8x256x1024 .bf16) (x1 : Vec Ideal S8x1x32x1 .i32) (x2 : Vec Ideal S8x1x32x1 .f32)
    (x3 x4 x5 : Vec Ideal S1x1024x1024 .bf16) (r : Fin 32) (d : Fin 1024) (n : Fin 256)
    (hn : x1 (ix4 4 0 r 0) = BitVec.ofNat 32 n.val) :
    k0_pay12 (F := Ideal) (k0_pay20 x0 x1 x2 x3 x4 x5) (View.ld x3 r0_16) (View.ld x4 r0_16) (View.ld x5 r0_16)
      (ix2 (⟨128 + r.val, by omega⟩ : Fin 256) d) = gated (fun k => x0 (ix3 4 n k)) x3 x4 x5 d := by
  rw [unit_apply, ld_weight, ld_weight, ld_weight]
  simp only [fun c => rows4 x0 x1 x2 x3 x4 x5 r c n hn]
  rfl

theorem row5 (x0 : Vec Ideal S8x256x1024 .bf16) (x1 : Vec Ideal S8x1x32x1 .i32) (x2 : Vec Ideal S8x1x32x1 .f32)
    (x3 x4 x5 : Vec Ideal S1x1024x1024 .bf16) (r : Fin 32) (d : Fin 1024) (n : Fin 256)
    (hn : x1 (ix4 5 0 r 0) = BitVec.ofNat 32 n.val) :
    k0_pay12 (F := Ideal) (k0_pay20 x0 x1 x2 x3 x4 x5) (View.ld x3 r0_16) (View.ld x4 r0_16) (View.ld x5 r0_16)
      (ix2 (⟨160 + r.val, by omega⟩ : Fin 256) d) = gated (fun k => x0 (ix3 5 n k)) x3 x4 x5 d := by
  rw [unit_apply, ld_weight, ld_weight, ld_weight]
  simp only [fun c => rows5 x0 x1 x2 x3 x4 x5 r c n hn]
  rfl

theorem row6 (x0 : Vec Ideal S8x256x1024 .bf16) (x1 : Vec Ideal S8x1x32x1 .i32) (x2 : Vec Ideal S8x1x32x1 .f32)
    (x3 x4 x5 : Vec Ideal S1x1024x1024 .bf16) (r : Fin 32) (d : Fin 1024) (n : Fin 256)
    (hn : x1 (ix4 6 0 r 0) = BitVec.ofNat 32 n.val) :
    k0_pay12 (F := Ideal) (k0_pay20 x0 x1 x2 x3 x4 x5) (View.ld x3 r0_16) (View.ld x4 r0_16) (View.ld x5 r0_16)
      (ix2 (⟨192 + r.val, by omega⟩ : Fin 256) d) = gated (fun k => x0 (ix3 6 n k)) x3 x4 x5 d := by
  rw [unit_apply, ld_weight, ld_weight, ld_weight]
  simp only [fun c => rows6 x0 x1 x2 x3 x4 x5 r c n hn]
  rfl

theorem row7 (x0 : Vec Ideal S8x256x1024 .bf16) (x1 : Vec Ideal S8x1x32x1 .i32) (x2 : Vec Ideal S8x1x32x1 .f32)
    (x3 x4 x5 : Vec Ideal S1x1024x1024 .bf16) (r : Fin 32) (d : Fin 1024) (n : Fin 256)
    (hn : x1 (ix4 7 0 r 0) = BitVec.ofNat 32 n.val) :
    k0_pay12 (F := Ideal) (k0_pay20 x0 x1 x2 x3 x4 x5) (View.ld x3 r0_16) (View.ld x4 r0_16) (View.ld x5 r0_16)
      (ix2 (⟨224 + r.val, by omega⟩ : Fin 256) d) = gated (fun k => x0 (ix3 7 n k)) x3 x4 x5 d := by
  rw [unit_apply, ld_weight, ld_weight, ld_weight]
  simp only [fun c => rows7 x0 x1 x2 x3 x4 x5 r c n hn]
  rfl

/-- What one point leaves: row `r` of batch row `s` of its block is the row of tokens its index names, through the gated
    unit, times its gate. -/
theorem out_apply (x0 : Vec Ideal S8x256x1024 .bf16) (x1 : Vec Ideal S8x1x32x1 .i32) (x2 : Vec Ideal S8x1x32x1 .f32)
    (x3 x4 x5 : Vec Ideal S1x1024x1024 .bf16) (s : Fin 8) (u : Fin 1) (r : Fin 32) (d : Fin 1024) (n : Fin 256)
    (hn : x1 (ix4 s 0 r 0) = BitVec.ofNat 32 n.val) :
    out0_6 (F := Ideal) x0 x1 x2 x3 x4 x5 (ix4 s u r d) = gated (fun k => x0 (ix3 s n k)) x3 x4 x5 d * x2 (ix4 s 0 r 0) := by
  unfold out0_6 k0_pay21
  canon_tiles x h
  · obtain ⟨a, b, r', d', rfl⟩ : ∃ (a b : Fin 1) (r' : Fin 32) (d' : Fin 1024), x = ix4 a b r' d' :=
      ⟨x 0, x 1, x 2, x 3, eq_ix4 (n0 := 1) (n1 := 1) (n2 := 32) (n3 := 1024) x⟩
    have e0 : s.val = 7 + a.val := h0
    obtain rfl : s = 7 := Fin.ext (show s.val = 7 by omega)
    obtain rfl : r = r' := Fin.ext h2
    obtain rfl : d = d' := Fin.ext h3
    refine (cut7 _ _ a b r d).trans ?_
    rw [row7 x0 x1 x2 x3 x4 x5 r d n hn]
    exact congrArg _ (View.ld_unit_apply_of x2 _ _ _ _ (ix4 7 0 r 0) (by intro a; fin_cases a <;> simp))
  · obtain ⟨a, b, r', d', rfl⟩ : ∃ (a b : Fin 1) (r' : Fin 32) (d' : Fin 1024), x = ix4 a b r' d' :=
      ⟨x 0, x 1, x 2, x 3, eq_ix4 (n0 := 1) (n1 := 1) (n2 := 32) (n3 := 1024) x⟩
    have e0 : s.val = 6 + a.val := h0
    obtain rfl : s = 6 := Fin.ext (show s.val = 6 by omega)
    obtain rfl : r = r' := Fin.ext h2
    obtain rfl : d = d' := Fin.ext h3
    refine (cut6 _ _ a b r d).trans ?_
    rw [row6 x0 x1 x2 x3 x4 x5 r d n hn]
    exact congrArg _ (View.ld_unit_apply_of x2 _ _ _ _ (ix4 6 0 r 0) (by intro a; fin_cases a <;> simp))
  · obtain ⟨a, b, r', d', rfl⟩ : ∃ (a b : Fin 1) (r' : Fin 32) (d' : Fin 1024), x = ix4 a b r' d' :=
      ⟨x 0, x 1, x 2, x 3, eq_ix4 (n0 := 1) (n1 := 1) (n2 := 32) (n3 := 1024) x⟩
    have e0 : s.val = 5 + a.val := h0
    obtain rfl : s = 5 := Fin.ext (show s.val = 5 by omega)
    obtain rfl : r = r' := Fin.ext h2
    obtain rfl : d = d' := Fin.ext h3
    refine (cut5 _ _ a b r d).trans ?_
    rw [row5 x0 x1 x2 x3 x4 x5 r d n hn]
    exact congrArg _ (View.ld_unit_apply_of x2 _ _ _ _ (ix4 5 0 r 0) (by intro a; fin_cases a <;> simp))
  · obtain ⟨a, b, r', d', rfl⟩ : ∃ (a b : Fin 1) (r' : Fin 32) (d' : Fin 1024), x = ix4 a b r' d' :=
      ⟨x 0, x 1, x 2, x 3, eq_ix4 (n0 := 1) (n1 := 1) (n2 := 32) (n3 := 1024) x⟩
    have e0 : s.val = 4 + a.val := h0
    obtain rfl : s = 4 := Fin.ext (show s.val = 4 by omega)
    obtain rfl : r = r' := Fin.ext h2
    obtain rfl : d = d' := Fin.ext h3
    refine (cut4 _ _ a b r d).trans ?_
    rw [row4 x0 x1 x2 x3 x4 x5 r d n hn]
    exact congrArg _ (View.ld_unit_apply_of x2 _ _ _ _ (ix4 4 0 r 0) (by intro a; fin_cases a <;> simp))
  · obtain ⟨a, b, r', d', rfl⟩ : ∃ (a b : Fin 1) (r' : Fin 32) (d' : Fin 1024), x = ix4 a b r' d' :=
      ⟨x 0, x 1, x 2, x 3, eq_ix4 (n0 := 1) (n1 := 1) (n2 := 32) (n3 := 1024) x⟩
    have e0 : s.val = 3 + a.val := h0
    obtain rfl : s = 3 := Fin.ext (show s.val = 3 by omega)
    obtain rfl : r = r' := Fin.ext h2
    obtain rfl : d = d' := Fin.ext h3
    refine (cut3 _ _ a b r d).trans ?_
    rw [row3 x0 x1 x2 x3 x4 x5 r d n hn]
    exact congrArg _ (View.ld_unit_apply_of x2 _ _ _ _ (ix4 3 0 r 0) (by intro a; fin_cases a <;> simp))
  · obtain ⟨a, b, r', d', rfl⟩ : ∃ (a b : Fin 1) (r' : Fin 32) (d' : Fin 1024), x = ix4 a b r' d' :=
      ⟨x 0, x 1, x 2, x 3, eq_ix4 (n0 := 1) (n1 := 1) (n2 := 32) (n3 := 1024) x⟩
    have e0 : s.val = 2 + a.val := h0
    obtain rfl : s = 2 := Fin.ext (show s.val = 2 by omega)
    obtain rfl : r = r' := Fin.ext h2
    obtain rfl : d = d' := Fin.ext h3
    refine (cut2 _ _ a b r d).trans ?_
    rw [row2 x0 x1 x2 x3 x4 x5 r d n hn]
    exact congrArg _ (View.ld_unit_apply_of x2 _ _ _ _ (ix4 2 0 r 0) (by intro a; fin_cases a <;> simp))
  · obtain ⟨a, b, r', d', rfl⟩ : ∃ (a b : Fin 1) (r' : Fin 32) (d' : Fin 1024), x = ix4 a b r' d' :=
      ⟨x 0, x 1, x 2, x 3, eq_ix4 (n0 := 1) (n1 := 1) (n2 := 32) (n3 := 1024) x⟩
    have e0 : s.val = 1 + a.val := h0
    obtain rfl : s = 1 := Fin.ext (show s.val = 1 by omega)
    obtain rfl : r = r' := Fin.ext h2
    obtain rfl : d = d' := Fin.ext h3
    refine (cut1 _ _ _ _ _ a b r d).trans ?_
    rw [row1 x0 x1 x2 x3 x4 x5 r d n hn]
    exact congrArg _ (View.ld_unit_apply_of x2 _ _ _ _ (ix4 1 0 r 0) (by intro a; fin_cases a <;> simp))
  · obtain ⟨a, b, r', d', rfl⟩ : ∃ (a b : Fin 1) (r' : Fin 32) (d' : Fin 1024), x = ix4 a b r' d' :=
      ⟨x 0, x 1, x 2, x 3, eq_ix4 (n0 := 1) (n1 := 1) (n2 := 32) (n3 := 1024) x⟩
    have e0 : s.val = a.val := h0
    obtain rfl : s = 0 := Fin.ext (show s.val = 0 by omega)
    obtain rfl : r = r' := Fin.ext h2
    obtain rfl : d = d' := Fin.ext h3
    refine (cut0 _ _ _ _ _ a b r d).trans ?_
    rw [row0 x0 x1 x2 x3 x4 x5 r d n hn]
    exact congrArg _ (View.ld_unit_apply_of x2 _ _ _ _ (ix4 0 0 r 0) (by intro a; fin_cases a <;> simp))

end Cert.Proof.CtxExperts
-- ==== Proof.CtxExperts.Chosen.lean ====
/- The reference of the context tokens' experts at an element: the row numbers that the choice of the top scores yields lie inside the
   table of rows, so the wrap of negative numbers and the clamp of the gather do nothing. -/
module

public import proofs.«01_k».proof.Proof.Gen.Reference7Ideal.Read
public import Idealize.ShloMosaic.Lib.Pointwise

@[expose] public section

set_option maxRecDepth 16384

noncomputable section

namespace Cert.Proof.CtxExperts

open Idealize.ShloMosaic Cert.Reference7Ideal Cert.Reference7Ideal.Gen Cert.Reference7Ideal.Read

/-- Every index that the choice of the greatest along the last axis returns is a position on that axis. -/
theorem chosen_word {α : Type} (gt : α → α → BitVec 1) (x : S8x16x256.Idx → α)
    (h : S8x16x256.Slices (fun _ => 0) S8x16x32) (j : S8x16x32.Idx) :
    ∃ n : Fin 256, (Host.topK S8x16x32 2 gt x h).2 j = BitVec.ofNat 32 n.val := by
  have h2 : 2 < S8x16x256.rank := by decide
  simp only [Host.topK, Host.sort2, dif_pos h2, extractStridedSlice, iotaInDim, Shape.Idx.along, Function.update_self]
  exact ⟨_, rfl⟩

/-- The row of tokens that is entry `r` of expert `e` on batch row `b`. -/
def token (lg : (⟨S8x256x16, .f32⟩ : BufTy).Contents (Elt Ideal)) (b : Fin 8) (e : Fin 16) (r : Fin 32) : Fin 256 :=
  (chosen_word (FloatOps.cmpfTotal (F := Ideal) (φ := .f32) .gt) (val_main_v12 (F := Ideal) lg) sliceFits_S8x16x256_S8x16x32 (ix3 b e r)).choose

theorem token_spec (lg : (⟨S8x256x16, .f32⟩ : BufTy).Contents (Elt Ideal)) (b : Fin 8) (e : Fin 16) (r : Fin 32) :
    val_main_indices (F := Ideal) lg (ix3 b e r) = BitVec.ofNat 32 (token lg b e r).val :=
  (chosen_word (FloatOps.cmpfTotal (F := Ideal) (φ := .f32) .gt) (val_main_v12 (F := Ideal) lg) sliceFits_S8x16x256_S8x16x32 (ix3 b e r)).choose_spec

/-- A word that holds a row number reads back as that number, signed or not. -/
theorem word_toInt (n : Fin 256) : (BitVec.ofNat 32 n.val).toInt = n.val := by
  have hn := n.isLt
  have h : (BitVec.ofNat 32 n.val).toNat = n.val := by rw [BitVec.toNat_ofNat]; omega
  rw [BitVec.toInt_eq_toNat_of_lt (by omega), h]

/-- The start index the gather reads is the chosen number itself: it is not negative. -/
theorem start_word (lg : (⟨S8x256x16, .f32⟩ : BufTy).Contents (Elt Ideal)) (b : Fin 8) (e : Fin 16) (r : Fin 32) :
    val_main_v18 (F := Ideal) lg (ix4 b e r 0) = BitVec.ofNat 32 (token lg b e r).val := by
  have h : val_main_v18 (F := Ideal) lg (ix4 b e r 0)
      = Scalar.select (IntOp.cmpi .slt (val_main_indices (F := Ideal) lg (ix3 b e r)) 0#32)
          (val_main_indices (F := Ideal) lg (ix3 b e r) + 256#32) (val_main_indices (F := Ideal) lg (ix3 b e r)) := by
    unfold val_main_v18 val_main_v17 val_main_v16 val_main_v15 val_main_v14 val_main_v13 val_main_c val_main_c_2
    pointwise
    rfl
  rw [h, token_spec]
  have hlt := (token lg b e r).isLt
  rw [show IntOp.cmpi .slt (BitVec.ofNat 32 (token lg b e r).val) 0#32 = 0#1 from by
    show BitVec.ofBool (decide ((BitVec.ofNat 32 (token lg b e r).val).toInt < (0#32 : BitVec 32).toInt)) = 0#1
    rw [word_toInt, show (0#32 : BitVec 32).toInt = 0 from rfl, decide_eq_false (by omega)]
    rfl]
  rfl

/-- The gathered rows at an element. -/
theorem gathered (h : (⟨S8x256x1024, .bf16⟩ : BufTy).Contents (Elt Ideal)) (lg : (⟨S8x256x16, .f32⟩ : BufTy).Contents (Elt Ideal))
    (b : Fin 8) (e : Fin 16) (r : Fin 32) (k : Fin 1024) :
    val_main_v19 (F := Ideal) h lg (ix4 b e r k) = h (ix3 b (token lg b e r) k) := by
  unfold val_main_v19 Host.gather
  show h _ = _
  congr 1
  funext a
  refine Fin.ext ?_
  show gather_S8x256x1024_S8x16x32x1_S8x16x32x1024_3_1_0_0_1_3_111024.start _ _ a
    + gather_S8x256x1024_S8x16x32x1_S8x16x32x1024_3_1_0_0_1_3_111024.batchCoord _ a
    + gather_S8x256x1024_S8x16x32x1_S8x16x32x1024_3_1_0_0_1_3_111024.offCoord _ a = _
  match a with
  | ⟨0, _⟩ =>
    have h0 : (⟨0, by decide⟩ : Fin S8x256x1024.rank) ∈ gather_S8x256x1024_S8x16x32x1_S8x16x32x1024_3_1_0_0_1_3_111024.operandBatchingDims := List.mem_singleton.mpr rfl
    rw [GatherDims.start_batching _ _ _ _ h0,
      GatherDims.offCoord_eq_zero _ _ _ (fun h => ((GatherDims.mem_sKept _ _).mp h).2 h0)]
    unfold GatherDims.batchCoord
    rw [dif_pos h0]
    simp only [Nat.zero_add, Nat.add_zero]
    rfl
  | ⟨1, _⟩ =>
    have h1 : (⟨1, by decide⟩ : Fin S8x256x1024.rank) ∈ gather_S8x256x1024_S8x16x32x1_S8x16x32x1024_3_1_0_0_1_3_111024.collapsedSliceDims := List.mem_singleton.mpr rfl
    have h1' : (⟨1, by decide⟩ : Fin S8x256x1024.rank) ∈ gather_S8x256x1024_S8x16x32x1_S8x16x32x1024_3_1_0_0_1_3_111024.startIndexMap := List.mem_singleton.mpr rfl
    rw [GatherDims.batchCoord_eq_zero _ _ _ (show (1 : Fin 3) ∉ ([0] : List (Fin 3)) by decide),
      GatherDims.offCoord_eq_zero _ _ _ (fun h => ((GatherDims.mem_sKept _ _).mp h).1 h1)]
    unfold GatherDims.start
    rw [dif_pos h1']
    have hsi : ∀ c, gather_S8x256x1024_S8x16x32x1_S8x16x32x1024_3_1_0_0_1_3_111024.siIdx (ix4 b e r k) c = ix4 b e r 0 := by
      intro c
      have hc : c.val = 0 := Nat.lt_one_iff.mp c.isLt
      funext d; refine Fin.ext ?_
      match d with
      | ⟨0, _⟩ => rfl
      | ⟨1, _⟩ => rfl
      | ⟨2, _⟩ => rfl
      | ⟨3, _⟩ => exact hc
    rw [hsi, start_word, word_toInt]
    simp only [Nat.add_zero]
    show min (((token lg b e r).val : Int)).toNat 255 = (token lg b e r).val
    have hlt := (token lg b e r).isLt
    omega
  | ⟨2, _⟩ =>
    have h2 : (⟨2, by decide⟩ : Fin S8x256x1024.rank) ∉ gather_S8x256x1024_S8x16x32x1_S8x16x32x1024_3_1_0_0_1_3_111024.collapsedSliceDims := by
      show (2 : Fin 3) ∉ ([1] : List (Fin 3)); decide
    have h2m : (⟨2, by decide⟩ : Fin S8x256x1024.rank) ∉ gather_S8x256x1024_S8x16x32x1_S8x16x32x1024_3_1_0_0_1_3_111024.startIndexMap := by
      show (2 : Fin 3) ∉ ([1] : List (Fin 3)); decide
    have h2' : (⟨2, by decide⟩ : Fin S8x256x1024.rank) ∉ gather_S8x256x1024_S8x16x32x1_S8x16x32x1024_3_1_0_0_1_3_111024.operandBatchingDims := by
      show (2 : Fin 3) ∉ ([0] : List (Fin 3)); decide
    rw [GatherDims.batchCoord_eq_zero _ _ _ h2']
    unfold GatherDims.start GatherDims.offCoord
    rw [dif_neg h2m, dif_pos ((GatherDims.mem_sKept _ _).mpr ⟨h2, h2'⟩)]
    simp only [Nat.zero_add, Nat.add_zero]
    rfl

/-- The reference at an element. -/
theorem ref_apply (h : (⟨S8x256x1024, .bf16⟩ : BufTy).Contents (Elt Ideal)) (lg : (⟨S8x256x16, .f32⟩ : BufTy).Contents (Elt Ideal))
    (w1 w3 w2 : (⟨S16x1024x1024, .f32⟩ : BufTy).Contents (Elt Ideal)) (b : Fin 8) (e : Fin 16) (r : Fin 32) (d : Fin 1024) :
    val_main_v31 (F := Ideal) h lg w1 w3 w2 (ix4 b e r d)
      = (∑ f : Fin 1024, ((∑ k : Fin 1024, h (ix3 b (token lg b e r) k) * w1 (ix3 e k f))
            * Ideal.logistic (∑ k : Fin 1024, h (ix3 b (token lg b e r) k) * w1 (ix3 e k f))
            * (∑ k : Fin 1024, h (ix3 b (token lg b e r) k) * w3 (ix3 e k f))) * w2 (ix3 e f d))
          * val_main_values (F := Ideal) lg (ix3 b e r) := by
  unfold val_main_v31 val_main_v30 val_main_v29 val_main_v28 val_main_v27 val_main_v26 val_main_v25 val_main_v24 val_main_v23
    val_main_v22 val_main_call0_v5 val_main_call0_v4 val_main_call0_cst_0 val_main_call0_v3 val_main_call0_v2 val_main_call0_cst
    val_main_call0_v1 val_main_call0_v0 val_main_v21 val_main_v20
  pointwise
  simp only [gathered, fun i x => mul_comm (w1 i) x, fun i x => mul_comm (w3 i) x, fun i x => mul_comm (w2 i) x]
  rfl

end Cert.Proof.CtxExperts
-- ==== Proof.CtxExperts.Value.lean ====
/- The kernel of the context tokens' experts as a whole: each point of the grid writes one expert's rows of all eight
   batch rows, and the array the run leaves is the reference's. -/
module

public import proofs.«01_k».proof.Proof.CtxExperts.Block
public import proofs.«01_k».proof.Proof.CtxExperts.Chosen
public import Idealize.ShloMosaic.Lib.Pipeline.ValueKit
public import Idealize.ShloMosaic.Lib.Claim

@[expose] public section

set_option maxRecDepth 16384

noncomputable section

namespace Cert.Proof.CtxExperts

open Idealize.ShloMosaic Idealize.ShloMosaic.TcCoe Idealize.SL.Sem
open Cert.Kernel7Ideal Cert.Kernel7Ideal.Gen Cert.Kernel7Ideal.Value

variable (m : (ℓ : Loc nD τ sig) → Buf (Elt Ideal) ℓ)

/-- The chosen row numbers as the region finds them. -/
theorem entry_idx (c : Dev nD) (b : Fin 8) (e : Fin 16) (r : Fin 32) :
    V m c main_v15 (ix4 b e r 0)
      = Cert.Reference7Ideal.Read.val_main_indices (F := Ideal) (m ((c : Thread nD τ).loc main_arg1)) (ix3 b e r) := by
  entry_read
  pointwise
  rfl

/-- The gates as the region finds them. -/
theorem entry_gate (c : Dev nD) (b : Fin 8) (e : Fin 16) (r : Fin 32) :
    V m c main_v16 (ix4 b e r 0)
      = Cert.Reference7Ideal.Read.val_main_values (F := Ideal) (m ((c : Thread nD τ).loc main_arg1)) (ix3 b e r) := by
  entry_read
  pointwise
  rfl

/-- A weight as the region finds it: the change of format keeps every value. -/
theorem entry_w1 (c : Dev nD) (i : S16x1024x1024.Idx) :
    V m c main_v0 i = m ((c : Thread nD τ).loc main_arg2) i := by
  entry_read
  rfl

/-- A weight as the region finds it: the change of format keeps every value. -/
theorem entry_w3 (c : Dev nD) (i : S16x1024x1024.Idx) :
    V m c main_v1 i = m ((c : Thread nD τ).loc main_arg3) i := by
  entry_read
  rfl

/-- A weight as the region finds it: the change of format keeps every value. -/
theorem entry_w2 (c : Dev nD) (i : S16x1024x1024.Idx) :
    V m c main_v2 i = m ((c : Thread nD τ).loc main_arg4) i := by
  entry_read
  rfl

/-- Where each window's block lies at a point. -/
theorem places : ∀ t : Fin grid0.N,
    win0_0.index t = ![0, 0, 0] ∧ win0_1.index t = ![0, t.val, 0, 0] ∧ win0_2.index t = ![0, t.val, 0, 0]
    ∧ win0_3.index t = ![t.val, 0, 0] ∧ win0_4.index t = ![t.val, 0, 0] ∧ win0_5.index t = ![t.val, 0, 0]
    ∧ win0_6.index t = ![0, t.val, 0, 0] := by decide +kernel

set_option maxHeartbeats 1000000 in
/-- THE ARRAY AFTER THE RUN is the reference of the arguments. -/
theorem final (c : Dev nD) :
    (dats m 0 c).arrAt 6 cfg0.N
      = Cert.Reference7Ideal.Read.val_main_v31 (F := Ideal) (m ((c : Thread nD τ).loc main_arg0)) (m ((c : Thread nD τ).loc main_arg1))
          (m ((c : Thread nD τ).loc main_arg2)) (m ((c : Thread nD τ).loc main_arg3)) (m ((c : Thread nD τ).loc main_arg4)) := by
  refine (dats m 0 c).arrAt_eq_of_covers 6 _ (by decide +kernel) fun t hf y => ?_
  have ht : t.val < 16 := lt_of_lt_of_eq t.isLt N_0
  obtain ⟨p0, p1, p2, p3, p4, p5, p6⟩ := places t
  rw [after0_6]
  obtain ⟨s, u, r, d, rfl⟩ : ∃ (s : Fin 8) (u : Fin 1) (r : Fin 32) (d : Fin 1024), y = ix4 s u r d :=
    ⟨y 0, y 1, y 2, y 3, eq_ix4 (n0 := 8) (n1 := 1) (n2 := 32) (n3 := 1024) y⟩
  have e6 : ((cfg0.win 6).blk t).view.emb (ix4 s u r d) = ix4 s (⟨t.val, ht⟩ : Fin 16) r d := by
    blk_ext [p6]
  have r0 : ∀ (k : Fin 256) (f : Fin 1024), iblk m c 0 t (ix3 s k f)
      = m ((c : Thread nD τ).loc main_arg0) (ix3 s k f) := by
    intro k f
    refine Eq.trans (b := V m c main_arg0 (ix3 s k f)) (by blk_ext [iblk, p0]) ?_
    rw [V_main_arg0]
  have r3 : ∀ (k : Fin 1024) (f : Fin 1024), iblk m c 3 t (ix3 0 k f)
      = m ((c : Thread nD τ).loc main_arg2) (ix3 (⟨t.val, ht⟩ : Fin 16) k f) := by
    intro k f
    refine Eq.trans (b := V m c main_v0 (ix3 (⟨t.val, ht⟩ : Fin 16) k f)) (by blk_ext [iblk, p3]) ?_
    rw [entry_w1]
  have r4 : ∀ (k : Fin 1024) (f : Fin 1024), iblk m c 4 t (ix3 0 k f)
      = m ((c : Thread nD τ).loc main_arg3) (ix3 (⟨t.val, ht⟩ : Fin 16) k f) := by
    intro k f
    refine Eq.trans (b := V m c main_v1 (ix3 (⟨t.val, ht⟩ : Fin 16) k f)) (by blk_ext [iblk, p4]) ?_
    rw [entry_w3]
  have r5 : ∀ (k : Fin 1024) (f : Fin 1024), iblk m c 5 t (ix3 0 k f)
      = m ((c : Thread nD τ).loc main_arg4) (ix3 (⟨t.val, ht⟩ : Fin 16) k f) := by
    intro k f
    refine Eq.trans (b := V m c main_v2 (ix3 (⟨t.val, ht⟩ : Fin 16) k f)) (by blk_ext [iblk, p5]) ?_
    rw [entry_w2]
  have r1 : iblk m c 1 t (ix4 s 0 r 0) = V m c main_v15 (ix4 s (⟨t.val, ht⟩ : Fin 16) r 0) := by
    blk_ext [iblk, p1]
  have r2 : iblk m c 2 t (ix4 s 0 r 0) = V m c main_v16 (ix4 s (⟨t.val, ht⟩ : Fin 16) r 0) := by
    blk_ext [iblk, p2]
  rw [entry_idx, token_spec] at r1
  rw [entry_gate] at r2
  rw [e6, ref_apply]
  have ho := out_apply (iblk m c 0 t) (iblk m c 1 t) (iblk m c 2 t) (iblk m c 3 t) (iblk m c 4 t) (iblk m c 5 t) s u r d _ r1
  unfold gated at ho
  simp only [r0, r3, r4, r5, r2] at ho
  generalize out0_6 (F := Ideal) (iblk m c 0 t) (iblk m c 1 t) (iblk m c 2 t) (iblk m c 3 t) (iblk m c 4 t) (iblk m c 5 t) = o at ho ⊢
  refine Eq.trans ?_ ho
  rfl

end Cert.Proof.CtxExperts
-- ==== Proof.CtxExperts.Claims.lean ====
/- The claims of the context tokens' experts: the reference leaves its arguments as they were, and kernel and reference compute one array. -/
module

public import proofs.«01_k».proof.Defs
public import proofs.«01_k».proof.Proof.CtxExperts.Value
public import Idealize.ShloMosaic.Lib.Quiescent

@[expose] public section

set_option maxRecDepth 16384

noncomputable section

namespace Cert.Proof.CtxExperts

open Idealize.ShloMosaic Idealize.SL.Sem

theorem frame_reference : Cert.quiescent_Reference7Ideal := fun m ρ _ =>
  (θ_run _ _ _).mono (fun _ h => ⟨fun c => (h c).2, sem_eq_zero_of_no_sems rfl _⟩) (Cert.Reference7Ideal.Value.run m ρ)

theorem algebraic : Cert.algebraic_Kernel7Ideal_Reference7Ideal := fun m ρ m' ρ' _ hag =>
  ⟨fun c => Cert.Reference7Ideal.Value.res_main_v31 m' c,
    (θ_run _ _ _).mono (fun _ h c => ⟨(h c).1.trans (by
      obtain ⟨a0, a1, a2, a3, a4⟩ := hag c
      show _ = Cert.Reference7Ideal.Value.res_main_v31 m' c
      rw [final m c, Cert.Reference7Ideal.Read.val_main_v31_eq, a0, a1, a2, a3, a4]), (h c).2⟩)
      (Cert.Kernel7Ideal.Value.run_blocks m ρ),
    (θ_run _ _ _).mono (fun _ h c => ⟨(h c).1, (h c).2⟩) (Cert.Reference7Ideal.Value.run m' ρ')⟩

end Cert.Proof.CtxExperts
-- ==== Proof.CtxOddProj.Block.lean ====
/- One block of the context tokens' odd layers' input projection: normed, scaled and shifted rows against the weight's
   columns, element by element. -/
module

public import proofs.«01_k».proof.Proof.Gen.Kernel8Ideal.Value
public import Idealize.ShloMosaic.Lib.Pointwise

@[expose] public section

set_option maxRecDepth 16384

noncomputable section

namespace Cert.Proof.CtxOddProj

open Idealize.ShloMosaic Cert.Kernel8Ideal Cert.Kernel8Ideal.Gen

/-- The scratch at row `r`, lane `k`: the normed row, scaled and shifted. -/
theorem row_apply (x : Vec Ideal S1x256x1024 .f32) (sc sh : Vec Ideal S1x1x1024 .f32) (r : Fin 256) (k : Fin 1024) :
    k0_pay1 (F := Ideal) x sc sh (ix2 r k)
      = x (ix3 0 r k) * Ideal.rsqrt (Ideal.div (∑ j : Fin 1024, x (ix3 0 r j) * x (ix3 0 r j)) (Ideal.ofBits .f32 0x44800000#32)
          + Ideal.ofBits .f32 0x358637BD#32) * sc (ix3 0 0 k) + sh (ix3 0 0 k) := by
  pointwise [k0_pay1]

/-- The first output's block: the scratch against the first columns. -/
theorem pay_rw (v : Vec Ideal S256x1024 .bf16) (w : Vec Ideal S1024x1920 .bf16) (r : Fin 256) (d : Fin 1920) :
    k0_pay2 (F := Ideal) v w (ix3 0 r d) = ∑ k : Fin 1024, v (ix2 r k) * w (ix2 k d) := by
  pointwise [k0_pay2]

/-- The second output's block: the scratch against the other columns. -/
theorem pay_na (v : Vec Ideal S256x1024 .bf16) (w : Vec Ideal S1024x1536 .bf16) (r : Fin 256) (d : Fin 1536) :
    k0_pay3 (F := Ideal) v w (ix3 0 r d) = ∑ k : Fin 1024, v (ix2 r k) * w (ix2 k d) := by
  pointwise [k0_pay3]

end Cert.Proof.CtxOddProj
-- ==== Proof.CtxOddProj.Ref.lean ====
/- The reference of the context tokens' odd layers' input projection, element by element. -/
module

public import proofs.«01_k».proof.Proof.Gen.Reference8Ideal.Read
public import Idealize.ShloMosaic.Lib.Pointwise

@[expose] public section

set_option maxRecDepth 16384

noncomputable section

namespace Cert.Proof.CtxOddProj

open Idealize.ShloMosaic Cert.Reference8Ideal Cert.Reference8Ideal.Read

/-- The norm's gain times one plus the scale. -/
def gain (g : Vec Ideal S1024 .f32) (sc : Vec Ideal S1x1x1024 .f32) (k : Fin 1024) : EReal :=
  g (ix1 k) * (1 + sc (ix3 0 0 k))

/-- A normed row, scaled and shifted. -/
def normed (x : Vec Ideal S8x256x1024 .f32) (g : Vec Ideal S1024 .f32) (sc sh : Vec Ideal S1x1x1024 .f32)
    (b : Fin 8) (r : Fin 256) (k : Fin 1024) : EReal :=
  x (ix3 b r k) * Ideal.rsqrt (Ideal.div (∑ j : Fin 1024, x (ix3 b r j) * x (ix3 b r j)) (Ideal.ofBits .f32 0x44800000#32)
      + Ideal.ofBits .f32 0x358637BD#32) * gain g sc k + sh (ix3 0 0 k)

/-- The product of the normed rows with the weight. -/
theorem ref_all (x : Vec Ideal S8x256x1024 .f32) (g : Vec Ideal S1024 .f32) (sc sh : Vec Ideal S1x1x1024 .f32) (w : Vec Ideal S1024x3456 .f32)
    (b : Fin 8) (r : Fin 256) (d : Fin 3456) :
    val_main_v19 (F := Ideal) x g sc sh w (ix3 b r d) = ∑ k : Fin 1024, normed x g sc sh b r k * w (ix2 k d) := by
  pointwise [val_main_v19, val_main_v18, val_main_v17, val_main_v16, val_main_v15, val_main_v14, val_main_v13, val_main_cst_2, val_main_v12,
    val_main_v11, val_main_v10, val_main_v9, val_main_v8, val_main_v7, val_main_v6, val_main_v5, val_main_v4, val_main_v3, val_main_v2,
    val_main_v1, val_main_v0, val_main_cst, val_main_cst_0, val_main_cst_1]
  simp only [normed, gain, mul_assoc]

/-- The reference's first result: the first columns. -/
theorem ref_rw (x : Vec Ideal S8x256x1024 .f32) (g : Vec Ideal S1024 .f32) (sc sh : Vec Ideal S1x1x1024 .f32) (w : Vec Ideal S1024x3456 .f32)
    (b : Fin 8) (r : Fin 256) (d : Fin 1920) :
    val_main_v20 (F := Ideal) x g sc sh w (ix3 b r d) = ∑ k : Fin 1024, normed x g sc sh b r k * w (ix2 k ⟨d.val, by omega⟩) := by
  rw [← ref_all]
  pointwise [val_main_v20]

/-- The reference's second result: the other columns. -/
theorem ref_na (x : Vec Ideal S8x256x1024 .f32) (g : Vec Ideal S1024 .f32) (sc sh : Vec Ideal S1x1x1024 .f32) (w : Vec Ideal S1024x3456 .f32)
    (b : Fin 8) (r : Fin 256) (d : Fin 1536) :
    val_main_v21 (F := Ideal) x g sc sh w (ix3 b r d) = ∑ k : Fin 1024, normed x g sc sh b r k * w (ix2 k ⟨1920 + d.val, by omega⟩) := by
  rw [← ref_all]
  pointwise [val_main_v21]

end Cert.Proof.CtxOddProj
-- ==== Proof.CtxOddProj.Value.lean ====
/- The context tokens' odd layers' input projection as a whole: each point of the grid writes one block of
   rows, and the arrays the run leaves are the reference's. -/
module

public import proofs.«01_k».proof.Proof.CtxOddProj.Block
public import proofs.«01_k».proof.Proof.CtxOddProj.Ref
public import Idealize.ShloMosaic.Lib.Pipeline.ValueKit
public import Idealize.ShloMosaic.Lib.Pipeline.ReadBack
public import Idealize.ShloMosaic.Lib.Claim

@[expose] public section

set_option maxRecDepth 16384

noncomputable section

namespace Cert.Proof.CtxOddProj

open Idealize.ShloMosaic Idealize.ShloMosaic.TcCoe Idealize.SL.Sem
open Cert.Kernel8Ideal Cert.Kernel8Ideal.Gen Cert.Kernel8Ideal.Value

variable (m : (ℓ : Loc nD τ sig) → Buf (Elt Ideal) ℓ)

/-- The scale as the region finds it. -/
theorem entry_scale (c : Dev nD) (k : Fin 1024) :
    V m c main_v4 (ix3 0 0 k) = gain (m ((c : Thread nD τ).loc main_arg1)) (m ((c : Thread nD τ).loc main_arg2)) k := by
  entry_read
  pointwise
  rfl

/-- The weight as the region finds it: the change of format keeps every value. -/
theorem entry_w (c : Dev nD) (i : S1024x3456.Idx) :
    V m c main_v0 i = m ((c : Thread nD τ).loc main_arg4) i := by
  entry_read
  rfl

/-- Where each window's block lies at a point. -/
theorem places : ∀ t : Fin grid0.N,
    win0_0.index t = ![t.val, 0, 0] ∧ win0_1.index t = ![0, 0]
    ∧ win0_2.index t = ![0, 0, 0] ∧ win0_3.index t = ![0, 0, 0]
    ∧ win0_4.index t = ![t.val, 0, 0] ∧ win0_5.index t = ![t.val, 0, 0] := by decide +kernel

/-- A row of the scratch at a point is the reference's normed row. -/
theorem row_point (c : Dev nD) (t : Fin cfg0.N) {r : Fin 256} (hb : t.val < 8) (k : Fin 1024) :
    k0_pay1 (F := Ideal) (iblk m c 0 t) (iblk m c 2 t) (iblk m c 3 t) (ix2 r k)
      = normed (m ((c : Thread nD τ).loc main_arg0)) (m ((c : Thread nD τ).loc main_arg1)) (m ((c : Thread nD τ).loc main_arg2))
          (m ((c : Thread nD τ).loc main_arg3)) ⟨t.val, hb⟩ r k := by
  obtain ⟨p0, p1, p2, p3, -, -⟩ := places t
  have r0 : ∀ j : Fin 1024, iblk m c 0 t (ix3 0 r j)
      = m ((c : Thread nD τ).loc main_arg0) (ix3 (⟨t.val, hb⟩ : Fin 8) r j) := by
    intro j
    refine Eq.trans (b := V m c main_arg0 (ix3 (⟨t.val, hb⟩ : Fin 8) r j)) (by blk_ext [iblk, p0]) ?_
    rw [V_main_arg0]
  have r2 : iblk m c 2 t (ix3 0 0 k) = V m c main_v4 (ix3 0 0 k) := by blk_ext [iblk, p2]
  have r3 : iblk m c 3 t (ix3 0 0 k) = m ((c : Thread nD τ).loc main_arg3) (ix3 0 0 k) := by
    refine Eq.trans (b := V m c main_arg3 (ix3 0 0 k)) (by blk_ext [iblk, p3]) ?_
    rw [V_main_arg3]
  rw [entry_scale] at r2
  refine (row_apply _ _ _ r k).trans ?_
  simp only [normed, r0, r2, r3]

/-- The weight's block is the whole weight. -/
theorem weight_point (c : Dev nD) (t : Fin cfg0.N) (k : Fin 1024) (d : Fin 3456) :
    iblk m c 1 t (ix2 k d) = m ((c : Thread nD τ).loc main_arg4) (ix2 k d) := by
  obtain ⟨-, p1, -, -, -, -⟩ := places t
  refine Eq.trans (b := V m c main_v0 (ix2 k d)) (by blk_ext [iblk, p1]) ?_
  rw [entry_w]

set_option maxHeartbeats 1000000 in
/-- THE FIRST ARRAY AFTER THE RUN is the reference's first result. -/
theorem final_rw (c : Dev nD) :
    (dats m 0 c).arrAt 4 cfg0.N
      = Cert.Reference8Ideal.Read.val_main_v20 (F := Ideal) (m ((c : Thread nD τ).loc main_arg0)) (m ((c : Thread nD τ).loc main_arg1))
          (m ((c : Thread nD τ).loc main_arg2)) (m ((c : Thread nD τ).loc main_arg3)) (m ((c : Thread nD τ).loc main_arg4)) := by
  refine (dats m 0 c).arrAt_eq_of_covers 4 _ (by decide +kernel) fun t hf y => ?_
  have hb : t.val < 8 := lt_of_lt_of_eq t.isLt N_0
  obtain ⟨-, -, -, -, p4, p5⟩ := places t
  rw [after0_4]
  simp only [outsAt0]
  frame_out
  obtain ⟨u, r, d, rfl⟩ : ∃ (u : Fin 1) (r : Fin 256) (d : Fin 1920), y = ix3 u r d :=
    ⟨y 0, y 1, y 2, eq_ix3 (n0 := 1) (n1 := 256) (n2 := 1920) y⟩
  obtain rfl : u = 0 := Subsingleton.elim _ _
  have e : ((cfg0.win 4).blk t).view.emb (ix3 0 r d) = ix3 (⟨t.val, hb⟩ : Fin 8) r d := by
    blk_ext [p4]
  refine Eq.trans ?_ (congrArg _ e.symm)
  refine Eq.trans ?_ (ref_rw _ _ _ _ _ _ _ d).symm
  refine Eq.trans (b := k0_pay2 (F := Ideal) (k0_pay1 (iblk m c 0 t) (iblk m c 2 t) (iblk m c 3 t))
    (View.ld (iblk m c 1 t) (Rect.unit ![0, 0] ![1024, 1920] inb_S1024x3456_S1024x1920_0_0)) (ix3 0 r d)) rfl ?_
  refine (pay_rw _ _ r d).trans (Finset.sum_congr rfl fun k _ => ?_)
  rw [row_point m c t hb]
  congr 1
  refine Eq.trans (b := (iblk m c 1 t) (ix2 k ⟨d.val, by omega⟩)) (by pointwise) (weight_point m c t k _)

set_option maxHeartbeats 1000000 in
/-- THE SECOND ARRAY AFTER THE RUN is the reference's second result. -/
theorem final_na (c : Dev nD) :
    (dats m 0 c).arrAt 5 cfg0.N
      = Cert.Reference8Ideal.Read.val_main_v21 (F := Ideal) (m ((c : Thread nD τ).loc main_arg0)) (m ((c : Thread nD τ).loc main_arg1))
          (m ((c : Thread nD τ).loc main_arg2)) (m ((c : Thread nD τ).loc main_arg3)) (m ((c : Thread nD τ).loc main_arg4)) := by
  refine (dats m 0 c).arrAt_eq_of_covers 5 _ (by decide +kernel) fun t hf y => ?_
  have hb : t.val < 8 := lt_of_lt_of_eq t.isLt N_0
  obtain ⟨-, -, -, -, p4, p5⟩ := places t
  rw [after0_5]
  simp only [outsAt0]
  frame_out
  obtain ⟨u, r, d, rfl⟩ : ∃ (u : Fin 1) (r : Fin 256) (d : Fin 1536), y = ix3 u r d :=
    ⟨y 0, y 1, y 2, eq_ix3 (n0 := 1) (n1 := 256) (n2 := 1536) y⟩
  obtain rfl : u = 0 := Subsingleton.elim _ _
  have e : ((cfg0.win 5).blk t).view.emb (ix3 0 r d) = ix3 (⟨t.val, hb⟩ : Fin 8) r d := by
    blk_ext [p5]
  refine Eq.trans ?_ (congrArg _ e.symm)
  refine Eq.trans ?_ (ref_na _ _ _ _ _ _ _ d).symm
  refine Eq.trans (b := k0_pay3 (F := Ideal) (k0_pay1 (iblk m c 0 t) (iblk m c 2 t) (iblk m c 3 t))
    (View.ld (iblk m c 1 t) (Rect.unit ![0, 1920] ![1024, 1536] inb_S1024x3456_S1024x1536_0_1920)) (ix3 0 r d)) rfl ?_
  refine (pay_na _ _ r d).trans (Finset.sum_congr rfl fun k _ => ?_)
  rw [row_point m c t hb]
  congr 1
  refine Eq.trans (b := (iblk m c 1 t) (ix2 k ⟨1920 + d.val, by omega⟩)) (by pointwise) (weight_point m c t k _)

end Cert.Proof.CtxOddProj
-- ==== Proof.CtxOddProj.Claims.lean ====
/- The claims of the context tokens' odd layers' input projection: the reference leaves its arguments as they were, and
   kernel and reference compute the same two arrays. -/
module

public import proofs.«01_k».proof.Defs
public import proofs.«01_k».proof.Proof.CtxOddProj.Value
public import Idealize.ShloMosaic.Lib.Quiescent

@[expose] public section

set_option maxRecDepth 16384

noncomputable section

namespace Cert.Proof.CtxOddProj

open Idealize.ShloMosaic Idealize.SL.Sem

theorem frame_reference : Cert.quiescent_Reference8Ideal := fun m ρ _ =>
  (θ_run _ _ _).mono (fun _ h => ⟨fun c => (h c).2.2, sem_eq_zero_of_no_sems rfl _⟩) (Cert.Reference8Ideal.Value.run m ρ)

theorem algebraic : Cert.algebraic_Kernel8Ideal_Reference8Ideal := fun m ρ m' ρ' _ hag =>
  ⟨fun c => Cert.Reference8Ideal.Read.val_main_v20 (F := Ideal) (m' (c.tc.loc Cert.Reference8Ideal.main_arg0)) (m' (c.tc.loc Cert.Reference8Ideal.main_arg1))
      (m' (c.tc.loc Cert.Reference8Ideal.main_arg2)) (m' (c.tc.loc Cert.Reference8Ideal.main_arg3)) (m' (c.tc.loc Cert.Reference8Ideal.main_arg4)),
    fun c => Cert.Reference8Ideal.Read.val_main_v21 (F := Ideal) (m' (c.tc.loc Cert.Reference8Ideal.main_arg0)) (m' (c.tc.loc Cert.Reference8Ideal.main_arg1))
      (m' (c.tc.loc Cert.Reference8Ideal.main_arg2)) (m' (c.tc.loc Cert.Reference8Ideal.main_arg3)) (m' (c.tc.loc Cert.Reference8Ideal.main_arg4)),
    (θ_run _ _ _).mono (fun _ h c => ⟨(h c).1.trans (by
        obtain ⟨a0, a1, a2, a3, a4⟩ := hag c
        beta_reduce
        rw [final_rw m c, a0, a1, a2, a3, a4]),
      (h c).2.1.trans (by
        obtain ⟨a0, a1, a2, a3, a4⟩ := hag c
        beta_reduce
        rw [final_na m c, a0, a1, a2, a3, a4]), (h c).2.2⟩)
      (Cert.Kernel8Ideal.Value.run_blocks m ρ),
    (θ_run _ _ _).mono (fun _ h c => ⟨(h c).1.trans (Cert.Reference8Ideal.Read.val_main_v20_eq _ _ _ _ _),
        (h c).2.1.trans (Cert.Reference8Ideal.Read.val_main_v21_eq _ _ _ _ _), (h c).2.2⟩)
      (Cert.Reference8Ideal.Value.run m' ρ')⟩

end Cert.Proof.CtxOddProj
-- ==== Proof.CtxEvenProj.Block.lean ====
/- One block of the context tokens' even layers' input projection: normed, scaled and shifted rows against the weight's
   columns, element by element. -/
module

public import proofs.«01_k».proof.Proof.Gen.Kernel9Ideal.Frame
public import Idealize.ShloMosaic.Lib.Pointwise

@[expose] public section

set_option maxRecDepth 16384

noncomputable section

namespace Cert.Proof.CtxEvenProj

open Idealize.ShloMosaic Cert.Kernel9Ideal Cert.Kernel9Ideal.Gen

/-- The scratch at row `r`, lane `k`: the normed row, scaled and shifted. -/
theorem row_apply (x : Vec Ideal S1x256x1024 .f32) (sc sh : Vec Ideal S1x1x1024 .f32) (r : Fin 256) (k : Fin 1024) :
    k0_pay1 (F := Ideal) x sc sh (ix2 r k)
      = x (ix3 0 r k) * Ideal.rsqrt (Ideal.div (∑ j : Fin 1024, x (ix3 0 r j) * x (ix3 0 r j)) (Ideal.ofBits .f32 0x44800000#32)
          + Ideal.ofBits .f32 0x358637BD#32) * sc (ix3 0 0 k) + sh (ix3 0 0 k) := by
  pointwise [k0_pay1]

/-- The first output's block: the scratch against the first columns. -/
theorem pay_mla (v : Vec Ideal S256x1024 .bf16) (w : Vec Ideal S1024x768 .bf16) (r : Fin 256) (d : Fin 768) :
    k0_pay2 (F := Ideal) v w (ix3 0 r d) = ∑ k : Fin 1024, v (ix2 r k) * w (ix2 k d) := by
  pointwise [k0_pay2]

/-- The second output's block: the scratch against the other columns. -/
theorem pay_cv (v : Vec Ideal S256x1024 .bf16) (w : Vec Ideal S1024x1024 .bf16) (r : Fin 256) (d : Fin 1024) :
    k0_pay3 (F := Ideal) v w (ix3 0 r d) = ∑ k : Fin 1024, v (ix2 r k) * w (ix2 k d) := by
  pointwise [k0_pay3]

end Cert.Proof.CtxEvenProj
-- ==== Proof.CtxEvenProj.Ref.lean ====
/- The reference of the context tokens' even layers' input projection, element by element. -/
module

public import proofs.«01_k».proof.Proof.Gen.Reference9Ideal.Read
public import Idealize.ShloMosaic.Lib.Pointwise

@[expose] public section

set_option maxRecDepth 16384

noncomputable section

namespace Cert.Proof.CtxEvenProj

open Idealize.ShloMosaic Cert.Reference9Ideal Cert.Reference9Ideal.Read

/-- The norm's gain times one plus the scale. -/
def gain (g : Vec Ideal S1024 .f32) (sc : Vec Ideal S1x1x1024 .f32) (k : Fin 1024) : EReal :=
  g (ix1 k) * (1 + sc (ix3 0 0 k))

/-- A normed row, scaled and shifted. -/
def normed (x : Vec Ideal S8x256x1024 .f32) (g : Vec Ideal S1024 .f32) (sc sh : Vec Ideal S1x1x1024 .f32)
    (b : Fin 8) (r : Fin 256) (k : Fin 1024) : EReal :=
  x (ix3 b r k) * Ideal.rsqrt (Ideal.div (∑ j : Fin 1024, x (ix3 b r j) * x (ix3 b r j)) (Ideal.ofBits .f32 0x44800000#32)
      + Ideal.ofBits .f32 0x358637BD#32) * gain g sc k + sh (ix3 0 0 k)

/-- The product of the normed rows with the weight. -/
theorem ref_all (x : Vec Ideal S8x256x1024 .f32) (g : Vec Ideal S1024 .f32) (sc sh : Vec Ideal S1x1x1024 .f32) (w : Vec Ideal S1024x1696 .f32)
    (b : Fin 8) (r : Fin 256) (d : Fin 1696) :
    val_main_v19 (F := Ideal) x g sc sh w (ix3 b r d) = ∑ k : Fin 1024, normed x g sc sh b r k * w (ix2 k d) := by
  pointwise [val_main_v19, val_main_v18, val_main_v17, val_main_v16, val_main_v15, val_main_v14, val_main_v13, val_main_cst_2, val_main_v12,
    val_main_v11, val_main_v10, val_main_v9, val_main_v8, val_main_v7, val_main_v6, val_main_v5, val_main_v4, val_main_v3, val_main_v2,
    val_main_v1, val_main_v0, val_main_cst, val_main_cst_0, val_main_cst_1]
  simp only [normed, gain, mul_assoc]

/-- The reference's first result: the first columns. -/
theorem ref_mla (x : Vec Ideal S8x256x1024 .f32) (g : Vec Ideal S1024 .f32) (sc sh : Vec Ideal S1x1x1024 .f32) (w : Vec Ideal S1024x1696 .f32)
    (b : Fin 8) (r : Fin 256) (d : Fin 672) :
    val_main_v20 (F := Ideal) x g sc sh w (ix3 b r d) = ∑ k : Fin 1024, normed x g sc sh b r k * w (ix2 k ⟨d.val, by omega⟩) := by
  rw [← ref_all]
  pointwise [val_main_v20]

/-- The reference's second result: the other columns. -/
theorem ref_cv (x : Vec Ideal S8x256x1024 .f32) (g : Vec Ideal S1024 .f32) (sc sh : Vec Ideal S1x1x1024 .f32) (w : Vec Ideal S1024x1696 .f32)
    (b : Fin 8) (r : Fin 256) (d : Fin 1024) :
    val_main_v21 (F := Ideal) x g sc sh w (ix3 b r d) = ∑ k : Fin 1024, normed x g sc sh b r k * w (ix2 k ⟨672 + d.val, by omega⟩) := by
  rw [← ref_all]
  pointwise [val_main_v21]

end Cert.Proof.CtxEvenProj
-- ==== Proof.CtxEvenProj.Value.lean ====
/- The context tokens' even layers' input projection as a whole: each point of the grid writes one block of rows, and the
   arrays the run leaves, the first cut to the columns the reference has, are the reference's. -/
module

public import proofs.«01_k».proof.Proof.Gen.Kernel9Ideal.Frame
public import proofs.«01_k».proof.Proof.CtxEvenProj.Block
public import proofs.«01_k».proof.Proof.CtxEvenProj.Ref
public import Idealize.ShloMosaic.Lib.Pipeline.ValueKit
public import Idealize.ShloMosaic.Lib.Pipeline.ReadBack
public import Idealize.ShloMosaic.Lib.Claim

@[expose] public section

set_option maxRecDepth 16384

noncomputable section

namespace Cert.Proof.CtxEvenProj

open Idealize.ShloMosaic Idealize.ShloMosaic.TcCoe Idealize.SL.Sem
open Cert.Kernel9Ideal Cert.Kernel9Ideal.Gen

variable (m : (ℓ : Loc nD τ sig) → Buf (Elt Ideal) ℓ) (ρ : Dev nD → PrngReg)

/-- The scale as the region finds it. -/
theorem entry_scale (c : Dev nD) (k : Fin 1024) :
    V m c main_v18 (ix3 0 0 k) = gain (m ((c : Thread nD τ).loc main_arg1)) (m ((c : Thread nD τ).loc main_arg2)) k := by
  unfold V V0 hostOps0
  simp only [List.flatten_cons, List.flatten_nil, List.append_nil, StableHlo.after_cons, StableHlo.after_nil]
  after_results_simp
  pointwise
  rfl

/-- A column before the cut of two arrays set side by side. -/
theorem join_left (a : Vec Ideal S1024x768 .f32) (b : Vec Ideal S1024x1024 .f32) (k : Fin 1024) (d : Fin 768) :
    truncf (F := Ideal) .bf16 (concatenate S1024x1792 1 [⟨S1024x768, a⟩, ⟨S1024x1024, b⟩] concatenates_S1024x768_S1024x1024_S1024x1792_d1)
      bitsLt_bf16_f32 (ix2 k (⟨d.val, by omega⟩ : Fin 1792)) = a (ix2 k d) := by
  pointwise

/-- A column behind the cut. -/
theorem join_right (a : Vec Ideal S1024x768 .f32) (b : Vec Ideal S1024x1024 .f32) (k : Fin 1024) (d : Fin 1024) :
    truncf (F := Ideal) .bf16 (concatenate S1024x1792 1 [⟨S1024x768, a⟩, ⟨S1024x1024, b⟩] concatenates_S1024x768_S1024x1024_S1024x1792_d1)
      bitsLt_bf16_f32 (ix2 k (⟨768 + d.val, by omega⟩ : Fin 1792)) = b (ix2 k d) := by
  pointwise

/-- A column of the first of three arrays set side by side. -/
theorem join_first (a : Vec Ideal S1024x672 .f32) (b : Vec Ideal S1024x32 .f32) (z : Vec Ideal S1024x64 .f32) (k : Fin 1024) (d : Fin 672) :
    (concatenate S1024x768 1 [⟨S1024x672, a⟩, ⟨S1024x32, b⟩, ⟨S1024x64, z⟩] concatenates_S1024x672_S1024x32_S1024x64_S1024x768_d1
      : Vec Ideal S1024x768 .f32) (ix2 k (⟨d.val, by omega⟩ : Fin 768)) = a (ix2 k d) := by
  pointwise

/-- The first columns of the padded weight as the region finds it are the weight's. -/
theorem entry_mla (c : Dev nD) (k : Fin 1024) (d : Fin 672) :
    V m c main_v14 (ix2 k ⟨d.val, by omega⟩) = m ((c : Thread nD τ).loc main_arg4) (ix2 k ⟨d.val, by omega⟩) := by
  unfold V V0 hostOps0
  simp only [List.flatten_cons, List.flatten_nil, List.append_nil, StableHlo.after_cons, StableHlo.after_nil]
  after_results_simp
  refine (join_left _ _ k ⟨d.val, by omega⟩).trans ?_
  after_results_simp
  refine (join_first _ _ _ k d).trans ?_
  dsimp only [Matrix.cons_val]
  after_results_simp
  pointwise

/-- Behind the padding the padded weight has the weight's other columns. -/
theorem entry_cv (c : Dev nD) (k : Fin 1024) (d : Fin 1024) :
    V m c main_v14 (ix2 k ⟨768 + d.val, by omega⟩) = m ((c : Thread nD τ).loc main_arg4) (ix2 k ⟨672 + d.val, by omega⟩) := by
  unfold V V0 hostOps0
  simp only [List.flatten_cons, List.flatten_nil, List.append_nil, StableHlo.after_cons, StableHlo.after_nil]
  after_results_simp
  refine (join_right _ _ k d).trans ?_
  after_results_simp
  pointwise

/-- Where each window's block lies at a point. -/
theorem places : ∀ t : Fin grid0.N,
    win0_0.index t = ![t.val, 0, 0] ∧ win0_1.index t = ![0, 0]
    ∧ win0_2.index t = ![0, 0, 0] ∧ win0_3.index t = ![0, 0, 0]
    ∧ win0_4.index t = ![t.val, 0, 0] ∧ win0_5.index t = ![t.val, 0, 0] := by decide +kernel

/-- A row of the scratch at a point is the reference's normed row. -/
theorem row_point (c : Dev nD) (t : Fin cfg0.N) {r : Fin 256} (hb : t.val < 8) (k : Fin 1024) :
    k0_pay1 (F := Ideal) (iblk m c 0 t) (iblk m c 2 t) (iblk m c 3 t) (ix2 r k)
      = normed (m ((c : Thread nD τ).loc main_arg0)) (m ((c : Thread nD τ).loc main_arg1)) (m ((c : Thread nD τ).loc main_arg2))
          (m ((c : Thread nD τ).loc main_arg3)) ⟨t.val, hb⟩ r k := by
  obtain ⟨p0, p1, p2, p3, -, -⟩ := places t
  have r0 : ∀ j : Fin 1024, iblk m c 0 t (ix3 0 r j)
      = m ((c : Thread nD τ).loc main_arg0) (ix3 (⟨t.val, hb⟩ : Fin 8) r j) := by
    intro j
    refine Eq.trans (b := V m c main_arg0 (ix3 (⟨t.val, hb⟩ : Fin 8) r j)) (by blk_ext [iblk, p0]) ?_
    rw [V_main_arg0]
  have r2 : iblk m c 2 t (ix3 0 0 k) = V m c main_v18 (ix3 0 0 k) := by blk_ext [iblk, p2]
  have r3 : iblk m c 3 t (ix3 0 0 k) = m ((c : Thread nD τ).loc main_arg3) (ix3 0 0 k) := by
    refine Eq.trans (b := V m c main_arg3 (ix3 0 0 k)) (by blk_ext [iblk, p3]) ?_
    rw [V_main_arg3]
  rw [entry_scale] at r2
  refine (row_apply _ _ _ r k).trans ?_
  simp only [normed, r0, r2, r3]

/-- The weight's block is the whole padded weight. -/
theorem weight_point (c : Dev nD) (t : Fin cfg0.N) (k : Fin 1024) (d : Fin 1792) :
    iblk m c 1 t (ix2 k d) = V m c main_v14 (ix2 k d) := by
  obtain ⟨-, p1, -, -, -, -⟩ := places t
  blk_ext [iblk, p1]

/-- The first output with all its columns: the normed rows against the first columns of the padded weight. -/
def wide (c : Dev nD) : Vec Ideal S8x256x768 .f32 := fun i =>
  ∑ k : Fin 1024, normed (m ((c : Thread nD τ).loc main_arg0)) (m ((c : Thread nD τ).loc main_arg1)) (m ((c : Thread nD τ).loc main_arg2))
    (m ((c : Thread nD τ).loc main_arg3)) (i 0) (i 1) k * V m c main_v14 (ix2 k ⟨(i 2).val, Nat.lt_of_lt_of_le (i 2).isLt (by decide)⟩)

set_option maxHeartbeats 1000000 in
/-- THE FIRST ARRAY AFTER THE RUN. -/
theorem final_mla (c : Dev nD) : (dats m 0 c).arrAt 4 cfg0.N = wide m c := by
  refine (dats m 0 c).arrAt_eq_of_covers 4 _ (by decide +kernel) fun t hf y => ?_
  have hb : t.val < 8 := lt_of_lt_of_eq t.isLt N_0
  obtain ⟨-, -, -, -, p4, p5⟩ := places t
  rw [after0_4]
  simp only [outsAt0]
  frame_out
  obtain ⟨u, r, d, rfl⟩ : ∃ (u : Fin 1) (r : Fin 256) (d : Fin 768), y = ix3 u r d :=
    ⟨y 0, y 1, y 2, eq_ix3 (n0 := 1) (n1 := 256) (n2 := 768) y⟩
  obtain rfl : u = 0 := Subsingleton.elim _ _
  have e : ((cfg0.win 4).blk t).view.emb (ix3 0 r d) = ix3 (⟨t.val, hb⟩ : Fin 8) r d := by
    blk_ext [p4]
  refine Eq.trans ?_ (congrArg _ e.symm)
  refine Eq.trans (b := k0_pay2 (F := Ideal) (k0_pay1 (iblk m c 0 t) (iblk m c 2 t) (iblk m c 3 t))
    (View.ld (iblk m c 1 t) (Rect.unit ![0, 0] ![1024, 768] inb_S1024x1792_S1024x768_0_0)) (ix3 0 r d)) rfl ?_
  refine (pay_mla _ _ r d).trans (Finset.sum_congr rfl fun k _ => ?_)
  rw [row_point m c t hb]
  congr 1
  refine Eq.trans (b := (iblk m c 1 t) (ix2 k ⟨d.val, by omega⟩)) (by pointwise) (weight_point m c t k _)

/-- Cut to the reference's columns it is the reference's first result. -/
theorem final_cut (c : Dev nD) :
    extractStridedSlice S8x256x672 ![0, 0, 0] (wide m c) slices_S8x256x768_S8x256x672_0_0_0
      = Cert.Reference9Ideal.Read.val_main_v20 (F := Ideal) (m ((c : Thread nD τ).loc main_arg0)) (m ((c : Thread nD τ).loc main_arg1))
          (m ((c : Thread nD τ).loc main_arg2)) (m ((c : Thread nD τ).loc main_arg3)) (m ((c : Thread nD τ).loc main_arg4)) := by
  funext y
  obtain ⟨b, r, d, rfl⟩ : ∃ (b : Fin 8) (r : Fin 256) (d : Fin 672), y = ix3 b r d :=
    ⟨y 0, y 1, y 2, eq_ix3 (n0 := 8) (n1 := 256) (n2 := 672) y⟩
  refine Eq.trans ?_ (ref_mla _ _ _ _ _ b r d).symm
  refine Eq.trans (b := wide m c (ix3 b r ⟨d.val, by omega⟩)) (by pointwise) ?_
  exact Finset.sum_congr rfl fun k _ => congrArg _ (entry_mla m c k d)

set_option maxHeartbeats 1000000 in
/-- THE SECOND ARRAY AFTER THE RUN is the reference's second result. -/
theorem final_cv (c : Dev nD) :
    (dats m 0 c).arrAt 5 cfg0.N
      = Cert.Reference9Ideal.Read.val_main_v21 (F := Ideal) (m ((c : Thread nD τ).loc main_arg0)) (m ((c : Thread nD τ).loc main_arg1))
          (m ((c : Thread nD τ).loc main_arg2)) (m ((c : Thread nD τ).loc main_arg3)) (m ((c : Thread nD τ).loc main_arg4)) := by
  refine (dats m 0 c).arrAt_eq_of_covers 5 _ (by decide +kernel) fun t hf y => ?_
  have hb : t.val < 8 := lt_of_lt_of_eq t.isLt N_0
  obtain ⟨-, -, -, -, p4, p5⟩ := places t
  rw [after0_5]
  simp only [outsAt0]
  frame_out
  obtain ⟨u, r, d, rfl⟩ : ∃ (u : Fin 1) (r : Fin 256) (d : Fin 1024), y = ix3 u r d :=
    ⟨y 0, y 1, y 2, eq_ix3 (n0 := 1) (n1 := 256) (n2 := 1024) y⟩
  obtain rfl : u = 0 := Subsingleton.elim _ _
  have e : ((cfg0.win 5).blk t).view.emb (ix3 0 r d) = ix3 (⟨t.val, hb⟩ : Fin 8) r d := by
    blk_ext [p5]
  refine Eq.trans ?_ (congrArg _ e.symm)
  refine Eq.trans ?_ (ref_cv _ _ _ _ _ _ _ d).symm
  refine Eq.trans (b := k0_pay3 (F := Ideal) (k0_pay1 (iblk m c 0 t) (iblk m c 2 t) (iblk m c 3 t))
    (View.ld (iblk m c 1 t) (Rect.unit ![0, 768] ![1024, 1024] inb_S1024x1792_S1024x1024_0_768)) (ix3 0 r d)) rfl ?_
  refine (pay_cv _ _ r d).trans (Finset.sum_congr rfl fun k _ => ?_)
  rw [row_point m c t hb]
  congr 1
  refine Eq.trans (b := (iblk m c 1 t) (ix2 k ⟨768 + d.val, by omega⟩)) (by pointwise) ((weight_point m c t k _).trans (entry_cv m c k d))

/-- What the line after the region leaves: the first array, cut. -/
theorem tail_cut (c : Dev nD) :
    Pipeline.afterTail₀ cfgs (dats m) 0 (V0 m) [hostOps1] c main_v20
      = extractStridedSlice S8x256x672 ![0, 0, 0] (wide m c) slices_S8x256x768_S8x256x672_0_0_0 := by
  have h : Pipeline.withArrays cfg0.spec c (V0 m c) (fun w => (dats m 0 c).arrAt w cfg0.N) (Proc.devRef .tc main_v19_0) = wide m c :=
    (Pipeline.withArrays_arr cfg0.spec (by decide) c (V0 m c) _ 4).trans (final_mla m c)
  rw [← h]
  rfl

/-- The run: the two results and the arguments. -/
theorem run_kernel : θ_run defs (onTc (τ := τ) (main (F := Ideal))) ⟨m, fun _ => 0, ρ⟩ fun r => ∀ c : Dev nD,
      r.2.mem ((c : Thread nD τ).loc main_v20)
        = Cert.Reference9Ideal.Read.val_main_v20 (F := Ideal) (m ((c : Thread nD τ).loc main_arg0)) (m ((c : Thread nD τ).loc main_arg1))
          (m ((c : Thread nD τ).loc main_arg2)) (m ((c : Thread nD τ).loc main_arg3)) (m ((c : Thread nD τ).loc main_arg4))
      ∧ r.2.mem ((c : Thread nD τ).loc main_v19_1)
        = Cert.Reference9Ideal.Read.val_main_v21 (F := Ideal) (m ((c : Thread nD τ).loc main_arg0)) (m ((c : Thread nD τ).loc main_arg1))
          (m ((c : Thread nD τ).loc main_arg2)) (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c =>
    ⟨((h c).2 main_v20 (Pipeline.mem_restRefs_of main_v20 (by decide) (by decide))).trans ((tail_cut m c).trans (final_cut m c)),
      ((h c).1 5).trans (final_cv m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).1 3).trans (((dats m 0 c).arrAt_in 3 rfl _).trans ((A_eq m c 3).trans (V_main_arg3 m c))),
      ((h c).2 main_arg4 (Pipeline.mem_restRefs_of main_arg4 (by decide) (by decide))).trans (W_main_arg4 m (dats m) c)⟩)
    (run_main m ρ)

end Cert.Proof.CtxEvenProj
-- ==== Proof.CtxEvenProj.Claims.lean ====
/- The claims of the context tokens' even layers' input projection: the reference leaves its arguments as they were, and
   kernel and reference compute the same two arrays. -/
module

public import proofs.«01_k».proof.Defs
public import proofs.«01_k».proof.Proof.CtxEvenProj.Value
public import Idealize.ShloMosaic.Lib.Quiescent

@[expose] public section

set_option maxRecDepth 16384

noncomputable section

namespace Cert.Proof.CtxEvenProj

open Idealize.ShloMosaic Idealize.SL.Sem

theorem frame_reference : Cert.quiescent_Reference9Ideal := fun m ρ _ =>
  (θ_run _ _ _).mono (fun _ h => ⟨fun c => (h c).2.2, sem_eq_zero_of_no_sems rfl _⟩) (Cert.Reference9Ideal.Value.run m ρ)

theorem algebraic : Cert.algebraic_Kernel9Ideal_Reference9Ideal := fun m ρ m' ρ' _ hag =>
  ⟨fun c => Cert.Reference9Ideal.Read.val_main_v20 (F := Ideal) (m' (c.tc.loc Cert.Reference9Ideal.main_arg0)) (m' (c.tc.loc Cert.Reference9Ideal.main_arg1))
      (m' (c.tc.loc Cert.Reference9Ideal.main_arg2)) (m' (c.tc.loc Cert.Reference9Ideal.main_arg3)) (m' (c.tc.loc Cert.Reference9Ideal.main_arg4)),
    fun c => Cert.Reference9Ideal.Read.val_main_v21 (F := Ideal) (m' (c.tc.loc Cert.Reference9Ideal.main_arg0)) (m' (c.tc.loc Cert.Reference9Ideal.main_arg1))
      (m' (c.tc.loc Cert.Reference9Ideal.main_arg2)) (m' (c.tc.loc Cert.Reference9Ideal.main_arg3)) (m' (c.tc.loc Cert.Reference9Ideal.main_arg4)),
    (θ_run _ _ _).mono (fun _ h c => ⟨(h c).1.trans (by
        obtain ⟨a0, a1, a2, a3, a4⟩ := hag c
        beta_reduce
        rw [a0, a1, a2, a3, a4]),
      (h c).2.1.trans (by
        obtain ⟨a0, a1, a2, a3, a4⟩ := hag c
        beta_reduce
        rw [a0, a1, a2, a3, a4]), (h c).2.2⟩)
      (run_kernel m ρ),
    (θ_run _ _ _).mono (fun _ h c => ⟨(h c).1.trans (Cert.Reference9Ideal.Read.val_main_v20_eq _ _ _ _ _),
        (h c).2.1.trans (Cert.Reference9Ideal.Read.val_main_v21_eq _ _ _ _ _), (h c).2.2⟩)
      (Cert.Reference9Ideal.Value.run m' ρ')⟩

end Cert.Proof.CtxEvenProj
-- ==== Proof.CtxOutProj.Block.lean ====
/- One block of the context tokens' output projection: the two halves' products added, gated, and added to the residual. -/
module

public import proofs.«01_k».proof.Proof.Gen.Kernel10Ideal.Value
public import proofs.«01_k».proof.Proof.Gen.Reference10Ideal.Read
public import Idealize.ShloMosaic.Lib.Pointwise

@[expose] public section

set_option maxRecDepth 16384

noncomputable section

namespace Cert.Proof.CtxOutProj

open Idealize.ShloMosaic

section Kernel

open Cert.Kernel10Ideal Cert.Kernel10Ideal.Gen

/-- The scratch is the first operand's block. -/
theorem row_apply (a : Vec Ideal S1x256x512 .f32) (r : Fin 256) (k : Fin 512) :
    k0_pay1 (F := Ideal) a (ix2 r k) = a (ix3 0 r k) := by
  pointwise [k0_pay1]

/-- What one point computes, at row `r` and lane `d` of its block. -/
theorem pay_apply (v : Vec Ideal S256x512 .bf16) (wa : Vec Ideal S512x1024 .bf16) (b : Vec Ideal S1x256x512 .f32) (wb : Vec Ideal S512x1024 .bf16)
    (x : Vec Ideal S1x256x1024 .f32) (g : Vec Ideal S1x1x1024 .f32) (r : Fin 256) (d : Fin 1024) :
    k0_pay2 (F := Ideal) v wa b wb x g (ix3 0 r d)
      = x (ix3 0 r d) + g (ix3 0 0 d) * ((∑ k : Fin 512, v (ix2 r k) * wa (ix2 k d)) + ∑ k : Fin 512, b (ix3 0 r k) * wb (ix2 k d)) := by
  pointwise [k0_pay2]

end Kernel

section Reference

open Cert.Reference10Ideal Cert.Reference10Ideal.Read

/-- The reference, element by element: the product with the joined halves is the sum of the halves' products. -/
theorem ref_apply (x : Vec Ideal S8x256x1024 .f32) (g : Vec Ideal S1x1x1024 .f32) (a b : Vec Ideal S8x256x512 .f32) (w : Vec Ideal S1024x1024 .f32)
    (n : Fin 8) (r : Fin 256) (d : Fin 1024) :
    val_main_v4 (F := Ideal) x g a b w (ix3 n r d)
      = x (ix3 n r d) + g (ix3 0 0 d) * ((∑ k : Fin 512, a (ix3 n r k) * w (ix2 ⟨k.val, by omega⟩ d))
          + ∑ k : Fin 512, b (ix3 n r k) * w (ix2 ⟨512 + k.val, by omega⟩ d)) := by
  have h : val_main_v1 (F := Ideal) a b w (ix3 n r d) = (∑ k : Fin 512, a (ix3 n r k) * w (ix2 ⟨k.val, by omega⟩ d))
          + ∑ k : Fin 512, b (ix3 n r k) * w (ix2 ⟨512 + k.val, by omega⟩ d) := by
    have h1 : val_main_v1 (F := Ideal) a b w (ix3 n r d) = ∑ k : Fin (512 + 512), val_main_v0 (F := Ideal) a b (ix3 n r k) * w (ix2 k d) := by
      pointwise [val_main_v1]
    rw [h1, Fin.sum_univ_add]
    have ha : ∀ k : Fin 512, val_main_v0 (F := Ideal) a b (ix3 n r (⟨k.val, by omega⟩ : Fin 1024)) = a (ix3 n r k) := by
      intro k
      pointwise [val_main_v0]
    have hb : ∀ k : Fin 512, val_main_v0 (F := Ideal) a b (ix3 n r (⟨512 + k.val, by omega⟩ : Fin 1024)) = b (ix3 n r k) := by
      intro k
      pointwise [val_main_v0]
    exact congrArg₂ (· + ·) (Finset.sum_congr rfl fun k _ => congrArg₂ (· * ·) (ha k) rfl) (Finset.sum_congr rfl fun k _ => congrArg₂ (· * ·) (hb k) rfl)
  rw [← h]
  pointwise [val_main_v4, val_main_v3, val_main_v2]

end Reference

end Cert.Proof.CtxOutProj
-- ==== Proof.CtxOutProj.Value.lean ====
/- The context tokens' output projection as a whole: each point of the grid writes one block of
   rows, and the array the run leaves is the reference's. -/
module

public import proofs.«01_k».proof.Proof.CtxOutProj.Block
public import Idealize.ShloMosaic.Lib.Pipeline.ValueKit
public import Idealize.ShloMosaic.Lib.Pipeline.ReadBack
public import Idealize.ShloMosaic.Lib.Claim

@[expose] public section

set_option maxRecDepth 16384

noncomputable section

namespace Cert.Proof.CtxOutProj

open Idealize.ShloMosaic Idealize.ShloMosaic.TcCoe Idealize.SL.Sem
open Cert.Kernel10Ideal Cert.Kernel10Ideal.Gen Cert.Kernel10Ideal.Value

variable (m : (ℓ : Loc nD τ sig) → Buf (Elt Ideal) ℓ)

/-- The weight's upper half as the region finds it. -/
theorem entry_upper (c : Dev nD) (k : Fin 512) (d : Fin 1024) :
    V m c main_v1 (ix2 k d) = m ((c : Thread nD τ).loc main_arg4) (ix2 (⟨k.val, by omega⟩ : Fin 1024) d) := by
  entry_read
  pointwise

/-- The weight's lower half as the region finds it. -/
theorem entry_lower (c : Dev nD) (k : Fin 512) (d : Fin 1024) :
    V m c main_v2 (ix2 k d) = m ((c : Thread nD τ).loc main_arg4) (ix2 (⟨512 + k.val, by omega⟩ : Fin 1024) d) := by
  entry_read
  pointwise

/-- Where each window's block lies at a point. -/
theorem places : ∀ t : Fin grid0.N,
    win0_0.index t = ![t.val, 0, 0] ∧ win0_1.index t = ![0, 0]
    ∧ win0_2.index t = ![t.val, 0, 0] ∧ win0_3.index t = ![0, 0]
    ∧ win0_4.index t = ![t.val, 0, 0] ∧ win0_5.index t = ![0, 0, 0]
    ∧ win0_6.index t = ![t.val, 0, 0] := by decide +kernel

set_option maxHeartbeats 1000000 in
/-- THE ARRAY AFTER THE RUN is the reference's result. -/
theorem final (c : Dev nD) :
    (dats m 0 c).arrAt 6 cfg0.N
      = Cert.Reference10Ideal.Read.val_main_v4 (F := Ideal) (m ((c : Thread nD τ).loc main_arg0)) (m ((c : Thread nD τ).loc main_arg1))
          (m ((c : Thread nD τ).loc main_arg2)) (m ((c : Thread nD τ).loc main_arg3)) (m ((c : Thread nD τ).loc main_arg4)) := by
  refine (dats m 0 c).arrAt_eq_of_covers 6 _ (by decide +kernel) fun t hf y => ?_
  have hb : t.val < 8 := lt_of_lt_of_eq t.isLt N_0
  obtain ⟨p0, p1, p2, p3, p4, p5, p6⟩ := places t
  rw [after0_6]
  simp only [outsAt0]
  frame_out
  obtain ⟨u, r, d, rfl⟩ : ∃ (u : Fin 1) (r : Fin 256) (d : Fin 1024), y = ix3 u r d :=
    ⟨y 0, y 1, y 2, eq_ix3 (n0 := 1) (n1 := 256) (n2 := 1024) y⟩
  obtain rfl : u = 0 := Subsingleton.elim _ _
  have e : ((cfg0.win 6).blk t).view.emb (ix3 0 r d) = ix3 (⟨t.val, hb⟩ : Fin 8) r d := by
    blk_ext [p6]
  have r0 : ∀ k : Fin 512, iblk m c 0 t (ix3 0 r k)
      = m ((c : Thread nD τ).loc main_arg2) (ix3 (⟨t.val, hb⟩ : Fin 8) r k) := by
    intro k
    refine Eq.trans (b := V m c main_arg2 (ix3 (⟨t.val, hb⟩ : Fin 8) r k)) (by blk_ext [iblk, p0]) ?_
    rw [V_main_arg2]
  have r1 : ∀ k : Fin 512, iblk m c 1 t (ix2 k d) = m ((c : Thread nD τ).loc main_arg4) (ix2 (⟨k.val, by omega⟩ : Fin 1024) d) := by
    intro k
    exact Eq.trans (b := V m c main_v1 (ix2 k d)) (by blk_ext [iblk, p1]) (entry_upper m c k d)
  have r2 : ∀ k : Fin 512, iblk m c 2 t (ix3 0 r k)
      = m ((c : Thread nD τ).loc main_arg3) (ix3 (⟨t.val, hb⟩ : Fin 8) r k) := by
    intro k
    refine Eq.trans (b := V m c main_arg3 (ix3 (⟨t.val, hb⟩ : Fin 8) r k)) (by blk_ext [iblk, p2]) ?_
    rw [V_main_arg3]
  have r3 : ∀ k : Fin 512, iblk m c 3 t (ix2 k d) = m ((c : Thread nD τ).loc main_arg4) (ix2 (⟨512 + k.val, by omega⟩ : Fin 1024) d) := by
    intro k
    exact Eq.trans (b := V m c main_v2 (ix2 k d)) (by blk_ext [iblk, p3]) (entry_lower m c k d)
  have r4 : iblk m c 4 t (ix3 0 r d)
      = m ((c : Thread nD τ).loc main_arg0) (ix3 (⟨t.val, hb⟩ : Fin 8) r d) := by
    refine Eq.trans (b := V m c main_arg0 (ix3 (⟨t.val, hb⟩ : Fin 8) r d)) (by blk_ext [iblk, p4]) ?_
    rw [V_main_arg0]
  have r5 : iblk m c 5 t (ix3 0 0 d) = m ((c : Thread nD τ).loc main_arg1) (ix3 0 0 d) := by
    refine Eq.trans (b := V m c main_arg1 (ix3 0 0 d)) (by blk_ext [iblk, p5]) ?_
    rw [V_main_arg1]
  refine Eq.trans ?_ (congrArg _ e.symm)
  refine Eq.trans ?_ (ref_apply _ _ _ _ _ _ _ d).symm
  refine Eq.trans (b := k0_pay2 (F := Ideal) (k0_pay1 (iblk m c 0 t)) (iblk m c 1 t) (iblk m c 2 t) (iblk m c 3 t) (iblk m c 4 t)
    (iblk m c 5 t) (ix3 0 r d)) rfl ?_
  refine (pay_apply _ _ _ _ _ _ r d).trans ?_
  simp only [row_apply, r0, r1, r2, r3, r4, r5]

end Cert.Proof.CtxOutProj
-- ==== Proof.CtxOutProj.Claims.lean ====
/- The claims of the context tokens' output projection: the reference leaves its arguments as they were, and kernel and
   reference compute the same array. -/
module

public import proofs.«01_k».proof.Defs
public import proofs.«01_k».proof.Proof.CtxOutProj.Value
public import Idealize.ShloMosaic.Lib.Quiescent

@[expose] public section

set_option maxRecDepth 16384

noncomputable section

namespace Cert.Proof.CtxOutProj

open Idealize.ShloMosaic Idealize.SL.Sem

theorem frame_reference : Cert.quiescent_Reference10Ideal := fun m ρ _ =>
  (θ_run _ _ _).mono (fun _ h => ⟨fun c => (h c).2, sem_eq_zero_of_no_sems rfl _⟩) (Cert.Reference10Ideal.Value.run m ρ)

theorem algebraic : Cert.algebraic_Kernel10Ideal_Reference10Ideal := fun m ρ m' ρ' _ hag =>
  ⟨fun c => Cert.Reference10Ideal.Read.val_main_v4 (F := Ideal) (m' (c.tc.loc Cert.Reference10Ideal.main_arg0)) (m' (c.tc.loc Cert.Reference10Ideal.main_arg1))
      (m' (c.tc.loc Cert.Reference10Ideal.main_arg2)) (m' (c.tc.loc Cert.Reference10Ideal.main_arg3)) (m' (c.tc.loc Cert.Reference10Ideal.main_arg4)),
    (θ_run _ _ _).mono (fun _ h c => ⟨(h c).1.trans (by
        obtain ⟨a0, a1, a2, a3, a4⟩ := hag c
        beta_reduce
        rw [final m c, a0, a1, a2, a3, a4]), (h c).2⟩)
      (Cert.Kernel10Ideal.Value.run_blocks m ρ),
    (θ_run _ _ _).mono (fun _ h c => ⟨(h c).1.trans (Cert.Reference10Ideal.Read.val_main_v4_eq _ _ _ _ _), (h c).2⟩)
      (Cert.Reference10Ideal.Value.run m' ρ')⟩

end Cert.Proof.CtxOutProj
-- ==== Proof.MlaPrep.Block.lean ====
/- What one point of the grid writes in the preparation of the attention's operands: per head a query row, a key row and a
   value row, from the compressed rows of the point. -/
module

public import proofs.«01_k».proof.Proof.Gen.Kernel11Ideal.Frame
public import Idealize.ShloMosaic.Lib.Pointwise
public import Idealize.ShloMosaic.Lib.Pipeline.ValueKit

@[expose] public section

set_option maxRecDepth 16384

noncomputable section

namespace Cert.Proof.MlaPrep

open Idealize.ShloMosaic Idealize.ShloMosaic.TcCoe Idealize.SL.Sem
open Cert.Kernel11Ideal Cert.Kernel11Ideal.Gen

/-- The mean's factor. -/
theorem mean_named : Named.named (F := Ideal) (φ := .f32) κ "mean" 0x3C2AAAAB#32 = ((1 / 96 : ℝ) : EReal) := rfl

/-- The scale of the scores. -/
theorem scale_named : Named.named (F := Ideal) (φ := .f32) κ "scale" 0x3DD105EC#32 = (((Real.sqrt 96)⁻¹ : ℝ) : EReal) := rfl

/-- The lanes in use. -/
theorem below (l : Fin 128) (a b : EReal) :
    Scalar.select (IntOp.cmpi CmpIPredicate.slt (BitVec.ofNat 32 l.val) 96#32) a b = if l.val < 96 then a else b := by
  have h : ∀ l : Fin 128, IntOp.cmpi CmpIPredicate.slt (BitVec.ofNat 32 l.val) 96#32 = if l.val < 96 then 1#1 else 0#1 := by decide
  rw [h l]
  split <;> rfl

/-- The lane of ones holds zero on the lanes of the values. -/
theorem no_ones (d : Fin 128) (hd : d.val < 64) : k0_pay10 (F := Ideal) (ix2 0 d) = 0 := by
  have h : ∀ l : Fin 128, l.val < 64 → IntOp.cmpi CmpIPredicate.eq (BitVec.ofNat 32 l.val) 64#32 = 0#1 := by decide
  pointwise [k0_pay10]
  rw [h d hd]
  rfl

/-- A row's mean square over the lanes in use, plus the guard. -/
def meanSq (x : Fin 128 → EReal) : EReal :=
  (∑ l : Fin 128, if l.val < 96 then x l * x l else 0) * ((1 / 96 : ℝ) : EReal) + Ideal.ofBits .f32 0x358637BD#32

/-- A row turned: each lane against the cosine table, the lane 32 further on against the sine table. -/
def turned (x c s : Fin 128 → EReal) (d : Fin 128) : EReal :=
  x d * c d + x ⟨(d.val + 128 - 96) % 128, Nat.mod_lt _ (by decide)⟩ * s d

/-- The queries of head 0. -/
theorem query_0 (qa : FVec Ideal S256x1024 .f32) (ct st : Vec Ideal S256x128 .f32) (r : Fin 256) (d : Fin 128) :
    k0_pay11 (F := Ideal) qa ct st (ix4 0 0 r d)
      = turned (fun l => qa (ix2 r ⟨0 + l.val, by omega⟩)) (fun l => ct (ix2 r l)) (fun l => st (ix2 r l)) d
          * (Ideal.rsqrt (meanSq fun l => qa (ix2 r ⟨0 + l.val, by omega⟩)) * (((Real.sqrt 96)⁻¹ : ℝ) : EReal)) := by
  pointwise [k0_pay11, k0_pay9]
  simp only [below, mean_named, scale_named, turned, meanSq, Nat.zero_add]

/-- The queries of head 1. -/
theorem query_1 (qa : FVec Ideal S256x1024 .f32) (ct st : Vec Ideal S256x128 .f32) (r : Fin 256) (d : Fin 128) :
    k0_pay16 (F := Ideal) (k0_pay9) (k0_pay14 qa) (k0_pay15 qa) (Scalar.ofBits .f32 0x00000000#32) ct st (ix4 0 0 r d)
      = turned (fun l => qa (ix2 r ⟨128 + l.val, by omega⟩)) (fun l => ct (ix2 r l)) (fun l => st (ix2 r l)) d
          * (Ideal.rsqrt (meanSq fun l => qa (ix2 r ⟨128 + l.val, by omega⟩)) * (((Real.sqrt 96)⁻¹ : ℝ) : EReal)) := by
  pointwise [k0_pay14, k0_pay15, k0_pay16, k0_pay9]
  simp only [below, mean_named, scale_named, turned, meanSq, Nat.zero_add]

/-- The queries of head 2. -/
theorem query_2 (qa : FVec Ideal S256x1024 .f32) (ct st : Vec Ideal S256x128 .f32) (r : Fin 256) (d : Fin 128) :
    k0_pay26 (F := Ideal) (k0_pay23 qa (k0_pay9)) (k0_pay24 qa ct) (k0_pay25 qa) st (ix4 0 0 r d)
      = turned (fun l => qa (ix2 r ⟨256 + l.val, by omega⟩)) (fun l => ct (ix2 r l)) (fun l => st (ix2 r l)) d
          * (Ideal.rsqrt (meanSq fun l => qa (ix2 r ⟨256 + l.val, by omega⟩)) * (((Real.sqrt 96)⁻¹ : ℝ) : EReal)) := by
  pointwise [k0_pay23, k0_pay24, k0_pay25, k0_pay26, k0_pay22, k0_pay9]
  simp only [below, mean_named, scale_named, turned, meanSq, Nat.zero_add]

/-- The queries of head 3. -/
theorem query_3 (qa : FVec Ideal S256x1024 .f32) (ct st : Vec Ideal S256x128 .f32) (r : Fin 256) (d : Fin 128) :
    k0_pay31 (F := Ideal) (k0_pay30 qa (k0_pay9) ct st) (ix4 0 0 r d)
      = turned (fun l => qa (ix2 r ⟨384 + l.val, by omega⟩)) (fun l => ct (ix2 r l)) (fun l => st (ix2 r l)) d
          * (Ideal.rsqrt (meanSq fun l => qa (ix2 r ⟨384 + l.val, by omega⟩)) * (((Real.sqrt 96)⁻¹ : ℝ) : EReal)) := by
  pointwise [k0_pay30, k0_pay31, k0_pay9]
  simp only [below, mean_named, scale_named, turned, meanSq, Nat.zero_add]

/-- The queries of head 4. -/
theorem query_4 (qa : FVec Ideal S256x1024 .f32) (ct st : Vec Ideal S256x128 .f32) (r : Fin 256) (d : Fin 128) :
    k0_pay34 (F := Ideal) qa (k0_pay9) ct st (ix4 0 0 r d)
      = turned (fun l => qa (ix2 r ⟨512 + l.val, by omega⟩)) (fun l => ct (ix2 r l)) (fun l => st (ix2 r l)) d
          * (Ideal.rsqrt (meanSq fun l => qa (ix2 r ⟨512 + l.val, by omega⟩)) * (((Real.sqrt 96)⁻¹ : ℝ) : EReal)) := by
  pointwise [k0_pay34, k0_pay9]
  simp only [below, mean_named, scale_named, turned, meanSq, Nat.zero_add]

/-- The queries of head 5. -/
theorem query_5 (qa : FVec Ideal S256x1024 .f32) (ct st : Vec Ideal S256x128 .f32) (r : Fin 256) (d : Fin 128) :
    k0_pay42 (F := Ideal) (k0_pay39 qa) (k0_pay40 qa (k0_pay9)) (k0_pay41 qa ct) 96#32 st (ix4 0 0 r d)
      = turned (fun l => qa (ix2 r ⟨640 + l.val, by omega⟩)) (fun l => ct (ix2 r l)) (fun l => st (ix2 r l)) d
          * (Ideal.rsqrt (meanSq fun l => qa (ix2 r ⟨640 + l.val, by omega⟩)) * (((Real.sqrt 96)⁻¹ : ℝ) : EReal)) := by
  pointwise [k0_pay39, k0_pay40, k0_pay41, k0_pay42, k0_pay9]
  simp only [below, mean_named, scale_named, turned, meanSq, Nat.zero_add]

/-- The queries of head 6. -/
theorem query_6 (qa : FVec Ideal S256x1024 .f32) (ct st : Vec Ideal S256x128 .f32) (r : Fin 256) (d : Fin 128) :
    k0_pay49 (F := Ideal) (k0_pay48 qa (k0_pay9) ct st) (ix4 0 0 r d)
      = turned (fun l => qa (ix2 r ⟨768 + l.val, by omega⟩)) (fun l => ct (ix2 r l)) (fun l => st (ix2 r l)) d
          * (Ideal.rsqrt (meanSq fun l => qa (ix2 r ⟨768 + l.val, by omega⟩)) * (((Real.sqrt 96)⁻¹ : ℝ) : EReal)) := by
  pointwise [k0_pay48, k0_pay49, k0_pay9]
  simp only [below, mean_named, scale_named, turned, meanSq, Nat.zero_add]

/-- The queries of head 7. -/
theorem query_7 (qa : FVec Ideal S256x1024 .f32) (ct st : Vec Ideal S256x128 .f32) (r : Fin 256) (d : Fin 128) :
    k0_pay53 (F := Ideal) qa (k0_pay9) ct st (ix4 0 0 r d)
      = turned (fun l => qa (ix2 r ⟨896 + l.val, by omega⟩)) (fun l => ct (ix2 r l)) (fun l => st (ix2 r l)) d
          * (Ideal.rsqrt (meanSq fun l => qa (ix2 r ⟨896 + l.val, by omega⟩)) * (((Real.sqrt 96)⁻¹ : ℝ) : EReal)) := by
  pointwise [k0_pay53, k0_pay9]
  simp only [below, mean_named, scale_named, turned, meanSq, Nat.zero_add]

/-- The keys of head 0. -/
theorem key_0 (kva : FVec Ideal S256x2048 .f32) (sh ct st : Vec Ideal S256x128 .f32) (r : Fin 256) (d : Fin 128) :
    k0_pay12 (F := Ideal) kva sh (k0_pay9) ct st (ix4 0 0 r d)
      = turned (fun l => kva (ix2 r ⟨0 + l.val, by omega⟩) + sh (ix2 r l)) (fun l => ct (ix2 r l)) (fun l => st (ix2 r l)) d
          * Ideal.rsqrt (meanSq fun l => kva (ix2 r ⟨0 + l.val, by omega⟩) + sh (ix2 r l)) := by
  pointwise [k0_pay12, k0_pay9]
  simp only [below, mean_named, scale_named, turned, meanSq, Nat.zero_add]

/-- The keys of head 1. -/
theorem key_1 (kva : FVec Ideal S256x2048 .f32) (sh ct st : Vec Ideal S256x128 .f32) (r : Fin 256) (d : Fin 128) :
    k0_pay20 (F := Ideal) (k0_pay17 kva sh) (k0_pay18 kva sh (k0_pay9)) (k0_pay19 kva sh ct) st (ix4 0 0 r d)
      = turned (fun l => kva (ix2 r ⟨128 + l.val, by omega⟩) + sh (ix2 r l)) (fun l => ct (ix2 r l)) (fun l => st (ix2 r l)) d
          * Ideal.rsqrt (meanSq fun l => kva (ix2 r ⟨128 + l.val, by omega⟩) + sh (ix2 r l)) := by
  pointwise [k0_pay17, k0_pay18, k0_pay19, k0_pay20, k0_pay9]
  simp only [below, mean_named, scale_named, turned, meanSq, Nat.zero_add]

/-- The keys of head 2. -/
theorem key_2 (kva : FVec Ideal S256x2048 .f32) (sh ct st : Vec Ideal S256x128 .f32) (r : Fin 256) (d : Fin 128) :
    k0_pay28 (F := Ideal) (k0_pay27 kva sh (k0_pay9) ct st) (ix4 0 0 r d)
      = turned (fun l => kva (ix2 r ⟨256 + l.val, by omega⟩) + sh (ix2 r l)) (fun l => ct (ix2 r l)) (fun l => st (ix2 r l)) d
          * Ideal.rsqrt (meanSq fun l => kva (ix2 r ⟨256 + l.val, by omega⟩) + sh (ix2 r l)) := by
  pointwise [k0_pay27, k0_pay28, k0_pay9]
  simp only [below, mean_named, scale_named, turned, meanSq, Nat.zero_add]

/-- The keys of head 3. -/
theorem key_3 (kva : FVec Ideal S256x2048 .f32) (sh ct st : Vec Ideal S256x128 .f32) (r : Fin 256) (d : Fin 128) :
    k0_pay32 (F := Ideal) kva sh (k0_pay9) ct st (ix4 0 0 r d)
      = turned (fun l => kva (ix2 r ⟨384 + l.val, by omega⟩) + sh (ix2 r l)) (fun l => ct (ix2 r l)) (fun l => st (ix2 r l)) d
          * Ideal.rsqrt (meanSq fun l => kva (ix2 r ⟨384 + l.val, by omega⟩) + sh (ix2 r l)) := by
  pointwise [k0_pay32, k0_pay9]
  simp only [below, mean_named, scale_named, turned, meanSq, Nat.zero_add]

/-- The keys of head 4. -/
theorem key_4 (kva : FVec Ideal S256x2048 .f32) (sh ct st : Vec Ideal S256x128 .f32) (r : Fin 256) (d : Fin 128) :
    k0_pay37 (F := Ideal) (k0_pay35 kva sh) (k0_pay36 kva sh (k0_pay9)) ct st (ix4 0 0 r d)
      = turned (fun l => kva (ix2 r ⟨512 + l.val, by omega⟩) + sh (ix2 r l)) (fun l => ct (ix2 r l)) (fun l => st (ix2 r l)) d
          * Ideal.rsqrt (meanSq fun l => kva (ix2 r ⟨512 + l.val, by omega⟩) + sh (ix2 r l)) := by
  pointwise [k0_pay35, k0_pay36, k0_pay37, k0_pay9]
  simp only [below, mean_named, scale_named, turned, meanSq, Nat.zero_add]

/-- The keys of head 5. -/
theorem key_5 (kva : FVec Ideal S256x2048 .f32) (sh ct st : Vec Ideal S256x128 .f32) (r : Fin 256) (d : Fin 128) :
    k0_pay46 (F := Ideal) (k0_pay44 kva sh ct st) (k0_pay45 kva sh (k0_pay9)) (ix4 0 0 r d)
      = turned (fun l => kva (ix2 r ⟨640 + l.val, by omega⟩) + sh (ix2 r l)) (fun l => ct (ix2 r l)) (fun l => st (ix2 r l)) d
          * Ideal.rsqrt (meanSq fun l => kva (ix2 r ⟨640 + l.val, by omega⟩) + sh (ix2 r l)) := by
  pointwise [k0_pay44, k0_pay45, k0_pay46, k0_pay43, k0_pay9]
  simp only [below, mean_named, scale_named, turned, meanSq, Nat.zero_add]

/-- The keys of head 6. -/
theorem key_6 (kva : FVec Ideal S256x2048 .f32) (sh ct st : Vec Ideal S256x128 .f32) (r : Fin 256) (d : Fin 128) :
    k0_pay50 (F := Ideal) kva sh (k0_pay9) ct st (ix4 0 0 r d)
      = turned (fun l => kva (ix2 r ⟨768 + l.val, by omega⟩) + sh (ix2 r l)) (fun l => ct (ix2 r l)) (fun l => st (ix2 r l)) d
          * Ideal.rsqrt (meanSq fun l => kva (ix2 r ⟨768 + l.val, by omega⟩) + sh (ix2 r l)) := by
  pointwise [k0_pay50, k0_pay9]
  simp only [below, mean_named, scale_named, turned, meanSq, Nat.zero_add]

/-- The keys of head 7. -/
theorem key_7 (kva : FVec Ideal S256x2048 .f32) (sh ct st : Vec Ideal S256x128 .f32) (r : Fin 256) (d : Fin 128) :
    k0_pay1 (F := Ideal) (k0_pay54 kva sh) (k0_pay55 kva sh (k0_pay9)) (k0_pay56 (F := Ideal)) ct st (ix4 0 0 r d)
      = turned (fun l => kva (ix2 r ⟨896 + l.val, by omega⟩) + sh (ix2 r l)) (fun l => ct (ix2 r l)) (fun l => st (ix2 r l)) d
          * Ideal.rsqrt (meanSq fun l => kva (ix2 r ⟨896 + l.val, by omega⟩) + sh (ix2 r l)) := by
  pointwise [k0_pay1, k0_pay54, k0_pay55, k0_pay56, k0_pay9]
  simp only [below, mean_named, scale_named, turned, meanSq, Nat.zero_add]

/-- The values of head 0. -/
theorem value_0 (kva : FVec Ideal S256x2048 .f32) (r : Fin 256) (d : Fin 128) :
    k0_pay13 (F := Ideal) kva (k0_pay10 (F := Ideal)) (ix4 0 0 r d) = kva (ix2 r ⟨1024 + d.val, by omega⟩) + k0_pay10 (F := Ideal) (ix2 0 d) := by
  pointwise [k0_pay13]

/-- The values of head 1. -/
theorem value_1 (kva : FVec Ideal S256x2048 .f32) (r : Fin 256) (d : Fin 128) :
    k0_pay21 (F := Ideal) kva (k0_pay10 (F := Ideal)) (ix4 0 0 r d) = kva (ix2 r ⟨1152 + d.val, by omega⟩) + k0_pay10 (F := Ideal) (ix2 0 d) := by
  pointwise [k0_pay21]

/-- The values of head 2. -/
theorem value_2 (kva : FVec Ideal S256x2048 .f32) (r : Fin 256) (d : Fin 128) :
    k0_pay29 (F := Ideal) kva (k0_pay10 (F := Ideal)) (ix4 0 0 r d) = kva (ix2 r ⟨1280 + d.val, by omega⟩) + k0_pay10 (F := Ideal) (ix2 0 d) := by
  pointwise [k0_pay29]

/-- The values of head 3. -/
theorem value_3 (kva : FVec Ideal S256x2048 .f32) (r : Fin 256) (d : Fin 128) :
    k0_pay33 (F := Ideal) kva (k0_pay10 (F := Ideal)) (ix4 0 0 r d) = kva (ix2 r ⟨1408 + d.val, by omega⟩) + k0_pay10 (F := Ideal) (ix2 0 d) := by
  pointwise [k0_pay33]

/-- The values of head 4. -/
theorem value_4 (kva : FVec Ideal S256x2048 .f32) (r : Fin 256) (d : Fin 128) :
    k0_pay38 (F := Ideal) kva (k0_pay10 (F := Ideal)) (ix4 0 0 r d) = kva (ix2 r ⟨1536 + d.val, by omega⟩) + k0_pay10 (F := Ideal) (ix2 0 d) := by
  pointwise [k0_pay38]

/-- The values of head 5. -/
theorem value_5 (kva : FVec Ideal S256x2048 .f32) (r : Fin 256) (d : Fin 128) :
    k0_pay47 (F := Ideal) kva (k0_pay10 (F := Ideal)) (ix4 0 0 r d) = kva (ix2 r ⟨1664 + d.val, by omega⟩) + k0_pay10 (F := Ideal) (ix2 0 d) := by
  pointwise [k0_pay47]

/-- The values of head 6. -/
theorem value_6 (kva : FVec Ideal S256x2048 .f32) (r : Fin 256) (d : Fin 128) :
    k0_pay52 (F := Ideal) (k0_pay51 kva (k0_pay10 (F := Ideal))) (ix4 0 0 r d) = kva (ix2 r ⟨1792 + d.val, by omega⟩) + k0_pay10 (F := Ideal) (ix2 0 d) := by
  pointwise [k0_pay51, k0_pay52]

/-- The values of head 7. -/
theorem value_7 (kva : FVec Ideal S256x2048 .f32) (r : Fin 256) (d : Fin 128) :
    k0_pay2 (F := Ideal) kva (k0_pay10 (F := Ideal)) (ix4 0 0 r d) = kva (ix2 r ⟨1920 + d.val, by omega⟩) + k0_pay10 (F := Ideal) (ix2 0 d) := by
  pointwise [k0_pay2]

/-- A compressed row, normed: over the root of its mean square plus the guard, times the gain. -/
def lowRow {n : ℕ} (x : Fin n → EReal) (w : EReal) (g : Fin n → EReal) (k : Fin n) : EReal :=
  x k * Ideal.rsqrt (Ideal.div (∑ j, x j * x j) w + Ideal.ofBits .f32 0x358637BD#32) * g k

/-- The queries of a row before their norm. -/
theorem qa_apply (x0 : Vec Ideal S1x256x768 .f32) (x1 : Vec Ideal S1x384 .f32) (x3 : Vec Ideal S384x1024 .bf16) (r : Fin 256) (j : Fin 1024) :
    k0_pay4 (F := Ideal) x0 x1 x3 (ix2 r j)
      = ∑ k : Fin 384, lowRow (fun k : Fin 384 => x0 (ix3 0 r ⟨k.val, by omega⟩)) (Ideal.ofBits .f32 0x43C00000#32) (fun k => x1 (ix2 0 k)) k * x3 (ix2 k j) := by
  pointwise [k0_pay4, k0_pay3]
  rfl

/-- The keys and values of a row before their norm. -/
theorem kva_apply (x0 : Vec Ideal S1x256x768 .f32) (x2 : Vec Ideal S1x256 .f32) (x4 : Vec Ideal S256x2048 .bf16) (r : Fin 256) (j : Fin 2048) :
    k0_pay7 (F := Ideal) (k0_pay5 x0 x2) (k0_pay6 x4) (constant S256x2048 .f32 0x00000000#32) (ix2 r j)
      = ∑ k : Fin 256, lowRow (fun k : Fin 256 => x0 (ix3 0 r ⟨384 + k.val, by omega⟩)) (Ideal.ofBits .f32 0x43800000#32) (fun k => x2 (ix2 0 k)) k * x4 (ix2 k j) := by
  pointwise [k0_pay7, k0_pay5, k0_pay6, k0_pay3]
  rfl

/-- The shared rotary lanes, moved behind the key's own. -/
theorem shared_apply (x0 : Vec Ideal S1x256x768 .f32) (r : Fin 256) (l : Fin 128) :
    k0_pay8 (F := Ideal) (k0_pay3 x0) (ix2 r l) = x0 (ix3 0 r ⟨640 + (l.val + 128 - 64) % 128, by omega⟩) := by
  pointwise [k0_pay8, k0_pay3]

/-- A table's block read whole. -/
theorem ld_tab (x : Vec Ideal S256x128 .f32) : View.ld x r0_5 = x := View.ld_unit_lit _ x (by decide)

/-- One point's compressed rows read whole. -/
theorem ld_rows (x : Vec Ideal S1x256x768 .f32) : View.ld x r0_0 = x := View.ld_unit_lit _ x (by decide)

/-- The gain of the queries read whole. -/
theorem ld_qn (x : Vec Ideal S1x384 .f32) : View.ld x r0_1 = x := View.ld_unit_lit _ x (by decide)

/-- The weight of the queries read whole. -/
theorem ld_wq (x : Vec Ideal S384x1024 .bf16) : View.ld x r0_2 = x := View.ld_unit_lit _ x (by decide)

/-- The gain of the keys read whole. -/
theorem ld_kvn (x : Vec Ideal S1x256 .f32) : View.ld x r0_3 = x := View.ld_unit_lit _ x (by decide)

/-- The weight of the keys and values read whole. -/
theorem ld_wkv (x : Vec Ideal S256x2048 .bf16) : View.ld x r0_4 = x := View.ld_unit_lit _ x (by decide)

/-- One point's queries. -/
theorem out_query (x0 : Vec Ideal S1x256x768 .f32) (x1 : Vec Ideal S1x384 .f32) (x2 : Vec Ideal S1x256 .f32) (x3 : Vec Ideal S384x1024 .bf16)
    (x4 : Vec Ideal S256x2048 .bf16) (x5 x6 x7 x8 : Vec Ideal S256x128 .f32) (h : Fin 8) (r : Fin 256) (d : Fin 128) :
    out0_9 (F := Ideal) x0 x1 x2 x3 x4 x5 x6 x7 x8 (ix4 0 h r d)
      = turned (fun l : Fin 128 => k0_pay57 (F := Ideal) x0 x1 x2 x3 x4 x5 x6 x7 x8 (ix2 r ⟨h.val * 128 + l.val, by omega⟩))
          (fun l => x5 (ix2 r l)) (fun l => x6 (ix2 r l)) d
        * (Ideal.rsqrt (meanSq fun l : Fin 128 => k0_pay57 (F := Ideal) x0 x1 x2 x3 x4 x5 x6 x7 x8 (ix2 r ⟨h.val * 128 + l.val, by omega⟩)) * (((Real.sqrt 96)⁻¹ : ℝ) : EReal)) := by
  unfold out0_9
  simp only [ld_tab]
  canon_tiles x e
  · obtain ⟨a, b, r', d', rfl⟩ : ∃ (a b : Fin 1) (r' : Fin 256) (d' : Fin 128), x = ix4 a b r' d' :=
      ⟨x 0, x 1, x 2, x 3, eq_ix4 (n0 := 1) (n1 := 1) (n2 := 256) (n3 := 128) x⟩
    have e1' : h.val = 7 + b.val := e1
    obtain rfl : h = 7 := Fin.ext (show h.val = 7 by omega)
    obtain rfl : a = 0 := Subsingleton.elim _ _
    obtain rfl : b = 0 := Subsingleton.elim _ _
    obtain rfl : r = r' := Fin.ext e2
    obtain rfl : d = d' := Fin.ext e3
    refine (query_7 _ _ _ r d).trans ?_
    rfl
  · obtain ⟨a, b, r', d', rfl⟩ : ∃ (a b : Fin 1) (r' : Fin 256) (d' : Fin 128), x = ix4 a b r' d' :=
      ⟨x 0, x 1, x 2, x 3, eq_ix4 (n0 := 1) (n1 := 1) (n2 := 256) (n3 := 128) x⟩
    have e1' : h.val = 6 + b.val := e1
    obtain rfl : h = 6 := Fin.ext (show h.val = 6 by omega)
    obtain rfl : a = 0 := Subsingleton.elim _ _
    obtain rfl : b = 0 := Subsingleton.elim _ _
    obtain rfl : r = r' := Fin.ext e2
    obtain rfl : d = d' := Fin.ext e3
    refine (query_6 _ _ _ r d).trans ?_
    rfl
  · obtain ⟨a, b, r', d', rfl⟩ : ∃ (a b : Fin 1) (r' : Fin 256) (d' : Fin 128), x = ix4 a b r' d' :=
      ⟨x 0, x 1, x 2, x 3, eq_ix4 (n0 := 1) (n1 := 1) (n2 := 256) (n3 := 128) x⟩
    have e1' : h.val = 5 + b.val := e1
    obtain rfl : h = 5 := Fin.ext (show h.val = 5 by omega)
    obtain rfl : a = 0 := Subsingleton.elim _ _
    obtain rfl : b = 0 := Subsingleton.elim _ _
    obtain rfl : r = r' := Fin.ext e2
    obtain rfl : d = d' := Fin.ext e3
    refine (query_5 _ _ _ r d).trans ?_
    rfl
  · obtain ⟨a, b, r', d', rfl⟩ : ∃ (a b : Fin 1) (r' : Fin 256) (d' : Fin 128), x = ix4 a b r' d' :=
      ⟨x 0, x 1, x 2, x 3, eq_ix4 (n0 := 1) (n1 := 1) (n2 := 256) (n3 := 128) x⟩
    have e1' : h.val = 4 + b.val := e1
    obtain rfl : h = 4 := Fin.ext (show h.val = 4 by omega)
    obtain rfl : a = 0 := Subsingleton.elim _ _
    obtain rfl : b = 0 := Subsingleton.elim _ _
    obtain rfl : r = r' := Fin.ext e2
    obtain rfl : d = d' := Fin.ext e3
    refine (query_4 _ _ _ r d).trans ?_
    rfl
  · obtain ⟨a, b, r', d', rfl⟩ : ∃ (a b : Fin 1) (r' : Fin 256) (d' : Fin 128), x = ix4 a b r' d' :=
      ⟨x 0, x 1, x 2, x 3, eq_ix4 (n0 := 1) (n1 := 1) (n2 := 256) (n3 := 128) x⟩
    have e1' : h.val = 3 + b.val := e1
    obtain rfl : h = 3 := Fin.ext (show h.val = 3 by omega)
    obtain rfl : a = 0 := Subsingleton.elim _ _
    obtain rfl : b = 0 := Subsingleton.elim _ _
    obtain rfl : r = r' := Fin.ext e2
    obtain rfl : d = d' := Fin.ext e3
    refine (query_3 _ _ _ r d).trans ?_
    rfl
  · obtain ⟨a, b, r', d', rfl⟩ : ∃ (a b : Fin 1) (r' : Fin 256) (d' : Fin 128), x = ix4 a b r' d' :=
      ⟨x 0, x 1, x 2, x 3, eq_ix4 (n0 := 1) (n1 := 1) (n2 := 256) (n3 := 128) x⟩
    have e1' : h.val = 2 + b.val := e1
    obtain rfl : h = 2 := Fin.ext (show h.val = 2 by omega)
    obtain rfl : a = 0 := Subsingleton.elim _ _
    obtain rfl : b = 0 := Subsingleton.elim _ _
    obtain rfl : r = r' := Fin.ext e2
    obtain rfl : d = d' := Fin.ext e3
    refine (query_2 _ _ _ r d).trans ?_
    rfl
  · obtain ⟨a, b, r', d', rfl⟩ : ∃ (a b : Fin 1) (r' : Fin 256) (d' : Fin 128), x = ix4 a b r' d' :=
      ⟨x 0, x 1, x 2, x 3, eq_ix4 (n0 := 1) (n1 := 1) (n2 := 256) (n3 := 128) x⟩
    have e1' : h.val = 1 + b.val := e1
    obtain rfl : h = 1 := Fin.ext (show h.val = 1 by omega)
    obtain rfl : a = 0 := Subsingleton.elim _ _
    obtain rfl : b = 0 := Subsingleton.elim _ _
    obtain rfl : r = r' := Fin.ext e2
    obtain rfl : d = d' := Fin.ext e3
    refine (query_1 _ _ _ r d).trans ?_
    rfl
  · obtain ⟨a, b, r', d', rfl⟩ : ∃ (a b : Fin 1) (r' : Fin 256) (d' : Fin 128), x = ix4 a b r' d' :=
      ⟨x 0, x 1, x 2, x 3, eq_ix4 (n0 := 1) (n1 := 1) (n2 := 256) (n3 := 128) x⟩
    have e1' : h.val = b.val := e1
    obtain rfl : h = 0 := Fin.ext (show h.val = 0 by omega)
    obtain rfl : a = 0 := Subsingleton.elim _ _
    obtain rfl : b = 0 := Subsingleton.elim _ _
    obtain rfl : r = r' := Fin.ext e2
    obtain rfl : d = d' := Fin.ext e3
    refine (query_0 _ _ _ r d).trans ?_
    rfl

/-- One point's keys. -/
theorem out_key (x0 : Vec Ideal S1x256x768 .f32) (x1 : Vec Ideal S1x384 .f32) (x2 : Vec Ideal S1x256 .f32) (x3 : Vec Ideal S384x1024 .bf16)
    (x4 : Vec Ideal S256x2048 .bf16) (x5 x6 x7 x8 : Vec Ideal S256x128 .f32) (h : Fin 8) (r : Fin 256) (d : Fin 128) :
    out0_10 (F := Ideal) x0 x1 x2 x3 x4 x5 x6 x7 x8 (ix4 0 h r d)
      = turned (fun l : Fin 128 => k0_pay58 (F := Ideal) x0 x1 x2 x3 x4 x5 x6 x7 x8 (ix2 r ⟨h.val * 128 + l.val, by omega⟩) + k0_pay59 (F := Ideal) x0 x1 x2 x3 x4 x5 x6 x7 x8 (ix2 r l))
          (fun l => x7 (ix2 r l)) (fun l => x8 (ix2 r l)) d
        * Ideal.rsqrt (meanSq fun l : Fin 128 => k0_pay58 (F := Ideal) x0 x1 x2 x3 x4 x5 x6 x7 x8 (ix2 r ⟨h.val * 128 + l.val, by omega⟩) + k0_pay59 (F := Ideal) x0 x1 x2 x3 x4 x5 x6 x7 x8 (ix2 r l)) := by
  unfold out0_10
  simp only [ld_tab]
  canon_tiles x e
  · obtain ⟨a, b, r', d', rfl⟩ : ∃ (a b : Fin 1) (r' : Fin 256) (d' : Fin 128), x = ix4 a b r' d' :=
      ⟨x 0, x 1, x 2, x 3, eq_ix4 (n0 := 1) (n1 := 1) (n2 := 256) (n3 := 128) x⟩
    have e1' : h.val = 7 + b.val := e1
    obtain rfl : h = 7 := Fin.ext (show h.val = 7 by omega)
    obtain rfl : a = 0 := Subsingleton.elim _ _
    obtain rfl : b = 0 := Subsingleton.elim _ _
    obtain rfl : r = r' := Fin.ext e2
    obtain rfl : d = d' := Fin.ext e3
    refine (key_7 _ _ _ _ r d).trans ?_
    rfl
  · obtain ⟨a, b, r', d', rfl⟩ : ∃ (a b : Fin 1) (r' : Fin 256) (d' : Fin 128), x = ix4 a b r' d' :=
      ⟨x 0, x 1, x 2, x 3, eq_ix4 (n0 := 1) (n1 := 1) (n2 := 256) (n3 := 128) x⟩
    have e1' : h.val = 6 + b.val := e1
    obtain rfl : h = 6 := Fin.ext (show h.val = 6 by omega)
    obtain rfl : a = 0 := Subsingleton.elim _ _
    obtain rfl : b = 0 := Subsingleton.elim _ _
    obtain rfl : r = r' := Fin.ext e2
    obtain rfl : d = d' := Fin.ext e3
    refine (key_6 _ _ _ _ r d).trans ?_
    rfl
  · obtain ⟨a, b, r', d', rfl⟩ : ∃ (a b : Fin 1) (r' : Fin 256) (d' : Fin 128), x = ix4 a b r' d' :=
      ⟨x 0, x 1, x 2, x 3, eq_ix4 (n0 := 1) (n1 := 1) (n2 := 256) (n3 := 128) x⟩
    have e1' : h.val = 5 + b.val := e1
    obtain rfl : h = 5 := Fin.ext (show h.val = 5 by omega)
    obtain rfl : a = 0 := Subsingleton.elim _ _
    obtain rfl : b = 0 := Subsingleton.elim _ _
    obtain rfl : r = r' := Fin.ext e2
    obtain rfl : d = d' := Fin.ext e3
    refine (key_5 _ _ _ _ r d).trans ?_
    rfl
  · obtain ⟨a, b, r', d', rfl⟩ : ∃ (a b : Fin 1) (r' : Fin 256) (d' : Fin 128), x = ix4 a b r' d' :=
      ⟨x 0, x 1, x 2, x 3, eq_ix4 (n0 := 1) (n1 := 1) (n2 := 256) (n3 := 128) x⟩
    have e1' : h.val = 4 + b.val := e1
    obtain rfl : h = 4 := Fin.ext (show h.val = 4 by omega)
    obtain rfl : a = 0 := Subsingleton.elim _ _
    obtain rfl : b = 0 := Subsingleton.elim _ _
    obtain rfl : r = r' := Fin.ext e2
    obtain rfl : d = d' := Fin.ext e3
    refine (key_4 _ _ _ _ r d).trans ?_
    rfl
  · obtain ⟨a, b, r', d', rfl⟩ : ∃ (a b : Fin 1) (r' : Fin 256) (d' : Fin 128), x = ix4 a b r' d' :=
      ⟨x 0, x 1, x 2, x 3, eq_ix4 (n0 := 1) (n1 := 1) (n2 := 256) (n3 := 128) x⟩
    have e1' : h.val = 3 + b.val := e1
    obtain rfl : h = 3 := Fin.ext (show h.val = 3 by omega)
    obtain rfl : a = 0 := Subsingleton.elim _ _
    obtain rfl : b = 0 := Subsingleton.elim _ _
    obtain rfl : r = r' := Fin.ext e2
    obtain rfl : d = d' := Fin.ext e3
    refine (key_3 _ _ _ _ r d).trans ?_
    rfl
  · obtain ⟨a, b, r', d', rfl⟩ : ∃ (a b : Fin 1) (r' : Fin 256) (d' : Fin 128), x = ix4 a b r' d' :=
      ⟨x 0, x 1, x 2, x 3, eq_ix4 (n0 := 1) (n1 := 1) (n2 := 256) (n3 := 128) x⟩
    have e1' : h.val = 2 + b.val := e1
    obtain rfl : h = 2 := Fin.ext (show h.val = 2 by omega)
    obtain rfl : a = 0 := Subsingleton.elim _ _
    obtain rfl : b = 0 := Subsingleton.elim _ _
    obtain rfl : r = r' := Fin.ext e2
    obtain rfl : d = d' := Fin.ext e3
    refine (key_2 _ _ _ _ r d).trans ?_
    rfl
  · obtain ⟨a, b, r', d', rfl⟩ : ∃ (a b : Fin 1) (r' : Fin 256) (d' : Fin 128), x = ix4 a b r' d' :=
      ⟨x 0, x 1, x 2, x 3, eq_ix4 (n0 := 1) (n1 := 1) (n2 := 256) (n3 := 128) x⟩
    have e1' : h.val = 1 + b.val := e1
    obtain rfl : h = 1 := Fin.ext (show h.val = 1 by omega)
    obtain rfl : a = 0 := Subsingleton.elim _ _
    obtain rfl : b = 0 := Subsingleton.elim _ _
    obtain rfl : r = r' := Fin.ext e2
    obtain rfl : d = d' := Fin.ext e3
    refine (key_1 _ _ _ _ r d).trans ?_
    rfl
  · obtain ⟨a, b, r', d', rfl⟩ : ∃ (a b : Fin 1) (r' : Fin 256) (d' : Fin 128), x = ix4 a b r' d' :=
      ⟨x 0, x 1, x 2, x 3, eq_ix4 (n0 := 1) (n1 := 1) (n2 := 256) (n3 := 128) x⟩
    have e1' : h.val = b.val := e1
    obtain rfl : h = 0 := Fin.ext (show h.val = 0 by omega)
    obtain rfl : a = 0 := Subsingleton.elim _ _
    obtain rfl : b = 0 := Subsingleton.elim _ _
    obtain rfl : r = r' := Fin.ext e2
    obtain rfl : d = d' := Fin.ext e3
    refine (key_0 _ _ _ _ r d).trans ?_
    rfl

/-- One point's values. -/
theorem out_value (x0 : Vec Ideal S1x256x768 .f32) (x1 : Vec Ideal S1x384 .f32) (x2 : Vec Ideal S1x256 .f32) (x3 : Vec Ideal S384x1024 .bf16)
    (x4 : Vec Ideal S256x2048 .bf16) (x5 x6 x7 x8 : Vec Ideal S256x128 .f32) (h : Fin 8) (r : Fin 256) (d : Fin 128) :
    out0_11 (F := Ideal) x0 x1 x2 x3 x4 x5 x6 x7 x8 (ix4 0 h r d)
      = k0_pay58 (F := Ideal) x0 x1 x2 x3 x4 x5 x6 x7 x8 (ix2 r ⟨1024 + h.val * 128 + d.val, by omega⟩) + k0_pay10 (F := Ideal) (ix2 0 d) := by
  unfold out0_11
  canon_tiles x e
  · obtain ⟨a, b, r', d', rfl⟩ : ∃ (a b : Fin 1) (r' : Fin 256) (d' : Fin 128), x = ix4 a b r' d' :=
      ⟨x 0, x 1, x 2, x 3, eq_ix4 (n0 := 1) (n1 := 1) (n2 := 256) (n3 := 128) x⟩
    have e1' : h.val = 7 + b.val := e1
    obtain rfl : h = 7 := Fin.ext (show h.val = 7 by omega)
    obtain rfl : a = 0 := Subsingleton.elim _ _
    obtain rfl : b = 0 := Subsingleton.elim _ _
    obtain rfl : r = r' := Fin.ext e2
    obtain rfl : d = d' := Fin.ext e3
    refine (value_7 _ r d).trans ?_
    rfl
  · obtain ⟨a, b, r', d', rfl⟩ : ∃ (a b : Fin 1) (r' : Fin 256) (d' : Fin 128), x = ix4 a b r' d' :=
      ⟨x 0, x 1, x 2, x 3, eq_ix4 (n0 := 1) (n1 := 1) (n2 := 256) (n3 := 128) x⟩
    have e1' : h.val = 6 + b.val := e1
    obtain rfl : h = 6 := Fin.ext (show h.val = 6 by omega)
    obtain rfl : a = 0 := Subsingleton.elim _ _
    obtain rfl : b = 0 := Subsingleton.elim _ _
    obtain rfl : r = r' := Fin.ext e2
    obtain rfl : d = d' := Fin.ext e3
    refine (value_6 _ r d).trans ?_
    rfl
  · obtain ⟨a, b, r', d', rfl⟩ : ∃ (a b : Fin 1) (r' : Fin 256) (d' : Fin 128), x = ix4 a b r' d' :=
      ⟨x 0, x 1, x 2, x 3, eq_ix4 (n0 := 1) (n1 := 1) (n2 := 256) (n3 := 128) x⟩
    have e1' : h.val = 5 + b.val := e1
    obtain rfl : h = 5 := Fin.ext (show h.val = 5 by omega)
    obtain rfl : a = 0 := Subsingleton.elim _ _
    obtain rfl : b = 0 := Subsingleton.elim _ _
    obtain rfl : r = r' := Fin.ext e2
    obtain rfl : d = d' := Fin.ext e3
    refine (value_5 _ r d).trans ?_
    rfl
  · obtain ⟨a, b, r', d', rfl⟩ : ∃ (a b : Fin 1) (r' : Fin 256) (d' : Fin 128), x = ix4 a b r' d' :=
      ⟨x 0, x 1, x 2, x 3, eq_ix4 (n0 := 1) (n1 := 1) (n2 := 256) (n3 := 128) x⟩
    have e1' : h.val = 4 + b.val := e1
    obtain rfl : h = 4 := Fin.ext (show h.val = 4 by omega)
    obtain rfl : a = 0 := Subsingleton.elim _ _
    obtain rfl : b = 0 := Subsingleton.elim _ _
    obtain rfl : r = r' := Fin.ext e2
    obtain rfl : d = d' := Fin.ext e3
    refine (value_4 _ r d).trans ?_
    rfl
  · obtain ⟨a, b, r', d', rfl⟩ : ∃ (a b : Fin 1) (r' : Fin 256) (d' : Fin 128), x = ix4 a b r' d' :=
      ⟨x 0, x 1, x 2, x 3, eq_ix4 (n0 := 1) (n1 := 1) (n2 := 256) (n3 := 128) x⟩
    have e1' : h.val = 3 + b.val := e1
    obtain rfl : h = 3 := Fin.ext (show h.val = 3 by omega)
    obtain rfl : a = 0 := Subsingleton.elim _ _
    obtain rfl : b = 0 := Subsingleton.elim _ _
    obtain rfl : r = r' := Fin.ext e2
    obtain rfl : d = d' := Fin.ext e3
    refine (value_3 _ r d).trans ?_
    rfl
  · obtain ⟨a, b, r', d', rfl⟩ : ∃ (a b : Fin 1) (r' : Fin 256) (d' : Fin 128), x = ix4 a b r' d' :=
      ⟨x 0, x 1, x 2, x 3, eq_ix4 (n0 := 1) (n1 := 1) (n2 := 256) (n3 := 128) x⟩
    have e1' : h.val = 2 + b.val := e1
    obtain rfl : h = 2 := Fin.ext (show h.val = 2 by omega)
    obtain rfl : a = 0 := Subsingleton.elim _ _
    obtain rfl : b = 0 := Subsingleton.elim _ _
    obtain rfl : r = r' := Fin.ext e2
    obtain rfl : d = d' := Fin.ext e3
    refine (value_2 _ r d).trans ?_
    rfl
  · obtain ⟨a, b, r', d', rfl⟩ : ∃ (a b : Fin 1) (r' : Fin 256) (d' : Fin 128), x = ix4 a b r' d' :=
      ⟨x 0, x 1, x 2, x 3, eq_ix4 (n0 := 1) (n1 := 1) (n2 := 256) (n3 := 128) x⟩
    have e1' : h.val = 1 + b.val := e1
    obtain rfl : h = 1 := Fin.ext (show h.val = 1 by omega)
    obtain rfl : a = 0 := Subsingleton.elim _ _
    obtain rfl : b = 0 := Subsingleton.elim _ _
    obtain rfl : r = r' := Fin.ext e2
    obtain rfl : d = d' := Fin.ext e3
    refine (value_1 _ r d).trans ?_
    rfl
  · obtain ⟨a, b, r', d', rfl⟩ : ∃ (a b : Fin 1) (r' : Fin 256) (d' : Fin 128), x = ix4 a b r' d' :=
      ⟨x 0, x 1, x 2, x 3, eq_ix4 (n0 := 1) (n1 := 1) (n2 := 256) (n3 := 128) x⟩
    have e1' : h.val = b.val := e1
    obtain rfl : h = 0 := Fin.ext (show h.val = 0 by omega)
    obtain rfl : a = 0 := Subsingleton.elim _ _
    obtain rfl : b = 0 := Subsingleton.elim _ _
    obtain rfl : r = r' := Fin.ext e2
    obtain rfl : d = d' := Fin.ext e3
    refine (value_0 _ r d).trans ?_
    rfl

end Cert.Proof.MlaPrep
-- ==== Proof.MlaPrep.Gather.lean ====
/- The partner lanes the host takes by a fixed order of lanes and multiplies by fixed signs. -/
module

public import proofs.«01_k».proof.Proof.Gen.Kernel11Ideal
public import Idealize.ShloMosaic.Lib.Pointwise

@[expose] public section

set_option maxRecDepth 16384

noncomputable section

namespace Cert.Proof.MlaPrep

open Idealize.ShloMosaic
open Cert.Kernel11Ideal Cert.Kernel11Ideal.Gen

/-- Lanes taken out of a row. -/
theorem taken (x : Vec Ideal S32 .f32) (idx : IVec S32x1 32) (e : Fin 32) (n : Fin 32) (hn : min (idx (ix2 e 0)).toInt.toNat 31 = n.val) :
    Host.gather gather_S32_S32x1_S32_n_0_n_n_0_1_1 x idx (ix1 e) = x (ix1 n) := by
  unfold Host.gather
  refine congrArg x (funext fun a => Fin.ext ?_)
  show gather_S32_S32x1_S32_n_0_n_n_0_1_1.start _ _ a + gather_S32_S32x1_S32_n_0_n_n_0_1_1.batchCoord _ a + gather_S32_S32x1_S32_n_0_n_n_0_1_1.offCoord _ a = _
  match a with
  | ⟨0, _⟩ =>
    have h1 : (⟨0, by decide⟩ : Fin S32.rank) ∈ gather_S32_S32x1_S32_n_0_n_n_0_1_1.collapsedSliceDims := List.mem_singleton.mpr rfl
    have h2 : (⟨0, by decide⟩ : Fin S32.rank) ∈ gather_S32_S32x1_S32_n_0_n_n_0_1_1.startIndexMap := List.mem_singleton.mpr rfl
    rw [GatherDims.batchCoord_eq_zero _ _ _ (show (0 : Fin 1) ∉ ([] : List (Fin 1)) by decide),
      GatherDims.offCoord_eq_zero _ _ _ (fun h => ((GatherDims.mem_sKept _ _).mp h).1 h1)]
    unfold GatherDims.start
    rw [dif_pos h2]
    have hsi : ∀ c, gather_S32_S32x1_S32_n_0_n_n_0_1_1.siIdx (ix1 e) c = ix2 e 0 := by
      intro c
      have hc : c.val = 0 := Nat.lt_one_iff.mp c.isLt
      funext d; refine Fin.ext ?_
      match d with
      | ⟨0, _⟩ => rfl
      | ⟨1, _⟩ => exact hc
    rw [hsi]
    simp only [Nat.add_zero]
    exact hn

/-- Lanes taken out of a head's columns. -/
theorem taken_cols (x : Vec Ideal S384x8x96 .f32) (idx : IVec S32x1 32) (k : Fin 384) (h : Fin 8) (e : Fin 32) (n : Fin 96)
    (hn : min (idx (ix2 e 0)).toInt.toNat 95 = n.val) :
    Host.gather gather_S384x8x96_S32x1_S384x8x32_01_2_n_n_2_1_38481 x idx (ix3 k h e) = x (ix3 k h n) := by
  unfold Host.gather
  refine congrArg x (funext fun a => Fin.ext ?_)
  show gather_S384x8x96_S32x1_S384x8x32_01_2_n_n_2_1_38481.start _ _ a + gather_S384x8x96_S32x1_S384x8x32_01_2_n_n_2_1_38481.batchCoord _ a
    + gather_S384x8x96_S32x1_S384x8x32_01_2_n_n_2_1_38481.offCoord _ a = _
  match a with
  | ⟨0, _⟩ =>
    have h2 : (⟨0, by decide⟩ : Fin S384x8x96.rank) ∉ gather_S384x8x96_S32x1_S384x8x32_01_2_n_n_2_1_38481.collapsedSliceDims := by
      show (0 : Fin 3) ∉ ([2] : List (Fin 3)); decide
    have h2m : (⟨0, by decide⟩ : Fin S384x8x96.rank) ∉ gather_S384x8x96_S32x1_S384x8x32_01_2_n_n_2_1_38481.startIndexMap := by
      show (0 : Fin 3) ∉ ([2] : List (Fin 3)); decide
    have h2' : (⟨0, by decide⟩ : Fin S384x8x96.rank) ∉ gather_S384x8x96_S32x1_S384x8x32_01_2_n_n_2_1_38481.operandBatchingDims := by
      show (0 : Fin 3) ∉ ([] : List (Fin 3)); decide
    rw [GatherDims.batchCoord_eq_zero _ _ _ h2']
    unfold GatherDims.start GatherDims.offCoord
    rw [dif_neg h2m, dif_pos ((GatherDims.mem_sKept _ _).mpr ⟨h2, h2'⟩)]
    simp only [Nat.zero_add, Nat.add_zero]
    rfl
  | ⟨1, _⟩ =>
    have h2 : (⟨1, by decide⟩ : Fin S384x8x96.rank) ∉ gather_S384x8x96_S32x1_S384x8x32_01_2_n_n_2_1_38481.collapsedSliceDims := by
      show (1 : Fin 3) ∉ ([2] : List (Fin 3)); decide
    have h2m : (⟨1, by decide⟩ : Fin S384x8x96.rank) ∉ gather_S384x8x96_S32x1_S384x8x32_01_2_n_n_2_1_38481.startIndexMap := by
      show (1 : Fin 3) ∉ ([2] : List (Fin 3)); decide
    have h2' : (⟨1, by decide⟩ : Fin S384x8x96.rank) ∉ gather_S384x8x96_S32x1_S384x8x32_01_2_n_n_2_1_38481.operandBatchingDims := by
      show (1 : Fin 3) ∉ ([] : List (Fin 3)); decide
    rw [GatherDims.batchCoord_eq_zero _ _ _ h2']
    unfold GatherDims.start GatherDims.offCoord
    rw [dif_neg h2m, dif_pos ((GatherDims.mem_sKept _ _).mpr ⟨h2, h2'⟩)]
    simp only [Nat.zero_add, Nat.add_zero]
    rfl
  | ⟨2, _⟩ =>
    have h1 : (⟨2, by decide⟩ : Fin S384x8x96.rank) ∈ gather_S384x8x96_S32x1_S384x8x32_01_2_n_n_2_1_38481.collapsedSliceDims := List.mem_singleton.mpr rfl
    have h2 : (⟨2, by decide⟩ : Fin S384x8x96.rank) ∈ gather_S384x8x96_S32x1_S384x8x32_01_2_n_n_2_1_38481.startIndexMap := List.mem_singleton.mpr rfl
    rw [GatherDims.batchCoord_eq_zero _ _ _ (show (2 : Fin 3) ∉ ([] : List (Fin 3)) by decide),
      GatherDims.offCoord_eq_zero _ _ _ (fun h => ((GatherDims.mem_sKept _ _).mp h).1 h1)]
    unfold GatherDims.start
    rw [dif_pos h2]
    have hsi : ∀ c, gather_S384x8x96_S32x1_S384x8x32_01_2_n_n_2_1_38481.siIdx (ix3 k h e) c = ix2 e 0 := by
      intro c
      have hc : c.val = 0 := Nat.lt_one_iff.mp c.isLt
      funext d; refine Fin.ext ?_
      match d with
      | ⟨0, _⟩ => rfl
      | ⟨1, _⟩ => exact hc
    rw [hsi]
    simp only [Nat.add_zero]
    exact hn

/-- A row's place is its number. -/
theorem place32_val : ∀ e : Fin 32, (S32.rowMajor (ix1 e)).val = e.val := by decide +kernel
theorem place32 (e : Fin 32) : S32.rowMajor (ix1 e) = e := Fin.ext (place32_val e)

/-- The order of the lanes. -/
theorem order_0 : ∀ j : Fin 8, (lit2 ⟨0 + j.val, by omega⟩).toInt.toNat = 8 + j.val ∧ (lit0 ⟨0 + j.val, by omega⟩).toInt.toNat = 64 + (8 + j.val)
    ∧ lit1 ⟨0 + j.val, by omega⟩ = 0xBF800000#32 := by decide +kernel
theorem order_1 : ∀ j : Fin 8, (lit2 ⟨8 + j.val, by omega⟩).toInt.toNat = 0 + j.val ∧ (lit0 ⟨8 + j.val, by omega⟩).toInt.toNat = 64 + (0 + j.val)
    ∧ lit1 ⟨8 + j.val, by omega⟩ = 0x3F800000#32 := by decide +kernel
theorem order_2 : ∀ j : Fin 8, (lit2 ⟨16 + j.val, by omega⟩).toInt.toNat = 24 + j.val ∧ (lit0 ⟨16 + j.val, by omega⟩).toInt.toNat = 64 + (24 + j.val)
    ∧ lit1 ⟨16 + j.val, by omega⟩ = 0xBF800000#32 := by decide +kernel
theorem order_3 : ∀ j : Fin 8, (lit2 ⟨24 + j.val, by omega⟩).toInt.toNat = 16 + j.val ∧ (lit0 ⟨24 + j.val, by omega⟩).toInt.toNat = 64 + (16 + j.val)
    ∧ lit1 ⟨24 + j.val, by omega⟩ = 0x3F800000#32 := by decide +kernel

/-- The signs. -/
theorem sign_plus : Ideal.ofBits .f32 0x3F800000#32 = (1 : EReal) := by
  simp [Ideal.ofBits, Ideal.ieee]
  rw [← EReal.coe_mul]
  norm_num
theorem sign_minus : Ideal.ofBits .f32 0xBF800000#32 = (-1 : EReal) := by
  simp [Ideal.ofBits, Ideal.ieee]
  rw [← EReal.coe_mul]
  norm_num

/-- The word that names a lane: its wrap of negative numbers is off. -/
theorem word_gain (e : Fin 32) : (broadcastInDim S32x1 ![0] bcast_S32_S32x1_0 (select (constantI S32 1 0#1) (addi (fun i => lit2 (S32.rowMajor i))
    (broadcastInDim S32 ![] bcast_S_S32 (constantI S_ 32 32#32))) (fun i => lit2 (S32.rowMajor i))) : IVec S32x1 32) (ix2 e 0) = lit2 e := by
  refine Eq.trans ?_ (congrArg lit2 (place32 e))
  pointwise
theorem word_cols (e : Fin 32) : (broadcastInDim S32x1 ![0] bcast_S32_S32x1_0 (select (constantI S32 1 0#1) (addi (fun i => lit0 (S32.rowMajor i))
    (broadcastInDim S32 ![] bcast_S_S32 (constantI S_ 32 96#32))) (fun i => lit0 (S32.rowMajor i))) : IVec S32x1 32) (ix2 e 0) = lit0 e := by
  refine Eq.trans ?_ (congrArg lit0 (place32 e))
  pointwise
theorem sign_at (k : Fin 384) (h : Fin 8) (e : Fin 32) : (broadcastInDim S384x8x32 ![0, 1, 2] bcast_S1x1x32_S384x8x32_0_1_2
    (broadcastInDim S1x1x32 ![2] bcast_S32_S1x1x32_2 (fun i => FloatOps.ofBits (F := Ideal) .f32 (lit1 (S32.rowMajor i)) : Vec Ideal S32 .f32)) : Vec Ideal S384x8x32 .f32) (ix3 k h e)
      = Ideal.ofBits .f32 (lit1 e) := by
  refine Eq.trans ?_ (congrArg (fun e => Ideal.ofBits .f32 (lit1 e)) (place32 e))
  pointwise

/-- The gain's lanes in the partners' order, quarter 0. -/
theorem gparts_0 (x : Vec Ideal S32 .f32) (idx : IVec S32x1 32) (H : ∀ e : Fin 32, idx (ix2 e 0) = lit2 e) (j : Fin 8) :
    Host.gather gather_S32_S32x1_S32_n_0_n_n_0_1_1 x idx (ix1 ⟨0 + j.val, by omega⟩) = x (ix1 ⟨8 + j.val, by omega⟩) :=
  taken x idx _ _ (by rw [H, (order_0 j).1]; exact Nat.min_eq_left (by omega))

/-- The weight's columns in the partners' order, with their signs, quarter 0. -/
theorem wparts_0 (x : Vec Ideal S384x8x96 .f32) (idx : IVec S32x1 32) (s : Vec Ideal S384x8x32 .f32) (H : ∀ e : Fin 32, idx (ix2 e 0) = lit0 e)
    (S : ∀ (k : Fin 384) (h : Fin 8) (e : Fin 32), s (ix3 k h e) = Ideal.ofBits .f32 (lit1 e)) (k : Fin 384) (h j : Fin 8) :
    mulf (F := Ideal) (φ := .f32) (Host.gather gather_S384x8x96_S32x1_S384x8x32_01_2_n_n_2_1_38481 x idx) s (ix3 k h ⟨0 + j.val, by omega⟩)
      = Neg.neg (α := EReal) (x (ix3 k h ⟨64 + (8 + j.val), by omega⟩)) := by
  have e := taken_cols x idx k h ⟨0 + j.val, by omega⟩ ⟨64 + (8 + j.val), by omega⟩ (by rw [H, (order_0 j).2.1]; exact Nat.min_eq_left (by omega))
  refine (congrArg₂ (HMul.hMul (α := EReal) (β := EReal) (γ := EReal)) e ((S k h ⟨0 + j.val, by omega⟩).trans
    ((congrArg (Ideal.ofBits .f32) (order_0 j).2.2).trans sign_minus))).trans ?_
  exact (mul_comm _ _).trans ((EReal.neg_mul 1 _).trans (congrArg (Neg.neg : EReal → EReal) (one_mul _)))

/-- The gain's lanes in the partners' order, quarter 1. -/
theorem gparts_1 (x : Vec Ideal S32 .f32) (idx : IVec S32x1 32) (H : ∀ e : Fin 32, idx (ix2 e 0) = lit2 e) (j : Fin 8) :
    Host.gather gather_S32_S32x1_S32_n_0_n_n_0_1_1 x idx (ix1 ⟨8 + j.val, by omega⟩) = x (ix1 ⟨0 + j.val, by omega⟩) :=
  taken x idx _ _ (by rw [H, (order_1 j).1]; exact Nat.min_eq_left (by omega))

/-- The weight's columns in the partners' order, with their signs, quarter 1. -/
theorem wparts_1 (x : Vec Ideal S384x8x96 .f32) (idx : IVec S32x1 32) (s : Vec Ideal S384x8x32 .f32) (H : ∀ e : Fin 32, idx (ix2 e 0) = lit0 e)
    (S : ∀ (k : Fin 384) (h : Fin 8) (e : Fin 32), s (ix3 k h e) = Ideal.ofBits .f32 (lit1 e)) (k : Fin 384) (h j : Fin 8) :
    mulf (F := Ideal) (φ := .f32) (Host.gather gather_S384x8x96_S32x1_S384x8x32_01_2_n_n_2_1_38481 x idx) s (ix3 k h ⟨8 + j.val, by omega⟩)
      = (x (ix3 k h ⟨64 + (0 + j.val), by omega⟩)) := by
  have e := taken_cols x idx k h ⟨8 + j.val, by omega⟩ ⟨64 + (0 + j.val), by omega⟩ (by rw [H, (order_1 j).2.1]; exact Nat.min_eq_left (by omega))
  refine (congrArg₂ (HMul.hMul (α := EReal) (β := EReal) (γ := EReal)) e ((S k h ⟨8 + j.val, by omega⟩).trans
    ((congrArg (Ideal.ofBits .f32) (order_1 j).2.2).trans sign_plus))).trans ?_
  exact mul_one _

/-- The gain's lanes in the partners' order, quarter 2. -/
theorem gparts_2 (x : Vec Ideal S32 .f32) (idx : IVec S32x1 32) (H : ∀ e : Fin 32, idx (ix2 e 0) = lit2 e) (j : Fin 8) :
    Host.gather gather_S32_S32x1_S32_n_0_n_n_0_1_1 x idx (ix1 ⟨16 + j.val, by omega⟩) = x (ix1 ⟨24 + j.val, by omega⟩) :=
  taken x idx _ _ (by rw [H, (order_2 j).1]; exact Nat.min_eq_left (by omega))

/-- The weight's columns in the partners' order, with their signs, quarter 2. -/
theorem wparts_2 (x : Vec Ideal S384x8x96 .f32) (idx : IVec S32x1 32) (s : Vec Ideal S384x8x32 .f32) (H : ∀ e : Fin 32, idx (ix2 e 0) = lit0 e)
    (S : ∀ (k : Fin 384) (h : Fin 8) (e : Fin 32), s (ix3 k h e) = Ideal.ofBits .f32 (lit1 e)) (k : Fin 384) (h j : Fin 8) :
    mulf (F := Ideal) (φ := .f32) (Host.gather gather_S384x8x96_S32x1_S384x8x32_01_2_n_n_2_1_38481 x idx) s (ix3 k h ⟨16 + j.val, by omega⟩)
      = Neg.neg (α := EReal) (x (ix3 k h ⟨64 + (24 + j.val), by omega⟩)) := by
  have e := taken_cols x idx k h ⟨16 + j.val, by omega⟩ ⟨64 + (24 + j.val), by omega⟩ (by rw [H, (order_2 j).2.1]; exact Nat.min_eq_left (by omega))
  refine (congrArg₂ (HMul.hMul (α := EReal) (β := EReal) (γ := EReal)) e ((S k h ⟨16 + j.val, by omega⟩).trans
    ((congrArg (Ideal.ofBits .f32) (order_2 j).2.2).trans sign_minus))).trans ?_
  exact (mul_comm _ _).trans ((EReal.neg_mul 1 _).trans (congrArg (Neg.neg : EReal → EReal) (one_mul _)))

/-- The gain's lanes in the partners' order, quarter 3. -/
theorem gparts_3 (x : Vec Ideal S32 .f32) (idx : IVec S32x1 32) (H : ∀ e : Fin 32, idx (ix2 e 0) = lit2 e) (j : Fin 8) :
    Host.gather gather_S32_S32x1_S32_n_0_n_n_0_1_1 x idx (ix1 ⟨24 + j.val, by omega⟩) = x (ix1 ⟨16 + j.val, by omega⟩) :=
  taken x idx _ _ (by rw [H, (order_3 j).1]; exact Nat.min_eq_left (by omega))

/-- The weight's columns in the partners' order, with their signs, quarter 3. -/
theorem wparts_3 (x : Vec Ideal S384x8x96 .f32) (idx : IVec S32x1 32) (s : Vec Ideal S384x8x32 .f32) (H : ∀ e : Fin 32, idx (ix2 e 0) = lit0 e)
    (S : ∀ (k : Fin 384) (h : Fin 8) (e : Fin 32), s (ix3 k h e) = Ideal.ofBits .f32 (lit1 e)) (k : Fin 384) (h j : Fin 8) :
    mulf (F := Ideal) (φ := .f32) (Host.gather gather_S384x8x96_S32x1_S384x8x32_01_2_n_n_2_1_38481 x idx) s (ix3 k h ⟨24 + j.val, by omega⟩)
      = (x (ix3 k h ⟨64 + (16 + j.val), by omega⟩)) := by
  have e := taken_cols x idx k h ⟨24 + j.val, by omega⟩ ⟨64 + (16 + j.val), by omega⟩ (by rw [H, (order_3 j).2.1]; exact Nat.min_eq_left (by omega))
  refine (congrArg₂ (HMul.hMul (α := EReal) (β := EReal) (γ := EReal)) e ((S k h ⟨24 + j.val, by omega⟩).trans
    ((congrArg (Ideal.ofBits .f32) (order_3 j).2.2).trans sign_plus))).trans ?_
  exact mul_one _

end Cert.Proof.MlaPrep
-- ==== Proof.MlaPrep.Entry.lean ====
/- The arrays the host code hands to the preparation of the attention's operands, element by element. -/
module

public import proofs.«01_k».proof.Proof.MlaPrep.Gather
public import proofs.«01_k».proof.Proof.Gen.Kernel11Ideal.Frame
public import Idealize.ShloMosaic.Lib.Pointwise
public import Idealize.ShloMosaic.Lib.Pipeline.ValueKit
public import Idealize.ShloMosaic.Lib.Pipeline.ReadBack

@[expose] public section

set_option maxRecDepth 16384

noncomputable section

namespace Cert.Proof.MlaPrep

open Idealize.ShloMosaic Idealize.ShloMosaic.TcCoe Idealize.SL.Sem
open Cert.Kernel11Ideal Cert.Kernel11Ideal.Gen

variable (m : (ℓ : Loc nD τ sig) → Buf (Elt Ideal) ℓ) (c : Dev nD)

/-- The gain of the queries. -/
theorem entry_qn (k : Fin 384) : V m c main_v70 (ix2 0 k) = m ((c : Thread nD τ).loc main_arg1) (ix1 k) := by
  unfold V V0 hostOps0
  simp only [List.flatten_cons, List.flatten_nil, List.append_nil, StableHlo.after_cons, StableHlo.after_nil]
  after_results_simp
  pointwise

/-- The gain of the keys and values. -/
theorem entry_kvn (k : Fin 256) : V m c main_v71 (ix2 0 k) = m ((c : Thread nD τ).loc main_arg3) (ix1 k) := by
  unfold V V0 hostOps0
  simp only [List.flatten_cons, List.flatten_nil, List.append_nil, StableHlo.after_cons, StableHlo.after_nil]
  after_results_simp
  pointwise

/-- The lanes in use of a head's columns. -/
theorem wide_low (a : Vec Ideal S384x8x96 .f32) (p : Vec Ideal S384x8x32 .f32) (k : Fin 384) (h : Fin 8) (d : Fin 96) :
    truncf (F := Ideal) .bf16 (shapeCast S384x1024 (concatenate S384x8x128 2 [⟨S384x8x96, a⟩, ⟨S384x8x32, p⟩]
      concatenates_S384x8x96_S384x8x32_S384x8x128_d2) shapeCasts_S384x8x128_S384x1024) bitsLt_bf16_f32 (ix2 k ⟨h.val * 128 + d.val, by omega⟩)
      = a (ix3 k h d) := by
  pointwise
  rw [dif_pos (by omega)]
  congr 2 <;> (apply Fin.ext; dsimp only; omega)

/-- The partner lanes of a head's columns. -/
theorem wide_high (a : Vec Ideal S384x8x96 .f32) (p : Vec Ideal S384x8x32 .f32) (k : Fin 384) (h : Fin 8) (e : Fin 32) :
    truncf (F := Ideal) .bf16 (shapeCast S384x1024 (concatenate S384x8x128 2 [⟨S384x8x96, a⟩, ⟨S384x8x32, p⟩]
      concatenates_S384x8x96_S384x8x32_S384x8x128_d2) shapeCasts_S384x8x128_S384x1024) bitsLt_bf16_f32 (ix2 k ⟨h.val * 128 + (96 + e.val), by omega⟩)
      = p (ix3 k h e) := by
  pointwise
  rw [dif_neg (by omega)]
  congr 2 <;> (apply Fin.ext; dsimp only; omega)

/-- The weight of the queries, its lanes in use. -/
theorem entry_wq_low (k : Fin 384) (h : Fin 8) (d : Fin 96) :
    V m c main_v29 (ix2 k ⟨h.val * 128 + d.val, by omega⟩) = m ((c : Thread nD τ).loc main_arg2) (ix2 k ⟨h.val * 96 + d.val, by omega⟩) := by
  unfold V V0 hostOps0
  simp only [List.flatten_cons, List.flatten_nil, List.append_nil, StableHlo.after_cons, StableHlo.after_nil]
  after_results_simp
  refine (wide_low _ _ k h d).trans ?_
  after_results_simp
  pointwise

/-- The part 0 of four set side by side. -/
theorem uparts_0 (a0 a1 a2 a3 : Vec Ideal S8x4096x8 .f32) (b : Fin 8) (t : Fin 4096) (j : Fin 8) :
    (concatenate S8x4096x32 2 [⟨S8x4096x8, a0⟩, ⟨S8x4096x8, a1⟩, ⟨S8x4096x8, a2⟩, ⟨S8x4096x8, a3⟩] concatenates_S8x4096x8_S8x4096x8_S8x4096x8_S8x4096x8_S8x4096x32_d2 : Vec Ideal S8x4096x32 .f32)
      (ix3 b t ⟨0 + j.val, by omega⟩) = a0 (ix3 b t j) := by
  pointwise

/-- The part 1 of four set side by side. -/
theorem uparts_1 (a0 a1 a2 a3 : Vec Ideal S8x4096x8 .f32) (b : Fin 8) (t : Fin 4096) (j : Fin 8) :
    (concatenate S8x4096x32 2 [⟨S8x4096x8, a0⟩, ⟨S8x4096x8, a1⟩, ⟨S8x4096x8, a2⟩, ⟨S8x4096x8, a3⟩] concatenates_S8x4096x8_S8x4096x8_S8x4096x8_S8x4096x8_S8x4096x32_d2 : Vec Ideal S8x4096x32 .f32)
      (ix3 b t ⟨8 + j.val, by omega⟩) = a1 (ix3 b t j) := by
  pointwise

/-- The part 2 of four set side by side. -/
theorem uparts_2 (a0 a1 a2 a3 : Vec Ideal S8x4096x8 .f32) (b : Fin 8) (t : Fin 4096) (j : Fin 8) :
    (concatenate S8x4096x32 2 [⟨S8x4096x8, a0⟩, ⟨S8x4096x8, a1⟩, ⟨S8x4096x8, a2⟩, ⟨S8x4096x8, a3⟩] concatenates_S8x4096x8_S8x4096x8_S8x4096x8_S8x4096x8_S8x4096x32_d2 : Vec Ideal S8x4096x32 .f32)
      (ix3 b t ⟨16 + j.val, by omega⟩) = a2 (ix3 b t j) := by
  pointwise
  rw [dif_neg (by omega), dif_neg (by omega), dif_pos (by omega)]
  simp only [show 16 + j.val - 8 - 8 = j.val by omega]

/-- The part 3 of four set side by side. -/
theorem uparts_3 (a0 a1 a2 a3 : Vec Ideal S8x4096x8 .f32) (b : Fin 8) (t : Fin 4096) (j : Fin 8) :
    (concatenate S8x4096x32 2 [⟨S8x4096x8, a0⟩, ⟨S8x4096x8, a1⟩, ⟨S8x4096x8, a2⟩, ⟨S8x4096x8, a3⟩] concatenates_S8x4096x8_S8x4096x8_S8x4096x8_S8x4096x8_S8x4096x32_d2 : Vec Ideal S8x4096x32 .f32)
      (ix3 b t ⟨24 + j.val, by omega⟩) = a3 (ix3 b t j) := by
  pointwise
  rw [dif_neg (by omega), dif_neg (by omega), dif_neg (by omega)]
  simp only [show 24 + j.val - 8 - 8 - 8 = j.val by omega]

/-- The weight of the queries, partner lanes, quarter 0. -/
theorem entry_wq_0 (k : Fin 384) (h j : Fin 8) :
    V m c main_v29 (ix2 k ⟨h.val * 128 + (96 + (0 + j.val)), by omega⟩)
      = Neg.neg (α := EReal) (m ((c : Thread nD τ).loc main_arg2) (ix2 k ⟨h.val * 96 + (64 + (8 + j.val)), by omega⟩)) := by
  unfold V V0 hostOps0
  simp only [List.flatten_cons, List.flatten_nil, List.append_nil, StableHlo.after_cons, StableHlo.after_nil]
  after_results_simp
  refine (wide_high _ _ k h ⟨0 + j.val, by omega⟩).trans ?_
  after_results_simp
  refine (wparts_0 _ _ _ (fun e => word_cols e) (fun k h e => sign_at k h e) k h j).trans ?_
  pointwise

/-- The weight of the queries, partner lanes, quarter 1. -/
theorem entry_wq_1 (k : Fin 384) (h j : Fin 8) :
    V m c main_v29 (ix2 k ⟨h.val * 128 + (96 + (8 + j.val)), by omega⟩)
      = (m ((c : Thread nD τ).loc main_arg2) (ix2 k ⟨h.val * 96 + (64 + (0 + j.val)), by omega⟩)) := by
  unfold V V0 hostOps0
  simp only [List.flatten_cons, List.flatten_nil, List.append_nil, StableHlo.after_cons, StableHlo.after_nil]
  after_results_simp
  refine (wide_high _ _ k h ⟨8 + j.val, by omega⟩).trans ?_
  after_results_simp
  refine (wparts_1 _ _ _ (fun e => word_cols e) (fun k h e => sign_at k h e) k h j).trans ?_
  pointwise

/-- The weight of the queries, partner lanes, quarter 2. -/
theorem entry_wq_2 (k : Fin 384) (h j : Fin 8) :
    V m c main_v29 (ix2 k ⟨h.val * 128 + (96 + (16 + j.val)), by omega⟩)
      = Neg.neg (α := EReal) (m ((c : Thread nD τ).loc main_arg2) (ix2 k ⟨h.val * 96 + (64 + (24 + j.val)), by omega⟩)) := by
  unfold V V0 hostOps0
  simp only [List.flatten_cons, List.flatten_nil, List.append_nil, StableHlo.after_cons, StableHlo.after_nil]
  after_results_simp
  refine (wide_high _ _ k h ⟨16 + j.val, by omega⟩).trans ?_
  after_results_simp
  refine (wparts_2 _ _ _ (fun e => word_cols e) (fun k h e => sign_at k h e) k h j).trans ?_
  pointwise

/-- The weight of the queries, partner lanes, quarter 3. -/
theorem entry_wq_3 (k : Fin 384) (h j : Fin 8) :
    V m c main_v29 (ix2 k ⟨h.val * 128 + (96 + (24 + j.val)), by omega⟩)
      = (m ((c : Thread nD τ).loc main_arg2) (ix2 k ⟨h.val * 96 + (64 + (16 + j.val)), by omega⟩)) := by
  unfold V V0 hostOps0
  simp only [List.flatten_cons, List.flatten_nil, List.append_nil, StableHlo.after_cons, StableHlo.after_nil]
  after_results_simp
  refine (wide_high _ _ k h ⟨24 + j.val, by omega⟩).trans ?_
  after_results_simp
  refine (wparts_3 _ _ _ (fun e => word_cols e) (fun k h e => sign_at k h e) k h j).trans ?_
  pointwise

/-- The compressed rows. -/
theorem rows_low (a : Vec Ideal S8x4096x672 .f32) (p : Vec Ideal S8x4096x32 .f32) (z : Vec Ideal S8x4096x64 .f32) (b : Fin 8) (t : Fin 4096) (d : Fin 672) :
    (concatenate S8x4096x768 2 [⟨S8x4096x672, a⟩, ⟨S8x4096x32, p⟩, ⟨S8x4096x64, z⟩] concatenates_S8x4096x672_S8x4096x32_S8x4096x64_S8x4096x768_d2
      : Vec Ideal S8x4096x768 .f32) (ix3 b t ⟨d.val, by omega⟩) = a (ix3 b t d) := by
  pointwise

/-- The partner lanes of the compressed rows. -/
theorem rows_mid (a : Vec Ideal S8x4096x672 .f32) (p : Vec Ideal S8x4096x32 .f32) (z : Vec Ideal S8x4096x64 .f32) (b : Fin 8) (t : Fin 4096) (d : Fin 32) :
    (concatenate S8x4096x768 2 [⟨S8x4096x672, a⟩, ⟨S8x4096x32, p⟩, ⟨S8x4096x64, z⟩] concatenates_S8x4096x672_S8x4096x32_S8x4096x64_S8x4096x768_d2
      : Vec Ideal S8x4096x768 .f32) (ix3 b t ⟨672 + d.val, by omega⟩) = p (ix3 b t d) := by
  pointwise

/-- The padding of the compressed rows. -/
theorem rows_high (a : Vec Ideal S8x4096x672 .f32) (p : Vec Ideal S8x4096x32 .f32) (z : Vec Ideal S8x4096x64 .f32) (b : Fin 8) (t : Fin 4096) (d : Fin 64) :
    (concatenate S8x4096x768 2 [⟨S8x4096x672, a⟩, ⟨S8x4096x32, p⟩, ⟨S8x4096x64, z⟩] concatenates_S8x4096x672_S8x4096x32_S8x4096x64_S8x4096x768_d2
      : Vec Ideal S8x4096x768 .f32) (ix3 b t ⟨704 + d.val, by omega⟩) = z (ix3 b t d) := by
  pointwise
  rw [dif_neg (by omega), dif_neg (by omega)]
  simp only [show 704 + d.val - 672 - 32 = d.val by omega]

/-- The compressed rows as the region finds them. -/
theorem entry_u_low (b : Fin 8) (t : Fin 4096) (d : Fin 672) :
    V m c main_v9 (ix3 b t ⟨d.val, by omega⟩) = m ((c : Thread nD τ).loc main_arg0) (ix3 b t d) := by
  unfold V V0 hostOps0
  simp only [List.flatten_cons, List.flatten_nil, List.append_nil, StableHlo.after_cons, StableHlo.after_nil]
  after_results_simp
  refine (rows_low _ _ _ b t d).trans ?_
  dsimp only [Matrix.cons_val]

/-- Their padding is zero. -/
theorem entry_u_high (b : Fin 8) (t : Fin 4096) (d : Fin 64) :
    V m c main_v9 (ix3 b t ⟨704 + d.val, by omega⟩) = (0 : EReal) := by
  unfold V V0 hostOps0
  simp only [List.flatten_cons, List.flatten_nil, List.append_nil, StableHlo.after_cons, StableHlo.after_nil]
  after_results_simp
  refine (rows_high _ _ _ b t d).trans ?_
  dsimp only [Matrix.cons_val]
  after_results_simp
  pointwise

/-- The partner lanes of the compressed rows, quarter 0. -/
theorem entry_u_0 (b : Fin 8) (t : Fin 4096) (j : Fin 8) :
    V m c main_v9 (ix3 b t ⟨672 + (0 + j.val), by omega⟩)
      = Neg.neg (α := EReal) (m ((c : Thread nD τ).loc main_arg0) (ix3 b t ⟨640 + (8 + j.val), by omega⟩)) := by
  unfold V V0 hostOps0
  simp only [List.flatten_cons, List.flatten_nil, List.append_nil, StableHlo.after_cons, StableHlo.after_nil]
  after_results_simp
  refine (rows_mid _ _ _ b t ⟨0 + j.val, by omega⟩).trans ?_
  dsimp only [Matrix.cons_val]
  after_results_simp
  refine (uparts_0 _ _ _ _ b t j).trans ?_
  dsimp only [Matrix.cons_val]
  after_results_simp
  pointwise

/-- The partner lanes of the compressed rows, quarter 1. -/
theorem entry_u_1 (b : Fin 8) (t : Fin 4096) (j : Fin 8) :
    V m c main_v9 (ix3 b t ⟨672 + (8 + j.val), by omega⟩)
      = (m ((c : Thread nD τ).loc main_arg0) (ix3 b t ⟨640 + (0 + j.val), by omega⟩)) := by
  unfold V V0 hostOps0
  simp only [List.flatten_cons, List.flatten_nil, List.append_nil, StableHlo.after_cons, StableHlo.after_nil]
  after_results_simp
  refine (rows_mid _ _ _ b t ⟨8 + j.val, by omega⟩).trans ?_
  dsimp only [Matrix.cons_val]
  after_results_simp
  refine (uparts_1 _ _ _ _ b t j).trans ?_
  dsimp only [Matrix.cons_val]
  after_results_simp
  pointwise

/-- The partner lanes of the compressed rows, quarter 2. -/
theorem entry_u_2 (b : Fin 8) (t : Fin 4096) (j : Fin 8) :
    V m c main_v9 (ix3 b t ⟨672 + (16 + j.val), by omega⟩)
      = Neg.neg (α := EReal) (m ((c : Thread nD τ).loc main_arg0) (ix3 b t ⟨640 + (24 + j.val), by omega⟩)) := by
  unfold V V0 hostOps0
  simp only [List.flatten_cons, List.flatten_nil, List.append_nil, StableHlo.after_cons, StableHlo.after_nil]
  after_results_simp
  refine (rows_mid _ _ _ b t ⟨16 + j.val, by omega⟩).trans ?_
  dsimp only [Matrix.cons_val]
  after_results_simp
  refine (uparts_2 _ _ _ _ b t j).trans ?_
  dsimp only [Matrix.cons_val]
  after_results_simp
  pointwise

/-- The partner lanes of the compressed rows, quarter 3. -/
theorem entry_u_3 (b : Fin 8) (t : Fin 4096) (j : Fin 8) :
    V m c main_v9 (ix3 b t ⟨672 + (24 + j.val), by omega⟩)
      = (m ((c : Thread nD τ).loc main_arg0) (ix3 b t ⟨640 + (16 + j.val), by omega⟩)) := by
  unfold V V0 hostOps0
  simp only [List.flatten_cons, List.flatten_nil, List.append_nil, StableHlo.after_cons, StableHlo.after_nil]
  after_results_simp
  refine (rows_mid _ _ _ b t ⟨24 + j.val, by omega⟩).trans ?_
  dsimp only [Matrix.cons_val]
  after_results_simp
  refine (uparts_3 _ _ _ _ b t j).trans ?_
  dsimp only [Matrix.cons_val]
  after_results_simp
  pointwise

/-- The two blocks of columns of the weight of the keys and values. -/
theorem kv_left (x0 x1 : Vec Ideal S256x1024 .f32) (k : Fin 256) (h : Fin 8) (l : Fin 128) :
    truncf (F := Ideal) .bf16 (concatenate S256x2048 1 [⟨S256x1024, x0⟩, ⟨S256x1024, x1⟩] concatenates_S256x1024_S256x1024_S256x2048_d1) bitsLt_bf16_f32
      (ix2 k ⟨h.val * 128 + l.val, by omega⟩) = x0 (ix2 k ⟨h.val * 128 + l.val, by omega⟩) := by
  pointwise
  rw [dif_pos (by omega)]

/-- The second block. -/
theorem kv_right (x0 x1 : Vec Ideal S256x1024 .f32) (k : Fin 256) (h : Fin 8) (l : Fin 128) :
    truncf (F := Ideal) .bf16 (concatenate S256x2048 1 [⟨S256x1024, x0⟩, ⟨S256x1024, x1⟩] concatenates_S256x1024_S256x1024_S256x2048_d1) bitsLt_bf16_f32
      (ix2 k ⟨1024 + (h.val * 128 + l.val), by omega⟩) = x1 (ix2 k ⟨h.val * 128 + l.val, by omega⟩) := by
  pointwise

/-- A head's columns. -/
theorem pad_low (x z : Vec Ideal S256x8x64 .f32) (k : Fin 256) (h : Fin 8) (l : Fin 64) :
    (shapeCast S256x1024 (concatenate S256x8x128 2 [⟨S256x8x64, x⟩, ⟨S256x8x64, z⟩] concatenates_S256x8x64_S256x8x64_S256x8x128_d2)
      shapeCasts_S256x8x128_S256x1024 : Vec Ideal S256x1024 .f32) (ix2 k ⟨h.val * 128 + l.val, by omega⟩) = x (ix3 k h l) := by
  pointwise
  rw [dif_pos (by omega)]
  congr 2 <;> (apply Fin.ext; dsimp only; omega)

/-- A head's padding. -/
theorem pad_high (x z : Vec Ideal S256x8x64 .f32) (k : Fin 256) (h : Fin 8) (l : Fin 64) :
    (shapeCast S256x1024 (concatenate S256x8x128 2 [⟨S256x8x64, x⟩, ⟨S256x8x64, z⟩] concatenates_S256x8x64_S256x8x64_S256x8x128_d2)
      shapeCasts_S256x8x128_S256x1024 : Vec Ideal S256x1024 .f32) (ix2 k ⟨h.val * 128 + (64 + l.val), by omega⟩) = z (ix3 k h l) := by
  pointwise
  rw [dif_neg (by omega)]
  congr 2 <;> (apply Fin.ext; dsimp only; omega)

/-- The weight of the keys. -/
theorem entry_wk_low (k : Fin 256) (h : Fin 8) (l : Fin 64) :
    V m c main_v31 (ix2 k ⟨h.val * 128 + l.val, by omega⟩) = m ((c : Thread nD τ).loc main_arg4) (ix2 k ⟨h.val * 128 + l.val, by omega⟩) := by
  unfold V V0 hostOps0
  simp only [List.flatten_cons, List.flatten_nil, List.append_nil, StableHlo.after_cons, StableHlo.after_nil]
  after_results_simp
  refine (kv_left _ _ k h ⟨l.val, by omega⟩).trans ?_
  after_results_simp
  refine (pad_low _ _ k h l).trans ?_
  after_results_simp
  pointwise

/-- The padding of the weight of the keys. -/
theorem entry_wk_high (k : Fin 256) (h : Fin 8) (l : Fin 64) :
    V m c main_v31 (ix2 k ⟨h.val * 128 + (64 + l.val), by omega⟩) = (0 : EReal) := by
  unfold V V0 hostOps0
  simp only [List.flatten_cons, List.flatten_nil, List.append_nil, StableHlo.after_cons, StableHlo.after_nil]
  after_results_simp
  refine (kv_left _ _ k h ⟨64 + l.val, by omega⟩).trans ?_
  after_results_simp
  refine (pad_high _ _ k h l).trans ?_
  after_results_simp
  pointwise

/-- The weight of the values. -/
theorem entry_wv (k : Fin 256) (h : Fin 8) (l : Fin 64) :
    V m c main_v31 (ix2 k ⟨1024 + (h.val * 128 + l.val), by omega⟩) = m ((c : Thread nD τ).loc main_arg4) (ix2 k ⟨h.val * 128 + (64 + l.val), by omega⟩) := by
  unfold V V0 hostOps0
  simp only [List.flatten_cons, List.flatten_nil, List.append_nil, StableHlo.after_cons, StableHlo.after_nil]
  after_results_simp
  refine (kv_right _ _ k h ⟨l.val, by omega⟩).trans ?_
  after_results_simp
  refine (pad_low _ _ k h l).trans ?_
  after_results_simp
  pointwise

/-- The lanes of a table without a rotation. -/
theorem tab_low (x : Vec Ideal S4096x64 .f32) (y z : Vec Ideal S4096x32 .f32) (t : Fin 4096) (l : Fin 64) :
    (concatenate S4096x128 1 [⟨S4096x64, x⟩, ⟨S4096x32, y⟩, ⟨S4096x32, z⟩] concatenates_S4096x64_S4096x32_S4096x32_S4096x128_d1 : Vec Ideal S4096x128 .f32)
      (ix2 t ⟨l.val, by omega⟩) = x (ix2 t l) := by
  pointwise

/-- The rotated lanes of a table. -/
theorem tab_mid (x : Vec Ideal S4096x64 .f32) (y z : Vec Ideal S4096x32 .f32) (t : Fin 4096) (l : Fin 32) :
    (concatenate S4096x128 1 [⟨S4096x64, x⟩, ⟨S4096x32, y⟩, ⟨S4096x32, z⟩] concatenates_S4096x64_S4096x32_S4096x32_S4096x128_d1 : Vec Ideal S4096x128 .f32)
      (ix2 t ⟨64 + l.val, by omega⟩) = y (ix2 t l) := by
  pointwise

/-- A row of factors against a table. -/
theorem spread (g : Vec Ideal S32 .f32) (s : Vec Ideal S4096x32 .f32) (t : Fin 4096) (l : Fin 32) :
    mulf (F := Ideal) (φ := .f32) (broadcastInDim S4096x32 ![0, 1] bcast_S1x32_S4096x32_0_1 (broadcastInDim S1x32 ![1] bcast_S32_S1x32_1 g)) s (ix2 t l)
      = g (ix1 l) * s (ix2 t l) := by
  pointwise

/-- The queries' cosine table without a rotation. -/
theorem entry_cq_low (t : Fin 4096) (l : Fin 64) :
    V m c main_v39 (ix2 t ⟨l.val, by omega⟩) = m ((c : Thread nD τ).loc main_arg5) (ix1 ⟨l.val, by omega⟩) := by
  unfold V V0 hostOps0
  simp only [List.flatten_cons, List.flatten_nil, List.append_nil, StableHlo.after_cons, StableHlo.after_nil]
  after_results_simp
  refine (tab_low _ _ _ t l).trans ?_
  dsimp only [Matrix.cons_val]
  after_results_simp
  pointwise

/-- The queries' sine table without a rotation is zero. -/
theorem entry_sq_low (t : Fin 4096) (l : Fin 64) : V m c main_v50 (ix2 t ⟨l.val, by omega⟩) = (0 : EReal) := by
  unfold V V0 hostOps0
  simp only [List.flatten_cons, List.flatten_nil, List.append_nil, StableHlo.after_cons, StableHlo.after_nil]
  after_results_simp
  refine (tab_low _ _ _ t l).trans ?_
  dsimp only [Matrix.cons_val]
  after_results_simp
  pointwise

/-- The queries' cosine table on the rotated lanes. -/
theorem entry_cq_mid (t : Fin 4096) (l : Fin 32) :
    V m c main_v39 (ix2 t ⟨64 + l.val, by omega⟩)
      = HMul.hMul (α := EReal) (β := EReal) (γ := EReal) (m ((c : Thread nD τ).loc main_arg5) (ix1 ⟨64 + l.val, by omega⟩)) (m ((c : Thread nD τ).loc main_arg7) (ix2 t l)) := by
  unfold V V0 hostOps0
  simp only [List.flatten_cons, List.flatten_nil, List.append_nil, StableHlo.after_cons, StableHlo.after_nil]
  after_results_simp
  refine (tab_mid _ _ _ t l).trans ?_
  dsimp only [Matrix.cons_val]
  after_results_simp
  pointwise

/-- The queries' sine table on the rotated lanes, quarter 0. -/
theorem entry_sq_0 (t : Fin 4096) (j : Fin 8) :
    V m c main_v50 (ix2 t ⟨64 + (0 + j.val), by omega⟩)
      = HMul.hMul (α := EReal) (β := EReal) (γ := EReal) (m ((c : Thread nD τ).loc main_arg5) (ix1 ⟨64 + (8 + j.val), by omega⟩)) (m ((c : Thread nD τ).loc main_arg8) (ix2 t ⟨0 + j.val, by omega⟩)) := by
  unfold V V0 hostOps0
  simp only [List.flatten_cons, List.flatten_nil, List.append_nil, StableHlo.after_cons, StableHlo.after_nil]
  after_results_simp
  refine (tab_mid _ _ _ t ⟨0 + j.val, by omega⟩).trans ?_
  dsimp only [Matrix.cons_val]
  after_results_simp
  refine (spread _ _ t ⟨0 + j.val, by omega⟩).trans ?_
  refine congrArg₂ (HMul.hMul (α := EReal) (β := EReal) (γ := EReal)) ((gparts_0 _ _ (fun e => word_gain e) j).trans ?_) rfl
  pointwise

/-- The queries' sine table on the rotated lanes, quarter 1. -/
theorem entry_sq_1 (t : Fin 4096) (j : Fin 8) :
    V m c main_v50 (ix2 t ⟨64 + (8 + j.val), by omega⟩)
      = HMul.hMul (α := EReal) (β := EReal) (γ := EReal) (m ((c : Thread nD τ).loc main_arg5) (ix1 ⟨64 + (0 + j.val), by omega⟩)) (m ((c : Thread nD τ).loc main_arg8) (ix2 t ⟨8 + j.val, by omega⟩)) := by
  unfold V V0 hostOps0
  simp only [List.flatten_cons, List.flatten_nil, List.append_nil, StableHlo.after_cons, StableHlo.after_nil]
  after_results_simp
  refine (tab_mid _ _ _ t ⟨8 + j.val, by omega⟩).trans ?_
  dsimp only [Matrix.cons_val]
  after_results_simp
  refine (spread _ _ t ⟨8 + j.val, by omega⟩).trans ?_
  refine congrArg₂ (HMul.hMul (α := EReal) (β := EReal) (γ := EReal)) ((gparts_1 _ _ (fun e => word_gain e) j).trans ?_) rfl
  pointwise

/-- The queries' sine table on the rotated lanes, quarter 2. -/
theorem entry_sq_2 (t : Fin 4096) (j : Fin 8) :
    V m c main_v50 (ix2 t ⟨64 + (16 + j.val), by omega⟩)
      = HMul.hMul (α := EReal) (β := EReal) (γ := EReal) (m ((c : Thread nD τ).loc main_arg5) (ix1 ⟨64 + (24 + j.val), by omega⟩)) (m ((c : Thread nD τ).loc main_arg8) (ix2 t ⟨16 + j.val, by omega⟩)) := by
  unfold V V0 hostOps0
  simp only [List.flatten_cons, List.flatten_nil, List.append_nil, StableHlo.after_cons, StableHlo.after_nil]
  after_results_simp
  refine (tab_mid _ _ _ t ⟨16 + j.val, by omega⟩).trans ?_
  dsimp only [Matrix.cons_val]
  after_results_simp
  refine (spread _ _ t ⟨16 + j.val, by omega⟩).trans ?_
  refine congrArg₂ (HMul.hMul (α := EReal) (β := EReal) (γ := EReal)) ((gparts_2 _ _ (fun e => word_gain e) j).trans ?_) rfl
  pointwise

/-- The queries' sine table on the rotated lanes, quarter 3. -/
theorem entry_sq_3 (t : Fin 4096) (j : Fin 8) :
    V m c main_v50 (ix2 t ⟨64 + (24 + j.val), by omega⟩)
      = HMul.hMul (α := EReal) (β := EReal) (γ := EReal) (m ((c : Thread nD τ).loc main_arg5) (ix1 ⟨64 + (16 + j.val), by omega⟩)) (m ((c : Thread nD τ).loc main_arg8) (ix2 t ⟨24 + j.val, by omega⟩)) := by
  unfold V V0 hostOps0
  simp only [List.flatten_cons, List.flatten_nil, List.append_nil, StableHlo.after_cons, StableHlo.after_nil]
  after_results_simp
  refine (tab_mid _ _ _ t ⟨24 + j.val, by omega⟩).trans ?_
  dsimp only [Matrix.cons_val]
  after_results_simp
  refine (spread _ _ t ⟨24 + j.val, by omega⟩).trans ?_
  refine congrArg₂ (HMul.hMul (α := EReal) (β := EReal) (γ := EReal)) ((gparts_3 _ _ (fun e => word_gain e) j).trans ?_) rfl
  pointwise

/-- The keys' cosine table without a rotation. -/
theorem entry_ck_low (t : Fin 4096) (l : Fin 64) :
    V m c main_v58 (ix2 t ⟨l.val, by omega⟩) = m ((c : Thread nD τ).loc main_arg6) (ix1 ⟨l.val, by omega⟩) := by
  unfold V V0 hostOps0
  simp only [List.flatten_cons, List.flatten_nil, List.append_nil, StableHlo.after_cons, StableHlo.after_nil]
  after_results_simp
  refine (tab_low _ _ _ t l).trans ?_
  dsimp only [Matrix.cons_val]
  after_results_simp
  pointwise

/-- The keys' sine table without a rotation is zero. -/
theorem entry_sk_low (t : Fin 4096) (l : Fin 64) : V m c main_v69 (ix2 t ⟨l.val, by omega⟩) = (0 : EReal) := by
  unfold V V0 hostOps0
  simp only [List.flatten_cons, List.flatten_nil, List.append_nil, StableHlo.after_cons, StableHlo.after_nil]
  after_results_simp
  refine (tab_low _ _ _ t l).trans ?_
  dsimp only [Matrix.cons_val]
  after_results_simp
  pointwise

/-- The keys' cosine table on the rotated lanes. -/
theorem entry_ck_mid (t : Fin 4096) (l : Fin 32) :
    V m c main_v58 (ix2 t ⟨64 + l.val, by omega⟩)
      = HMul.hMul (α := EReal) (β := EReal) (γ := EReal) (m ((c : Thread nD τ).loc main_arg6) (ix1 ⟨64 + l.val, by omega⟩)) (m ((c : Thread nD τ).loc main_arg7) (ix2 t l)) := by
  unfold V V0 hostOps0
  simp only [List.flatten_cons, List.flatten_nil, List.append_nil, StableHlo.after_cons, StableHlo.after_nil]
  after_results_simp
  refine (tab_mid _ _ _ t l).trans ?_
  dsimp only [Matrix.cons_val]
  after_results_simp
  pointwise

/-- The keys' sine table on the rotated lanes, quarter 0. -/
theorem entry_sk_0 (t : Fin 4096) (j : Fin 8) :
    V m c main_v69 (ix2 t ⟨64 + (0 + j.val), by omega⟩)
      = HMul.hMul (α := EReal) (β := EReal) (γ := EReal) (m ((c : Thread nD τ).loc main_arg6) (ix1 ⟨64 + (8 + j.val), by omega⟩)) (m ((c : Thread nD τ).loc main_arg8) (ix2 t ⟨0 + j.val, by omega⟩)) := by
  unfold V V0 hostOps0
  simp only [List.flatten_cons, List.flatten_nil, List.append_nil, StableHlo.after_cons, StableHlo.after_nil]
  after_results_simp
  refine (tab_mid _ _ _ t ⟨0 + j.val, by omega⟩).trans ?_
  dsimp only [Matrix.cons_val]
  after_results_simp
  refine (spread _ _ t ⟨0 + j.val, by omega⟩).trans ?_
  refine congrArg₂ (HMul.hMul (α := EReal) (β := EReal) (γ := EReal)) ((gparts_0 _ _ (fun e => word_gain e) j).trans ?_) rfl
  pointwise

/-- The keys' sine table on the rotated lanes, quarter 1. -/
theorem entry_sk_1 (t : Fin 4096) (j : Fin 8) :
    V m c main_v69 (ix2 t ⟨64 + (8 + j.val), by omega⟩)
      = HMul.hMul (α := EReal) (β := EReal) (γ := EReal) (m ((c : Thread nD τ).loc main_arg6) (ix1 ⟨64 + (0 + j.val), by omega⟩)) (m ((c : Thread nD τ).loc main_arg8) (ix2 t ⟨8 + j.val, by omega⟩)) := by
  unfold V V0 hostOps0
  simp only [List.flatten_cons, List.flatten_nil, List.append_nil, StableHlo.after_cons, StableHlo.after_nil]
  after_results_simp
  refine (tab_mid _ _ _ t ⟨8 + j.val, by omega⟩).trans ?_
  dsimp only [Matrix.cons_val]
  after_results_simp
  refine (spread _ _ t ⟨8 + j.val, by omega⟩).trans ?_
  refine congrArg₂ (HMul.hMul (α := EReal) (β := EReal) (γ := EReal)) ((gparts_1 _ _ (fun e => word_gain e) j).trans ?_) rfl
  pointwise

/-- The keys' sine table on the rotated lanes, quarter 2. -/
theorem entry_sk_2 (t : Fin 4096) (j : Fin 8) :
    V m c main_v69 (ix2 t ⟨64 + (16 + j.val), by omega⟩)
      = HMul.hMul (α := EReal) (β := EReal) (γ := EReal) (m ((c : Thread nD τ).loc main_arg6) (ix1 ⟨64 + (24 + j.val), by omega⟩)) (m ((c : Thread nD τ).loc main_arg8) (ix2 t ⟨16 + j.val, by omega⟩)) := by
  unfold V V0 hostOps0
  simp only [List.flatten_cons, List.flatten_nil, List.append_nil, StableHlo.after_cons, StableHlo.after_nil]
  after_results_simp
  refine (tab_mid _ _ _ t ⟨16 + j.val, by omega⟩).trans ?_
  dsimp only [Matrix.cons_val]
  after_results_simp
  refine (spread _ _ t ⟨16 + j.val, by omega⟩).trans ?_
  refine congrArg₂ (HMul.hMul (α := EReal) (β := EReal) (γ := EReal)) ((gparts_2 _ _ (fun e => word_gain e) j).trans ?_) rfl
  pointwise

/-- The keys' sine table on the rotated lanes, quarter 3. -/
theorem entry_sk_3 (t : Fin 4096) (j : Fin 8) :
    V m c main_v69 (ix2 t ⟨64 + (24 + j.val), by omega⟩)
      = HMul.hMul (α := EReal) (β := EReal) (γ := EReal) (m ((c : Thread nD τ).loc main_arg6) (ix1 ⟨64 + (16 + j.val), by omega⟩)) (m ((c : Thread nD τ).loc main_arg8) (ix2 t ⟨24 + j.val, by omega⟩)) := by
  unfold V V0 hostOps0
  simp only [List.flatten_cons, List.flatten_nil, List.append_nil, StableHlo.after_cons, StableHlo.after_nil]
  after_results_simp
  refine (tab_mid _ _ _ t ⟨24 + j.val, by omega⟩).trans ?_
  dsimp only [Matrix.cons_val]
  after_results_simp
  refine (spread _ _ t ⟨24 + j.val, by omega⟩).trans ?_
  refine congrArg₂ (HMul.hMul (α := EReal) (β := EReal) (γ := EReal)) ((gparts_3 _ _ (fun e => word_gain e) j).trans ?_) rfl
  pointwise

end Cert.Proof.MlaPrep
-- ==== Proof.MlaPrep.Ref.lean ====
/- The reference of the preparation of the attention's operands, element by element. -/
module

public import proofs.«01_k».proof.Proof.Gen.Reference11Ideal.Read
public import Idealize.ShloMosaic.Lib.Pointwise

@[expose] public section

set_option maxRecDepth 16384

noncomputable section

namespace Cert.Proof.MlaPrep

open Idealize.ShloMosaic Cert.Reference11Ideal Cert.Reference11Ideal.Read

/-- One over the root of a head row's mean square plus the guard. -/
def headRoot (x : Fin 96 → EReal) : EReal :=
  Ideal.rsqrt (Ideal.div (∑ j, x j * x j) (Ideal.ofBits .f32 0x42C00000#32) + Ideal.ofBits .f32 0x358637BD#32)

variable (u : Vec Ideal S8x4096x672 .f32) (qn : Vec Ideal S384 .f32) (wq : Vec Ideal S384x768 .f32) (kvn : Vec Ideal S256 .f32)
  (wkv : Vec Ideal S256x1024 .f32) (qg kg : Vec Ideal S96 .f32) (cs sn : Vec Ideal S4096x32 .f32)

/-- A normed row of the compressed queries. -/
def rowQ (b : Fin 8) (t : Fin 4096) (k : Fin 384) : EReal :=
  u (ix3 b t ⟨k.val, by omega⟩) * Ideal.rsqrt (Ideal.div (∑ j : Fin 384, u (ix3 b t ⟨j.val, by omega⟩) * u (ix3 b t ⟨j.val, by omega⟩))
      (Ideal.ofBits .f32 0x43C00000#32) + Ideal.ofBits .f32 0x358637BD#32) * qn (ix1 k)

/-- A normed row of the compressed keys and values. -/
def rowKV (b : Fin 8) (t : Fin 4096) (k : Fin 256) : EReal :=
  u (ix3 b t ⟨384 + k.val, by omega⟩) * Ideal.rsqrt (Ideal.div (∑ j : Fin 256, u (ix3 b t ⟨384 + j.val, by omega⟩) * u (ix3 b t ⟨384 + j.val, by omega⟩))
      (Ideal.ofBits .f32 0x43800000#32) + Ideal.ofBits .f32 0x358637BD#32) * kvn (ix1 k)

/-- A head's queries before their norm. -/
theorem ref_q (b : Fin 8) (t : Fin 4096) (h : Fin 8) (d : Fin 96) :
    val_main_v17 (F := Ideal) u qn wq (ix4 b t h d) = ∑ k : Fin 384, rowQ u qn b t k * wq (ix2 k ⟨h.val * 96 + d.val, by omega⟩) := by
  pointwise [val_main_v17, val_main_v16, val_main_v15, val_main_v14, val_main_v13, val_main_v12, val_main_v11, val_main_v10, val_main_v9,
    val_main_v8, val_main_v7, val_main_v6, val_main_v5, val_main_v4, val_main_v3, val_main_v0, val_main_cst, val_main_cst_0, val_main_cst_1]
  rfl

/-- A head's keys and values before their norm. -/
theorem ref_kv (b : Fin 8) (t : Fin 4096) (h : Fin 8) (d : Fin 128) :
    val_main_v32 (F := Ideal) u kvn wkv (ix4 b t h d) = ∑ k : Fin 256, rowKV u kvn b t k * wkv (ix2 k ⟨h.val * 128 + d.val, by omega⟩) := by
  pointwise [val_main_v32, val_main_v31, val_main_v30, val_main_v29, val_main_v28, val_main_v27, val_main_v26, val_main_v25, val_main_v24,
    val_main_v23, val_main_v22, val_main_v21, val_main_v20, val_main_v19, val_main_v18, val_main_v1, val_main_cst_2, val_main_cst_3, val_main_cst_4]
  rfl

/-- The first lanes of a head's key. -/
theorem ref_k_low (b : Fin 8) (t : Fin 4096) (h : Fin 8) (d : Fin 64) :
    val_main_v37 (F := Ideal) u kvn wkv (ix4 b t h ⟨d.val, by omega⟩) = ∑ k : Fin 256, rowKV u kvn b t k * wkv (ix2 k ⟨h.val * 128 + d.val, by omega⟩) := by
  refine Eq.trans ?_ (ref_kv u kvn wkv b t h ⟨d.val, by omega⟩)
  pointwise [val_main_v37, val_main_v33]

/-- The other lanes of a head's key, the same for every head. -/
theorem ref_k_high (b : Fin 8) (t : Fin 4096) (h : Fin 8) (d : Fin 32) :
    val_main_v37 (F := Ideal) u kvn wkv (ix4 b t h ⟨64 + d.val, by omega⟩) = u (ix3 b t ⟨640 + d.val, by omega⟩) := by
  pointwise [val_main_v37, val_main_v36, val_main_v35, val_main_v2]

/-- The third result. -/
theorem ref_v (b : Fin 8) (h : Fin 8) (t : Fin 4096) (d : Fin 64) :
    val_main_v118 (F := Ideal) u kvn wkv (ix4 b h t d) = ∑ k : Fin 256, rowKV u kvn b t k * wkv (ix2 k ⟨h.val * 128 + (64 + d.val), by omega⟩) := by
  refine Eq.trans ?_ (ref_kv u kvn wkv b t h ⟨64 + d.val, by omega⟩)
  pointwise [val_main_v118, val_main_v117, val_main_v34]

/-- A head's normed query. -/
theorem ref_qn (b : Fin 8) (t : Fin 4096) (h : Fin 8) (d : Fin 96) :
    val_main_v50 (F := Ideal) u qn wq qg (ix4 b t h d)
      = val_main_v17 (F := Ideal) u qn wq (ix4 b t h d) * headRoot (fun j => val_main_v17 (F := Ideal) u qn wq (ix4 b t h j)) * qg (ix1 d) := by
  pointwise [val_main_v50, val_main_v49, val_main_v48, val_main_v47, val_main_v46, val_main_v45, val_main_v44, val_main_v43, val_main_v42,
    val_main_v41, val_main_v40, val_main_v39, val_main_v38, val_main_cst_5, val_main_cst_6, val_main_cst_7]
  rfl

/-- A head's normed key. -/
theorem ref_kn (b : Fin 8) (t : Fin 4096) (h : Fin 8) (d : Fin 96) :
    val_main_v63 (F := Ideal) u kvn wkv kg (ix4 b t h d)
      = val_main_v37 (F := Ideal) u kvn wkv (ix4 b t h d) * headRoot (fun j => val_main_v37 (F := Ideal) u kvn wkv (ix4 b t h j)) * kg (ix1 d) := by
  pointwise [val_main_v63, val_main_v62, val_main_v61, val_main_v60, val_main_v59, val_main_v58, val_main_v57, val_main_v56, val_main_v55,
    val_main_v54, val_main_v53, val_main_v52, val_main_v51, val_main_cst_8, val_main_cst_9, val_main_cst_10]
  rfl

/-- The queries' lanes without a rotation. -/
theorem rope_q_low (b : Fin 8) (t : Fin 4096) (h : Fin 8) (d : Fin 64) :
    val_main_v86 (F := Ideal) u qn wq qg cs sn (ix4 b t h ⟨d.val, by omega⟩) = val_main_v50 (F := Ideal) u qn wq qg (ix4 b t h ⟨d.val, by omega⟩) := by
  pointwise [val_main_v86, val_main_v64]

/-- The queries' rotated lanes, quarter 0. -/
theorem rope_q_0 (b : Fin 8) (t : Fin 4096) (h : Fin 8) (j : Fin 8) :
    val_main_v86 (F := Ideal) u qn wq qg cs sn (ix4 b t h ⟨64 + (0 + j.val), by omega⟩)
      = val_main_v50 (F := Ideal) u qn wq qg (ix4 b t h ⟨64 + (0 + j.val), by omega⟩) * cs (ix2 t ⟨0 + j.val, by omega⟩)
        + -val_main_v50 (F := Ideal) u qn wq qg (ix4 b t h ⟨64 + (8 + j.val), by omega⟩) * sn (ix2 t ⟨0 + j.val, by omega⟩) := by
  pointwise [val_main_v86, val_main_v85, val_main_v84, val_main_v83, val_main_v82, val_main_v81, val_main_v80, val_main_v79, val_main_v78, val_main_v77, val_main_v76, val_main_v75, val_main_v74, val_main_v73, val_main_v72, val_main_v71, val_main_v70, val_main_v69, val_main_v68, val_main_v67, val_main_v66, val_main_v65, val_main_v64]
  rw [dif_pos (show j.val < 16 by omega)]

/-- The queries' rotated lanes, quarter 1. -/
theorem rope_q_1 (b : Fin 8) (t : Fin 4096) (h : Fin 8) (j : Fin 8) :
    val_main_v86 (F := Ideal) u qn wq qg cs sn (ix4 b t h ⟨64 + (8 + j.val), by omega⟩)
      = val_main_v50 (F := Ideal) u qn wq qg (ix4 b t h ⟨64 + (8 + j.val), by omega⟩) * cs (ix2 t ⟨8 + j.val, by omega⟩)
        + val_main_v50 (F := Ideal) u qn wq qg (ix4 b t h ⟨64 + (0 + j.val), by omega⟩) * sn (ix2 t ⟨8 + j.val, by omega⟩) := by
  pointwise [val_main_v86, val_main_v85, val_main_v84, val_main_v83, val_main_v82, val_main_v81, val_main_v80, val_main_v79, val_main_v78, val_main_v77, val_main_v76, val_main_v75, val_main_v74, val_main_v73, val_main_v72, val_main_v71, val_main_v70, val_main_v69, val_main_v68, val_main_v67, val_main_v66, val_main_v65, val_main_v64]
  rw [dif_pos (show 8 + j.val < 16 by omega)]

/-- The queries' rotated lanes, quarter 2. -/
theorem rope_q_2 (b : Fin 8) (t : Fin 4096) (h : Fin 8) (j : Fin 8) :
    val_main_v86 (F := Ideal) u qn wq qg cs sn (ix4 b t h ⟨64 + (16 + j.val), by omega⟩)
      = val_main_v50 (F := Ideal) u qn wq qg (ix4 b t h ⟨64 + (16 + j.val), by omega⟩) * cs (ix2 t ⟨16 + j.val, by omega⟩)
        + -val_main_v50 (F := Ideal) u qn wq qg (ix4 b t h ⟨64 + (24 + j.val), by omega⟩) * sn (ix2 t ⟨16 + j.val, by omega⟩) := by
  pointwise [val_main_v86, val_main_v85, val_main_v84, val_main_v83, val_main_v82, val_main_v81, val_main_v80, val_main_v79, val_main_v78, val_main_v77, val_main_v76, val_main_v75, val_main_v74, val_main_v73, val_main_v72, val_main_v71, val_main_v70, val_main_v69, val_main_v68, val_main_v67, val_main_v66, val_main_v65, val_main_v64]
  simp only [show 16 + (8 + j.val) = 24 + j.val by omega]

/-- The queries' rotated lanes, quarter 3. -/
theorem rope_q_3 (b : Fin 8) (t : Fin 4096) (h : Fin 8) (j : Fin 8) :
    val_main_v86 (F := Ideal) u qn wq qg cs sn (ix4 b t h ⟨64 + (24 + j.val), by omega⟩)
      = val_main_v50 (F := Ideal) u qn wq qg (ix4 b t h ⟨64 + (24 + j.val), by omega⟩) * cs (ix2 t ⟨24 + j.val, by omega⟩)
        + val_main_v50 (F := Ideal) u qn wq qg (ix4 b t h ⟨64 + (16 + j.val), by omega⟩) * sn (ix2 t ⟨24 + j.val, by omega⟩) := by
  pointwise [val_main_v86, val_main_v85, val_main_v84, val_main_v83, val_main_v82, val_main_v81, val_main_v80, val_main_v79, val_main_v78, val_main_v77, val_main_v76, val_main_v75, val_main_v74, val_main_v73, val_main_v72, val_main_v71, val_main_v70, val_main_v69, val_main_v68, val_main_v67, val_main_v66, val_main_v65, val_main_v64]
  rw [dif_neg (show ¬ 24 + j.val < 16 by omega), dif_neg (show ¬ 24 + j.val - 16 < 8 by omega)]
  simp only [show 16 + (24 + j.val - 16 - 8) = 16 + j.val by omega]

/-- The keys' lanes without a rotation. -/
theorem rope_k_low (b : Fin 8) (t : Fin 4096) (h : Fin 8) (d : Fin 64) :
    val_main_v109 (F := Ideal) u kvn wkv kg cs sn (ix4 b t h ⟨d.val, by omega⟩) = val_main_v63 (F := Ideal) u kvn wkv kg (ix4 b t h ⟨d.val, by omega⟩) := by
  pointwise [val_main_v109, val_main_v87]

/-- The keys' rotated lanes, quarter 0. -/
theorem rope_k_0 (b : Fin 8) (t : Fin 4096) (h : Fin 8) (j : Fin 8) :
    val_main_v109 (F := Ideal) u kvn wkv kg cs sn (ix4 b t h ⟨64 + (0 + j.val), by omega⟩)
      = val_main_v63 (F := Ideal) u kvn wkv kg (ix4 b t h ⟨64 + (0 + j.val), by omega⟩) * cs (ix2 t ⟨0 + j.val, by omega⟩)
        + -val_main_v63 (F := Ideal) u kvn wkv kg (ix4 b t h ⟨64 + (8 + j.val), by omega⟩) * sn (ix2 t ⟨0 + j.val, by omega⟩) := by
  pointwise [val_main_v109, val_main_v108, val_main_v107, val_main_v106, val_main_v105, val_main_v104, val_main_v103, val_main_v102, val_main_v101, val_main_v100, val_main_v99, val_main_v98, val_main_v97, val_main_v96, val_main_v95, val_main_v94, val_main_v93, val_main_v92, val_main_v91, val_main_v90, val_main_v89, val_main_v88, val_main_v87]
  rw [dif_pos (show j.val < 16 by omega)]

/-- The keys' rotated lanes, quarter 1. -/
theorem rope_k_1 (b : Fin 8) (t : Fin 4096) (h : Fin 8) (j : Fin 8) :
    val_main_v109 (F := Ideal) u kvn wkv kg cs sn (ix4 b t h ⟨64 + (8 + j.val), by omega⟩)
      = val_main_v63 (F := Ideal) u kvn wkv kg (ix4 b t h ⟨64 + (8 + j.val), by omega⟩) * cs (ix2 t ⟨8 + j.val, by omega⟩)
        + val_main_v63 (F := Ideal) u kvn wkv kg (ix4 b t h ⟨64 + (0 + j.val), by omega⟩) * sn (ix2 t ⟨8 + j.val, by omega⟩) := by
  pointwise [val_main_v109, val_main_v108, val_main_v107, val_main_v106, val_main_v105, val_main_v104, val_main_v103, val_main_v102, val_main_v101, val_main_v100, val_main_v99, val_main_v98, val_main_v97, val_main_v96, val_main_v95, val_main_v94, val_main_v93, val_main_v92, val_main_v91, val_main_v90, val_main_v89, val_main_v88, val_main_v87]
  rw [dif_pos (show 8 + j.val < 16 by omega)]

/-- The keys' rotated lanes, quarter 2. -/
theorem rope_k_2 (b : Fin 8) (t : Fin 4096) (h : Fin 8) (j : Fin 8) :
    val_main_v109 (F := Ideal) u kvn wkv kg cs sn (ix4 b t h ⟨64 + (16 + j.val), by omega⟩)
      = val_main_v63 (F := Ideal) u kvn wkv kg (ix4 b t h ⟨64 + (16 + j.val), by omega⟩) * cs (ix2 t ⟨16 + j.val, by omega⟩)
        + -val_main_v63 (F := Ideal) u kvn wkv kg (ix4 b t h ⟨64 + (24 + j.val), by omega⟩) * sn (ix2 t ⟨16 + j.val, by omega⟩) := by
  pointwise [val_main_v109, val_main_v108, val_main_v107, val_main_v106, val_main_v105, val_main_v104, val_main_v103, val_main_v102, val_main_v101, val_main_v100, val_main_v99, val_main_v98, val_main_v97, val_main_v96, val_main_v95, val_main_v94, val_main_v93, val_main_v92, val_main_v91, val_main_v90, val_main_v89, val_main_v88, val_main_v87]
  simp only [show 16 + (8 + j.val) = 24 + j.val by omega]

/-- The keys' rotated lanes, quarter 3. -/
theorem rope_k_3 (b : Fin 8) (t : Fin 4096) (h : Fin 8) (j : Fin 8) :
    val_main_v109 (F := Ideal) u kvn wkv kg cs sn (ix4 b t h ⟨64 + (24 + j.val), by omega⟩)
      = val_main_v63 (F := Ideal) u kvn wkv kg (ix4 b t h ⟨64 + (24 + j.val), by omega⟩) * cs (ix2 t ⟨24 + j.val, by omega⟩)
        + val_main_v63 (F := Ideal) u kvn wkv kg (ix4 b t h ⟨64 + (16 + j.val), by omega⟩) * sn (ix2 t ⟨24 + j.val, by omega⟩) := by
  pointwise [val_main_v109, val_main_v108, val_main_v107, val_main_v106, val_main_v105, val_main_v104, val_main_v103, val_main_v102, val_main_v101, val_main_v100, val_main_v99, val_main_v98, val_main_v97, val_main_v96, val_main_v95, val_main_v94, val_main_v93, val_main_v92, val_main_v91, val_main_v90, val_main_v89, val_main_v88, val_main_v87]
  rw [dif_neg (show ¬ 24 + j.val < 16 by omega), dif_neg (show ¬ 24 + j.val - 16 < 8 by omega)]
  simp only [show 16 + (24 + j.val - 16 - 8) = 16 + j.val by omega]

/-- The first result is the turned queries over the root of the number of lanes. -/
theorem ref_query (b : Fin 8) (h : Fin 8) (t : Fin 4096) (d : Fin 96) :
    val_main_v114 (F := Ideal) u qn wq qg cs sn (ix4 b h t d)
      = val_main_v86 (F := Ideal) u qn wq qg cs sn (ix4 b t h d) * Ideal.rsqrt (Ideal.ofBits .f32 0x42C00000#32) := by
  pointwise [val_main_v114, val_main_v113, val_main_v112, val_main_v111, val_main_v110, val_main_cst_11]

/-- The second result is the turned keys. -/
theorem ref_key (b : Fin 8) (h : Fin 8) (t : Fin 4096) (d : Fin 96) :
    val_main_v116 (F := Ideal) u kvn wkv kg cs sn (ix4 b h t d) = val_main_v109 (F := Ideal) u kvn wkv kg cs sn (ix4 b t h d) := by
  pointwise [val_main_v116, val_main_v115]

end Cert.Proof.MlaPrep
-- ==== Proof.MlaPrep.Value.lean ====
/- The preparation of the attention's operands as a whole: each point of the grid writes one block of rows of every head, and
   the three arrays the run leaves, cut to the lanes in use, are the reference's. -/
module

public import proofs.«01_k».proof.Proof.MlaPrep.Block
public import proofs.«01_k».proof.Proof.MlaPrep.Entry
public import proofs.«01_k».proof.Proof.MlaPrep.Ref
public import Idealize.ShloMosaic.Lib.Pipeline.ValueKit
public import Idealize.ShloMosaic.Lib.Pipeline.ReadBack
public import Idealize.ShloMosaic.Lib.Claim

@[expose] public section

set_option maxRecDepth 16384

noncomputable section

namespace Cert.Proof.MlaPrep

open Idealize.ShloMosaic Idealize.ShloMosaic.TcCoe Idealize.SL.Sem
open Cert.Kernel11Ideal Cert.Kernel11Ideal.Gen

variable (m : (ℓ : Loc nD τ sig) → Buf (Elt Ideal) ℓ) (ρ : Dev nD → PrngReg) (c : Dev nD)

/-- A head's query row before its norm, over all its lanes. -/
def queryRow (b : Fin 8) (t : Fin 4096) (h : Fin 8) (l : Fin 128) : EReal :=
  ∑ k : Fin 384, lowRow (fun k : Fin 384 => V m c main_v9 (ix3 b t ⟨k.val, by omega⟩)) (Ideal.ofBits .f32 0x43C00000#32) (fun k => V m c main_v70 (ix2 0 k)) k
    * V m c main_v29 (ix2 k ⟨h.val * 128 + l.val, by omega⟩)

/-- One lane of the keys and values before their norm. -/
def kvLane (b : Fin 8) (t : Fin 4096) (j : Fin 2048) : EReal :=
  ∑ k : Fin 256, lowRow (fun k : Fin 256 => V m c main_v9 (ix3 b t ⟨384 + k.val, by omega⟩)) (Ideal.ofBits .f32 0x43800000#32) (fun k => V m c main_v71 (ix2 0 k)) k
    * V m c main_v31 (ix2 k j)

/-- A head's key row before its norm, over all its lanes. -/
def keyRow (b : Fin 8) (t : Fin 4096) (h : Fin 8) (l : Fin 128) : EReal :=
  kvLane m c b t ⟨h.val * 128 + l.val, by omega⟩ + V m c main_v9 (ix3 b t ⟨640 + (l.val + 128 - 64) % 128, by omega⟩)

/-- The queries with all their lanes. -/
def wideQ : Vec Ideal S8x8x4096x128 .bf16 := fun i =>
  turned (queryRow m c (i 0) (i 2) (i 1)) (fun l => V m c main_v39 (ix2 (i 2) l)) (fun l => V m c main_v50 (ix2 (i 2) l)) (i 3)
    * (Ideal.rsqrt (meanSq (queryRow m c (i 0) (i 2) (i 1))) * (((Real.sqrt 96)⁻¹ : ℝ) : EReal))

/-- The keys with all their lanes. -/
def wideK : Vec Ideal S8x8x4096x128 .bf16 := fun i =>
  turned (keyRow m c (i 0) (i 2) (i 1)) (fun l => V m c main_v58 (ix2 (i 2) l)) (fun l => V m c main_v69 (ix2 (i 2) l)) (i 3)
    * Ideal.rsqrt (meanSq (keyRow m c (i 0) (i 2) (i 1)))

/-- The values with all their lanes. -/
def wideV : Vec Ideal S8x8x4096x128 .bf16 := fun i =>
  kvLane m c (i 0) (i 2) ⟨1024 + (i 1).val * 128 + (i 3).val, by have h1 := (i 1).isLt; have h3 := (i 3).isLt; simp only [Matrix.cons_val] at h1 h3; omega⟩
    + k0_pay10 (F := Ideal) (ix2 0 (i 3))

/-- Where each window's block lies at a point. -/
theorem places : ∀ t : Fin grid0.N,
    win0_0.index t = ![t.val / 16, t.val % 16, 0] ∧ win0_1.index t = ![0, 0] ∧ win0_2.index t = ![0, 0] ∧ win0_3.index t = ![0, 0]
    ∧ win0_4.index t = ![0, 0] ∧ win0_5.index t = ![t.val % 16, 0] ∧ win0_6.index t = ![t.val % 16, 0] ∧ win0_7.index t = ![t.val % 16, 0]
    ∧ win0_8.index t = ![t.val % 16, 0] ∧ win0_9.index t = ![t.val / 16, 0, t.val % 16, 0] ∧ win0_10.index t = ![t.val / 16, 0, t.val % 16, 0]
    ∧ win0_11.index t = ![t.val / 16, 0, t.val % 16, 0] := by decide +kernel

section Point

variable (t : Fin cfg0.N) (r : Fin 256) (hb : t.val / 16 < 8) (hr : t.val % 16 * 256 + r.val < 4096)

/-- The compressed rows of a point. -/
theorem point_u (j : Fin 768) : iblk m c 0 t (ix3 0 r j) = V m c main_v9 (ix3 (⟨t.val / 16, hb⟩ : Fin 8) (⟨t.val % 16 * 256 + r.val, hr⟩ : Fin 4096) j) := by
  obtain ⟨p0, -⟩ := places t
  blk_ext [iblk, p0]

/-- The queries' gain. -/
theorem point_qn (k : Fin 384) : iblk m c 1 t (ix2 0 k) = V m c main_v70 (ix2 0 k) := by
  obtain ⟨-, p, -⟩ := places t
  blk_ext [iblk, p]

/-- The keys' and values' gain. -/
theorem point_kvn (k : Fin 256) : iblk m c 2 t (ix2 0 k) = V m c main_v71 (ix2 0 k) := by
  obtain ⟨-, -, p, -⟩ := places t
  blk_ext [iblk, p]

/-- The queries' weight. -/
theorem point_wq (k : Fin 384) (j : Fin 1024) : iblk m c 3 t (ix2 k j) = V m c main_v29 (ix2 k j) := by
  obtain ⟨-, -, -, p, -⟩ := places t
  blk_ext [iblk, p]

/-- The keys' and values' weight. -/
theorem point_wkv (k : Fin 256) (j : Fin 2048) : iblk m c 4 t (ix2 k j) = V m c main_v31 (ix2 k j) := by
  obtain ⟨-, -, -, -, p, -⟩ := places t
  blk_ext [iblk, p]

/-- The queries' cosine table. -/
theorem point_cq (l : Fin 128) : iblk m c 5 t (ix2 r l) = V m c main_v39 (ix2 (⟨t.val % 16 * 256 + r.val, hr⟩ : Fin 4096) l) := by
  obtain ⟨-, -, -, -, -, p, -⟩ := places t
  blk_ext [iblk, p]

/-- The queries' sine table. -/
theorem point_sq (l : Fin 128) : iblk m c 6 t (ix2 r l) = V m c main_v50 (ix2 (⟨t.val % 16 * 256 + r.val, hr⟩ : Fin 4096) l) := by
  obtain ⟨-, -, -, -, -, -, p, -⟩ := places t
  blk_ext [iblk, p]

/-- The keys' cosine table. -/
theorem point_ck (l : Fin 128) : iblk m c 7 t (ix2 r l) = V m c main_v58 (ix2 (⟨t.val % 16 * 256 + r.val, hr⟩ : Fin 4096) l) := by
  obtain ⟨-, -, -, -, -, -, -, p, -⟩ := places t
  blk_ext [iblk, p]

/-- The keys' sine table. -/
theorem point_sk (l : Fin 128) : iblk m c 8 t (ix2 r l) = V m c main_v69 (ix2 (⟨t.val % 16 * 256 + r.val, hr⟩ : Fin 4096) l) := by
  obtain ⟨-, -, -, -, -, -, -, -, p, -⟩ := places t
  blk_ext [iblk, p]

/-- A point's query lane before the norm. -/
theorem point_query (h : Fin 8) (l : Fin 128) :
    k0_pay57 (F := Ideal) (iblk m c 0 t) (iblk m c 1 t) (iblk m c 2 t) (iblk m c 3 t) (iblk m c 4 t) (iblk m c 5 t) (iblk m c 6 t) (iblk m c 7 t) (iblk m c 8 t)
      (ix2 r ⟨h.val * 128 + l.val, by omega⟩) = queryRow m c ⟨t.val / 16, hb⟩ ⟨t.val % 16 * 256 + r.val, hr⟩ h l := by
  unfold k0_pay57
  rw [ld_rows, ld_qn, ld_wq, qa_apply]
  simp only [fun j => point_u m c t r hb hr j, fun k => point_qn m c t k, fun k j => point_wq m c t k j]
  rfl

/-- A point's lane of keys and values before the norm. -/
theorem point_kv (j : Fin 2048) :
    k0_pay58 (F := Ideal) (iblk m c 0 t) (iblk m c 1 t) (iblk m c 2 t) (iblk m c 3 t) (iblk m c 4 t) (iblk m c 5 t) (iblk m c 6 t) (iblk m c 7 t) (iblk m c 8 t)
      (ix2 r j) = kvLane m c ⟨t.val / 16, hb⟩ ⟨t.val % 16 * 256 + r.val, hr⟩ j := by
  unfold k0_pay58
  rw [ld_rows, ld_kvn, ld_wkv, kva_apply]
  simp only [fun j => point_u m c t r hb hr j, fun k => point_kvn m c t k, fun k j => point_wkv m c t k j]
  rfl

/-- A point's shared lanes. -/
theorem point_shared (l : Fin 128) :
    k0_pay59 (F := Ideal) (iblk m c 0 t) (iblk m c 1 t) (iblk m c 2 t) (iblk m c 3 t) (iblk m c 4 t) (iblk m c 5 t) (iblk m c 6 t) (iblk m c 7 t) (iblk m c 8 t)
      (ix2 r l) = V m c main_v9 (ix3 (⟨t.val / 16, hb⟩ : Fin 8) (⟨t.val % 16 * 256 + r.val, hr⟩ : Fin 4096) ⟨640 + (l.val + 128 - 64) % 128, by omega⟩) := by
  unfold k0_pay59
  rw [ld_rows, shared_apply, point_u m c t r hb hr]

/-- A point's query rows. -/
theorem point_out_query (h : Fin 8) (d : Fin 128) :
    out0_9 (F := Ideal) (iblk m c 0 t) (iblk m c 1 t) (iblk m c 2 t) (iblk m c 3 t) (iblk m c 4 t) (iblk m c 5 t) (iblk m c 6 t) (iblk m c 7 t) (iblk m c 8 t)
      (ix4 0 h r d) = wideQ m c (ix4 (⟨t.val / 16, hb⟩ : Fin 8) h (⟨t.val % 16 * 256 + r.val, hr⟩ : Fin 4096) d) := by
  refine (out_query _ _ _ _ _ _ _ _ _ h r d).trans ?_
  simp only [fun l => point_query m c t r hb hr h l, fun l => point_cq m c t r hr l, fun l => point_sq m c t r hr l]
  rfl

/-- A point's key rows. -/
theorem point_out_key (h : Fin 8) (d : Fin 128) :
    out0_10 (F := Ideal) (iblk m c 0 t) (iblk m c 1 t) (iblk m c 2 t) (iblk m c 3 t) (iblk m c 4 t) (iblk m c 5 t) (iblk m c 6 t) (iblk m c 7 t) (iblk m c 8 t)
      (ix4 0 h r d) = wideK m c (ix4 (⟨t.val / 16, hb⟩ : Fin 8) h (⟨t.val % 16 * 256 + r.val, hr⟩ : Fin 4096) d) := by
  refine (out_key _ _ _ _ _ _ _ _ _ h r d).trans ?_
  simp only [fun j => point_kv m c t r hb hr j, fun l => point_shared m c t r hb hr l, fun l => point_ck m c t r hr l, fun l => point_sk m c t r hr l]
  rfl

/-- A point's value rows. -/
theorem point_out_value (h : Fin 8) (d : Fin 128) :
    out0_11 (F := Ideal) (iblk m c 0 t) (iblk m c 1 t) (iblk m c 2 t) (iblk m c 3 t) (iblk m c 4 t) (iblk m c 5 t) (iblk m c 6 t) (iblk m c 7 t) (iblk m c 8 t)
      (ix4 0 h r d) = wideV m c (ix4 (⟨t.val / 16, hb⟩ : Fin 8) h (⟨t.val % 16 * 256 + r.val, hr⟩ : Fin 4096) d) := by
  refine (out_value _ _ _ _ _ _ _ _ _ h r d).trans ?_
  rw [point_kv m c t r hb hr]
  rfl

end Point

/-- THE ARRAY OF QUERY ROWS AFTER THE RUN. -/
theorem final_query : (dats m 0 c).arrAt 9 cfg0.N = wideQ m c := by
  refine (dats m 0 c).arrAt_eq_of_covers 9 _ (by decide +kernel) fun t hf y => ?_
  have ht : t.val < 128 := lt_of_lt_of_eq t.isLt N_0
  have hb : t.val / 16 < 8 := by omega
  obtain ⟨-, -, -, -, -, -, -, -, -, p9, p10, p11⟩ := places t
  rw [after0_9]
  obtain ⟨u, h, r, d, rfl⟩ : ∃ (u : Fin 1) (h : Fin 8) (r : Fin 256) (d : Fin 128), y = ix4 u h r d :=
    ⟨y 0, y 1, y 2, y 3, eq_ix4 (n0 := 1) (n1 := 8) (n2 := 256) (n3 := 128) y⟩
  obtain rfl : u = 0 := Subsingleton.elim _ _
  have hr : t.val % 16 * 256 + r.val < 4096 := by omega
  have e : ((cfg0.win 9).blk t).view.emb (ix4 0 h r d) = ix4 (⟨t.val / 16, hb⟩ : Fin 8) h (⟨t.val % 16 * 256 + r.val, hr⟩ : Fin 4096) d := by
    blk_ext [p9]
  refine Eq.trans ?_ (congrArg _ e.symm)
  have ho := point_out_query m c t r hb hr h d
  generalize out0_9 (F := Ideal) (iblk m c 0 t) (iblk m c 1 t) (iblk m c 2 t) (iblk m c 3 t) (iblk m c 4 t) (iblk m c 5 t) (iblk m c 6 t) (iblk m c 7 t) (iblk m c 8 t) = o at ho ⊢
  refine Eq.trans ?_ ho
  rfl

/-- THE ARRAY OF KEY ROWS AFTER THE RUN. -/
theorem final_key : (dats m 0 c).arrAt 10 cfg0.N = wideK m c := by
  refine (dats m 0 c).arrAt_eq_of_covers 10 _ (by decide +kernel) fun t hf y => ?_
  have ht : t.val < 128 := lt_of_lt_of_eq t.isLt N_0
  have hb : t.val / 16 < 8 := by omega
  obtain ⟨-, -, -, -, -, -, -, -, -, p9, p10, p11⟩ := places t
  rw [after0_10]
  obtain ⟨u, h, r, d, rfl⟩ : ∃ (u : Fin 1) (h : Fin 8) (r : Fin 256) (d : Fin 128), y = ix4 u h r d :=
    ⟨y 0, y 1, y 2, y 3, eq_ix4 (n0 := 1) (n1 := 8) (n2 := 256) (n3 := 128) y⟩
  obtain rfl : u = 0 := Subsingleton.elim _ _
  have hr : t.val % 16 * 256 + r.val < 4096 := by omega
  have e : ((cfg0.win 10).blk t).view.emb (ix4 0 h r d) = ix4 (⟨t.val / 16, hb⟩ : Fin 8) h (⟨t.val % 16 * 256 + r.val, hr⟩ : Fin 4096) d := by
    blk_ext [p10]
  refine Eq.trans ?_ (congrArg _ e.symm)
  have ho := point_out_key m c t r hb hr h d
  generalize out0_10 (F := Ideal) (iblk m c 0 t) (iblk m c 1 t) (iblk m c 2 t) (iblk m c 3 t) (iblk m c 4 t) (iblk m c 5 t) (iblk m c 6 t) (iblk m c 7 t) (iblk m c 8 t) = o at ho ⊢
  refine Eq.trans ?_ ho
  rfl

/-- THE ARRAY OF VALUE ROWS AFTER THE RUN. -/
theorem final_value : (dats m 0 c).arrAt 11 cfg0.N = wideV m c := by
  refine (dats m 0 c).arrAt_eq_of_covers 11 _ (by decide +kernel) fun t hf y => ?_
  have ht : t.val < 128 := lt_of_lt_of_eq t.isLt N_0
  have hb : t.val / 16 < 8 := by omega
  obtain ⟨-, -, -, -, -, -, -, -, -, p9, p10, p11⟩ := places t
  rw [after0_11]
  obtain ⟨u, h, r, d, rfl⟩ : ∃ (u : Fin 1) (h : Fin 8) (r : Fin 256) (d : Fin 128), y = ix4 u h r d :=
    ⟨y 0, y 1, y 2, y 3, eq_ix4 (n0 := 1) (n1 := 8) (n2 := 256) (n3 := 128) y⟩
  obtain rfl : u = 0 := Subsingleton.elim _ _
  have hr : t.val % 16 * 256 + r.val < 4096 := by omega
  have e : ((cfg0.win 11).blk t).view.emb (ix4 0 h r d) = ix4 (⟨t.val / 16, hb⟩ : Fin 8) h (⟨t.val % 16 * 256 + r.val, hr⟩ : Fin 4096) d := by
    blk_ext [p11]
  refine Eq.trans ?_ (congrArg _ e.symm)
  have ho := point_out_value m c t r hb hr h d
  generalize out0_11 (F := Ideal) (iblk m c 0 t) (iblk m c 1 t) (iblk m c 2 t) (iblk m c 3 t) (iblk m c 4 t) (iblk m c 5 t) (iblk m c 6 t) (iblk m c 7 t) (iblk m c 8 t) = o at ho ⊢
  refine Eq.trans ?_ ho
  rfl

end Cert.Proof.MlaPrep
-- ==== Proof.MlaPrep.Math.lean ====
/- The arithmetic that joins the kernel's rows with the reference's: the mean square over the lanes in use, its root, and the
   rotation with the gain moved into the tables and the sign into the partner lanes. -/
module

public import proofs.«01_k».proof.Proof.MlaPrep.Block
public import proofs.«01_k».proof.Proof.MlaPrep.Ref

@[expose] public section

set_option maxRecDepth 16384

noncomputable section

namespace Cert.Proof.MlaPrep

open Idealize.ShloMosaic

/-- The number of lanes of a head. -/
theorem lanes96 : Ideal.ofBits .f32 0x42C00000#32 = ((96 : ℝ) : EReal) := by
  simp [Ideal.ofBits, Ideal.ieee]
  rw [← EReal.coe_mul]
  norm_num

/-- The number of compressed query lanes. -/
theorem lanes384 : Ideal.ofBits .f32 0x43C00000#32 = ((384 : ℝ) : EReal) := by
  simp [Ideal.ofBits, Ideal.ieee]
  rw [← EReal.coe_mul]
  norm_num

/-- The guard is a positive real number. -/
theorem guard_pos : ∃ e : ℝ, 0 < e ∧ Ideal.ofBits .f32 0x358637BD#32 = (e : EReal) := by
  refine ⟨8796093 * (2 ^ 43)⁻¹, by positivity, ?_⟩
  simp [Ideal.ofBits, Ideal.ieee]

/-- One over the root of a positive number is real and not negative. -/
theorem rsqrt_pos (A : EReal) (h : 0 < A) : ∃ r : ℝ, 0 ≤ r ∧ Ideal.rsqrt A = (r : EReal) := by
  induction A with
  | bot => exact absurd h (by simp)
  | top => exact ⟨0, le_refl _, by simp⟩
  | coe a =>
    have ha : 0 < a := by exact_mod_cast h
    refine ⟨(Real.sqrt a)⁻¹, by positivity, ?_⟩
    rw [Ideal.rsqrt_coe, if_neg (not_lt.mpr ha.le), if_neg ha.ne']

/-- A square is not negative. -/
theorem sq_nonneg' (x : EReal) : 0 ≤ x * x := by
  induction x with
  | bot => simp
  | top => simp
  | coe a => exact_mod_cast mul_self_nonneg a

/-- A mean of squares plus the guard is positive. -/
theorem mean_pos {n : ℕ} (x : Fin n → EReal) (w : ℝ) (hw : 0 < w) :
    0 < Ideal.div (∑ j, x j * x j) (w : EReal) + Ideal.ofBits .f32 0x358637BD#32 := by
  obtain ⟨e, he, ee⟩ := guard_pos
  rw [Ideal.div_coe hw.ne', ee]
  have h1 : (0 : EReal) ≤ (∑ j, x j * x j) * ((1 / w : ℝ) : EReal) :=
    mul_nonneg (Finset.sum_nonneg fun j _ => sq_nonneg' _) (by exact_mod_cast (by positivity : (0 : ℝ) ≤ 1 / w))
  have h2 : (0 : EReal) < (e : EReal) := by exact_mod_cast he
  exact lt_of_lt_of_le h2 (le_add_of_nonneg_left h1)

/-- The sum over the lanes in use. -/
theorem sum_used (f : Fin 128 → EReal) : (∑ l : Fin 128, if l.val < 96 then f l else 0) = ∑ j : Fin 96, f ⟨j.val, by omega⟩ := by
  have h := Fin.sum_univ_add (a := 96) (b := 32) (fun l : Fin (96 + 32) => if l.val < 96 then f l else 0)
  refine h.trans ?_
  have z : (∑ i : Fin 32, if (Fin.natAdd 96 i : Fin (96 + 32)).val < 96 then f (Fin.natAdd 96 i) else 0) = 0 :=
    Finset.sum_eq_zero fun i _ => if_neg (by simp)
  rw [z, add_zero]
  exact Finset.sum_congr rfl fun i _ => if_pos (by simp)

/-- The kernel's root is the reference's. -/
theorem root_eq (x : Fin 128 → EReal) (y : Fin 96 → EReal) (hxy : ∀ j : Fin 96, x ⟨j.val, by omega⟩ = y j) : Ideal.rsqrt (meanSq x) = headRoot y := by
  unfold meanSq headRoot
  rw [sum_used (fun l => x l * x l), lanes96, Ideal.div_coe (by norm_num)]
  simp only [hxy]

/-- The reference's root is real and not negative. -/
theorem headRoot_real (y : Fin 96 → EReal) : ∃ r : ℝ, 0 ≤ r ∧ headRoot y = (r : EReal) := by
  unfold headRoot
  rw [lanes96]
  exact rsqrt_pos _ (mean_pos y 96 (by norm_num))

/-- A rotated lane: the gain and the root moved behind the tables. -/
theorem turn (a b g k cs sn ρ : EReal) (h : ∃ r : ℝ, 0 ≤ r ∧ ρ = (r : EReal)) :
    (a * (g * cs) + b * (k * sn)) * ρ = a * ρ * g * cs + b * ρ * k * sn := by
  obtain ⟨r, hr, rfl⟩ := h
  rw [mul_comm _ (r : EReal), EReal.left_distrib_of_nonneg_of_ne_top (by exact_mod_cast hr) (EReal.coe_ne_top r)]
  congr 1
  · ac_rfl
  · ac_rfl

/-- The same with the partner's sign. -/
theorem turn_neg (a b g k cs sn ρ : EReal) (h : ∃ r : ℝ, 0 ≤ r ∧ ρ = (r : EReal)) :
    (a * (g * cs) + -b * (k * sn)) * ρ = a * ρ * g * cs + -(b * ρ * k) * sn := by
  rw [turn a (-b) g k cs sn ρ h, EReal.neg_mul, EReal.neg_mul]

/-- One lane of a turned row from the four numbers it is made of. -/
theorem turned_at (x c s : Fin 128 → EReal) (d p : Fin 128) (hp : p.val = (d.val + 128 - 96) % 128) {a b C S : EReal}
    (ha : x d = a) (hb : x p = b) (hc : c d = C) (hs : s d = S) : turned x c s d = a * C + b * S := by
  obtain rfl : p = ⟨(d.val + 128 - 96) % 128, Nat.mod_lt _ (by decide)⟩ := Fin.ext hp
  rw [← ha, ← hb, ← hc, ← hs]
  rfl

/-- A lane outside the rotation. -/
theorem lane_low (x c s : Fin 128 → EReal) (y : Fin 96 → EReal) (hx : ∀ j : Fin 96, x ⟨j.val, by omega⟩ = y j) (d : Fin 128) {a g : EReal}
    (ha : x d = a) (hc : c d = g) (hs : s d = 0) : turned x c s d * Ideal.rsqrt (meanSq x) = a * headRoot y * g := by
  rw [root_eq x y hx, turned_at x c s d ⟨(d.val + 128 - 96) % 128, Nat.mod_lt _ (by decide)⟩ rfl ha rfl hc hs, mul_zero, add_zero, mul_assoc, mul_assoc,
    mul_comm g]

/-- A lane of the rotation whose partner keeps its sign. -/
theorem lane_pos (x c s : Fin 128 → EReal) (y : Fin 96 → EReal) (hx : ∀ j : Fin 96, x ⟨j.val, by omega⟩ = y j) (d p : Fin 128)
    (hp : p.val = (d.val + 128 - 96) % 128) {a b g k cs sn : EReal} (ha : x d = a) (hb : x p = b) (hc : c d = g * cs) (hs : s d = k * sn) :
    turned x c s d * Ideal.rsqrt (meanSq x) = a * headRoot y * g * cs + b * headRoot y * k * sn := by
  rw [root_eq x y hx, turned_at x c s d p hp ha hb hc hs]
  exact turn a b g k cs sn _ (headRoot_real y)

/-- A lane of the rotation whose partner changes its sign. -/
theorem lane_neg (x c s : Fin 128 → EReal) (y : Fin 96 → EReal) (hx : ∀ j : Fin 96, x ⟨j.val, by omega⟩ = y j) (d p : Fin 128)
    (hp : p.val = (d.val + 128 - 96) % 128) {a b g k cs sn : EReal} (ha : x d = a) (hb : x p = -b) (hc : c d = g * cs) (hs : s d = k * sn) :
    turned x c s d * Ideal.rsqrt (meanSq x) = a * headRoot y * g * cs + -(b * headRoot y * k) * sn := by
  rw [root_eq x y hx, turned_at x c s d p hp ha hb hc hs]
  exact turn_neg a b g k cs sn _ (headRoot_real y)

/-- The scale of the scores. -/
theorem scale_eq : (((Real.sqrt 96)⁻¹ : ℝ) : EReal) = Ideal.rsqrt (Ideal.ofBits .f32 0x42C00000#32) := by
  rw [lanes96, Ideal.rsqrt_coe, if_neg (by norm_num), if_neg (by norm_num)]

/-- A sum of real numbers is real. -/
theorem real_sum {n : ℕ} (p : Fin n → ℝ) : ∑ k, ((p k : ℝ) : EReal) = ((∑ k, p k : ℝ) : EReal) := by
  have h (t : Finset (Fin n)) : ∑ k ∈ t, ((p k : ℝ) : EReal) = ((∑ k ∈ t, p k : ℝ) : EReal) := by
    induction t using Finset.cons_induction with
    | empty => simp
    | cons i t hi ih => rw [Finset.sum_cons, Finset.sum_cons, ih, EReal.coe_add]
  exact h Finset.univ

/-- With real factors the sum of the products' negatives is the negative of the sum. -/
theorem sum_neg {n : ℕ} (a w : Fin n → EReal) (ha : ∀ k, ∃ r : ℝ, a k = r) (hw : ∀ k, ∃ r : ℝ, w k = r) :
    ∑ k, a k * -w k = -∑ k, a k * w k := by
  choose p hp using ha
  choose q hq using hw
  simp only [hp, hq]
  have e1 : (∑ k, ((p k : ℝ) : EReal) * -((q k : ℝ) : EReal)) = ((∑ k, p k * -q k : ℝ) : EReal) := by
    rw [← real_sum]
    exact Finset.sum_congr rfl fun k _ => by push_cast; rfl
  have e2 : (∑ k, ((p k : ℝ) : EReal) * ((q k : ℝ) : EReal)) = ((∑ k, p k * q k : ℝ) : EReal) := by
    rw [← real_sum]
    exact Finset.sum_congr rfl fun k _ => by push_cast; rfl
  rw [e1, e2, ← EReal.coe_neg]
  congr 1
  simp only [mul_neg, Finset.sum_neg_distrib]

end Cert.Proof.MlaPrep
-- ==== Proof.MlaPrep.Cut.lean ====
/- The arrays the preparation of the attention's operands leaves, cut to the lanes in use, are the reference's where the compressed
   queries, their norm's gain and the queries' weights are real. -/
module

public import proofs.«01_k».proof.Proof.MlaPrep.Value
public import proofs.«01_k».proof.Proof.MlaPrep.Math

@[expose] public section

set_option maxRecDepth 16384

noncomputable section

namespace Cert.Proof.MlaPrep

open Idealize.ShloMosaic Idealize.ShloMosaic.TcCoe Idealize.SL.Sem
open Cert.Kernel11Ideal Cert.Kernel11Ideal.Gen

variable (m : (ℓ : Loc nD τ sig) → Buf (Elt Ideal) ℓ) (ρ : Dev nD → PrngReg) (c : Dev nD)

/-- What the claim needs of the arguments: the compressed queries, their gain and the queries' weights are real. -/
structure Fine : Prop where
  rows : ∀ (b : Fin 8) (t : Fin 4096) (k : Fin 384), ∃ r : ℝ, m ((c : Thread nD τ).loc main_arg0) (ix3 b t ⟨k.val, by omega⟩) = (r : EReal)
  gain : ∀ k : Fin 384, ∃ r : ℝ, m ((c : Thread nD τ).loc main_arg1) (ix1 k) = (r : EReal)
  weight : ∀ (k : Fin 384) (j : Fin 768), ∃ r : ℝ, m ((c : Thread nD τ).loc main_arg2) (ix2 k j) = (r : EReal)

/-- The normed row the kernel makes is the reference's. -/
theorem lowQ (b : Fin 8) (t : Fin 4096) (k : Fin 384) :
    lowRow (fun k : Fin 384 => V m c main_v9 (ix3 b t ⟨k.val, by omega⟩)) (Ideal.ofBits .f32 0x43C00000#32) (fun k => V m c main_v70 (ix2 0 k)) k
      = rowQ (m ((c : Thread nD τ).loc main_arg0)) (m ((c : Thread nD τ).loc main_arg1)) b t k := by
  refine (congrArg₂ (fun (x g : Fin 384 → EReal) => lowRow x (Ideal.ofBits .f32 0x43C00000#32) g k)
    (funext fun k => entry_u_low m c b t ⟨k.val, by omega⟩) (funext fun k => entry_qn m c k)).trans ?_
  rfl

/-- The normed row the kernel makes is the reference's. -/
theorem lowKV (b : Fin 8) (t : Fin 4096) (k : Fin 256) :
    lowRow (fun k : Fin 256 => V m c main_v9 (ix3 b t ⟨384 + k.val, by omega⟩)) (Ideal.ofBits .f32 0x43800000#32) (fun k => V m c main_v71 (ix2 0 k)) k
      = rowKV (m ((c : Thread nD τ).loc main_arg0)) (m ((c : Thread nD τ).loc main_arg3)) b t k := by
  refine (congrArg₂ (fun (x g : Fin 256 → EReal) => lowRow x (Ideal.ofBits .f32 0x43800000#32) g k)
    (funext fun k => entry_u_low m c b t ⟨384 + k.val, by omega⟩) (funext fun k => entry_kvn m c k)).trans ?_
  rfl

/-- A normed row of real compressed queries is real. -/
theorem real_row (H : Fine m c) (b : Fin 8) (t : Fin 4096) (k : Fin 384) : ∃ r : ℝ, rowQ (m ((c : Thread nD τ).loc main_arg0)) (m ((c : Thread nD τ).loc main_arg1)) b t k = (r : EReal) := by
  obtain ⟨p, hp⟩ := H.rows b t k
  obtain ⟨g, hg⟩ := H.gain k
  have e := mean_pos (fun j : Fin 384 => (m ((c : Thread nD τ).loc main_arg0) (ix3 b t ⟨j.val, by omega⟩) : EReal)) 384 (by norm_num)
  rw [← lanes384] at e
  obtain ⟨s, -, hs⟩ := rsqrt_pos _ e
  refine ⟨p * s * g, ?_⟩
  rw [EReal.coe_mul, EReal.coe_mul]
  exact congrArg₂ (HMul.hMul : EReal → EReal → EReal) (congrArg₂ (HMul.hMul : EReal → EReal → EReal) hp hs) hg

/-- A head's query row over the lanes in use. -/
theorem query_low (b : Fin 8) (t : Fin 4096) (h : Fin 8) (d : Fin 96) : queryRow m c b t h ⟨d.val, by omega⟩ = Cert.Reference11Ideal.Read.val_main_v17 (F := Ideal) (m ((c : Thread nD τ).loc main_arg0)) (m ((c : Thread nD τ).loc main_arg1)) (m ((c : Thread nD τ).loc main_arg2)) (ix4 b t h d) := by
  refine Eq.trans ?_ (ref_q (m ((c : Thread nD τ).loc main_arg0)) (m ((c : Thread nD τ).loc main_arg1)) (m ((c : Thread nD τ).loc main_arg2)) b t h d).symm
  unfold queryRow
  exact Finset.sum_congr rfl fun k _ => congrArg₂ (HMul.hMul : EReal → EReal → EReal) (lowQ m c b t k) (entry_wq_low m c k h d)

/-- The partner lanes of a head's query row, quarter 0. -/
theorem partner_query_0 (H : Fine m c) (b : Fin 8) (t : Fin 4096) (h j : Fin 8) :
    queryRow m c b t h ⟨96 + (0 + j.val), by omega⟩ = Neg.neg (α := EReal) (Cert.Reference11Ideal.Read.val_main_v17 (F := Ideal) (m ((c : Thread nD τ).loc main_arg0)) (m ((c : Thread nD τ).loc main_arg1)) (m ((c : Thread nD τ).loc main_arg2)) (ix4 b t h ⟨64 + (8 + j.val), by omega⟩)) := by
  refine Eq.trans ?_ (congrArg (Neg.neg : EReal → EReal) (ref_q (m ((c : Thread nD τ).loc main_arg0)) (m ((c : Thread nD τ).loc main_arg1)) (m ((c : Thread nD τ).loc main_arg2)) b t h ⟨64 + (8 + j.val), by omega⟩).symm)
  refine Eq.trans ?_ (sum_neg _ _ (real_row m c H b t) (fun k => H.weight k ⟨h.val * 96 + (64 + (8 + j.val)), by omega⟩))
  unfold queryRow
  exact Finset.sum_congr rfl fun k _ => congrArg₂ (HMul.hMul : EReal → EReal → EReal) (lowQ m c b t k) (entry_wq_0 m c k h j)

/-- The partner lanes of a head's query row, quarter 1. -/
theorem partner_query_1 (b : Fin 8) (t : Fin 4096) (h j : Fin 8) :
    queryRow m c b t h ⟨96 + (8 + j.val), by omega⟩ = Cert.Reference11Ideal.Read.val_main_v17 (F := Ideal) (m ((c : Thread nD τ).loc main_arg0)) (m ((c : Thread nD τ).loc main_arg1)) (m ((c : Thread nD τ).loc main_arg2)) (ix4 b t h ⟨64 + (0 + j.val), by omega⟩) := by
  refine Eq.trans ?_ (ref_q (m ((c : Thread nD τ).loc main_arg0)) (m ((c : Thread nD τ).loc main_arg1)) (m ((c : Thread nD τ).loc main_arg2)) b t h ⟨64 + (0 + j.val), by omega⟩).symm
  unfold queryRow
  exact Finset.sum_congr rfl fun k _ => congrArg₂ (HMul.hMul : EReal → EReal → EReal) (lowQ m c b t k) (entry_wq_1 m c k h j)

/-- The partner lanes of a head's query row, quarter 2. -/
theorem partner_query_2 (H : Fine m c) (b : Fin 8) (t : Fin 4096) (h j : Fin 8) :
    queryRow m c b t h ⟨96 + (16 + j.val), by omega⟩ = Neg.neg (α := EReal) (Cert.Reference11Ideal.Read.val_main_v17 (F := Ideal) (m ((c : Thread nD τ).loc main_arg0)) (m ((c : Thread nD τ).loc main_arg1)) (m ((c : Thread nD τ).loc main_arg2)) (ix4 b t h ⟨64 + (24 + j.val), by omega⟩)) := by
  refine Eq.trans ?_ (congrArg (Neg.neg : EReal → EReal) (ref_q (m ((c : Thread nD τ).loc main_arg0)) (m ((c : Thread nD τ).loc main_arg1)) (m ((c : Thread nD τ).loc main_arg2)) b t h ⟨64 + (24 + j.val), by omega⟩).symm)
  refine Eq.trans ?_ (sum_neg _ _ (real_row m c H b t) (fun k => H.weight k ⟨h.val * 96 + (64 + (24 + j.val)), by omega⟩))
  unfold queryRow
  exact Finset.sum_congr rfl fun k _ => congrArg₂ (HMul.hMul : EReal → EReal → EReal) (lowQ m c b t k) (entry_wq_2 m c k h j)

/-- The partner lanes of a head's query row, quarter 3. -/
theorem partner_query_3 (b : Fin 8) (t : Fin 4096) (h j : Fin 8) :
    queryRow m c b t h ⟨96 + (24 + j.val), by omega⟩ = Cert.Reference11Ideal.Read.val_main_v17 (F := Ideal) (m ((c : Thread nD τ).loc main_arg0)) (m ((c : Thread nD τ).loc main_arg1)) (m ((c : Thread nD τ).loc main_arg2)) (ix4 b t h ⟨64 + (16 + j.val), by omega⟩) := by
  refine Eq.trans ?_ (ref_q (m ((c : Thread nD τ).loc main_arg0)) (m ((c : Thread nD τ).loc main_arg1)) (m ((c : Thread nD τ).loc main_arg2)) b t h ⟨64 + (16 + j.val), by omega⟩).symm
  unfold queryRow
  exact Finset.sum_congr rfl fun k _ => congrArg₂ (HMul.hMul : EReal → EReal → EReal) (lowQ m c b t k) (entry_wq_3 m c k h j)

/-- The keys' own lanes of the compressed rows. -/
theorem kv_key (b : Fin 8) (t : Fin 4096) (h : Fin 8) (l : Fin 64) :
    kvLane m c b t ⟨h.val * 128 + l.val, by omega⟩ = Cert.Reference11Ideal.Read.val_main_v37 (F := Ideal) (m ((c : Thread nD τ).loc main_arg0)) (m ((c : Thread nD τ).loc main_arg3)) (m ((c : Thread nD τ).loc main_arg4)) (ix4 b t h ⟨l.val, by omega⟩) := by
  refine Eq.trans ?_ (ref_k_low (m ((c : Thread nD τ).loc main_arg0)) (m ((c : Thread nD τ).loc main_arg3)) (m ((c : Thread nD τ).loc main_arg4)) b t h l).symm
  unfold kvLane
  exact Finset.sum_congr rfl fun k _ => congrArg₂ (HMul.hMul : EReal → EReal → EReal) (lowKV m c b t k) (entry_wk_low m c k h l)

/-- The lanes the shared keys take are zero in the product. -/
theorem kv_zero (b : Fin 8) (t : Fin 4096) (h : Fin 8) (l : Fin 64) (p : Fin 2048) (hp : p.val = h.val * 128 + (64 + l.val)) : kvLane m c b t p = 0 := by
  have hb : h.val * 128 + (64 + l.val) < 2048 := by clear hp; omega
  obtain rfl : p = ⟨h.val * 128 + (64 + l.val), hb⟩ := Fin.ext hp
  unfold kvLane
  exact Finset.sum_eq_zero fun k _ => (congrArg (fun x : EReal => _ * x) (entry_wk_high m c k h l)).trans (mul_zero _)

/-- The values' lanes of the compressed rows. -/
theorem kv_value (b : Fin 8) (t : Fin 4096) (h : Fin 8) (l : Fin 64) (p : Fin 2048) (hp : p.val = 1024 + (h.val * 128 + l.val)) :
    kvLane m c b t p = Cert.Reference11Ideal.Read.val_main_v118 (F := Ideal) (m ((c : Thread nD τ).loc main_arg0)) (m ((c : Thread nD τ).loc main_arg3)) (m ((c : Thread nD τ).loc main_arg4)) (ix4 b h t l) := by
  have hb : 1024 + (h.val * 128 + l.val) < 2048 := by clear hp; omega
  obtain rfl : p = ⟨1024 + (h.val * 128 + l.val), hb⟩ := Fin.ext hp
  refine Eq.trans ?_ (ref_v (m ((c : Thread nD τ).loc main_arg0)) (m ((c : Thread nD τ).loc main_arg3)) (m ((c : Thread nD τ).loc main_arg4)) b h t l).symm
  unfold kvLane
  exact Finset.sum_congr rfl fun k _ => congrArg₂ (HMul.hMul : EReal → EReal → EReal) (lowKV m c b t k) (entry_wv m c k h l)

/-- A lane of a head's key row from its two parts. -/
theorem key_at (b : Fin 8) (t : Fin 4096) (h : Fin 8) (l : Fin 128) (p : Fin 768) (hp : p.val = 640 + (l.val + 128 - 64) % 128) {x y : EReal}
    (ha : kvLane m c b t ⟨h.val * 128 + l.val, by omega⟩ = x) (hb : V m c main_v9 (ix3 b t p) = y) : keyRow m c b t h l = x + y := by
  have hl : 640 + (l.val + 128 - 64) % 128 < 768 := by clear hp; omega
  obtain rfl : p = ⟨640 + (l.val + 128 - 64) % 128, hl⟩ := Fin.ext hp
  exact congrArg₂ (HAdd.hAdd : EReal → EReal → EReal) ha hb

/-- A head's own key lanes. -/
theorem key_low (b : Fin 8) (t : Fin 4096) (h : Fin 8) (l : Fin 64) :
    keyRow m c b t h ⟨l.val, by omega⟩ = Cert.Reference11Ideal.Read.val_main_v37 (F := Ideal) (m ((c : Thread nD τ).loc main_arg0)) (m ((c : Thread nD τ).loc main_arg3)) (m ((c : Thread nD τ).loc main_arg4)) (ix4 b t h ⟨l.val, by omega⟩) :=
  (key_at m c b t h ⟨l.val, by omega⟩ ⟨704 + l.val, by omega⟩ (show 704 + l.val = 640 + (l.val + 128 - 64) % 128 by omega)
    (kv_key m c b t h l) (entry_u_high m c b t l)).trans (add_zero _)

/-- The shared key lanes. -/
theorem key_mid (b : Fin 8) (t : Fin 4096) (h : Fin 8) (e : Fin 32) :
    keyRow m c b t h ⟨64 + e.val, by omega⟩ = Cert.Reference11Ideal.Read.val_main_v37 (F := Ideal) (m ((c : Thread nD τ).loc main_arg0)) (m ((c : Thread nD τ).loc main_arg3)) (m ((c : Thread nD τ).loc main_arg4)) (ix4 b t h ⟨64 + e.val, by omega⟩) :=
  ((key_at m c b t h ⟨64 + e.val, by omega⟩ ⟨640 + e.val, by omega⟩ (show 640 + e.val = 640 + (64 + e.val + 128 - 64) % 128 by omega)
    (kv_zero m c b t h ⟨e.val, by omega⟩ _ rfl) (entry_u_low m c b t ⟨640 + e.val, by omega⟩)).trans (zero_add _)).trans
      (ref_k_high (m ((c : Thread nD τ).loc main_arg0)) (m ((c : Thread nD τ).loc main_arg3)) (m ((c : Thread nD τ).loc main_arg4)) b t h e).symm

/-- The partner lanes of the shared keys, quarter 0. -/
theorem partner_key_0 (b : Fin 8) (t : Fin 4096) (h j : Fin 8) :
    keyRow m c b t h ⟨96 + (0 + j.val), by omega⟩ = Neg.neg (α := EReal) (Cert.Reference11Ideal.Read.val_main_v37 (F := Ideal) (m ((c : Thread nD τ).loc main_arg0)) (m ((c : Thread nD τ).loc main_arg3)) (m ((c : Thread nD τ).loc main_arg4)) (ix4 b t h ⟨64 + (8 + j.val), by omega⟩)) :=
  ((key_at m c b t h ⟨96 + (0 + j.val), by omega⟩ ⟨672 + (0 + j.val), by omega⟩
    (show 672 + (0 + j.val) = 640 + (96 + (0 + j.val) + 128 - 64) % 128 by omega)
    (kv_zero m c b t h ⟨32 + (0 + j.val), by omega⟩ _ (show h.val * 128 + (96 + (0 + j.val)) = h.val * 128 + (64 + (32 + (0 + j.val))) by omega))
    (entry_u_0 m c b t j)).trans (zero_add _)).trans
      (congrArg (Neg.neg : EReal → EReal) (ref_k_high (m ((c : Thread nD τ).loc main_arg0)) (m ((c : Thread nD τ).loc main_arg3)) (m ((c : Thread nD τ).loc main_arg4)) b t h ⟨8 + j.val, by omega⟩).symm)

/-- The partner lanes of the shared keys, quarter 1. -/
theorem partner_key_1 (b : Fin 8) (t : Fin 4096) (h j : Fin 8) :
    keyRow m c b t h ⟨96 + (8 + j.val), by omega⟩ = Cert.Reference11Ideal.Read.val_main_v37 (F := Ideal) (m ((c : Thread nD τ).loc main_arg0)) (m ((c : Thread nD τ).loc main_arg3)) (m ((c : Thread nD τ).loc main_arg4)) (ix4 b t h ⟨64 + (0 + j.val), by omega⟩) :=
  ((key_at m c b t h ⟨96 + (8 + j.val), by omega⟩ ⟨672 + (8 + j.val), by omega⟩
    (show 672 + (8 + j.val) = 640 + (96 + (8 + j.val) + 128 - 64) % 128 by omega)
    (kv_zero m c b t h ⟨32 + (8 + j.val), by omega⟩ _ (show h.val * 128 + (96 + (8 + j.val)) = h.val * 128 + (64 + (32 + (8 + j.val))) by omega))
    (entry_u_1 m c b t j)).trans (zero_add _)).trans
      (ref_k_high (m ((c : Thread nD τ).loc main_arg0)) (m ((c : Thread nD τ).loc main_arg3)) (m ((c : Thread nD τ).loc main_arg4)) b t h ⟨0 + j.val, by omega⟩).symm

/-- The partner lanes of the shared keys, quarter 2. -/
theorem partner_key_2 (b : Fin 8) (t : Fin 4096) (h j : Fin 8) :
    keyRow m c b t h ⟨96 + (16 + j.val), by omega⟩ = Neg.neg (α := EReal) (Cert.Reference11Ideal.Read.val_main_v37 (F := Ideal) (m ((c : Thread nD τ).loc main_arg0)) (m ((c : Thread nD τ).loc main_arg3)) (m ((c : Thread nD τ).loc main_arg4)) (ix4 b t h ⟨64 + (24 + j.val), by omega⟩)) :=
  ((key_at m c b t h ⟨96 + (16 + j.val), by omega⟩ ⟨672 + (16 + j.val), by omega⟩
    (show 672 + (16 + j.val) = 640 + (96 + (16 + j.val) + 128 - 64) % 128 by omega)
    (kv_zero m c b t h ⟨32 + (16 + j.val), by omega⟩ _ (show h.val * 128 + (96 + (16 + j.val)) = h.val * 128 + (64 + (32 + (16 + j.val))) by omega))
    (entry_u_2 m c b t j)).trans (zero_add _)).trans
      (congrArg (Neg.neg : EReal → EReal) (ref_k_high (m ((c : Thread nD τ).loc main_arg0)) (m ((c : Thread nD τ).loc main_arg3)) (m ((c : Thread nD τ).loc main_arg4)) b t h ⟨24 + j.val, by omega⟩).symm)

/-- The partner lanes of the shared keys, quarter 3. -/
theorem partner_key_3 (b : Fin 8) (t : Fin 4096) (h j : Fin 8) :
    keyRow m c b t h ⟨96 + (24 + j.val), by omega⟩ = Cert.Reference11Ideal.Read.val_main_v37 (F := Ideal) (m ((c : Thread nD τ).loc main_arg0)) (m ((c : Thread nD τ).loc main_arg3)) (m ((c : Thread nD τ).loc main_arg4)) (ix4 b t h ⟨64 + (16 + j.val), by omega⟩) :=
  ((key_at m c b t h ⟨96 + (24 + j.val), by omega⟩ ⟨672 + (24 + j.val), by omega⟩
    (show 672 + (24 + j.val) = 640 + (96 + (24 + j.val) + 128 - 64) % 128 by omega)
    (kv_zero m c b t h ⟨32 + (24 + j.val), by omega⟩ _ (show h.val * 128 + (96 + (24 + j.val)) = h.val * 128 + (64 + (32 + (24 + j.val))) by omega))
    (entry_u_3 m c b t j)).trans (zero_add _)).trans
      (ref_k_high (m ((c : Thread nD τ).loc main_arg0)) (m ((c : Thread nD τ).loc main_arg3)) (m ((c : Thread nD τ).loc main_arg4)) b t h ⟨16 + j.val, by omega⟩).symm

/-- A lane in use is outside the rotation or inside. -/
theorem halves (d : Fin 96) : (∃ l : Fin 64, d = ⟨l.val, by omega⟩) ∨ ∃ e : Fin 32, d = ⟨64 + e.val, by omega⟩ := by
  by_cases hd : d.val < 64
  · exact Or.inl ⟨⟨d.val, hd⟩, rfl⟩
  · exact Or.inr ⟨⟨d.val - 64, by omega⟩, Fin.ext (show d.val = 64 + (d.val - 64) by omega)⟩

/-- A lane of the rotation lies in one of four quarters. -/
theorem quarters (e : Fin 32) : (∃ j : Fin 8, e = ⟨0 + j.val, by omega⟩) ∨ (∃ j : Fin 8, e = ⟨8 + j.val, by omega⟩) ∨ (∃ j : Fin 8, e = ⟨16 + j.val, by omega⟩)
    ∨ ∃ j : Fin 8, e = ⟨24 + j.val, by omega⟩ := by
  by_cases h0 : e.val < 8
  · exact Or.inl ⟨⟨e.val, h0⟩, Fin.ext (show e.val = 0 + e.val by omega)⟩
  by_cases h1 : e.val < 16
  · exact Or.inr (Or.inl ⟨⟨e.val - 8, by omega⟩, Fin.ext (show e.val = 8 + (e.val - 8) by omega)⟩)
  by_cases h2 : e.val < 24
  · exact Or.inr (Or.inr (Or.inl ⟨⟨e.val - 16, by omega⟩, Fin.ext (show e.val = 16 + (e.val - 16) by omega)⟩))
  · exact Or.inr (Or.inr (Or.inr ⟨⟨e.val - 24, by omega⟩, Fin.ext (show e.val = 24 + (e.val - 24) by omega)⟩))

/-- A head's key row over the lanes in use. -/
theorem key_row (b : Fin 8) (t : Fin 4096) (h : Fin 8) (d : Fin 96) : keyRow m c b t h ⟨d.val, by omega⟩ = Cert.Reference11Ideal.Read.val_main_v37 (F := Ideal) (m ((c : Thread nD τ).loc main_arg0)) (m ((c : Thread nD τ).loc main_arg3)) (m ((c : Thread nD τ).loc main_arg4)) (ix4 b t h d) := by
  obtain ⟨l, rfl⟩ | ⟨e, rfl⟩ := halves d
  · exact key_low m c b t h l
  · exact key_mid m c b t h e

/-- A head's turned and normed row is the reference's. -/
theorem query_head (H : Fine m c) (b : Fin 8) (t : Fin 4096) (h : Fin 8) (d : Fin 96) :
    turned (queryRow m c b t h) (fun l => V m c main_v39 (ix2 t l)) (fun l => V m c main_v50 (ix2 t l)) ⟨d.val, by omega⟩ * Ideal.rsqrt (meanSq (queryRow m c b t h))
      = Cert.Reference11Ideal.Read.val_main_v86 (F := Ideal) (m ((c : Thread nD τ).loc main_arg0)) (m ((c : Thread nD τ).loc main_arg1)) (m ((c : Thread nD τ).loc main_arg2)) (m ((c : Thread nD τ).loc main_arg5)) (m ((c : Thread nD τ).loc main_arg7)) (m ((c : Thread nD τ).loc main_arg8)) (ix4 b t h d) := by
  obtain ⟨l, rfl⟩ | ⟨e, rfl⟩ := halves d
  · have r := rope_q_low (m ((c : Thread nD τ).loc main_arg0)) (m ((c : Thread nD τ).loc main_arg1)) (m ((c : Thread nD τ).loc main_arg2)) (m ((c : Thread nD τ).loc main_arg5)) (m ((c : Thread nD τ).loc main_arg7)) (m ((c : Thread nD τ).loc main_arg8)) b t h l
    rw [ref_qn] at r
    exact (lane_low (queryRow m c b t h) (fun l => V m c main_v39 (ix2 t l)) (fun l => V m c main_v50 (ix2 t l)) (fun j => Cert.Reference11Ideal.Read.val_main_v17 (F := Ideal) (m ((c : Thread nD τ).loc main_arg0)) (m ((c : Thread nD τ).loc main_arg1)) (m ((c : Thread nD τ).loc main_arg2)) (ix4 b t h j)) (query_low m c b t h) ⟨l.val, by omega⟩ (query_low m c b t h ⟨l.val, by omega⟩) (entry_cq_low m c t l) (entry_sq_low m c t l)).trans r.symm
  · obtain ⟨j, rfl⟩ | ⟨j, rfl⟩ | ⟨j, rfl⟩ | ⟨j, rfl⟩ := quarters e
    · have r := rope_q_0 (m ((c : Thread nD τ).loc main_arg0)) (m ((c : Thread nD τ).loc main_arg1)) (m ((c : Thread nD τ).loc main_arg2)) (m ((c : Thread nD τ).loc main_arg5)) (m ((c : Thread nD τ).loc main_arg7)) (m ((c : Thread nD τ).loc main_arg8)) b t h j
      rw [ref_qn, ref_qn] at r
      exact (lane_neg (queryRow m c b t h) (fun l => V m c main_v39 (ix2 t l)) (fun l => V m c main_v50 (ix2 t l)) (fun j => Cert.Reference11Ideal.Read.val_main_v17 (F := Ideal) (m ((c : Thread nD τ).loc main_arg0)) (m ((c : Thread nD τ).loc main_arg1)) (m ((c : Thread nD τ).loc main_arg2)) (ix4 b t h j)) (query_low m c b t h) ⟨64 + (0 + j.val), by omega⟩ ⟨96 + (0 + j.val), by omega⟩
        (show 96 + (0 + j.val) = (64 + (0 + j.val) + 128 - 96) % 128 by omega)
        (query_low m c b t h ⟨64 + (0 + j.val), by omega⟩) (partner_query_0 m c H b t h j) (entry_cq_mid m c t ⟨0 + j.val, by omega⟩) (entry_sq_0 m c t j)).trans r.symm
    · have r := rope_q_1 (m ((c : Thread nD τ).loc main_arg0)) (m ((c : Thread nD τ).loc main_arg1)) (m ((c : Thread nD τ).loc main_arg2)) (m ((c : Thread nD τ).loc main_arg5)) (m ((c : Thread nD τ).loc main_arg7)) (m ((c : Thread nD τ).loc main_arg8)) b t h j
      rw [ref_qn, ref_qn] at r
      exact (lane_pos (queryRow m c b t h) (fun l => V m c main_v39 (ix2 t l)) (fun l => V m c main_v50 (ix2 t l)) (fun j => Cert.Reference11Ideal.Read.val_main_v17 (F := Ideal) (m ((c : Thread nD τ).loc main_arg0)) (m ((c : Thread nD τ).loc main_arg1)) (m ((c : Thread nD τ).loc main_arg2)) (ix4 b t h j)) (query_low m c b t h) ⟨64 + (8 + j.val), by omega⟩ ⟨96 + (8 + j.val), by omega⟩
        (show 96 + (8 + j.val) = (64 + (8 + j.val) + 128 - 96) % 128 by omega)
        (query_low m c b t h ⟨64 + (8 + j.val), by omega⟩) (partner_query_1 m c b t h j) (entry_cq_mid m c t ⟨8 + j.val, by omega⟩) (entry_sq_1 m c t j)).trans r.symm
    · have r := rope_q_2 (m ((c : Thread nD τ).loc main_arg0)) (m ((c : Thread nD τ).loc main_arg1)) (m ((c : Thread nD τ).loc main_arg2)) (m ((c : Thread nD τ).loc main_arg5)) (m ((c : Thread nD τ).loc main_arg7)) (m ((c : Thread nD τ).loc main_arg8)) b t h j
      rw [ref_qn, ref_qn] at r
      exact (lane_neg (queryRow m c b t h) (fun l => V m c main_v39 (ix2 t l)) (fun l => V m c main_v50 (ix2 t l)) (fun j => Cert.Reference11Ideal.Read.val_main_v17 (F := Ideal) (m ((c : Thread nD τ).loc main_arg0)) (m ((c : Thread nD τ).loc main_arg1)) (m ((c : Thread nD τ).loc main_arg2)) (ix4 b t h j)) (query_low m c b t h) ⟨64 + (16 + j.val), by omega⟩ ⟨96 + (16 + j.val), by omega⟩
        (show 96 + (16 + j.val) = (64 + (16 + j.val) + 128 - 96) % 128 by omega)
        (query_low m c b t h ⟨64 + (16 + j.val), by omega⟩) (partner_query_2 m c H b t h j) (entry_cq_mid m c t ⟨16 + j.val, by omega⟩) (entry_sq_2 m c t j)).trans r.symm
    · have r := rope_q_3 (m ((c : Thread nD τ).loc main_arg0)) (m ((c : Thread nD τ).loc main_arg1)) (m ((c : Thread nD τ).loc main_arg2)) (m ((c : Thread nD τ).loc main_arg5)) (m ((c : Thread nD τ).loc main_arg7)) (m ((c : Thread nD τ).loc main_arg8)) b t h j
      rw [ref_qn, ref_qn] at r
      exact (lane_pos (queryRow m c b t h) (fun l => V m c main_v39 (ix2 t l)) (fun l => V m c main_v50 (ix2 t l)) (fun j => Cert.Reference11Ideal.Read.val_main_v17 (F := Ideal) (m ((c : Thread nD τ).loc main_arg0)) (m ((c : Thread nD τ).loc main_arg1)) (m ((c : Thread nD τ).loc main_arg2)) (ix4 b t h j)) (query_low m c b t h) ⟨64 + (24 + j.val), by omega⟩ ⟨96 + (24 + j.val), by omega⟩
        (show 96 + (24 + j.val) = (64 + (24 + j.val) + 128 - 96) % 128 by omega)
        (query_low m c b t h ⟨64 + (24 + j.val), by omega⟩) (partner_query_3 m c b t h j) (entry_cq_mid m c t ⟨24 + j.val, by omega⟩) (entry_sq_3 m c t j)).trans r.symm

/-- A head's turned and normed row is the reference's. -/
theorem key_head (b : Fin 8) (t : Fin 4096) (h : Fin 8) (d : Fin 96) :
    turned (keyRow m c b t h) (fun l => V m c main_v58 (ix2 t l)) (fun l => V m c main_v69 (ix2 t l)) ⟨d.val, by omega⟩ * Ideal.rsqrt (meanSq (keyRow m c b t h))
      = Cert.Reference11Ideal.Read.val_main_v109 (F := Ideal) (m ((c : Thread nD τ).loc main_arg0)) (m ((c : Thread nD τ).loc main_arg3)) (m ((c : Thread nD τ).loc main_arg4)) (m ((c : Thread nD τ).loc main_arg6)) (m ((c : Thread nD τ).loc main_arg7)) (m ((c : Thread nD τ).loc main_arg8)) (ix4 b t h d) := by
  obtain ⟨l, rfl⟩ | ⟨e, rfl⟩ := halves d
  · have r := rope_k_low (m ((c : Thread nD τ).loc main_arg0)) (m ((c : Thread nD τ).loc main_arg3)) (m ((c : Thread nD τ).loc main_arg4)) (m ((c : Thread nD τ).loc main_arg6)) (m ((c : Thread nD τ).loc main_arg7)) (m ((c : Thread nD τ).loc main_arg8)) b t h l
    rw [ref_kn] at r
    exact (lane_low (keyRow m c b t h) (fun l => V m c main_v58 (ix2 t l)) (fun l => V m c main_v69 (ix2 t l)) (fun j => Cert.Reference11Ideal.Read.val_main_v37 (F := Ideal) (m ((c : Thread nD τ).loc main_arg0)) (m ((c : Thread nD τ).loc main_arg3)) (m ((c : Thread nD τ).loc main_arg4)) (ix4 b t h j)) (key_row m c b t h) ⟨l.val, by omega⟩ (key_row m c b t h ⟨l.val, by omega⟩) (entry_ck_low m c t l) (entry_sk_low m c t l)).trans r.symm
  · obtain ⟨j, rfl⟩ | ⟨j, rfl⟩ | ⟨j, rfl⟩ | ⟨j, rfl⟩ := quarters e
    · have r := rope_k_0 (m ((c : Thread nD τ).loc main_arg0)) (m ((c : Thread nD τ).loc main_arg3)) (m ((c : Thread nD τ).loc main_arg4)) (m ((c : Thread nD τ).loc main_arg6)) (m ((c : Thread nD τ).loc main_arg7)) (m ((c : Thread nD τ).loc main_arg8)) b t h j
      rw [ref_kn, ref_kn] at r
      exact (lane_neg (keyRow m c b t h) (fun l => V m c main_v58 (ix2 t l)) (fun l => V m c main_v69 (ix2 t l)) (fun j => Cert.Reference11Ideal.Read.val_main_v37 (F := Ideal) (m ((c : Thread nD τ).loc main_arg0)) (m ((c : Thread nD τ).loc main_arg3)) (m ((c : Thread nD τ).loc main_arg4)) (ix4 b t h j)) (key_row m c b t h) ⟨64 + (0 + j.val), by omega⟩ ⟨96 + (0 + j.val), by omega⟩
        (show 96 + (0 + j.val) = (64 + (0 + j.val) + 128 - 96) % 128 by omega)
        (key_row m c b t h ⟨64 + (0 + j.val), by omega⟩) (partner_key_0 m c b t h j) (entry_ck_mid m c t ⟨0 + j.val, by omega⟩) (entry_sk_0 m c t j)).trans r.symm
    · have r := rope_k_1 (m ((c : Thread nD τ).loc main_arg0)) (m ((c : Thread nD τ).loc main_arg3)) (m ((c : Thread nD τ).loc main_arg4)) (m ((c : Thread nD τ).loc main_arg6)) (m ((c : Thread nD τ).loc main_arg7)) (m ((c : Thread nD τ).loc main_arg8)) b t h j
      rw [ref_kn, ref_kn] at r
      exact (lane_pos (keyRow m c b t h) (fun l => V m c main_v58 (ix2 t l)) (fun l => V m c main_v69 (ix2 t l)) (fun j => Cert.Reference11Ideal.Read.val_main_v37 (F := Ideal) (m ((c : Thread nD τ).loc main_arg0)) (m ((c : Thread nD τ).loc main_arg3)) (m ((c : Thread nD τ).loc main_arg4)) (ix4 b t h j)) (key_row m c b t h) ⟨64 + (8 + j.val), by omega⟩ ⟨96 + (8 + j.val), by omega⟩
        (show 96 + (8 + j.val) = (64 + (8 + j.val) + 128 - 96) % 128 by omega)
        (key_row m c b t h ⟨64 + (8 + j.val), by omega⟩) (partner_key_1 m c b t h j) (entry_ck_mid m c t ⟨8 + j.val, by omega⟩) (entry_sk_1 m c t j)).trans r.symm
    · have r := rope_k_2 (m ((c : Thread nD τ).loc main_arg0)) (m ((c : Thread nD τ).loc main_arg3)) (m ((c : Thread nD τ).loc main_arg4)) (m ((c : Thread nD τ).loc main_arg6)) (m ((c : Thread nD τ).loc main_arg7)) (m ((c : Thread nD τ).loc main_arg8)) b t h j
      rw [ref_kn, ref_kn] at r
      exact (lane_neg (keyRow m c b t h) (fun l => V m c main_v58 (ix2 t l)) (fun l => V m c main_v69 (ix2 t l)) (fun j => Cert.Reference11Ideal.Read.val_main_v37 (F := Ideal) (m ((c : Thread nD τ).loc main_arg0)) (m ((c : Thread nD τ).loc main_arg3)) (m ((c : Thread nD τ).loc main_arg4)) (ix4 b t h j)) (key_row m c b t h) ⟨64 + (16 + j.val), by omega⟩ ⟨96 + (16 + j.val), by omega⟩
        (show 96 + (16 + j.val) = (64 + (16 + j.val) + 128 - 96) % 128 by omega)
        (key_row m c b t h ⟨64 + (16 + j.val), by omega⟩) (partner_key_2 m c b t h j) (entry_ck_mid m c t ⟨16 + j.val, by omega⟩) (entry_sk_2 m c t j)).trans r.symm
    · have r := rope_k_3 (m ((c : Thread nD τ).loc main_arg0)) (m ((c : Thread nD τ).loc main_arg3)) (m ((c : Thread nD τ).loc main_arg4)) (m ((c : Thread nD τ).loc main_arg6)) (m ((c : Thread nD τ).loc main_arg7)) (m ((c : Thread nD τ).loc main_arg8)) b t h j
      rw [ref_kn, ref_kn] at r
      exact (lane_pos (keyRow m c b t h) (fun l => V m c main_v58 (ix2 t l)) (fun l => V m c main_v69 (ix2 t l)) (fun j => Cert.Reference11Ideal.Read.val_main_v37 (F := Ideal) (m ((c : Thread nD τ).loc main_arg0)) (m ((c : Thread nD τ).loc main_arg3)) (m ((c : Thread nD τ).loc main_arg4)) (ix4 b t h j)) (key_row m c b t h) ⟨64 + (24 + j.val), by omega⟩ ⟨96 + (24 + j.val), by omega⟩
        (show 96 + (24 + j.val) = (64 + (24 + j.val) + 128 - 96) % 128 by omega)
        (key_row m c b t h ⟨64 + (24 + j.val), by omega⟩) (partner_key_3 m c b t h j) (entry_ck_mid m c t ⟨24 + j.val, by omega⟩) (entry_sk_3 m c t j)).trans r.symm

/-- The cut array. -/
theorem cut_query (H : Fine m c) :
    extractStridedSlice S8x8x4096x96 ![0, 0, 0, 0] (wideQ m c) slices_S8x8x4096x128_S8x8x4096x96_0_0_0_0 = Cert.Reference11Ideal.Read.val_main_v114 (F := Ideal) (m ((c : Thread nD τ).loc main_arg0)) (m ((c : Thread nD τ).loc main_arg1)) (m ((c : Thread nD τ).loc main_arg2)) (m ((c : Thread nD τ).loc main_arg5)) (m ((c : Thread nD τ).loc main_arg7)) (m ((c : Thread nD τ).loc main_arg8)) := by
  funext i
  obtain ⟨b, h, t, d, rfl⟩ : ∃ (b : Fin 8) (h : Fin 8) (t : Fin 4096) (d : Fin 96), i = ix4 b h t d :=
    ⟨i 0, i 1, i 2, i 3, eq_ix4 (n0 := 8) (n1 := 8) (n2 := 4096) (n3 := 96) i⟩
  have e : extractStridedSlice S8x8x4096x96 ![0, 0, 0, 0] (wideQ m c) slices_S8x8x4096x128_S8x8x4096x96_0_0_0_0 (ix4 b h t d)
      = wideQ m c (ix4 b h t ⟨d.val, by omega⟩) := by
    generalize wideQ m c = w
    pointwise
  refine e.trans ?_
  refine Eq.trans ?_ (ref_query (m ((c : Thread nD τ).loc main_arg0)) (m ((c : Thread nD τ).loc main_arg1)) (m ((c : Thread nD τ).loc main_arg2)) (m ((c : Thread nD τ).loc main_arg5)) (m ((c : Thread nD τ).loc main_arg7)) (m ((c : Thread nD τ).loc main_arg8)) b h t d).symm
  refine (mul_assoc (turned (queryRow m c b t h) (fun l => V m c main_v39 (ix2 t l)) (fun l => V m c main_v50 (ix2 t l)) ⟨d.val, by omega⟩)
    (Ideal.rsqrt (meanSq (queryRow m c b t h))) (((Real.sqrt 96)⁻¹ : ℝ) : EReal)).symm.trans ?_
  exact congrArg₂ (HMul.hMul : EReal → EReal → EReal) (query_head m c H b t h d) scale_eq

/-- The cut array. -/
theorem cut_key :
    extractStridedSlice S8x8x4096x96 ![0, 0, 0, 0] (wideK m c) slices_S8x8x4096x128_S8x8x4096x96_0_0_0_0 = Cert.Reference11Ideal.Read.val_main_v116 (F := Ideal) (m ((c : Thread nD τ).loc main_arg0)) (m ((c : Thread nD τ).loc main_arg3)) (m ((c : Thread nD τ).loc main_arg4)) (m ((c : Thread nD τ).loc main_arg6)) (m ((c : Thread nD τ).loc main_arg7)) (m ((c : Thread nD τ).loc main_arg8)) := by
  funext i
  obtain ⟨b, h, t, d, rfl⟩ : ∃ (b : Fin 8) (h : Fin 8) (t : Fin 4096) (d : Fin 96), i = ix4 b h t d :=
    ⟨i 0, i 1, i 2, i 3, eq_ix4 (n0 := 8) (n1 := 8) (n2 := 4096) (n3 := 96) i⟩
  have e : extractStridedSlice S8x8x4096x96 ![0, 0, 0, 0] (wideK m c) slices_S8x8x4096x128_S8x8x4096x96_0_0_0_0 (ix4 b h t d)
      = wideK m c (ix4 b h t ⟨d.val, by omega⟩) := by
    generalize wideK m c = w
    pointwise
  refine e.trans ?_
  exact (key_head m c b t h d).trans (ref_key (m ((c : Thread nD τ).loc main_arg0)) (m ((c : Thread nD τ).loc main_arg3)) (m ((c : Thread nD τ).loc main_arg4)) (m ((c : Thread nD τ).loc main_arg6)) (m ((c : Thread nD τ).loc main_arg7)) (m ((c : Thread nD τ).loc main_arg8)) b h t d).symm

/-- The cut array. -/
theorem cut_value :
    extractStridedSlice S8x8x4096x64 ![0, 0, 0, 0] (wideV m c) slices_S8x8x4096x128_S8x8x4096x64_0_0_0_0 = Cert.Reference11Ideal.Read.val_main_v118 (F := Ideal) (m ((c : Thread nD τ).loc main_arg0)) (m ((c : Thread nD τ).loc main_arg3)) (m ((c : Thread nD τ).loc main_arg4)) := by
  funext i
  obtain ⟨b, h, t, d, rfl⟩ : ∃ (b : Fin 8) (h : Fin 8) (t : Fin 4096) (d : Fin 64), i = ix4 b h t d :=
    ⟨i 0, i 1, i 2, i 3, eq_ix4 (n0 := 8) (n1 := 8) (n2 := 4096) (n3 := 64) i⟩
  have e : extractStridedSlice S8x8x4096x64 ![0, 0, 0, 0] (wideV m c) slices_S8x8x4096x128_S8x8x4096x64_0_0_0_0 (ix4 b h t d)
      = wideV m c (ix4 b h t ⟨d.val, by omega⟩) := by
    generalize wideV m c = w
    pointwise
  refine e.trans ?_
  have z := no_ones ⟨d.val, by omega⟩ d.isLt
  exact (congrArg₂ (HAdd.hAdd : EReal → EReal → EReal)
    (kv_value m c b t h d _ (show 1024 + h.val * 128 + d.val = 1024 + (h.val * 128 + d.val) by omega)) z).trans (add_zero _)

end Cert.Proof.MlaPrep
-- ==== Proof.MlaPrep.Tail.lean ====
/- The run of the preparation of the attention's operands: three arrays, cut to the lanes in use, and the arguments as they were. -/
module

public import proofs.«01_k».proof.Proof.MlaPrep.Cut

@[expose] public section

set_option maxRecDepth 16384

noncomputable section

namespace Cert.Proof.MlaPrep

open Idealize.ShloMosaic Idealize.ShloMosaic.TcCoe Idealize.SL.Sem
open Cert.Kernel11Ideal Cert.Kernel11Ideal.Gen

variable (m : (ℓ : Loc nD τ sig) → Buf (Elt Ideal) ℓ) (ρ : Dev nD → PrngReg)

/-- What the cut after the call leaves. -/
theorem tail_query (c : Dev nD) :
    Pipeline.afterTail₀ cfgs (dats m) 0 (V0 m) [hostOps1] c main_v73 = extractStridedSlice S8x8x4096x96 ![0, 0, 0, 0] (wideQ m c) slices_S8x8x4096x128_S8x8x4096x96_0_0_0_0 := by
  have h : Pipeline.withArrays cfg0.spec c (V0 m c) (fun w => (dats m 0 c).arrAt w cfg0.N) (Proc.devRef .tc main_v72_0) = wideQ m c :=
    (Pipeline.withArrays_arr cfg0.spec (by decide) c (V0 m c) _ 9).trans (final_query m c)
  rw [← h]
  rfl

/-- What the cut after the call leaves. -/
theorem tail_key (c : Dev nD) :
    Pipeline.afterTail₀ cfgs (dats m) 0 (V0 m) [hostOps1] c main_v74 = extractStridedSlice S8x8x4096x96 ![0, 0, 0, 0] (wideK m c) slices_S8x8x4096x128_S8x8x4096x96_0_0_0_0 := by
  have h : Pipeline.withArrays cfg0.spec c (V0 m c) (fun w => (dats m 0 c).arrAt w cfg0.N) (Proc.devRef .tc main_v72_1) = wideK m c :=
    (Pipeline.withArrays_arr cfg0.spec (by decide) c (V0 m c) _ 10).trans (final_key m c)
  rw [← h]
  rfl

/-- What the cut after the call leaves. -/
theorem tail_value (c : Dev nD) :
    Pipeline.afterTail₀ cfgs (dats m) 0 (V0 m) [hostOps1] c main_v75 = extractStridedSlice S8x8x4096x64 ![0, 0, 0, 0] (wideV m c) slices_S8x8x4096x128_S8x8x4096x64_0_0_0_0 := by
  have h : Pipeline.withArrays cfg0.spec c (V0 m c) (fun w => (dats m 0 c).arrAt w cfg0.N) (Proc.devRef .tc main_v72_2) = wideV m c :=
    (Pipeline.withArrays_arr cfg0.spec (by decide) c (V0 m c) _ 11).trans (final_value m c)
  rw [← h]
  rfl

/-- THE RUN. -/
theorem run_kernel : θ_run defs (onTc (τ := τ) (main (F := Ideal))) ⟨m, fun _ => 0, ρ⟩ fun r => ∀ c : Dev nD,
      r.2.mem ((c : Thread nD τ).loc main_v73) = extractStridedSlice S8x8x4096x96 ![0, 0, 0, 0] (wideQ m c) slices_S8x8x4096x128_S8x8x4096x96_0_0_0_0
      ∧ r.2.mem ((c : Thread nD τ).loc main_v74) = extractStridedSlice S8x8x4096x96 ![0, 0, 0, 0] (wideK m c) slices_S8x8x4096x128_S8x8x4096x96_0_0_0_0
      ∧ r.2.mem ((c : Thread nD τ).loc main_v75) = extractStridedSlice S8x8x4096x64 ![0, 0, 0, 0] (wideV m c) slices_S8x8x4096x128_S8x8x4096x64_0_0_0_0
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun _ h c =>
    ⟨((h c).2 main_v73 (Pipeline.mem_restRefs_of main_v73 (by decide) (by decide))).trans (tail_query m c),
      ((h c).2 main_v74 (Pipeline.mem_restRefs_of main_v74 (by decide) (by decide))).trans (tail_key m c),
      ((h c).2 main_v75 (Pipeline.mem_restRefs_of main_v75 (by decide) (by decide))).trans (tail_value m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c)⟩)
    (run_main m ρ)

end Cert.Proof.MlaPrep
-- ==== Proof.MlaPrep.Claims.lean ====
/- The claims of the preparation of the attention's operands: the reference leaves its arguments as they were, and where the compressed
   queries, their norm's gain and the queries' weights are real numbers kernel and reference compute the same three arrays. -/
module

public import proofs.«01_k».proof.Defs
public import proofs.«01_k».proof.Proof.MlaPrep.Tail
public import proofs.«01_k».proof.Proof.Gen.Reference11Ideal.Run
public import Idealize.ShloMosaic.Lib.Quiescent
public import Idealize.ShloMosaic.Lib.ReduceAll

@[expose] public section

set_option maxRecDepth 16384

noncomputable section

namespace Cert.Proof.MlaPrep

open Idealize.ShloMosaic Idealize.SL.Sem

theorem frame_reference : Cert.quiescent_Reference11Ideal := fun m ρ _ =>
  (θ_run _ _ _).mono (fun _ h => ⟨fun c => (h c).2.2.2, sem_eq_zero_of_no_sems rfl _⟩) (Cert.Reference11Ideal.Value.run m ρ)

/-- A number below infinity in magnitude is real. -/
theorem real_below (x : EReal) (h : FloatOps.cmpf (F := Ideal) (φ := .f32) .olt (FloatOps.absf (F := Ideal) (φ := .f32) x) (Ideal.ofBits .f32 0x7F800000#32) = 1#1) :
    ∃ r : ℝ, x = (r : EReal) := by
  have e : Ideal.ofBits .f32 0x7F800000#32 = (⊤ : EReal) := by simp [Ideal.ofBits, Ideal.ieee]
  rw [e] at h
  induction x with
  | bot => exact absurd h (by simp [FloatOps.cmpf, FloatOps.absf, Ideal.cmp])
  | coe r => exact ⟨r, rfl⟩
  | top => exact absurd h (by simp [FloatOps.cmpf, FloatOps.absf, Ideal.cmp])

/-- The precondition read. -/
theorem fine_of_pre [Cert.Pre_finite11.Facts] (u : Vec Ideal Cert.Pre_finite11.S8x4096x672 .f32) (qn : Vec Ideal Cert.Pre_finite11.S384 .f32)
    (wq : Vec Ideal Cert.Pre_finite11.S384x768 .f32) (kvn : Vec Ideal Cert.Pre_finite11.S256 .f32) (wkv : Vec Ideal Cert.Pre_finite11.S256x1024 .f32)
    (qg kg : Vec Ideal Cert.Pre_finite11.S96 .f32) (cs sn : Vec Ideal Cert.Pre_finite11.S4096x32 .f32)
    (h : Cert.Pre_finite11.fn (F := Ideal) u qn wq kvn wkv qg kg cs sn = fun _ => 1#1) :
    (∀ (b : Fin 8) (t : Fin 4096) (k : Fin 384), ∃ r : ℝ, u (ix3 b t ⟨k.val, by omega⟩) = (r : EReal)) ∧ (∀ k : Fin 384, ∃ r : ℝ, qn (ix1 k) = (r : EReal))
      ∧ ∀ (k : Fin 384) (j : Fin 768), ∃ r : ℝ, wq (ix2 k j) = (r : EReal) := by
  have h0 := congrFun h (fun a => a.elim0)
  dsimp only [Cert.Pre_finite11.fn] at h0
  obtain ⟨h1, h2⟩ := IntOp.andi_eq_one.1 h0
  obtain ⟨h3, h4⟩ := IntOp.andi_eq_one.1 h1
  haveI : Subsingleton Cert.Pre_finite11.S_.Idx := ⟨fun a b => funext fun x => x.elim0⟩
  refine ⟨fun b t k => ?_, fun k => real_below _ (Host.reduce_andi_all _ _ _ _ _ h4 (ix1 k)),
    fun k j => real_below _ (Host.reduce_andi_all _ _ _ _ _ h2 (ix2 k j))⟩
  have r := real_below _ (Host.reduce_andi_all _ _ _ _ _ h3 (ix3 b t k))
  have e : extractStridedSlice Cert.Pre_finite11.S8x4096x384 ![0, 0, 0] u Cert.Pre_finite11.Facts.slices_S8x4096x672_S8x4096x384_0_0_0 (ix3 b t k)
      = u (ix3 b t ⟨k.val, by omega⟩) := by
    pointwise
  rw [← e]
  exact r

theorem algebraic [Cert.Pre_finite11.Facts] : Cert.algebraic_Kernel11Ideal_Reference11Ideal_pre_finite11 := fun m ρ m' ρ' hp hag =>
  ⟨fun c => Cert.Reference11Ideal.Read.val_main_v114 (F := Ideal) (m' (c.tc.loc Cert.Reference11Ideal.main_arg0)) (m' (c.tc.loc Cert.Reference11Ideal.main_arg1)) (m' (c.tc.loc Cert.Reference11Ideal.main_arg2)) (m' (c.tc.loc Cert.Reference11Ideal.main_arg5)) (m' (c.tc.loc Cert.Reference11Ideal.main_arg7)) (m' (c.tc.loc Cert.Reference11Ideal.main_arg8)),
    fun c => Cert.Reference11Ideal.Read.val_main_v116 (F := Ideal) (m' (c.tc.loc Cert.Reference11Ideal.main_arg0)) (m' (c.tc.loc Cert.Reference11Ideal.main_arg3)) (m' (c.tc.loc Cert.Reference11Ideal.main_arg4)) (m' (c.tc.loc Cert.Reference11Ideal.main_arg6)) (m' (c.tc.loc Cert.Reference11Ideal.main_arg7)) (m' (c.tc.loc Cert.Reference11Ideal.main_arg8)),
    fun c => Cert.Reference11Ideal.Read.val_main_v118 (F := Ideal) (m' (c.tc.loc Cert.Reference11Ideal.main_arg0)) (m' (c.tc.loc Cert.Reference11Ideal.main_arg3)) (m' (c.tc.loc Cert.Reference11Ideal.main_arg4)),
    (θ_run _ _ _).mono (fun _ h c => ⟨(h c).1.trans ((cut_query m c ⟨(fine_of_pre _ _ _ _ _ _ _ _ _ (hp c)).1, (fine_of_pre _ _ _ _ _ _ _ _ _ (hp c)).2.1, (fine_of_pre _ _ _ _ _ _ _ _ _ (hp c)).2.2⟩).trans (by
        obtain ⟨a0, a1, a2, a3, a4, a5, a6, a7, a8⟩ := hag c
        beta_reduce
        rw [a0, a1, a2, a5, a7, a8])),
      (h c).2.1.trans ((cut_key m c ).trans (by
        obtain ⟨a0, a1, a2, a3, a4, a5, a6, a7, a8⟩ := hag c
        beta_reduce
        rw [a0, a3, a4, a6, a7, a8])),
      (h c).2.2.1.trans ((cut_value m c ).trans (by
        obtain ⟨a0, a1, a2, a3, a4, a5, a6, a7, a8⟩ := hag c
        beta_reduce
        rw [a0, a3, a4])),
      (h c).2.2.2⟩)
      (run_kernel m ρ),
    (θ_run _ _ _).mono (fun _ h c => ⟨(h c).1.trans (Cert.Reference11Ideal.Read.val_main_v114_eq _ _),
        (h c).2.1.trans (Cert.Reference11Ideal.Read.val_main_v116_eq _ _), (h c).2.2.1.trans (Cert.Reference11Ideal.Read.val_main_v118_eq _ _ _), (h c).2.2.2⟩)
      (Cert.Reference11Ideal.Value.run m' ρ')⟩

end Cert.Proof.MlaPrep
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Reference9Ideal
public import proofs.«01_k».proof.Proof.Gen.Reference9Ideal.Run
public import proofs.«01_k».proof.Proof.Gen.Reference9Ideal.Read
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Reference10Ideal.Read
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Reference11Ideal
public import proofs.«01_k».proof.Proof.Gen.Reference11Ideal.Run
public import proofs.«01_k».proof.Proof.Gen.Reference11Ideal.Read
public import proofs.«01_k».proof.Proof.Experts.Claims
public import proofs.«01_k».proof.Proof.InProj.Claims
public import proofs.«01_k».proof.Proof.Attention.Claims
public import proofs.«01_k».proof.Proof.OutProj.Claims
public import proofs.«01_k».proof.Proof.Scatter.Claims
public import proofs.«01_k».proof.Proof.EvenProj.Claims
public import proofs.«01_k».proof.Proof.CtxExperts.Claims
public import proofs.«01_k».proof.Proof.CtxOddProj.Claims
public import proofs.«01_k».proof.Proof.CtxEvenProj.Claims
public import proofs.«01_k».proof.Proof.CtxOutProj.Claims
public import proofs.«01_k».proof.Proof.MlaPrep.Claims
public import Idealize.ShloMosaic.Adequacy
public import Idealize.ShloMosaic.Init

@[expose] public section

noncomputable section

namespace Cert.Proof

open Idealize.ShloMosaic Idealize.SL.Sem Cert.Kernel

/-- The side conditions of the precondition's operations. -/
theorem finite3_facts : Cert.Pre_finite3.Facts where
  bcast_S_S8x4096x8x96 := by decide
  reducesTo_S8x4096x8x96_S_d0_1_2_3 := by decide
  h_S_ := by decide
  bcast_S_S8x256x8x96 := by decide
  reducesTo_S8x256x8x96_S_d0_1_2_3 := by decide

/-- The side conditions of the other precondition's operations. -/
theorem finite11_facts : Cert.Pre_finite11.Facts where
  slices_S8x4096x672_S8x4096x384_0_0_0 := by decide
  bcast_S_S8x4096x384 := by decide
  reducesTo_S8x4096x384_S_d0_1_2 := by decide
  h_S_ := by decide
  bcast_S_S384 := by decide
  reducesTo_S384_S_d0 := by decide
  bcast_S_S384x768 := by decide
  reducesTo_S384x768_S_d0_1 := by decide

/-- The two named constants of the operands' preparation stand where their rounded words stood. -/
theorem mlaPrep_constants : Cert.preserves_Kernel11_Kernel11Ideal :=
  ⟨IdealRules.named_const.statement Cert.Kernel11Ideal.κ "mean" .f32 0x3C2AAAAB#32 _ rfl,
    IdealRules.named_const.statement Cert.Kernel11Ideal.κ "scale" .f32 0x3DD105EC#32 _ rfl⟩

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  finite3_facts, finite11_facts,
  fun m ρ _ => Cert.Kernel.Gen.frame m ρ,
  fun m ρ _ => Cert.KernelIdeal.Gen.frame m ρ,
  Experts.frame_reference,
  fun m ρ _ => Cert.Kernel2.Gen.frame m ρ,
  fun m ρ _ => Cert.Kernel2Ideal.Gen.frame m ρ,
  InProj.frame_reference,
  fun m ρ _ => Cert.Kernel3.Gen.frame m ρ,
  fun m ρ _ => Cert.Kernel3Ideal.Gen.frame m ρ,
  fun m ρ _ => Cert.Kernel3Ideal.Gen.frame m ρ,
  Attention.frame_reference,
  fun m ρ _ => Attention.frame_reference m ρ trivial,
  fun m ρ _ => Cert.Kernel4.Gen.frame m ρ,
  fun m ρ _ => Cert.Kernel4Ideal.Gen.frame m ρ,
  OutProj.frame_reference,
  fun m ρ _ => Cert.Kernel5.Gen.frame m ρ,
  fun m ρ _ => Cert.Kernel5Ideal.Gen.frame m ρ,
  Scatter.frame_reference,
  fun m ρ _ => Cert.Kernel6.Gen.frame m ρ,
  fun m ρ _ => Cert.Kernel6Ideal.Gen.frame m ρ,
  EvenProj.frame_reference,
  fun m ρ _ => Cert.Kernel7.Gen.frame m ρ,
  fun m ρ _ => Cert.Kernel7Ideal.Gen.frame m ρ,
  CtxExperts.frame_reference,
  fun m ρ _ => Cert.Kernel8.Gen.frame m ρ,
  fun m ρ _ => Cert.Kernel8Ideal.Gen.frame m ρ,
  CtxOddProj.frame_reference,
  fun m ρ _ => Cert.Kernel9.Gen.frame m ρ,
  fun m ρ _ => Cert.Kernel9Ideal.Gen.frame m ρ,
  CtxEvenProj.frame_reference,
  fun m ρ _ => Cert.Kernel10.Gen.frame m ρ,
  fun m ρ _ => Cert.Kernel10Ideal.Gen.frame m ρ,
  CtxOutProj.frame_reference,
  fun m ρ _ => Cert.Kernel11.Gen.frame m ρ,
  fun m ρ _ => Cert.Kernel11Ideal.Gen.frame m ρ,
  fun m ρ _ => Cert.Kernel11Ideal.Gen.frame m ρ,
  MlaPrep.frame_reference,
  fun m ρ _ => MlaPrep.frame_reference m ρ trivial,
  trivial,
  Experts.algebraic,
  trivial,
  InProj.algebraic,
  trivial,
  @Attention.algebraic finite3_facts,
  trivial,
  OutProj.algebraic,
  trivial,
  Scatter.algebraic,
  trivial,
  EvenProj.algebraic,
  trivial,
  CtxExperts.algebraic,
  trivial,
  CtxOddProj.algebraic,
  trivial,
  CtxEvenProj.algebraic,
  trivial,
  CtxOutProj.algebraic,
  mlaPrep_constants,
  @MlaPrep.algebraic finite11_facts⟩

end Cert.Proof

end
